-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_above [hPre_gates_above : Cert.Pre_gates_above.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_above.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_above [hPre_gates_above : Cert.Pre_gates_above.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_above.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_gates_above [hKernel2Ideal : Cert.Kernel2Ideal.Facts] [hPre_gates_above : Cert.Pre_gates_above.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_above m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_gates_above [hReference2Ideal : Cert.Reference2Ideal.Facts] [hPre_gates_above : Cert.Pre_gates_above.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_above m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "exp_clamp" .f32 0x42B00000#32 ⊤
  ∧ IdealRules.named_const.Statement Cert.KernelIdeal.κ "dead_mass" .f32 0x42D00000#32 ⊤
  ∧ IdealRules.named_const.Statement Cert.KernelIdeal.κ "big" .f32 0x7149F2CA#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel2_Kernel2Ideal : Prop :=
  True

def algebraic_Kernel2Ideal_Reference2Ideal_pre_gates_above [hKernel2Ideal : Cert.Kernel2Ideal.Facts] [hReference2Ideal : Cert.Reference2Ideal.Facts] [hPre_gates_above : Cert.Pre_gates_above.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_above m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hPre_gates_above : Cert.Pre_gates_above.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Kernel2Ideal_pre_gates_above (hKernel2Ideal := hKernel2Ideal) (hPre_gates_above := hPre_gates_above)
    ∧ quiescent_Reference2Ideal (hReference2Ideal := hReference2Ideal)
    ∧ quiescent_Reference2Ideal_pre_gates_above (hReference2Ideal := hReference2Ideal) (hPre_gates_above := hPre_gates_above)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal_pre_gates_above (hKernel2Ideal := hKernel2Ideal) (hReference2Ideal := hReference2Ideal) (hPre_gates_above := hPre_gates_above)
-- ==== Pre_gates_above.lean ====
abbrev S32x8x2048x128 : Shape := ⟨4, ![32, 8, 2048, 128]⟩
abbrev S32x2048x5120 : Shape := ⟨3, ![32, 2048, 5120]⟩
abbrev S32x2048x1024 : Shape := ⟨3, ![32, 2048, 1024]⟩
abbrev S32x1024 : Shape := ⟨2, ![32, 1024]⟩
abbrev S4x256x256 : Shape := ⟨3, ![4, 256, 256]⟩
abbrev S1024 : Shape := ⟨1, ![1024]⟩
abbrev S1024x1024 : Shape := ⟨2, ![1024, 1024]⟩
abbrev S_ : Shape := ⟨0, ![]⟩

class Facts : Prop where
  slices_S32x2048x5120_S32x2048x1024_0_0_0 : S32x2048x5120.Slices ![0, 0, 0] S32x2048x1024
  slices_S32x2048x5120_S32x2048x1024_0_0_2048 : S32x2048x5120.Slices ![0, 0, 2048] S32x2048x1024
  bcast_S_S32x2048x1024 : S_.BroadcastsInDim S32x2048x1024 (![] : Fin 0 → Fin S32x2048x1024.rank)

variable [Facts]

def fn {F : FTy → Type} [FloatOps F] (main_arg0 : FVec F S32x8x2048x128 .bf16) (main_arg1 : FVec F S32x2048x5120 .bf16) (main_arg2 : FVec F S32x2048x1024 .f32) (main_arg3 : FVec F S32x1024 .f32) (main_arg4 : FVec F S4x256x256 .f32) (main_arg5 : FVec F S1024 .f32) (main_arg6 : FVec F S1024x1024 .f32) (main_arg7 : FVec F S1024x1024 .f32) (main_arg8 : FVec F S1024x1024 .f32) (main_arg9 : FVec F S1024 .f32) : IVec S32x2048x1024 1 :=
  let main_v0 : FVec F S32x2048x1024 .bf16 := (extractStridedSlice S32x2048x1024 ![0, 0, 0] · slices_S32x2048x5120_S32x2048x1024_0_0_0) main_arg1
  let main_v1 : FVec F S32x2048x1024 .bf16 := (extractStridedSlice S32x2048x1024 ![0, 0, 2048] · slices_S32x2048x5120_S32x2048x1024_0_0_2048) main_arg1
  let main_cst : FVec F S_ .bf16 := constant S_ .bf16 0xFF80#16
  let main_v2 : FVec F S32x2048x1024 .bf16 := broadcastInDim S32x2048x1024 ![] bcast_S_S32x2048x1024 main_cst
  let main_v3 : IVec S32x2048x1024 1 := cmpf .ogt main_v0 main_v2
  let main_cst_0 : FVec F S_ .bf16 := constant S_ .bf16 0xFF80#16
  let main_v4 : FVec F S32x2048x1024 .bf16 := broadcastInDim S32x2048x1024 ![] bcast_S_S32x2048x1024 main_cst_0
  let main_v5 : IVec S32x2048x1024 1 := cmpf .ogt main_v1 main_v4
  let main_v6 : IVec S32x2048x1024 1 := andi main_v3 main_v5
  main_v6
-- ==== Kernel.lean ====
abbrev S32x2048x1024 : Shape := ⟨3, ![32, 2048, 1024]⟩
abbrev S32x2048x8x128 : Shape := ⟨4, ![32, 2048, 8, 128]⟩
abbrev S32x8x2048x128 : Shape := ⟨4, ![32, 8, 2048, 128]⟩
abbrev S32x24x2048x128 : Shape := ⟨4, ![32, 24, 2048, 128]⟩
abbrev S_ : Shape := ⟨0, ![]⟩
abbrev S32x24x2560x128 : Shape := ⟨4, ![32, 24, 2560, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S256x256 : Shape := ⟨2, ![256, 256]⟩
abbrev S1x8x512x128 : Shape := ⟨4, ![1, 8, 512, 128]⟩
abbrev S1x8x2560x128 : Shape := ⟨4, ![1, 8, 2560, 128]⟩
abbrev S1x1x256x128 : Shape := ⟨4, ![1, 1, 256, 128]⟩
abbrev S256x128 : Shape := ⟨2, ![256, 128]⟩
abbrev S1x1x512x128 : Shape := ⟨4, ![1, 1, 512, 128]⟩
abbrev S512x128 : Shape := ⟨2, ![512, 128]⟩
abbrev S1024x128 : Shape := ⟨2, ![1024, 128]⟩
abbrev S256x1024 : Shape := ⟨2, ![256, 1024]⟩
abbrev S128x1024 : Shape := ⟨2, ![128, 1024]⟩
abbrev S384x256 : Shape := ⟨2, ![384, 256]⟩
abbrev S128x768 : Shape := ⟨2, ![128, 768]⟩
abbrev S768x128 : Shape := ⟨2, ![768, 128]⟩
abbrev S1x1x128x128 : Shape := ⟨4, ![1, 1, 128, 128]⟩
abbrev S1x128x1 : Shape := ⟨3, ![1, 128, 1]⟩
abbrev S1 : Shape := ⟨1, ![1]⟩
abbrev S1x1x1 : Shape := ⟨3, ![1, 1, 1]⟩
abbrev S256x1 : Shape := ⟨2, ![256, 1]⟩
abbrev S1x256x1 : Shape := ⟨3, ![1, 256, 1]⟩

abbrev nBuf : Space → Nat
  | .hbm => 28
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S32x2048x8x128, .f32⟩
  | .hbm, ⟨4, _⟩ => ⟨S32x8x2048x128, .f32⟩
  | .hbm, ⟨5, _⟩ => ⟨S32x2048x8x128, .f32⟩
  | .hbm, ⟨6, _⟩ => ⟨S32x8x2048x128, .f32⟩
  | .hbm, ⟨7, _⟩ => ⟨S32x2048x8x128, .f32⟩
  | .hbm, ⟨8, _⟩ => ⟨S32x8x2048x128, .f32⟩
  | .hbm, ⟨9, _⟩ => ⟨S32x24x2048x128, .f32⟩
  | .hbm, ⟨10, _⟩ => ⟨S32x24x2048x128, .bf16⟩
  | .hbm, ⟨11, _⟩ => ⟨S_, .i32⟩
  | .hbm, ⟨12, _⟩ => ⟨S_, .bf16⟩
  | .hbm, ⟨13, _⟩ => ⟨S32x24x2560x128, .bf16⟩
  | .hbm, ⟨14, _⟩ => ⟨S128, .i32⟩
  | .hbm, ⟨15, _⟩ => ⟨S128x1, .i32⟩
  | .hbm, ⟨16, _⟩ => ⟨S128, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S128x128, .bf16⟩
  | .hbm, ⟨22, _⟩ => ⟨S_, .bf16⟩
  | .hbm, ⟨23, _⟩ => ⟨S128x128, .bf16⟩
  | .hbm, ⟨24, _⟩ => ⟨S128x256, .bf16⟩
  | .hbm, ⟨25, _⟩ => ⟨S128x256, .bf16⟩
  | .hbm, ⟨26, _⟩ => ⟨S256x256, .bf16⟩
  | .hbm, ⟨27, _⟩ => ⟨S32x8x2048x128, .bf16⟩
  | .local _ .vmem, ⟨0, _⟩ => ⟨S1x8x512x128, .bf16⟩
  | .local _ .vmem, ⟨1, _⟩ => ⟨S1x8x512x128, .bf16⟩
  | .local _ .vmem, ⟨2, _⟩ => ⟨S1x8x2560x128, .bf16⟩
  | .local _ .vmem, ⟨3, _⟩ => ⟨S1x8x2560x128, .bf16⟩
  | .local _ .vmem, ⟨4, _⟩ => ⟨S1x8x2560x128, .bf16⟩
  | .local _ .vmem, ⟨5, _⟩ => ⟨S1x8x2560x128, .bf16⟩
  | .local _ .vmem, ⟨6, _⟩ => ⟨S256x256, .bf16⟩
  | .local _ .vmem, ⟨7, _⟩ => ⟨S1x8x512x128, .bf16⟩
  | .local _ .vmem, ⟨8, _⟩ => ⟨S1x8x512x128, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_call1_v0 : Ref sig .tc := ⟨.hbm, 24, rfl⟩
abbrev main_call1_v1 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let c2_i32_1 : BitVec 32 := 2#32
  let c2_i32 : BitVec 32 := 2#32
  let arg1 : BitVec 32 := BitVec.ofNat 32 (i 1).val
  let v10 : BitVec 32 := Scalar.muli c2_i32 arg1
  let c0_i32 : BitVec 32 := 0#32
  let v11 : BitVec 32 := Scalar.addi v10 c0_i32
  let v12 : BitVec 32 := Scalar.muli c2_i32_1 v11
  let c4_i32 : BitVec 32 := 4#32
  let v13 : BitVec 32 := Scalar.addi v12 c4_i32
  let c2_i32_6 : BitVec 32 := 2#32
  let v18 : BitVec 32 := Scalar.subi v13 c2_i32_6
  let c128_i32 : BitVec 32 := 128#32
  let v19 : BitVec 32 := Scalar.muli v18 c128_i32
  v19
def k0_off1 (i : grid0.Coords) (c0_i32 : BitVec 32) : Fin 4 → Nat :=
  let c0_7 : Index := 0#32
  let c0_8 : Index := 0#32
  let c2_i32_1 : BitVec 32 := 2#32
  let c2_i32 : BitVec 32 := 2#32
  let arg1 : BitVec 32 := BitVec.ofNat 32 (i 1).val
  let v10 : BitVec 32 := Scalar.muli c2_i32 arg1
  let v11 : BitVec 32 := Scalar.addi v10 c0_i32
  let v12 : BitVec 32 := Scalar.muli c2_i32_1 v11
  let c4_i32 : BitVec 32 := 4#32
  let v13 : BitVec 32 := Scalar.addi v12 c4_i32
  let c2_i32_6 : BitVec 32 := 2#32
  let v18 : BitVec 32 := Scalar.subi v13 c2_i32_6
  let c128_i32 : BitVec 32 := 128#32
  let v19 : BitVec 32 := Scalar.muli v18 c128_i32
  let v20 : BitVec 32 := v19
  let v21 : Index := Scalar.indexCast v20
  let c0_9 : Index := 0#32
  ![0, 0, v21.toNat, 0]
def k0_mult2 (i : grid0.Coords) : BitVec 32 :=
  let c2_i32_34 : BitVec 32 := 2#32
  let c2_i32_32 : BitVec 32 := 2#32
  let arg1 : BitVec 32 := BitVec.ofNat 32 (i 1).val
  let v154 : BitVec 32 := Scalar.muli c2_i32_32 arg1
  let c0_i32_33 : BitVec 32 := 0#32
  let v155 : BitVec 32 := Scalar.addi v154 c0_i32_33
  let v156 : BitVec 32 := Scalar.muli c2_i32_34 v155
  let c4_i32_35 : BitVec 32 := 4#32
  let v157 : BitVec 32 := Scalar.addi v156 c4_i32_35
  let c2_i32_40 : BitVec 32 := 2#32
  let v162 : BitVec 32 := Scalar.subi v157 c2_i32_40
  let c128_i32_41 : BitVec 32 := 128#32
  let v163 : BitVec 32 := Scalar.muli v162 c128_i32_41
  v163
def k0_off2 (i : grid0.Coords) (c0_i32_33 : BitVec 32) : Fin 4 → Nat :=
  let c0_42 : Index := 0#32
  let c1_43 : Index := 1#32
  let c2_i32_34 : BitVec 32 := 2#32
  let c2_i32_32 : BitVec 32 := 2#32
  let arg1 : BitVec 32 := BitVec.ofNat 32 (i 1).val
  let v154 : BitVec 32 := Scalar.muli c2_i32_32 arg1
  let v155 : BitVec 32 := Scalar.addi v154 c0_i32_33
  let v156 : BitVec 32 := Scalar.muli c2_i32_34 v155
  let c4_i32_35 : BitVec 32 := 4#32
  let v157 : BitVec 32 := Scalar.addi v156 c4_i32_35
  let c2_i32_40 : BitVec 32 := 2#32
  let v162 : BitVec 32 := Scalar.subi v157 c2_i32_40
  let c128_i32_41 : BitVec 32 := 128#32
  let v163 : BitVec 32 := Scalar.muli v162 c128_i32_41
  let v164 : BitVec 32 := v163
  let v165 : Index := Scalar.indexCast v164
  let c0_44 : Index := 0#32
  ![0, 1, v165.toNat, 0]
def k0_mult3 (i : grid0.Coords) : BitVec 32 :=
  let c2_i32_69 : BitVec 32 := 2#32
  let c2_i32_67 : BitVec 32 := 2#32
  let arg1 : BitVec 32 := BitVec.ofNat 32 (i 1).val
  let v298 : BitVec 32 := Scalar.muli c2_i32_67 arg1
  let c0_i32_68 : BitVec 32 := 0#32
  let v299 : BitVec 32 := Scalar.addi v298 c0_i32_68
  let v300 : BitVec 32 := Scalar.muli c2_i32_69 v299
  let c4_i32_70 : BitVec 32 := 4#32
  let v301 : BitVec 32 := Scalar.addi v300 c4_i32_70
  let c2_i32_75 : BitVec 32 := 2#32
  let v306 : BitVec 32 := Scalar.subi v301 c2_i32_75
  let c128_i32_76 : BitVec 32 := 128#32
  let v307 : BitVec 32 := Scalar.muli v306 c128_i32_76
  v307
def k0_off3 (i : grid0.Coords) (c0_i32_68 : BitVec 32) : Fin 4 → Nat :=
  let c0_77 : Index := 0#32
  let c2_78 : Index := 2#32
  let c2_i32_69 : BitVec 32 := 2#32
  let c2_i32_67 : BitVec 32 := 2#32
  let arg1 : BitVec 32 := BitVec.ofNat 32 (i 1).val
  let v298 : BitVec 32 := Scalar.muli c2_i32_67 arg1
  let v299 : BitVec 32 := Scalar.addi v298 c0_i32_68
  let v300 : BitVec 32 := Scalar.muli c2_i32_69 v299
  let c4_i32_70 : BitVec 32 := 4#32
  let v301 : BitVec 32 := Scalar.addi v300 c4_i32_70
  let c2_i32_75 : BitVec 32 := 2#32
  let v306 : BitVec 32 := Scalar.subi v301 c2_i32_75
  let c128_i32_76 : BitVec 32 := 128#32
  let v307 : BitVec 32 := Scalar.muli v306 c128_i32_76
  let v308 : BitVec 32 := v307
  let v309 : Index := Scalar.indexCast v308
  let c0_79 : Index := 0#32
  ![0, 2, v309.toNat, 0]
def k0_mult4 (i : grid0.Coords) : BitVec 32 :=
  let c2_i32_104 : BitVec 32 := 2#32
  let c2_i32_102 : BitVec 32 := 2#32
  let arg1 : BitVec 32 := BitVec.ofNat 32 (i 1).val
  let v442 : BitVec 32 := Scalar.muli c2_i32_102 arg1
  let c0_i32_103 : BitVec 32 := 0#32
  let v443 : BitVec 32 := Scalar.addi v442 c0_i32_103
  let v444 : BitVec 32 := Scalar.muli c2_i32_104 v443
  let c4_i32_105 : BitVec 32 := 4#32
  let v445 : BitVec 32 := Scalar.addi v444 c4_i32_105
  let c2_i32_110 : BitVec 32 := 2#32
  let v450 : BitVec 32 := Scalar.subi v445 c2_i32_110
  let c128_i32_111 : BitVec 32 := 128#32
  let v451 : BitVec 32 := Scalar.muli v450 c128_i32_111
  v451
def k0_off4 (i : grid0.Coords) (c0_i32_103 : BitVec 32) : Fin 4 → Nat :=
  let c0_112 : Index := 0#32
  let c3_113 : Index := 3#32
  let c2_i32_104 : BitVec 32 := 2#32
  let c2_i32_102 : BitVec 32 := 2#32
  let arg1 : BitVec 32 := BitVec.ofNat 32 (i 1).val
  let v442 : BitVec 32 := Scalar.muli c2_i32_102 arg1
  let v443 : BitVec 32 := Scalar.addi v442 c0_i32_103
  let v444 : BitVec 32 := Scalar.muli c2_i32_104 v443
  let c4_i32_105 : BitVec 32 := 4#32
  let v445 : BitVec 32 := Scalar.addi v444 c4_i32_105
  let c2_i32_110 : BitVec 32 := 2#32
  let v450 : BitVec 32 := Scalar.subi v445 c2_i32_110
  let c128_i32_111 : BitVec 32 := 128#32
  let v451 : BitVec 32 := Scalar.muli v450 c128_i32_111
  let v452 : BitVec 32 := v451
  let v453 : Index := Scalar.indexCast v452
  let c0_114 : Index := 0#32
  ![0, 3, v453.toNat, 0]
def k0_mult5 (i : grid0.Coords) : BitVec 32 :=
  let c2_i32_139 : BitVec 32 := 2#32
  let c2_i32_137 : BitVec 32 := 2#32
  let arg1 : BitVec 32 := BitVec.ofNat 32 (i 1).val
  let v586 : BitVec 32 := Scalar.muli c2_i32_137 arg1
  let c0_i32_138 : BitVec 32 := 0#32
  let v587 : BitVec 32 := Scalar.addi v586 c0_i32_138
  let v588 : BitVec 32 := Scalar.muli c2_i32_139 v587
  let c4_i32_140 : BitVec 32 := 4#32
  let v589 : BitVec 32 := Scalar.addi v588 c4_i32_140
  let c2_i32_145 : BitVec 32 := 2#32
  let v594 : BitVec 32 := Scalar.subi v589 c2_i32_145
  let c128_i32_146 : BitVec 32 := 128#32
  let v595 : BitVec 32 := Scalar.muli v594 c128_i32_146
  v595
def k0_off5 (i : grid0.Coords) (c0_i32_138 : BitVec 32) : Fin 4 → Nat :=
  let c0_147 : Index := 0#32
  let c4_148 : Index := 4#32
  let c2_i32_139 : BitVec 32 := 2#32
  let c2_i32_137 : BitVec 32 := 2#32
  let arg1 : BitVec 32 := BitVec.ofNat 32 (i 1).val
  let v586 : BitVec 32 := Scalar.muli c2_i32_137 arg1
  let v587 : BitVec 32 := Scalar.addi v586 c0_i32_138
  let v588 : BitVec 32 := Scalar.muli c2_i32_139 v587
  let c4_i32_140 : BitVec 32 := 4#32
  let v589 : BitVec 32 := Scalar.addi v588 c4_i32_140
  let c2_i32_145 : BitVec 32 := 2#32
  let v594 : BitVec 32 := Scalar.subi v589 c2_i32_145
  let c128_i32_146 : BitVec 32 := 128#32
  let v595 : BitVec 32 := Scalar.muli v594 c128_i32_146
  let v596 : BitVec 32 := v595
  let v597 : Index := Scalar.indexCast v596
  let c0_149 : Index := 0#32
  ![0, 4, v597.toNat, 0]
def k0_mult6 (i : grid0.Coords) : BitVec 32 :=
  let c2_i32_174 : BitVec 32 := 2#32
  let c2_i32_172 : BitVec 32 := 2#32
  let arg1 : BitVec 32 := BitVec.ofNat 32 (i 1).val
  let v730 : BitVec 32 := Scalar.muli c2_i32_172 arg1
  let c0_i32_173 : BitVec 32 := 0#32
  let v731 : BitVec 32 := Scalar.addi v730 c0_i32_173
  let v732 : BitVec 32 := Scalar.muli c2_i32_174 v731
  let c4_i32_175 : BitVec 32 := 4#32
  let v733 : BitVec 32 := Scalar.addi v732 c4_i32_175
  let c2_i32_180 : BitVec 32 := 2#32
  let v738 : BitVec 32 := Scalar.subi v733 c2_i32_180
  let c128_i32_181 : BitVec 32 := 128#32
  let v739 : BitVec 32 := Scalar.muli v738 c128_i32_181
  v739
def k0_off6 (i : grid0.Coords) (c0_i32_173 : BitVec 32) : Fin 4 → Nat :=
  let c0_182 : Index := 0#32
  let c5_183 : Index := 5#32
  let c2_i32_174 : BitVec 32 := 2#32
  let c2_i32_172 : BitVec 32 := 2#32
  let arg1 : BitVec 32 := BitVec.ofNat 32 (i 1).val
  let v730 : BitVec 32 := Scalar.muli c2_i32_172 arg1
  let v731 : BitVec 32 := Scalar.addi v730 c0_i32_173
  let v732 : BitVec 32 := Scalar.muli c2_i32_174 v731
  let c4_i32_175 : BitVec 32 := 4#32
  let v733 : BitVec 32 := Scalar.addi v732 c4_i32_175
  let c2_i32_180 : BitVec 32 := 2#32
  let v738 : BitVec 32 := Scalar.subi v733 c2_i32_180
  let c128_i32_181 : BitVec 32 := 128#32
  let v739 : BitVec 32 := Scalar.muli v738 c128_i32_181
  let v740 : BitVec 32 := v739
  let v741 : Index := Scalar.indexCast v740
  let c0_184 : Index := 0#32
  ![0, 5, v741.toNat, 0]
def k0_mult7 (i : grid0.Coords) : BitVec 32 :=
  let c2_i32_209 : BitVec 32 := 2#32
  let c2_i32_207 : BitVec 32 := 2#32
  let arg1 : BitVec 32 := BitVec.ofNat 32 (i 1).val
  let v874 : BitVec 32 := Scalar.muli c2_i32_207 arg1
  let c0_i32_208 : BitVec 32 := 0#32
  let v875 : BitVec 32 := Scalar.addi v874 c0_i32_208
  let v876 : BitVec 32 := Scalar.muli c2_i32_209 v875
  let c4_i32_210 : BitVec 32 := 4#32
  let v877 : BitVec 32 := Scalar.addi v876 c4_i32_210
  let c2_i32_215 : BitVec 32 := 2#32
  let v882 : BitVec 32 := Scalar.subi v877 c2_i32_215
  let c128_i32_216 : BitVec 32 := 128#32
  let v883 : BitVec 32 := Scalar.muli v882 c128_i32_216
  v883
def k0_off7 (i : grid0.Coords) (c0_i32_208 : BitVec 32) : Fin 4 → Nat :=
  let c0_217 : Index := 0#32
  let c6_218 : Index := 6#32
  let c2_i32_209 : BitVec 32 := 2#32
  let c2_i32_207 : BitVec 32 := 2#32
  let arg1 : BitVec 32 := BitVec.ofNat 32 (i 1).val
  let v874 : BitVec 32 := Scalar.muli c2_i32_207 arg1
  let v875 : BitVec 32 := Scalar.addi v874 c0_i32_208
  let v876 : BitVec 32 := Scalar.muli c2_i32_209 v875
  let c4_i32_210 : BitVec 32 := 4#32
  let v877 : BitVec 32 := Scalar.addi v876 c4_i32_210
  let c2_i32_215 : BitVec 32 := 2#32
  let v882 : BitVec 32 := Scalar.subi v877 c2_i32_215
  let c128_i32_216 : BitVec 32 := 128#32
  let v883 : BitVec 32 := Scalar.muli v882 c128_i32_216
  let v884 : BitVec 32 := v883
  let v885 : Index := Scalar.indexCast v884
  let c0_219 : Index := 0#32
  ![0, 6, v885.toNat, 0]
def k0_mult8 (i : grid0.Coords) : BitVec 32 :=
  let c2_i32_244 : BitVec 32 := 2#32
  let c2_i32_242 : BitVec 32 := 2#32
  let arg1 : BitVec 32 := BitVec.ofNat 32 (i 1).val
  let v1018 : BitVec 32 := Scalar.muli c2_i32_242 arg1
  let c0_i32_243 : BitVec 32 := 0#32
  let v1019 : BitVec 32 := Scalar.addi v1018 c0_i32_243
  let v1020 : BitVec 32 := Scalar.muli c2_i32_244 v1019
  let c4_i32_245 : BitVec 32 := 4#32
  let v1021 : BitVec 32 := Scalar.addi v1020 c4_i32_245
  let c2_i32_250 : BitVec 32 := 2#32
  let v1026 : BitVec 32 := Scalar.subi v1021 c2_i32_250
  let c128_i32_251 : BitVec 32 := 128#32
  let v1027 : BitVec 32 := Scalar.muli v1026 c128_i32_251
  v1027
def k0_off8 (i : grid0.Coords) (c0_i32_243 : BitVec 32) : Fin 4 → Nat :=
  let c0_252 : Index := 0#32
  let c7_253 : Index := 7#32
  let c2_i32_244 : BitVec 32 := 2#32
  let c2_i32_242 : BitVec 32 := 2#32
  let arg1 : BitVec 32 := BitVec.ofNat 32 (i 1).val
  let v1018 : BitVec 32 := Scalar.muli c2_i32_242 arg1
  let v1019 : BitVec 32 := Scalar.addi v1018 c0_i32_243
  let v1020 : BitVec 32 := Scalar.muli c2_i32_244 v1019
  let c4_i32_245 : BitVec 32 := 4#32
  let v1021 : BitVec 32 := Scalar.addi v1020 c4_i32_245
  let c2_i32_250 : BitVec 32 := 2#32
  let v1026 : BitVec 32 := Scalar.subi v1021 c2_i32_250
  let c128_i32_251 : BitVec 32 := 128#32
  let v1027 : BitVec 32 := Scalar.muli v1026 c128_i32_251
  let v1028 : BitVec 32 := v1027
  let v1029 : Index := Scalar.indexCast v1028
  let c0_254 : Index := 0#32
  ![0, 7, v1029.toNat, 0]
def k0_mult9 (i : grid0.Coords) : BitVec 32 :=
  let c2_i32_278 : BitVec 32 := 2#32
  let c2_i32_277 : BitVec 32 := 2#32
  let arg1 : BitVec 32 := BitVec.ofNat 32 (i 1).val
  let v1162 : BitVec 32 := Scalar.muli c2_i32_277 arg1
  let c1_i32 : BitVec 32 := 1#32
  let v1163 : BitVec 32 := Scalar.addi v1162 c1_i32
  let v1164 : BitVec 32 := Scalar.muli c2_i32_278 v1163
  let c4_i32_279 : BitVec 32 := 4#32
  let v1165 : BitVec 32 := Scalar.addi v1164 c4_i32_279
  let c2_i32_284 : BitVec 32 := 2#32
  let v1170 : BitVec 32 := Scalar.subi v1165 c2_i32_284
  let c128_i32_285 : BitVec 32 := 128#32
  let v1171 : BitVec 32 := Scalar.muli v1170 c128_i32_285
  v1171
def k0_mult10 (i : grid0.Coords) : BitVec 32 :=
  let c2_i32_313 : BitVec 32 := 2#32
  let c2_i32_311 : BitVec 32 := 2#32
  let arg1 : BitVec 32 := BitVec.ofNat 32 (i 1).val
  let v1306 : BitVec 32 := Scalar.muli c2_i32_311 arg1
  let c1_i32_312 : BitVec 32 := 1#32
  let v1307 : BitVec 32 := Scalar.addi v1306 c1_i32_312
  let v1308 : BitVec 32 := Scalar.muli c2_i32_313 v1307
  let c4_i32_314 : BitVec 32 := 4#32
  let v1309 : BitVec 32 := Scalar.addi v1308 c4_i32_314
  let c2_i32_320 : BitVec 32 := 2#32
  let v1314 : BitVec 32 := Scalar.subi v1309 c2_i32_320
  let c128_i32_321 : BitVec 32 := 128#32
  let v1315 : BitVec 32 := Scalar.muli v1314 c128_i32_321
  v1315
def k0_mult11 (i : grid0.Coords) : BitVec 32 :=
  let c2_i32_349 : BitVec 32 := 2#32
  let c2_i32_347 : BitVec 32 := 2#32
  let arg1 : BitVec 32 := BitVec.ofNat 32 (i 1).val
  let v1450 : BitVec 32 := Scalar.muli c2_i32_347 arg1
  let c1_i32_348 : BitVec 32 := 1#32
  let v1451 : BitVec 32 := Scalar.addi v1450 c1_i32_348
  let v1452 : BitVec 32 := Scalar.muli c2_i32_349 v1451
  let c4_i32_350 : BitVec 32 := 4#32
  let v1453 : BitVec 32 := Scalar.addi v1452 c4_i32_350
  let c2_i32_356 : BitVec 32 := 2#32
  let v1458 : BitVec 32 := Scalar.subi v1453 c2_i32_356
  let c128_i32_357 : BitVec 32 := 128#32
  let v1459 : BitVec 32 := Scalar.muli v1458 c128_i32_357
  v1459
def k0_mult12 (i : grid0.Coords) : BitVec 32 :=
  let c2_i32_385 : BitVec 32 := 2#32
  let c2_i32_383 : BitVec 32 := 2#32
  let arg1 : BitVec 32 := BitVec.ofNat 32 (i 1).val
  let v1594 : BitVec 32 := Scalar.muli c2_i32_383 arg1
  let c1_i32_384 : BitVec 32 := 1#32
  let v1595 : BitVec 32 := Scalar.addi v1594 c1_i32_384
  let v1596 : BitVec 32 := Scalar.muli c2_i32_385 v1595
  let c4_i32_386 : BitVec 32 := 4#32
  let v1597 : BitVec 32 := Scalar.addi v1596 c4_i32_386
  let c2_i32_392 : BitVec 32 := 2#32
  let v1602 : BitVec 32 := Scalar.subi v1597 c2_i32_392
  let c128_i32_393 : BitVec 32 := 128#32
  let v1603 : BitVec 32 := Scalar.muli v1602 c128_i32_393
  v1603
def k0_mult13 (i : grid0.Coords) : BitVec 32 :=
  let c2_i32_421 : BitVec 32 := 2#32
  let c2_i32_419 : BitVec 32 := 2#32
  let arg1 : BitVec 32 := BitVec.ofNat 32 (i 1).val
  let v1738 : BitVec 32 := Scalar.muli c2_i32_419 arg1
  let c1_i32_420 : BitVec 32 := 1#32
  let v1739 : BitVec 32 := Scalar.addi v1738 c1_i32_420
  let v1740 : BitVec 32 := Scalar.muli c2_i32_421 v1739
  let c4_i32_422 : BitVec 32 := 4#32
  let v1741 : BitVec 32 := Scalar.addi v1740 c4_i32_422
  let c2_i32_428 : BitVec 32 := 2#32
  let v1746 : BitVec 32 := Scalar.subi v1741 c2_i32_428
  let c128_i32_429 : BitVec 32 := 128#32
  let v1747 : BitVec 32 := Scalar.muli v1746 c128_i32_429
  v1747
def k0_mult14 (i : grid0.Coords) : BitVec 32 :=
  let c2_i32_457 : BitVec 32 := 2#32
  let c2_i32_455 : BitVec 32 := 2#32
  let arg1 : BitVec 32 := BitVec.ofNat 32 (i 1).val
  let v1882 : BitVec 32 := Scalar.muli c2_i32_455 arg1
  let c1_i32_456 : BitVec 32 := 1#32
  let v1883 : BitVec 32 := Scalar.addi v1882 c1_i32_456
  let v1884 : BitVec 32 := Scalar.muli c2_i32_457 v1883
  let c4_i32_458 : BitVec 32 := 4#32
  let v1885 : BitVec 32 := Scalar.addi v1884 c4_i32_458
  let c2_i32_464 : BitVec 32 := 2#32
  let v1890 : BitVec 32 := Scalar.subi v1885 c2_i32_464
  let c128_i32_465 : BitVec 32 := 128#32
  let v1891 : BitVec 32 := Scalar.muli v1890 c128_i32_465
  v1891
def k0_mult15 (i : grid0.Coords) : BitVec 32 :=
  let c2_i32_493 : BitVec 32 := 2#32
  let c2_i32_491 : BitVec 32 := 2#32
  let arg1 : BitVec 32 := BitVec.ofNat 32 (i 1).val
  let v2026 : BitVec 32 := Scalar.muli c2_i32_491 arg1
  let c1_i32_492 : BitVec 32 := 1#32
  let v2027 : BitVec 32 := Scalar.addi v2026 c1_i32_492
  let v2028 : BitVec 32 := Scalar.muli c2_i32_493 v2027
  let c4_i32_494 : BitVec 32 := 4#32
  let v2029 : BitVec 32 := Scalar.addi v2028 c4_i32_494
  let c2_i32_500 : BitVec 32 := 2#32
  let v2034 : BitVec 32 := Scalar.subi v2029 c2_i32_500
  let c128_i32_501 : BitVec 32 := 128#32
  let v2035 : BitVec 32 := Scalar.muli v2034 c128_i32_501
  v2035
def k0_mult16 (i : grid0.Coords) : BitVec 32 :=
  let c2_i32_529 : BitVec 32 := 2#32
  let c2_i32_527 : BitVec 32 := 2#32
  let arg1 : BitVec 32 := BitVec.ofNat 32 (i 1).val
  let v2170 : BitVec 32 := Scalar.muli c2_i32_527 arg1
  let c1_i32_528 : BitVec 32 := 1#32
  let v2171 : BitVec 32 := Scalar.addi v2170 c1_i32_528
  let v2172 : BitVec 32 := Scalar.muli c2_i32_529 v2171
  let c4_i32_530 : BitVec 32 := 4#32
  let v2173 : BitVec 32 := Scalar.addi v2172 c4_i32_530
  let c2_i32_536 : BitVec 32 := 2#32
  let v2178 : BitVec 32 := Scalar.subi v2173 c2_i32_536
  let c128_i32_537 : BitVec 32 := 128#32
  let v2179 : BitVec 32 := Scalar.muli v2178 c128_i32_537
  v2179
@[reducible] def k0_t1_loop : Scf.Loop 32 :=
  let c0_i32_886 : BitVec 32 := 0#32
  let c16_i32 : BitVec 32 := 16#32
  let v3978 : BitVec 32 := Scalar.addi c0_i32_886 c16_i32
  let c1_i32_887 : BitVec 32 := 1#32
  ⟨c0_i32_886, v3978, c1_i32_887⟩
def k0_mult17 (k0_t1 : Fin k0_t1_loop.trips) : BitVec 32 :=
  let c0_i32_886 : BitVec 32 := 0#32
  let c1_i32_887 : BitVec 32 := 1#32
  let arg7 : BitVec 32 := Scf.iv c0_i32_886 c1_i32_887 k0_t1
  let c0_i32_896 : BitVec 32 := 0#32
  let v3990 : BitVec 1 := Scalar.cmpi .sgt arg7 c0_i32_896
  let v3991 : BitVec 32 := Scalar.extui v3990
  let c0_i32_897 : BitVec 32 := 0#32
  let v3992 : BitVec 1 := Scalar.cmpi .slt arg7 c0_i32_897
  let v3993 : BitVec 32 := Scalar.extui v3992
  let v3994 : BitVec 32 := Scalar.subi v3991 v3993
  let c8_i32_895 : BitVec 32 := 8#32
  let c0_i32_898 : BitVec 32 := 0#32
  let v3995 : BitVec 1 := Scalar.cmpi .sgt c8_i32_895 c0_i32_898
  let v3996 : BitVec 32 := Scalar.extui v3995
  let c0_i32_899 : BitVec 32 := 0#32
  let v3997 : BitVec 1 := Scalar.cmpi .slt c8_i32_895 c0_i32_899
  let v3998 : BitVec 32 := Scalar.extui v3997
  let v3999 : BitVec 32 := Scalar.subi v3996 v3998
  let v4000 : BitVec 1 := Scalar.cmpi .ne v3994 v3999
  let v4001 : BitVec 32 := Scalar.remsi arg7 c8_i32_895
  let c0_i32_900 : BitVec 32 := 0#32
  let v4002 : BitVec 1 := Scalar.cmpi .ne v4001 c0_i32_900
  let v4003 : BitVec 1 := Scalar.andi v4000 v4002
  let v3989 : BitVec 32 := Scalar.divsi arg7 c8_i32_895
  let c1_i32_901 : BitVec 32 := 1#32
  let v4004 : BitVec 32 := Scalar.subi v3989 c1_i32_901
  let v4005 : BitVec 32 := Scalar.select v4003 v4004 v3989
  let c256_i32 : BitVec 32 := 256#32
  let v4010 : BitVec 32 := Scalar.muli v4005 c256_i32
  v4010
def k0_off9 (k0_t1 : Fin k0_t1_loop.trips) : Fin 4 → Nat :=
  let c0_905 : Index := 0#32
  let c0_i32_886 : BitVec 32 := 0#32
  let c1_i32_887 : BitVec 32 := 1#32
  let arg7 : BitVec 32 := Scf.iv c0_i32_886 c1_i32_887 k0_t1
  let c8_i32_889 : BitVec 32 := 8#32
  let c0_i32_890 : BitVec 32 := 0#32
  let v3979 : BitVec 1 := Scalar.cmpi .eq c8_i32_889 c0_i32_890
  let c1_i32_891 : BitVec 32 := 1#32
  let v3980 : BitVec 32 := Scalar.select v3979 c1_i32_891 c8_i32_889
  let v3981 : BitVec 32 := Scalar.remsi arg7 v3980
  let c0_i32_893 : BitVec 32 := 0#32
  let v3983 : BitVec 1 := Scalar.cmpi .slt v3981 c0_i32_893
  let c0_i32_894 : BitVec 32 := 0#32
  let v3984 : BitVec 1 := Scalar.cmpi .slt v3980 c0_i32_894
  let v3985 : BitVec 1 := Scalar.xori v3983 v3984
  let c0_i32_892 : BitVec 32 := 0#32
  let v3982 : BitVec 1 := Scalar.cmpi .ne v3981 c0_i32_892
  let v3986 : BitVec 1 := Scalar.andi v3985 v3982
  let v3987 : BitVec 32 := Scalar.addi v3981 v3980
  let v3988 : BitVec 32 := Scalar.select v3986 v3987 v3981
  let v4012 : Index := Scalar.indexCast v3988
  let c0_i32_896 : BitVec 32 := 0#32
  let v3990 : BitVec 1 := Scalar.cmpi .sgt arg7 c0_i32_896
  let v3991 : BitVec 32 := Scalar.extui v3990
  let c0_i32_897 : BitVec 32 := 0#32
  let v3992 : BitVec 1 := Scalar.cmpi .slt arg7 c0_i32_897
  let v3993 : BitVec 32 := Scalar.extui v3992
  let v3994 : BitVec 32 := Scalar.subi v3991 v3993
  let c8_i32_895 : BitVec 32 := 8#32
  let c0_i32_898 : BitVec 32 := 0#32
  let v3995 : BitVec 1 := Scalar.cmpi .sgt c8_i32_895 c0_i32_898
  let v3996 : BitVec 32 := Scalar.extui v3995
  let c0_i32_899 : BitVec 32 := 0#32
  let v3997 : BitVec 1 := Scalar.cmpi .slt c8_i32_895 c0_i32_899
  let v3998 : BitVec 32 := Scalar.extui v3997
  let v3999 : BitVec 32 := Scalar.subi v3996 v3998
  let v4000 : BitVec 1 := Scalar.cmpi .ne v3994 v3999
  let v4001 : BitVec 32 := Scalar.remsi arg7 c8_i32_895
  let c0_i32_900 : BitVec 32 := 0#32
  let v4002 : BitVec 1 := Scalar.cmpi .ne v4001 c0_i32_900
  let v4003 : BitVec 1 := Scalar.andi v4000 v4002
  let v3989 : BitVec 32 := Scalar.divsi arg7 c8_i32_895
  let c1_i32_901 : BitVec 32 := 1#32
  let v4004 : BitVec 32 := Scalar.subi v3989 c1_i32_901
  let v4005 : BitVec 32 := Scalar.select v4003 v4004 v3989
  let c256_i32 : BitVec 32 := 256#32
  let v4010 : BitVec 32 := Scalar.muli v4005 c256_i32
  let v4011 : BitVec 32 := v4010
  let v4013 : Index := Scalar.indexCast v4011
  let c0_906 : Index := 0#32
  ![0, v4012.toNat, v4013.toNat, 0]
def k0_mult18 (i : grid0.Coords) (k0_t1 : Fin k0_t1_loop.trips) : BitVec 32 :=
  let c2_i32_903 : BitVec 32 := 2#32
  let c2_i32_902 : BitVec 32 := 2#32
  let arg1 : BitVec 32 := BitVec.ofNat 32 (i 1).val
  let v4006 : BitVec 32 := Scalar.muli c2_i32_902 arg1
  let c0_i32_886 : BitVec 32 := 0#32
  let c1_i32_887 : BitVec 32 := 1#32
  let arg7 : BitVec 32 := Scf.iv c0_i32_886 c1_i32_887 k0_t1
  let c0_i32_896 : BitVec 32 := 0#32
  let v3990 : BitVec 1 := Scalar.cmpi .sgt arg7 c0_i32_896
  let v3991 : BitVec 32 := Scalar.extui v3990
  let c0_i32_897 : BitVec 32 := 0#32
  let v3992 : BitVec 1 := Scalar.cmpi .slt arg7 c0_i32_897
  let v3993 : BitVec 32 := Scalar.extui v3992
  let v3994 : BitVec 32 := Scalar.subi v3991 v3993
  let c8_i32_895 : BitVec 32 := 8#32
  let c0_i32_898 : BitVec 32 := 0#32
  let v3995 : BitVec 1 := Scalar.cmpi .sgt c8_i32_895 c0_i32_898
  let v3996 : BitVec 32 := Scalar.extui v3995
  let c0_i32_899 : BitVec 32 := 0#32
  let v3997 : BitVec 1 := Scalar.cmpi .slt c8_i32_895 c0_i32_899
  let v3998 : BitVec 32 := Scalar.extui v3997
  let v3999 : BitVec 32 := Scalar.subi v3996 v3998
  let v4000 : BitVec 1 := Scalar.cmpi .ne v3994 v3999
  let v4001 : BitVec 32 := Scalar.remsi arg7 c8_i32_895
  let c0_i32_900 : BitVec 32 := 0#32
  let v4002 : BitVec 1 := Scalar.cmpi .ne v4001 c0_i32_900
  let v4003 : BitVec 1 := Scalar.andi v4000 v4002
  let v3989 : BitVec 32 := Scalar.divsi arg7 c8_i32_895
  let c1_i32_901 : BitVec 32 := 1#32
  let v4004 : BitVec 32 := Scalar.subi v3989 c1_i32_901
  let v4005 : BitVec 32 := Scalar.select v4003 v4004 v3989
  let v4007 : BitVec 32 := Scalar.addi v4006 v4005
  let v4008 : BitVec 32 := Scalar.muli c2_i32_903 v4007
  let c4_i32_904 : BitVec 32 := 4#32
  let v4009 : BitVec 32 := Scalar.addi v4008 c4_i32_904
  let c1_i32_910 : BitVec 32 := 1#32
  let v4021 : BitVec 32 := Scalar.addi v4009 c1_i32_910
  let c128_i32_911 : BitVec 32 := 128#32
  let v4022 : BitVec 32 := Scalar.muli v4021 c128_i32_911
  v4022
def k0_off10 (i : grid0.Coords) (k0_t1 : Fin k0_t1_loop.trips) : Fin 4 → Nat :=
  let c0_912 : Index := 0#32
  let c0_i32_886 : BitVec 32 := 0#32
  let c1_i32_887 : BitVec 32 := 1#32
  let arg7 : BitVec 32 := Scf.iv c0_i32_886 c1_i32_887 k0_t1
  let c8_i32_889 : BitVec 32 := 8#32
  let c0_i32_890 : BitVec 32 := 0#32
  let v3979 : BitVec 1 := Scalar.cmpi .eq c8_i32_889 c0_i32_890
  let c1_i32_891 : BitVec 32 := 1#32
  let v3980 : BitVec 32 := Scalar.select v3979 c1_i32_891 c8_i32_889
  let v3981 : BitVec 32 := Scalar.remsi arg7 v3980
  let c0_i32_893 : BitVec 32 := 0#32
  let v3983 : BitVec 1 := Scalar.cmpi .slt v3981 c0_i32_893
  let c0_i32_894 : BitVec 32 := 0#32
  let v3984 : BitVec 1 := Scalar.cmpi .slt v3980 c0_i32_894
  let v3985 : BitVec 1 := Scalar.xori v3983 v3984
  let c0_i32_892 : BitVec 32 := 0#32
  let v3982 : BitVec 1 := Scalar.cmpi .ne v3981 c0_i32_892
  let v3986 : BitVec 1 := Scalar.andi v3985 v3982
  let v3987 : BitVec 32 := Scalar.addi v3981 v3980
  let v3988 : BitVec 32 := Scalar.select v3986 v3987 v3981
  let v4024 : Index := Scalar.indexCast v3988
  let c2_i32_903 : BitVec 32 := 2#32
  let c2_i32_902 : BitVec 32 := 2#32
  let arg1 : BitVec 32 := BitVec.ofNat 32 (i 1).val
  let v4006 : BitVec 32 := Scalar.muli c2_i32_902 arg1
  let c0_i32_896 : BitVec 32 := 0#32
  let v3990 : BitVec 1 := Scalar.cmpi .sgt arg7 c0_i32_896
  let v3991 : BitVec 32 := Scalar.extui v3990
  let c0_i32_897 : BitVec 32 := 0#32
  let v3992 : BitVec 1 := Scalar.cmpi .slt arg7 c0_i32_897
  let v3993 : BitVec 32 := Scalar.extui v3992
  let v3994 : BitVec 32 := Scalar.subi v3991 v3993
  let c8_i32_895 : BitVec 32 := 8#32
  let c0_i32_898 : BitVec 32 := 0#32
  let v3995 : BitVec 1 := Scalar.cmpi .sgt c8_i32_895 c0_i32_898
  let v3996 : BitVec 32 := Scalar.extui v3995
  let c0_i32_899 : BitVec 32 := 0#32
  let v3997 : BitVec 1 := Scalar.cmpi .slt c8_i32_895 c0_i32_899
  let v3998 : BitVec 32 := Scalar.extui v3997
  let v3999 : BitVec 32 := Scalar.subi v3996 v3998
  let v4000 : BitVec 1 := Scalar.cmpi .ne v3994 v3999
  let v4001 : BitVec 32 := Scalar.remsi arg7 c8_i32_895
  let c0_i32_900 : BitVec 32 := 0#32
  let v4002 : BitVec 1 := Scalar.cmpi .ne v4001 c0_i32_900
  let v4003 : BitVec 1 := Scalar.andi v4000 v4002
  let v3989 : BitVec 32 := Scalar.divsi arg7 c8_i32_895
  let c1_i32_901 : BitVec 32 := 1#32
  let v4004 : BitVec 32 := Scalar.subi v3989 c1_i32_901
  let v4005 : BitVec 32 := Scalar.select v4003 v4004 v3989
  let v4007 : BitVec 32 := Scalar.addi v4006 v4005
  let v4008 : BitVec 32 := Scalar.muli c2_i32_903 v4007
  let c4_i32_904 : BitVec 32 := 4#32
  let v4009 : BitVec 32 := Scalar.addi v4008 c4_i32_904
  let c1_i32_910 : BitVec 32 := 1#32
  let v4021 : BitVec 32 := Scalar.addi v4009 c1_i32_910
  let c128_i32_911 : BitVec 32 := 128#32
  let v4022 : BitVec 32 := Scalar.muli v4021 c128_i32_911
  let v4023 : BitVec 32 := v4022
  let v4025 : Index := Scalar.indexCast v4023
  let c0_913 : Index := 0#32
  ![0, v4024.toNat, v4025.toNat, 0]
def k0_mult19 (i : grid0.Coords) (k0_t1 : Fin k0_t1_loop.trips) : BitVec 32 :=
  let c2_i32_903 : BitVec 32 := 2#32
  let c2_i32_902 : BitVec 32 := 2#32
  let arg1 : BitVec 32 := BitVec.ofNat 32 (i 1).val
  let v4006 : BitVec 32 := Scalar.muli c2_i32_902 arg1
  let c0_i32_886 : BitVec 32 := 0#32
  let c1_i32_887 : BitVec 32 := 1#32
  let arg7 : BitVec 32 := Scf.iv c0_i32_886 c1_i32_887 k0_t1
  let c0_i32_896 : BitVec 32 := 0#32
  let v3990 : BitVec 1 := Scalar.cmpi .sgt arg7 c0_i32_896
  let v3991 : BitVec 32 := Scalar.extui v3990
  let c0_i32_897 : BitVec 32 := 0#32
  let v3992 : BitVec 1 := Scalar.cmpi .slt arg7 c0_i32_897
  let v3993 : BitVec 32 := Scalar.extui v3992
  let v3994 : BitVec 32 := Scalar.subi v3991 v3993
  let c8_i32_895 : BitVec 32 := 8#32
  let c0_i32_898 : BitVec 32 := 0#32
  let v3995 : BitVec 1 := Scalar.cmpi .sgt c8_i32_895 c0_i32_898
  let v3996 : BitVec 32 := Scalar.extui v3995
  let c0_i32_899 : BitVec 32 := 0#32
  let v3997 : BitVec 1 := Scalar.cmpi .slt c8_i32_895 c0_i32_899
  let v3998 : BitVec 32 := Scalar.extui v3997
  let v3999 : BitVec 32 := Scalar.subi v3996 v3998
  let v4000 : BitVec 1 := Scalar.cmpi .ne v3994 v3999
  let v4001 : BitVec 32 := Scalar.remsi arg7 c8_i32_895
  let c0_i32_900 : BitVec 32 := 0#32
  let v4002 : BitVec 1 := Scalar.cmpi .ne v4001 c0_i32_900
  let v4003 : BitVec 1 := Scalar.andi v4000 v4002
  let v3989 : BitVec 32 := Scalar.divsi arg7 c8_i32_895
  let c1_i32_901 : BitVec 32 := 1#32
  let v4004 : BitVec 32 := Scalar.subi v3989 c1_i32_901
  let v4005 : BitVec 32 := Scalar.select v4003 v4004 v3989
  let v4007 : BitVec 32 := Scalar.addi v4006 v4005
  let v4008 : BitVec 32 := Scalar.muli c2_i32_903 v4007
  let c4_i32_904 : BitVec 32 := 4#32
  let v4009 : BitVec 32 := Scalar.addi v4008 c4_i32_904
  let c128_i32_920 : BitVec 32 := 128#32
  let v4051 : BitVec 32 := Scalar.muli v4009 c128_i32_920
  v4051
def k0_off11 (i : grid0.Coords) (k0_t1 : Fin k0_t1_loop.trips) : Fin 4 → Nat :=
  let c0_921 : Index := 0#32
  let c0_i32_886 : BitVec 32 := 0#32
  let c1_i32_887 : BitVec 32 := 1#32
  let arg7 : BitVec 32 := Scf.iv c0_i32_886 c1_i32_887 k0_t1
  let c8_i32_889 : BitVec 32 := 8#32
  let c0_i32_890 : BitVec 32 := 0#32
  let v3979 : BitVec 1 := Scalar.cmpi .eq c8_i32_889 c0_i32_890
  let c1_i32_891 : BitVec 32 := 1#32
  let v3980 : BitVec 32 := Scalar.select v3979 c1_i32_891 c8_i32_889
  let v3981 : BitVec 32 := Scalar.remsi arg7 v3980
  let c0_i32_893 : BitVec 32 := 0#32
  let v3983 : BitVec 1 := Scalar.cmpi .slt v3981 c0_i32_893
  let c0_i32_894 : BitVec 32 := 0#32
  let v3984 : BitVec 1 := Scalar.cmpi .slt v3980 c0_i32_894
  let v3985 : BitVec 1 := Scalar.xori v3983 v3984
  let c0_i32_892 : BitVec 32 := 0#32
  let v3982 : BitVec 1 := Scalar.cmpi .ne v3981 c0_i32_892
  let v3986 : BitVec 1 := Scalar.andi v3985 v3982
  let v3987 : BitVec 32 := Scalar.addi v3981 v3980
  let v3988 : BitVec 32 := Scalar.select v3986 v3987 v3981
  let v4053 : Index := Scalar.indexCast v3988
  let c2_i32_903 : BitVec 32 := 2#32
  let c2_i32_902 : BitVec 32 := 2#32
  let arg1 : BitVec 32 := BitVec.ofNat 32 (i 1).val
  let v4006 : BitVec 32 := Scalar.muli c2_i32_902 arg1
  let c0_i32_896 : BitVec 32 := 0#32
  let v3990 : BitVec 1 := Scalar.cmpi .sgt arg7 c0_i32_896
  let v3991 : BitVec 32 := Scalar.extui v3990
  let c0_i32_897 : BitVec 32 := 0#32
  let v3992 : BitVec 1 := Scalar.cmpi .slt arg7 c0_i32_897
  let v3993 : BitVec 32 := Scalar.extui v3992
  let v3994 : BitVec 32 := Scalar.subi v3991 v3993
  let c8_i32_895 : BitVec 32 := 8#32
  let c0_i32_898 : BitVec 32 := 0#32
  let v3995 : BitVec 1 := Scalar.cmpi .sgt c8_i32_895 c0_i32_898
  let v3996 : BitVec 32 := Scalar.extui v3995
  let c0_i32_899 : BitVec 32 := 0#32
  let v3997 : BitVec 1 := Scalar.cmpi .slt c8_i32_895 c0_i32_899
  let v3998 : BitVec 32 := Scalar.extui v3997
  let v3999 : BitVec 32 := Scalar.subi v3996 v3998
  let v4000 : BitVec 1 := Scalar.cmpi .ne v3994 v3999
  let v4001 : BitVec 32 := Scalar.remsi arg7 c8_i32_895
  let c0_i32_900 : BitVec 32 := 0#32
  let v4002 : BitVec 1 := Scalar.cmpi .ne v4001 c0_i32_900
  let v4003 : BitVec 1 := Scalar.andi v4000 v4002
  let v3989 : BitVec 32 := Scalar.divsi arg7 c8_i32_895
  let c1_i32_901 : BitVec 32 := 1#32
  let v4004 : BitVec 32 := Scalar.subi v3989 c1_i32_901
  let v4005 : BitVec 32 := Scalar.select v4003 v4004 v3989
  let v4007 : BitVec 32 := Scalar.addi v4006 v4005
  let v4008 : BitVec 32 := Scalar.muli c2_i32_903 v4007
  let c4_i32_904 : BitVec 32 := 4#32
  let v4009 : BitVec 32 := Scalar.addi v4008 c4_i32_904
  let c128_i32_920 : BitVec 32 := 128#32
  let v4051 : BitVec 32 := Scalar.muli v4009 c128_i32_920
  let v4052 : BitVec 32 := v4051
  let v4054 : Index := Scalar.indexCast v4052
  let c0_922 : Index := 0#32
  ![0, v4053.toNat, v4054.toNat, 0]
def k0_mult20 (arg8 : BitVec 32) : BitVec 32 :=
  let c0_i32_944 : BitVec 32 := 0#32
  let v4156 : BitVec 32 := Scalar.subi arg8 c0_i32_944
  let c128_i32_945 : BitVec 32 := 128#32
  let v4157 : BitVec 32 := Scalar.muli v4156 c128_i32_945
  v4157

def k0_off12 (k0_t1 : Fin k0_t1_loop.trips) (arg8 : BitVec 32) (c0_i32_944 : BitVec 32) : Fin 4 → Nat :=
  let c0_946 : Index := 0#32
  let c0_i32_886 : BitVec 32 := 0#32
  let c1_i32_887 : BitVec 32 := 1#32
  let arg7 : BitVec 32 := Scf.iv c0_i32_886 c1_i32_887 k0_t1
  let c8_i32_889 : BitVec 32 := 8#32
  let c0_i32_890 : BitVec 32 := 0#32
  let v3979 : BitVec 1 := Scalar.cmpi .eq c8_i32_889 c0_i32_890
  let c1_i32_891 : BitVec 32 := 1#32
  let v3980 : BitVec 32 := Scalar.select v3979 c1_i32_891 c8_i32_889
  let v3981 : BitVec 32 := Scalar.remsi arg7 v3980
  let c0_i32_893 : BitVec 32 := 0#32
  let v3983 : BitVec 1 := Scalar.cmpi .slt v3981 c0_i32_893
  let c0_i32_894 : BitVec 32 := 0#32
  let v3984 : BitVec 1 := Scalar.cmpi .slt v3980 c0_i32_894
  let v3985 : BitVec 1 := Scalar.xori v3983 v3984
  let c0_i32_892 : BitVec 32 := 0#32
  let v3982 : BitVec 1 := Scalar.cmpi .ne v3981 c0_i32_892
  let v3986 : BitVec 1 := Scalar.andi v3985 v3982
  let v3987 : BitVec 32 := Scalar.addi v3981 v3980
  let v3988 : BitVec 32 := Scalar.select v3986 v3987 v3981
  let v4159 : Index := Scalar.indexCast v3988
  let v4156 : BitVec 32 := Scalar.subi arg8 c0_i32_944
  let c128_i32_945 : BitVec 32 := 128#32
  let v4157 : BitVec 32 := Scalar.muli v4156 c128_i32_945
  let v4158 : BitVec 32 := v4157
  let v4160 : Index := Scalar.indexCast v4158
  let c0_947 : Index := 0#32
  ![0, v4159.toNat, v4160.toNat, 0]
def k0_mult21 (arg8 : BitVec 32) : BitVec 32 :=
  let c1_i32_953 : BitVec 32 := 1#32
  let v4181 : BitVec 32 := Scalar.subi arg8 c1_i32_953
  let c128_i32_954 : BitVec 32 := 128#32
  let v4182 : BitVec 32 := Scalar.muli v4181 c128_i32_954
  v4182
def k0_mult22 (arg8 : BitVec 32) : BitVec 32 :=
  let c2_i32_962 : BitVec 32 := 2#32
  let v4206 : BitVec 32 := Scalar.subi arg8 c2_i32_962
  let c128_i32_963 : BitVec 32 := 128#32
  let v4207 : BitVec 32 := Scalar.muli v4206 c128_i32_963
  v4207
def k0_mult23 (arg8 : BitVec 32) : BitVec 32 :=
  let c3_i32_971 : BitVec 32 := 3#32
  let v4231 : BitVec 32 := Scalar.subi arg8 c3_i32_971
  let c128_i32_972 : BitVec 32 := 128#32
  let v4232 : BitVec 32 := Scalar.muli v4231 c128_i32_972
  v4232

def k0_chk1 (k0_t1 : Fin k0_t1_loop.trips) (arg8 : BitVec 32) : Prop :=
  (128 ∣ (k0_mult20 arg8).toNat) ∧
  (∀ (r : Fin 4), ∀ a, (k0_off12 k0_t1 arg8 (BitVec.ofNat 32 r.val)) a + S1x1x128x128.size a ≤ S1x8x2560x128.size a) ∧
  (128 ∣ (k0_mult21 arg8).toNat) ∧
  (128 ∣ (k0_mult22 arg8).toNat) ∧
  (128 ∣ (k0_mult23 arg8).toNat)
theorem k0_mult20_dvd : ∀ (k0_t1 : Fin k0_t1_loop.trips) (arg8 : BitVec 32) (k0_hw1 : k0_chk1 k0_t1 arg8), 128 ∣ (k0_mult20 arg8).toNat := fun k0_t1 arg8 k0_hw1 => k0_hw1.1
theorem k0_off12_inb : ∀ (k0_t1 : Fin k0_t1_loop.trips) (arg8 : BitVec 32) (k0_hw1 : k0_chk1 k0_t1 arg8), ∀ (r : Fin 4), ∀ a, (k0_off12 k0_t1 arg8 (BitVec.ofNat 32 r.val)) a + S1x1x128x128.size a ≤ S1x8x2560x128.size a := fun k0_t1 arg8 k0_hw1 r => k0_hw1.2.1 r
theorem k0_mult21_dvd : ∀ (k0_t1 : Fin k0_t1_loop.trips) (arg8 : BitVec 32) (k0_hw1 : k0_chk1 k0_t1 arg8), 128 ∣ (k0_mult21 arg8).toNat := fun k0_t1 arg8 k0_hw1 => k0_hw1.2.2.1
theorem k0_mult22_dvd : ∀ (k0_t1 : Fin k0_t1_loop.trips) (arg8 : BitVec 32) (k0_hw1 : k0_chk1 k0_t1 arg8), 128 ∣ (k0_mult22 arg8).toNat := fun k0_t1 arg8 k0_hw1 => k0_hw1.2.2.2.1
theorem k0_mult23_dvd : ∀ (k0_t1 : Fin k0_t1_loop.trips) (arg8 : BitVec 32) (k0_hw1 : k0_chk1 k0_t1 arg8), 128 ∣ (k0_mult23 arg8).toNat := fun k0_t1 arg8 k0_hw1 => k0_hw1.2.2.2.2

def k0_off13 (k0_t1 : Fin k0_t1_loop.trips) : Fin 4 → Nat :=
  let c0_944 : Index := 0#32
  let c0_i32_886 : BitVec 32 := 0#32
  let c1_i32_887 : BitVec 32 := 1#32
  let arg7 : BitVec 32 := Scf.iv c0_i32_886 c1_i32_887 k0_t1
  let c8_i32_889 : BitVec 32 := 8#32
  let c0_i32_890 : BitVec 32 := 0#32
  let v3979 : BitVec 1 := Scalar.cmpi .eq c8_i32_889 c0_i32_890
  let c1_i32_891 : BitVec 32 := 1#32
  let v3980 : BitVec 32 := Scalar.select v3979 c1_i32_891 c8_i32_889
  let v3981 : BitVec 32 := Scalar.remsi arg7 v3980
  let c0_i32_893 : BitVec 32 := 0#32
  let v3983 : BitVec 1 := Scalar.cmpi .slt v3981 c0_i32_893
  let c0_i32_894 : BitVec 32 := 0#32
  let v3984 : BitVec 1 := Scalar.cmpi .slt v3980 c0_i32_894
  let v3985 : BitVec 1 := Scalar.xori v3983 v3984
  let c0_i32_892 : BitVec 32 := 0#32
  let v3982 : BitVec 1 := Scalar.cmpi .ne v3981 c0_i32_892
  let v3986 : BitVec 1 := Scalar.andi v3985 v3982
  let v3987 : BitVec 32 := Scalar.addi v3981 v3980
  let v3988 : BitVec 32 := Scalar.select v3986 v3987 v3981
  let v4157 : Index := Scalar.indexCast v3988
  let c0_i32_896 : BitVec 32 := 0#32
  let v3990 : BitVec 1 := Scalar.cmpi .sgt arg7 c0_i32_896
  let v3991 : BitVec 32 := Scalar.extui v3990
  let c0_i32_897 : BitVec 32 := 0#32
  let v3992 : BitVec 1 := Scalar.cmpi .slt arg7 c0_i32_897
  let v3993 : BitVec 32 := Scalar.extui v3992
  let v3994 : BitVec 32 := Scalar.subi v3991 v3993
  let c8_i32_895 : BitVec 32 := 8#32
  let c0_i32_898 : BitVec 32 := 0#32
  let v3995 : BitVec 1 := Scalar.cmpi .sgt c8_i32_895 c0_i32_898
  let v3996 : BitVec 32 := Scalar.extui v3995
  let c0_i32_899 : BitVec 32 := 0#32
  let v3997 : BitVec 1 := Scalar.cmpi .slt c8_i32_895 c0_i32_899
  let v3998 : BitVec 32 := Scalar.extui v3997
  let v3999 : BitVec 32 := Scalar.subi v3996 v3998
  let v4000 : BitVec 1 := Scalar.cmpi .ne v3994 v3999
  let v4001 : BitVec 32 := Scalar.remsi arg7 c8_i32_895
  let c0_i32_900 : BitVec 32 := 0#32
  let v4002 : BitVec 1 := Scalar.cmpi .ne v4001 c0_i32_900
  let v4003 : BitVec 1 := Scalar.andi v4000 v4002
  let v3989 : BitVec 32 := Scalar.divsi arg7 c8_i32_895
  let c1_i32_901 : BitVec 32 := 1#32
  let v4004 : BitVec 32 := Scalar.subi v3989 c1_i32_901
  let v4005 : BitVec 32 := Scalar.select v4003 v4004 v3989
  let c256_i32 : BitVec 32 := 256#32
  let v4010 : BitVec 32 := Scalar.muli v4005 c256_i32
  let v4011 : BitVec 32 := v4010
  let v4158 : Index := Scalar.indexCast v4011
  let c0_945 : Index := 0#32
  ![0, v4157.toNat, v4158.toNat, 0]
def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "big" => some ⊤
  | "dead_mass" => some ⊤
  | "exp_clamp" => some ⊤
  | _ => none
-- ==== ReferenceIdeal.lean ====
abbrev S32x2048x1024 : Shape := ⟨3, ![32, 2048, 1024]⟩
abbrev S32x2048x16x64 : Shape := ⟨4, ![32, 2048, 16, 64]⟩
abbrev S32x16x2048x64 : Shape := ⟨4, ![32, 16, 2048, 64]⟩
abbrev S32x16x2048x2048 : Shape := ⟨4, ![32, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x8x2x2048x64 : Shape := ⟨5, ![32, 8, 2, 2048, 64]⟩
abbrev S32x8x2048x2x64 : Shape := ⟨5, ![32, 8, 2048, 2, 64]⟩
abbrev S32x8x2048x128 : Shape := ⟨4, ![32, 8, 2048, 128]⟩

abbrev nBuf : Space → Nat
  | .hbm => 72
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S32x2048x16x64, .f32⟩
  | .hbm, ⟨4, _⟩ => ⟨S32x16x2048x64, .f32⟩
  | .hbm, ⟨5, _⟩ => ⟨S32x2048x16x64, .f32⟩
  | .hbm, ⟨6, _⟩ => ⟨S32x16x2048x64, .f32⟩
  | .hbm, ⟨7, _⟩ => ⟨S32x2048x16x64, .f32⟩
  | .hbm, ⟨8, _⟩ => ⟨S32x16x2048x64, .f32⟩
  | .hbm, ⟨9, _⟩ => ⟨S32x16x2048x2048, .f32⟩
  | .hbm, ⟨10, _⟩ => ⟨S_, .f32⟩
  | .hbm, ⟨11, _⟩ => ⟨S32x16x2048x2048, .f32⟩
  | .hbm, ⟨12, _⟩ => ⟨S32x16x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S32x16x2048x2048, .f32⟩
  | .hbm, ⟨22, _⟩ => ⟨S32x16x2048x2048, .f32⟩
  | .hbm, ⟨23, _⟩ => ⟨S32x16x2048x2048, .f32⟩
  | .hbm, ⟨24, _⟩ => ⟨S32x16x2048x2048, .f32⟩
  | .hbm, ⟨25, _⟩ => ⟨S32x16x2048x2048, .i1⟩
  | .hbm, ⟨26, _⟩ => ⟨S32x16x2048x2048, .f32⟩
  | .hbm, ⟨27, _⟩ => ⟨S32x16x2048x2048, .f32⟩
  | .hbm, ⟨28, _⟩ => ⟨S32x16x2048x2048, .f32⟩
  | .hbm, ⟨29, _⟩ => ⟨S32x16x2048x2048, .f32⟩
  | .hbm, ⟨30, _⟩ => ⟨S32x16x2048x2048, .f32⟩
  | .hbm, ⟨31, _⟩ => ⟨S32x16x2048x2048, .f32⟩
  | .hbm, ⟨32, _⟩ => ⟨S32x16x2048x2048, .f32⟩
  | .hbm, ⟨33, _⟩ => ⟨S32x16x2048x2048, .f32⟩
  | .hbm, ⟨34, _⟩ => ⟨S32x16x2048x2048, .f32⟩
  | .hbm, ⟨35, _⟩ => ⟨S_, .f32⟩
  | .hbm, ⟨36, _⟩ => ⟨S_, .f32⟩
  | .hbm, ⟨37, _⟩ => ⟨S32x16x2048x2048, .i1⟩
  | .hbm, ⟨38, _⟩ => ⟨S32x16x2048x2048, .f32⟩
  | .hbm, ⟨39, _⟩ => ⟨S32x16x2048x2048, .f32⟩
  | .hbm, ⟨40, _⟩ => ⟨S_, .f32⟩
  | .hbm, ⟨41, _⟩ => ⟨S_, .f32⟩
  | .hbm, ⟨42, _⟩ => ⟨S32x16x2048x2048, .f32⟩
  | .hbm, ⟨43, _⟩ => ⟨S32x16x2048x2048, .f32⟩
  | .hbm, ⟨44, _⟩ => ⟨S32x16x2048x2048, .f32⟩
  | .hbm, ⟨45, _⟩ => ⟨S_, .f32⟩
  | .hbm, ⟨46, _⟩ => ⟨S32x16x2048x2048, .f32⟩
  | .hbm, ⟨47, _⟩ => ⟨S32x16x2048x2048, .f32⟩
  | .hbm, ⟨48, _⟩ => ⟨S32x16x2048x2048, .f32⟩
  | .hbm, ⟨49, _⟩ => ⟨S32x16x2048x2048, .f32⟩
  | .hbm, ⟨50, _⟩ => ⟨S32x16x2048x2048, .i1⟩
  | .hbm, ⟨51, _⟩ => ⟨S32x16x2048x2048, .f32⟩
  | .hbm, ⟨52, _⟩ => ⟨S32x16x2048x2048, .f32⟩
  | .hbm, ⟨53, _⟩ => ⟨S32x16x2048x2048, .f32⟩
  | .hbm, ⟨54, _⟩ => ⟨S32x16x2048x2048, .f32⟩
  | .hbm, ⟨55, _⟩ => ⟨S32x16x2048x2048, .f32⟩
  | .hbm, ⟨56, _⟩ => ⟨S32x16x2048x2048, .f32⟩
  | .hbm, ⟨57, _⟩ => ⟨S32x16x2048x2048, .f32⟩
  | .hbm, ⟨58, _⟩ => ⟨S32x16x2048x2048, .f32⟩
  | .hbm, ⟨59, _⟩ => ⟨S32x16x2048x2048, .f32⟩
  | .hbm, ⟨60, _⟩ => ⟨S32x16x2048x2048, .f32⟩
  | .hbm, ⟨61, _⟩ => ⟨S32x16x2048x2048, .f32⟩
  | .hbm, ⟨62, _⟩ => ⟨S_, .f32⟩
  | .hbm, ⟨63, _⟩ => ⟨S_, .f32⟩
  | .hbm, ⟨64, _⟩ => ⟨S32x16x2048x2048, .i1⟩
  | .hbm, ⟨65, _⟩ => ⟨S32x16x2048x2048, .f32⟩
  | .hbm, ⟨66, _⟩ => ⟨S32x16x2048x2048, .f32⟩
  | .hbm, ⟨67, _⟩ => ⟨S32x16x2048x64, .f32⟩
  | .hbm, ⟨68, _⟩ => ⟨S32x8x2x2048x64, .f32⟩
  | .hbm, ⟨69, _⟩ => ⟨S32x8x2048x2x64, .f32⟩
  | .hbm, ⟨70, _⟩ => ⟨S32x8x2048x128, .f32⟩
  | .hbm, ⟨71, _⟩ => ⟨S32x8x2048x128, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S32x1024 : Shape := ⟨2, ![32, 1024]⟩
abbrev S1024x8192 : Shape := ⟨2, ![1024, 8192]⟩
abbrev S1x1024 : Shape := ⟨2, ![1, 1024]⟩
abbrev S32x1x1024 : Shape := ⟨3, ![32, 1, 1024]⟩
abbrev S32x24x2560x128 : Shape := ⟨4, ![32, 24, 2560, 128]⟩
abbrev S32x2048x5120 : Shape := ⟨3, ![32, 2048, 5120]⟩
abbrev S1x2048x1024 : Shape := ⟨3, ![1, 2048, 1024]⟩
abbrev S1x1x1024 : Shape := ⟨3, ![1, 1, 1024]⟩
abbrev S1024x1024 : Shape := ⟨2, ![1024, 1024]⟩
abbrev S1x8x2560x128 : Shape := ⟨4, ![1, 8, 2560, 128]⟩
abbrev S2048x1024 : Shape := ⟨2, ![2048, 1024]⟩
abbrev S8x512x128 : Shape := ⟨3, ![8, 512, 128]⟩
abbrev S1x8x512x128 : Shape := ⟨4, ![1, 8, 512, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S512x1024 : Shape := ⟨2, ![512, 1024]⟩
abbrev S512x128 : Shape := ⟨2, ![512, 128]⟩
abbrev S1x1x512x128 : Shape := ⟨4, ![1, 1, 512, 128]⟩
abbrev S1x512x1024 : Shape := ⟨3, ![1, 512, 1024]⟩
abbrev S16x1024 : Shape := ⟨2, ![16, 1024]⟩
abbrev S512x1 : Shape := ⟨2, ![512, 1]⟩
abbrev S16x256 : Shape := ⟨2, ![16, 256]⟩
abbrev S512x256 : Shape := ⟨2, ![512, 256]⟩
abbrev S528x256 : Shape := ⟨2, ![528, 256]⟩
abbrev S1x512x256 : Shape := ⟨3, ![1, 512, 256]⟩

abbrev nBuf : Space → Nat
  | .hbm => 11
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x8192, .f32⟩
  | .hbm, ⟨5, _⟩ => ⟨S1024x8192, .bf16⟩
  | .hbm, ⟨6, _⟩ => ⟨S1x1024, .f32⟩
  | .hbm, ⟨7, _⟩ => ⟨S32x1x1024, .f32⟩
  | .hbm, ⟨8, _⟩ => ⟨S32x1x1024, .f32⟩
  | .hbm, ⟨9, _⟩ => ⟨S32x24x2560x128, .bf16⟩
  | .hbm, ⟨10, _⟩ => ⟨S32x2048x5120, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x8x2560x128, .bf16⟩
  | .local _ .vmem, ⟨10, _⟩ => ⟨S1x8x2560x128, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S2048x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c0_i32_1 : BitVec 32 := 0#32
  let v4 : BitVec 1 := Scalar.cmpi .sgt arg1 c0_i32_1
  let c3_i32 : BitVec 32 := 3#32
  let v5 : BitVec 1 := Scalar.cmpi .slt arg1 c3_i32
  let v6 : BitVec 1 := Scalar.andi v4 v5
  let v7 : BitVec 32 := Scalar.extui v6
  let c0_i32_2 : BitVec 32 := 0#32
  let v8 : BitVec 1 := Scalar.cmpi .ne v7 c0_i32_2
  v8

def k0_cond3 (i : grid0.Coords) : BitVec 1 :=
  let arg1 : BitVec 32 := BitVec.ofNat 32 (i 1).val
  let c3_i32_3 : BitVec 32 := 3#32
  let v9 : BitVec 1 := Scalar.cmpi .sge arg1 c3_i32_3
  let c4_i32 : BitVec 32 := 4#32
  let v10 : BitVec 1 := Scalar.cmpi .ne arg1 c4_i32
  let v11 : BitVec 1 := Scalar.andi v9 v10
  let v12 : BitVec 32 := Scalar.extui v11
  let c0_i32_4 : BitVec 32 := 0#32
  let v13 : BitVec 1 := Scalar.cmpi .ne v12 c0_i32_4
  v13

def k0_cond4 (i : grid0.Coords) : BitVec 1 :=
  let arg1 : BitVec 32 := BitVec.ofNat 32 (i 1).val
  let c4_i32_5 : BitVec 32 := 4#32
  let v14 : BitVec 1 := Scalar.cmpi .eq arg1 c4_i32_5
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x2560x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32x2048x1024 : Shape := ⟨3, ![32, 2048, 1024]⟩
abbrev S1024 : Shape := ⟨1, ![1024]⟩
abbrev S32x1024 : Shape := ⟨2, ![32, 1024]⟩
abbrev S1024x8192 : Shape := ⟨2, ![1024, 8192]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x8192 : Shape := ⟨3, ![32, 2048, 8192]⟩
abbrev S2048 : Shape := ⟨1, ![2048]⟩
abbrev S32x2048x256 : Shape := ⟨3, ![32, 2048, 256]⟩
abbrev S1x2048x1 : Shape := ⟨3, ![1, 2048, 1]⟩
abbrev S32x2048x5120 : Shape := ⟨3, ![32, 2048, 5120]⟩
abbrev S32x2048x3072 : Shape := ⟨3, ![32, 2048, 3072]⟩
abbrev S32x2048x24x128 : Shape := ⟨4, ![32, 2048, 24, 128]⟩
abbrev S32x24x2048x128 : Shape := ⟨4, ![32, 24, 2048, 128]⟩
abbrev S32x24x2560x128 : Shape := ⟨4, ![32, 24, 2560, 128]⟩

abbrev nBuf : Space → Nat
  | .hbm => 100
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x8192, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x1x1024, .f32⟩
  | .hbm, ⟨22, _⟩ => ⟨S_, .f32⟩
  | .hbm, ⟨23, _⟩ => ⟨S32x1x1024, .f32⟩
  | .hbm, ⟨24, _⟩ => ⟨S32x1x1024, .f32⟩
  | .hbm, ⟨25, _⟩ => ⟨S32x2048x1024, .f32⟩
  | .hbm, ⟨26, _⟩ => ⟨S32x2048x1024, .f32⟩
  | .hbm, ⟨27, _⟩ => ⟨S32x1x1024, .f32⟩
  | .hbm, ⟨28, _⟩ => ⟨S32x2048x1024, .f32⟩
  | .hbm, ⟨29, _⟩ => ⟨S32x2048x1024, .f32⟩
  | .hbm, ⟨30, _⟩ => ⟨S32x2048x8192, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S32x2048x256, .f32⟩
  | .hbm, ⟨44, _⟩ => ⟨S_, .f32⟩
  | .hbm, ⟨45, _⟩ => ⟨S_, .f32⟩
  | .hbm, ⟨46, _⟩ => ⟨S32x2048x256, .f32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .f32⟩
  | .hbm, ⟨51, _⟩ => ⟨S1x2048x1, .f32⟩
  | .hbm, ⟨52, _⟩ => ⟨S32x2048x256, .f32⟩
  | .hbm, ⟨53, _⟩ => ⟨S32x2048x256, .f32⟩
  | .hbm, ⟨54, _⟩ => ⟨S32x2048x256, .f32⟩
  | .hbm, ⟨55, _⟩ => ⟨S32x2048x256, .f32⟩
  | .hbm, ⟨56, _⟩ => ⟨S_, .f32⟩
  | .hbm, ⟨57, _⟩ => ⟨S_, .f32⟩
  | .hbm, ⟨58, _⟩ => ⟨S32x2048x256, .f32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048, .f32⟩
  | .hbm, ⟨63, _⟩ => ⟨S1x2048x1, .f32⟩
  | .hbm, ⟨64, _⟩ => ⟨S32x2048x256, .f32⟩
  | .hbm, ⟨65, _⟩ => ⟨S32x2048x256, .f32⟩
  | .hbm, ⟨66, _⟩ => ⟨S32x2048x256, .f32⟩
  | .hbm, ⟨67, _⟩ => ⟨S32x2048x256, .f32⟩
  | .hbm, ⟨68, _⟩ => ⟨S_, .f32⟩
  | .hbm, ⟨69, _⟩ => ⟨S_, .f32⟩
  | .hbm, ⟨70, _⟩ => ⟨S32x2048x256, .f32⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .f32⟩
  | .hbm, ⟨75, _⟩ => ⟨S1x2048x1, .f32⟩
  | .hbm, ⟨76, _⟩ => ⟨S32x2048x256, .f32⟩
  | .hbm, ⟨77, _⟩ => ⟨S32x2048x256, .f32⟩
  | .hbm, ⟨78, _⟩ => ⟨S32x2048x256, .f32⟩
  | .hbm, ⟨79, _⟩ => ⟨S32x2048x256, .f32⟩
  | .hbm, ⟨80, _⟩ => ⟨S_, .f32⟩
  | .hbm, ⟨81, _⟩ => ⟨S_, .f32⟩
  | .hbm, ⟨82, _⟩ => ⟨S32x2048x256, .f32⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .f32⟩
  | .hbm, ⟨87, _⟩ => ⟨S1x2048x1, .f32⟩
  | .hbm, ⟨88, _⟩ => ⟨S32x2048x256, .f32⟩
  | .hbm, ⟨89, _⟩ => ⟨S32x2048x256, .f32⟩
  | .hbm, ⟨90, _⟩ => ⟨S32x2048x256, .f32⟩
  | .hbm, ⟨91, _⟩ => ⟨S32x2048x5120, .f32⟩
  | .hbm, ⟨92, _⟩ => ⟨S32x2048x3072, .f32⟩
  | .hbm, ⟨93, _⟩ => ⟨S32x2048x24x128, .f32⟩
  | .hbm, ⟨94, _⟩ => ⟨S32x24x2048x128, .f32⟩
  | .hbm, ⟨95, _⟩ => ⟨S_, .i32⟩
  | .hbm, ⟨96, _⟩ => ⟨S_, .f32⟩
  | .hbm, ⟨97, _⟩ => ⟨S32x24x2560x128, .f32⟩
  | .hbm, ⟨98, _⟩ => ⟨S32x24x2560x128, .bf16⟩
  | .hbm, ⟨99, _⟩ => ⟨S32x2048x5120, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_c_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_c_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_11 : Ref sig .tc := ⟨.hbm, 95, rfl⟩
abbrev main_call0_v0 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== Kernel2.lean ====
abbrev S32x8x2048x128 : Shape := ⟨4, ![32, 8, 2048, 128]⟩
abbrev S32x2048x5120 : Shape := ⟨3, ![32, 2048, 5120]⟩
abbrev S32x2048x1024 : Shape := ⟨3, ![32, 2048, 1024]⟩
abbrev S32x1024 : Shape := ⟨2, ![32, 1024]⟩
abbrev S4x256x256 : Shape := ⟨3, ![4, 256, 256]⟩
abbrev S1024 : Shape := ⟨1, ![1024]⟩
abbrev S1024x1024 : Shape := ⟨2, ![1024, 1024]⟩
abbrev S32x1x1024 : Shape := ⟨3, ![32, 1, 1024]⟩
abbrev S1x1024 : Shape := ⟨2, ![1, 1024]⟩
abbrev S1x8x512x128 : Shape := ⟨4, ![1, 8, 512, 128]⟩
abbrev S1x512x1024 : Shape := ⟨3, ![1, 512, 1024]⟩
abbrev S1x1x1024 : Shape := ⟨3, ![1, 1, 1024]⟩
abbrev S512x1024 : Shape := ⟨2, ![512, 1024]⟩
abbrev S1x1x512x128 : Shape := ⟨4, ![1, 1, 512, 128]⟩
abbrev S512x128 : Shape := ⟨2, ![512, 128]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 18
  | .vmem => 25
  | .smem => 0
  | _ => 0

abbrev bufTy : (tb : Table) → Fin (tcTables nBuf tb) → BufTy
  | .hbm, ⟨0, _⟩ => ⟨S32x8x2048x128, .bf16⟩
  | .hbm, ⟨1, _⟩ => ⟨S32x2048x5120, .bf16⟩
  | .hbm, ⟨2, _⟩ => ⟨S32x2048x1024, .f32⟩
  | .hbm, ⟨3, _⟩ => ⟨S32x1024, .f32⟩
  | .hbm, ⟨4, _⟩ => ⟨S4x256x256, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S32x1x1024, .f32⟩
  | .hbm, ⟨11, _⟩ => ⟨S4x256x256, .bf16⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S32x2048x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S4x256x256, .bf16⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S512x1024, .bf16⟩
  | _, _ => ⟨S32x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S32x8x2048x128 : Shape := ⟨4, ![32, 8, 2048, 128]⟩
abbrev S32x2048x5120 : Shape := ⟨3, ![32, 2048, 5120]⟩
abbrev S32x2048x1024 : Shape := ⟨3, ![32, 2048, 1024]⟩
abbrev S32x1024 : Shape := ⟨2, ![32, 1024]⟩
abbrev S4x256x256 : Shape := ⟨3, ![4, 256, 256]⟩
abbrev S1024 : Shape := ⟨1, ![1024]⟩
abbrev S1024x1024 : Shape := ⟨2, ![1024, 1024]⟩
abbrev S32x2048x8x128 : Shape := ⟨4, ![32, 2048, 8, 128]⟩
abbrev S_ : Shape := ⟨0, ![]⟩
abbrev S32x2048x4x256 : Shape := ⟨4, ![32, 2048, 4, 256]⟩
abbrev S4x256x32x2048 : Shape := ⟨4, ![4, 256, 32, 2048]⟩
abbrev S1x1x1024 : Shape := ⟨3, ![1, 1, 1024]⟩
abbrev S32x1x1024 : Shape := ⟨3, ![32, 1, 1024]⟩
abbrev S32x2048 : Shape := ⟨2, ![32, 2048]⟩
abbrev S32x2048x1 : Shape := ⟨3, ![32, 2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S32x8x2048x128, .bf16⟩
  | .hbm, ⟨1, _⟩ => ⟨S32x2048x5120, .bf16⟩
  | .hbm, ⟨2, _⟩ => ⟨S32x2048x1024, .f32⟩
  | .hbm, ⟨3, _⟩ => ⟨S32x1024, .f32⟩
  | .hbm, ⟨4, _⟩ => ⟨S4x256x256, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S32x8x2048x128, .f32⟩
  | .hbm, ⟨11, _⟩ => ⟨S32x2048x8x128, .f32⟩
  | .hbm, ⟨12, _⟩ => ⟨S32x2048x1024, .f32⟩
  | .hbm, ⟨13, _⟩ => ⟨S32x2048x5120, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048x1024, .f32⟩
  | .hbm, ⟨23, _⟩ => ⟨S32x2048x1024, .f32⟩
  | .hbm, ⟨24, _⟩ => ⟨S_, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x4x256, .f32⟩
  | .hbm, ⟨31, _⟩ => ⟨S4x256x32x2048, .f32⟩
  | .hbm, ⟨32, _⟩ => ⟨S32x2048x4x256, .f32⟩
  | .hbm, ⟨33, _⟩ => ⟨S32x2048x1024, .f32⟩
  | .hbm, ⟨34, _⟩ => ⟨S1x1x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S_, .f32⟩
  | .hbm, ⟨40, _⟩ => ⟨S32x2048x1024, .f32⟩
  | .hbm, ⟨41, _⟩ => ⟨S32x2048x1024, .f32⟩
  | .hbm, ⟨42, _⟩ => ⟨S_, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S32x2048x1024, .f32⟩
  | .hbm, ⟨47, _⟩ => ⟨S32x2048x1024, .f32⟩
  | .hbm, ⟨48, _⟩ => ⟨S32x2048x1024, .f32⟩
  | .hbm, ⟨49, _⟩ => ⟨S32x2048x1024, .f32⟩
  | .hbm, ⟨50, _⟩ => ⟨S_, .f32⟩
  | .hbm, ⟨51, _⟩ => ⟨S32x2048x1024, .f32⟩
  | .hbm, ⟨52, _⟩ => ⟨S32x2048x1024, .f32⟩
  | .hbm, ⟨53, _⟩ => ⟨S_, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S_, .f32⟩
  | .hbm, ⟨60, _⟩ => ⟨S32x2048x1024, .f32⟩
  | .hbm, ⟨61, _⟩ => ⟨S32x2048x1024, .f32⟩
  | .hbm, ⟨62, _⟩ => ⟨S_, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S32x1x1024, .f32⟩
  | .hbm, ⟨68, _⟩ => ⟨S32x2048x1024, .f32⟩
  | .hbm, ⟨69, _⟩ => ⟨S32x2048x1024, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048, .f32⟩
  | .hbm, ⟨75, _⟩ => ⟨S32x2048x1, .f32⟩
  | .hbm, ⟨76, _⟩ => ⟨S_, .f32⟩
  | .hbm, ⟨77, _⟩ => ⟨S32x2048x1, .f32⟩
  | .hbm, ⟨78, _⟩ => ⟨S32x2048x1, .f32⟩
  | .hbm, ⟨79, _⟩ => ⟨S_, .f32⟩
  | .hbm, ⟨80, _⟩ => ⟨S32x2048x1, .f32⟩
  | .hbm, ⟨81, _⟩ => ⟨S32x2048x1, .f32⟩
  | .hbm, ⟨82, _⟩ => ⟨S32x2048x1, .f32⟩
  | .hbm, ⟨83, _⟩ => ⟨S32x2048x1024, .f32⟩
  | .hbm, ⟨84, _⟩ => ⟨S32x2048x1024, .f32⟩
  | .hbm, ⟨85, _⟩ => ⟨S1x1x1024, .f32⟩
  | .hbm, ⟨86, _⟩ => ⟨S32x2048x1024, .f32⟩
  | .hbm, ⟨87, _⟩ => ⟨S32x2048x1024, .f32⟩
  | _, _ => ⟨S32x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_cst_0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_3 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_cst_5 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Proof.Ideal.Kit.lean ====
/- What the run of the attention kernel is stated over: the buffers as @main's host operations leave them when the
   kernel's launch begins, the blocks its windows stage, and how the argument arrays are read back at the end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The variants: the naturals, for the trips the uncounted loop still has to run. -/
abbrev 𝒱₀ : Variants := Variants.nat

local notation "𝕄" => MT nD τ sig Unit (Elt F) ℕ (UR sig nD τ) ℕ

variable (m : (ℓ : Loc nD τ sig) → Buf (Elt F) ℓ) (ρ : Dev nD → PrngReg)

/-- The host operations of @main before the launch. -/
abbrev hostOps : List (HloOp τ sig (Elt F)) := List.flatten [hostOps0, hostOps0_1, hostOps0_2, hostOps0_3]

/-- Core `c`'s buffers when the launch begins. -/
abbrev V (c : Dev nD) (b : Ref sig .tc) : Buf (Elt F) ((c : Thread nD τ).loc b) :=
  StableHlo.after hostOps (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor

set_option maxHeartbeats 800000 in
/-- @main is the host operations, then the launch. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨fresh0, fresh1, fresh2, fresh3⟩) main_chain

/-- A buffer no host operation writes is found as launched. -/
theorem V_arg (c : Dev nD) (b : Ref sig .tc)
    (hb : b = main_arg0 ∨ b = main_arg1 ∨ b = main_arg2) : V m c b = m ((c : Thread nD τ).loc b) := by
  rcases hb with rfl | rfl | rfl <;>
  · refine StableHlo.after_of_forall_not_mem (b := Proc.devRef .tc _) _ _ (List.forall_iff_forall_mem.mp ?_)
    simp only [hostOps, hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)

/-- Window `w`'s block at point `t`, read off its array as the launch finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Window 0's staging buffer holds its block at every point, for proof data whose array is `V`'s and whose body leaves
    the block in place. -/
theorem before0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1's staging buffer holds its block at every point, for proof data whose array is `V`'s and whose body leaves
    the block in place. -/
theorem before1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2's staging buffer holds its block at every point, for proof data whose array is `V`'s and whose body leaves
    the block in place. -/
theorem before2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Window 3's staging buffer holds its block at every point, for proof data whose array is `V`'s and whose body leaves
    the block in place. -/
theorem before3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments are unchanged after a run to the launch's post. -/
theorem args_of (dats : (p : Fin 1) → (c : Dev nD) → Dat τ (Elt F) Unit ℕ (UR sig nD τ) ℕ (cfgs (F := F) p) c)
    (r : PUnit × MemSt nD τ sig (Elt F)) (h : Pipeline.FramePost (cfgs (F := F)) dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (show main_arg0 ∈ Pipeline.restRefs sig spec0 from Pipeline.mem_restRefs_of main_arg0 (by decide) (by decide))).trans (V_arg m c _ (.inl rfl)),
   ((h c).2 main_arg1 (show main_arg1 ∈ Pipeline.restRefs sig spec0 from Pipeline.mem_restRefs_of main_arg1 (by decide) (by decide))).trans (V_arg m c _ (.inr (.inl rfl))),
   ((h c).2 main_arg2 (show main_arg2 ∈ Pipeline.restRefs sig spec0 from Pipeline.mem_restRefs_of main_arg2 (by decide) (by decide))).trans (V_arg m c _ (.inr (.inr rfl)))⟩

/-- Each window's staging memref at point `t`, and that it is a whole buffer. -/
abbrev ms0 (t : Fin (cfg0 (F := F)).N) : Memref sig .tc .vmem S1x8x512x128 .bf16 := win0_0.stage (cfg0.slots t 0)
abbrev hs0 (t : Fin (cfg0 (F := F)).N) : (ms0 t).IsWhole := hstage0_0 ((cfg0.slots t 0).cast nbuf0_0)
abbrev ms1 (t : Fin (cfg0 (F := F)).N) : Memref sig .tc .vmem S1x8x2560x128 .bf16 := win0_1.stage (cfg0.slots t 1)
abbrev hs1 (t : Fin (cfg0 (F := F)).N) : (ms1 t).IsWhole := hstage0_1 ((cfg0.slots t 1).cast nbuf0_1)
abbrev ms2 (t : Fin (cfg0 (F := F)).N) : Memref sig .tc .vmem S1x8x2560x128 .bf16 := win0_2.stage (cfg0.slots t 2)
abbrev hs2 (t : Fin (cfg0 (F := F)).N) : (ms2 t).IsWhole := hstage0_2 ((cfg0.slots t 2).cast nbuf0_2)
abbrev ms3 (t : Fin (cfg0 (F := F)).N) : Memref sig .tc .vmem S256x256 .bf16 := win0_3.stage (cfg0.slots t 3)
abbrev hs3 (t : Fin (cfg0 (F := F)).N) : (ms3 t).IsWhole := hstage0_3 ((cfg0.slots t 3).cast nbuf0_3)
abbrev ms4 (t : Fin (cfg0 (F := F)).N) : Memref sig .tc .vmem S1x8x512x128 .bf16 := win0_4.stage (cfg0.slots t 4)
abbrev hs4 (t : Fin (cfg0 (F := F)).N) : (ms4 t).IsWhole := hstage0_4 ((cfg0.slots t 4).cast nbuf0_4)

end Cert.Proof.KernelIdeal

end
-- ==== Proof.Ideal.Slow.lean ====
/- The uncounted loop over earlier key blocks: what four blocks more do to the accumulator and the two masses, the loop
   as a recursion, and that the program's loop computes it, reading the key and value buffers and leaving them. -/
module

public import proofs.«01_k».proof.Proof.Ideal.Kit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the loop carries besides its block counter: the accumulated output and the mass of each head. -/
abbrev St (F : FTy → Type) : Type := FVec F S256x128 .f32 × FVec F S256x1 .f32 × FVec F S256x1 .f32

/-- Block `kb - n`'s rows of the keys or the values. -/
def rd (k : Fin k0_t1_loop.trips) (kb : BitVec 32) (h : k0_chk1 k kb) (n : Fin 4) (x : Vec F S1x8x2560x128 .bf16) : Vec F S1x1x128x128 .bf16 :=
  View.ld x (Rect.unit (s := S1x8x2560x128) (k0_off12 k kb (BitVec.ofNat 32 n.val)) S1x1x128x128.size (k0_off12_inb k kb h n))

/-- Four blocks more, from block `kb` down: the new state, and whether some row is still alive. -/
def step (k : Fin k0_t1_loop.trips) (x1 x2 : Vec F S1x8x2560x128 .bf16) (v2 : IVec S1x128 1) (q : FVec F S256x128 .bf16) (v9 : FVec F S256x256 .bf16)
    (kb : BitVec 32) (h : k0_chk1 k kb) (s : St F) : BitVec 1 × St F :=
  let v4171 := k0_pay830 v2 q (rd k kb h 0 x1)
  let v4180 := k0_pay831 v2 q v9 (rd k kb h 0 x1)
  let v4196 := k0_pay832 v2 q (rd k kb h 1 x1)
  let v4198 := k0_pay833 v2 q (rd k kb h 1 x1)
  let v4205 := k0_pay834 v9 v4196 v4198
  let v4221 := k0_pay835 v2 q (rd k kb h 2 x1)
  let v4230 := k0_pay836 v2 q v9 (rd k kb h 2 x1)
  let v4237 := k0_pay837 (rd k kb h 3 x1)
  let v4241 := k0_pay839 v2 (rd k kb h 3 x1)
  let v4246 := k0_pay841 q v4237 k0_pay838 v4241 (k0_pay840 v2)
  let v4255 := k0_pay842 q v9 v4237 k0_pay838 v4241 (k0_pay840 v2)
  let v4280 := k0_pay843 v2 s.1 s.2.1 s.2.2 v4171 v4180 (rd k kb h 0 x2)
  let v4281 := k0_pay844 s.2.1 v4180
  let v4282 := k0_pay845 s.2.2 v4180
  let v4286 := k0_pay846 (rd k kb h 1 x2)
  let v4290 := k0_pay848 v2 (rd k kb h 1 x2)
  let v4334 := k0_pay852 v2 v4196 v4205 v4221 v4230 v4280 v4281 v4282 v4286 k0_pay847 v4290 (k0_pay849 v2) (rd k kb h 2 x2)
  let v4335 := k0_pay853 v4205 v4230 v4281
  let v4336 := k0_pay854 v4205 v4230 v4282
  let v4340 := k0_pay855 (rd k kb h 3 x2)
  (Scalar.cmpf .olt (k0_pay11 v4255 v4335 v4336) (Named.named κ "dead_mass" 0x42D00000#32),
    k0_pay8 v2 v4246 v4255 v4334 v4335 v4336 v4340 k0_pay856 (k0_pay857 v2), k0_pay9 v4255 v4335, k0_pay10 v4255 v4336)

/-- The loop, its trips bounded by the first argument. -/
def loop (k : Fin k0_t1_loop.trips) (x1 x2 : Vec F S1x8x2560x128 .bf16) (v2 : IVec S1x128 1) (q : FVec F S256x128 .bf16) (v9 : FVec F S256x256 .bf16) :
    ℕ → BitVec 32 → BitVec 1 → St F → St F
  | 0, _, _, s => s
  | n + 1, kb, go, s =>
    if Scalar.andi (Scalar.cmpi .sge kb 4#32) go = 1#1 then
      if h : k0_chk1 k kb then
        loop k x1 x2 v2 q v9 n (Scalar.subi kb 4#32) (step k x1 x2 v2 q v9 kb h s).1 (step k x1 x2 v2 q v9 kb h s).2
      else s
    else s

/-- The reads of a trip stay inside the buffers, whatever the unit and the block. -/
theorem chk_all : ∀ (k : Fin k0_t1_loop.trips) (b : Fin 20), 4 ≤ b.val → k0_chk1 k (BitVec.ofNat 32 b.val) := by
  decide +kernel

/-- The counter's test, by its value. -/
theorem sge_iff : ∀ b : Fin 20, Scalar.cmpi .sge (BitVec.ofNat 32 b.val) 4#32 = if 4 ≤ b.val then 1#1 else 0#1 := by
  decide +kernel

/-- The counter's step, by its value. -/
theorem subi_eq : ∀ b : Fin 20, 4 ≤ b.val → Scalar.subi (BitVec.ofNat 32 b.val) 4#32 = BitVec.ofNat 32 (b.val - 4) := by
  decide +kernel

section While
variable (c : Dev nD) (i : grid0.Coords) (k : Fin k0_t1_loop.trips)
  (arg3 : Memref sig .tc .vmem S1x8x2560x128 .bf16) (harg3 : arg3.IsWhole) (arg4 : Memref sig .tc .vmem S1x8x2560x128 .bf16) (harg4 : arg4.IsWhole)
  (f3 : Buf (Elt F) (arg3.view.loc (c : Thread nD τ))) (f4 : Buf (Elt F) (arg4.view.loc (c : Thread nD τ)))
  (v2 : IVec S1x128 1) (q : FVec F S256x128 .bf16) (v9 : FVec F S256x256 .bf16)

/-- The program's loop, entered with at most `n` trips to run, returns the recursion's state. -/
theorem while_run (E : Set ℕ) : ∀ (n b : ℕ), b < 4 * (n + 1) → b < 20 → ∀ (go : BitVec 1) (s : St F)
    (K : BitVec 32 × BitVec 1 × FVec F S256x128 .f32 × FVec F S256x1 .f32 × FVec F S256x1 .f32 → sProp 𝕄),
    iprop((arg3.view.loc (c : Thread nD τ) ↦[arg3.view.set]{fullShare} f3) ∗ (arg4.view.loc (c : Thread nD τ) ↦[arg4.view.set]{fullShare} f4)
      ∗ (∀ kb go', iprop((arg3.view.loc (c : Thread nD τ) ↦[arg3.view.set]{fullShare} f3) ∗ (arg4.view.loc (c : Thread nD τ) ↦[arg4.view.set]{fullShare} f4))
          -∗ K (kb, go', loop k (arg3.view.read (Elt F) f3) (arg4.view.read (Elt F) f4) v2 q v9 n (BitVec.ofNat 32 b) go s)))
    ⊢ wp frame (wpE (defs₀ (F := F)) 𝒱₀ (c : Thread nD τ) (some n)) E
        (cc0_while1 i k arg3 harg3 v2 q v9 arg4 harg4 (BitVec.ofNat 32 b) go s.1 s.2.1 s.2.2) K := by
  intro n
  induction n with
  | zero =>
    intro b hb hb' go s K
    simp only [cc0_while1_eq_skeleton]; unfold cc0_while1_skel
    have h4 : Scalar.cmpi .sge (BitVec.ofNat 32 b) 4#32 = 0#1 := by
      rw [sge_iff ⟨b, hb'⟩, if_neg (by simp only; omega)]
    have h5 : ¬ Scalar.andi (0#1) go = 1#1 := by revert go; decide
    simp only [h4, h5, ↓reduceIte, Prog.pure_eq_ret, loop]
    iintro ⟨H3, H4, Hk⟩
    rw [wp_ret]; imodintro
    ispecialize Hk $$ %(BitVec.ofNat 32 b)
    ispecialize Hk $$ %go
    iapply Hk
    isplitl [H3]; · iexact H3
    iexact H4
  | succ n ih =>
    intro b hb hb' go s K
    simp only [cc0_while1_eq_skeleton]; unfold cc0_while1_skel
    by_cases hc : Scalar.andi (Scalar.cmpi .sge (BitVec.ofNat 32 b) 4#32) go = 1#1
    · have hb4 : 4 ≤ b := by
        by_contra hlt
        have h4 : Scalar.cmpi .sge (BitVec.ofNat 32 b) 4#32 = 0#1 := by
          rw [sge_iff ⟨b, hb'⟩, if_neg (by simp only; omega)]
        rw [h4] at hc; revert hc; revert go; decide
      have hchk : k0_chk1 k (BitVec.ofNat 32 b) := chk_all k ⟨b, hb'⟩ hb4
      simp only [loop, hc, ↓reduceIte, dif_pos hchk]
      simp only [k0_part87_eq_skeleton, k0_part88_eq_skeleton, k0_part89_eq_skeleton, k0_part90_eq_skeleton]
      unfold k0_part87_skel k0_part88_skel k0_part89_skel k0_part90_skel
      simp only [Prog.lift, Prog.bind_op, Prog.bind_ret, Prog.pure_eq_ret]
      iintro ⟨H3, H4, Hk⟩
      iapply (wp_assume 𝒱₀ (c : Thread nD τ) (some (n + 1)) E hchk)
      iapply (wp_load 𝒱₀ (c : Thread nD τ) (some (n + 1)) E (m := arg3) (View.setOn_subset_set _ _)) $$ H3; iintro H3
      iapply (wp_load 𝒱₀ (c : Thread nD τ) (some (n + 1)) E (m := arg3) (View.setOn_subset_set _ _)) $$ H3; iintro H3
      iapply (wp_load 𝒱₀ (c : Thread nD τ) (some (n + 1)) E (m := arg3) (View.setOn_subset_set _ _)) $$ H3; iintro H3
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg4) (View.setOn_subset_set _ _)) $$ H4; iintro H4
      iapply (wp_load 𝒱₀ (c : Thread nD τ) (some (n + 1)) E (m := arg4) (View.setOn_subset_set _ _)) $$ H4; iintro H4
      iapply (wp_load 𝒱₀ (c : Thread nD τ) (some (n + 1)) E (m := arg4) (View.setOn_subset_set _ _)) $$ H4; iintro H4
      iapply (wp_call 𝒱₀ (c : Thread nD τ) (some (n + 1)) E n (fun u hu => by cases hu; exact Nat.lt_succ_self n))
      rw [subi_eq ⟨b, hb'⟩ hb4]
      iapply (ih (b - 4) (by omega) (by omega)
        (step k (arg3.view.read (Elt F) f3) (arg4.view.read (Elt F) f4) v2 q v9 (BitVec.ofNat 32 b) hchk s).1
        (step k (arg3.view.read (Elt F) f3) (arg4.view.read (Elt F) f4) v2 q v9 (BitVec.ofNat 32 b) hchk s).2 _)
      isplitl [H3]; · iexact H3
      isplitl [H4]; · iexact H4
      iintro %kb %go' ⟨H3, H4⟩
      rw [wp_ret]; imodintro
      ispecialize Hk $$ %kb
      ispecialize Hk $$ %go'
      iapply Hk
      isplitl [H3]; · iexact H3
      iexact H4
    · simp only [loop, hc, ↓reduceIte, Prog.pure_eq_ret]
      iintro ⟨H3, H4, Hk⟩
      rw [wp_ret]; imodintro
      ispecialize Hk $$ %(BitVec.ofNat 32 b)
      ispecialize Hk $$ %go
      iapply Hk
      isplitl [H3]; · iexact H3
      iexact H4

/-- The same, for a counter given with its value. -/
theorem while_run_of (E : Set ℕ) (n b : ℕ) (hb : b < 4 * (n + 1)) (hb' : b < 20) (kb : BitVec 32) (hkb : kb = BitVec.ofNat 32 b) (go : BitVec 1) (s : St F)
    (K : BitVec 32 × BitVec 1 × FVec F S256x128 .f32 × FVec F S256x1 .f32 × FVec F S256x1 .f32 → sProp 𝕄) :
    iprop((arg3.view.loc (c : Thread nD τ) ↦[arg3.view.set]{fullShare} f3) ∗ (arg4.view.loc (c : Thread nD τ) ↦[arg4.view.set]{fullShare} f4)
      ∗ (∀ kb go', iprop((arg3.view.loc (c : Thread nD τ) ↦[arg3.view.set]{fullShare} f3) ∗ (arg4.view.loc (c : Thread nD τ) ↦[arg4.view.set]{fullShare} f4))
          -∗ K (kb, go', loop k (arg3.view.read (Elt F) f3) (arg4.view.read (Elt F) f4) v2 q v9 n (BitVec.ofNat 32 b) go s)))
    ⊢ wp frame (wpE (defs₀ (F := F)) 𝒱₀ (c : Thread nD τ) (some n)) E
        (cc0_while1 i k arg3 harg3 v2 q v9 arg4 harg4 kb go s.1 s.2.1 s.2.2) K := by
  subst hkb; exact while_run c i k arg3 harg3 arg4 harg4 f3 f4 v2 q v9 E n b hb hb' go s K

end While

end Cert.Proof.KernelIdeal

end
-- ==== Proof.Ideal.Trip.lean ====
/- One trip of the loop over the sixteen units of the exact pass: what it stores, if the unit was selected, and that the
   program's region does exactly this. -/
module

public import proofs.«01_k».proof.Proof.Ideal.Slow

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The number of a trip's first earlier block, as the program computes it from the grid's second coordinate. -/
def first (arg1 : BitVec 32) (k0_t1 : Fin k0_t1_loop.trips) : BitVec 32 :=
  let arg7 : BitVec 32 := Scf.iv 0#32 1#32 k0_t1
  let v3989 : BitVec 32 := Scalar.divsi arg7 8#32
  let v3990 : BitVec 1 := Scalar.cmpi .sgt arg7 0#32
  let v3991 : BitVec 32 := Scalar.extui v3990
  let v3992 : BitVec 1 := Scalar.cmpi .slt arg7 0#32
  let v3993 : BitVec 32 := Scalar.extui v3992
  let v3994 : BitVec 32 := Scalar.subi v3991 v3993
  let v3995 : BitVec 1 := Scalar.cmpi .sgt 8#32 0#32
  let v3996 : BitVec 32 := Scalar.extui v3995
  let v3997 : BitVec 1 := Scalar.cmpi .slt 8#32 0#32
  let v3998 : BitVec 32 := Scalar.extui v3997
  let v3999 : BitVec 32 := Scalar.subi v3996 v3998
  let v4000 : BitVec 1 := Scalar.cmpi .ne v3994 v3999
  let v4001 : BitVec 32 := Scalar.remsi arg7 8#32
  let v4002 : BitVec 1 := Scalar.cmpi .ne v4001 0#32
  let v4003 : BitVec 1 := Scalar.andi v4000 v4002
  let v4004 : BitVec 32 := Scalar.subi v3989 1#32
  let v4005 : BitVec 32 := Scalar.select v4003 v4004 v3989
  let v4006 : BitVec 32 := Scalar.muli 2#32 arg1
  let v4007 : BitVec 32 := Scalar.addi v4006 v4005
  let v4008 : BitVec 32 := Scalar.muli 2#32 v4007
  Scalar.subi (Scalar.addi v4008 4#32) 1#32

/-- Its value: unit `k` is rows `256 * (k / 8)` of the tile, whose own two blocks are `4 (i 1) + 2 (k / 8) + 4` and the next. -/
def firstNat (i : grid0.Coords) (k : Fin k0_t1_loop.trips) : ℕ := 4 * (i 1).val + 2 * (k.val / 8) + 3

theorem first_eq_all : ∀ (a : Fin 4) (k : Fin k0_t1_loop.trips),
    first (BitVec.ofNat 32 a.val) k = BitVec.ofNat 32 (4 * a.val + 2 * (k.val / 8) + 3) := by decide +kernel

theorem first_eq (i : grid0.Coords) (k : Fin k0_t1_loop.trips) :
    first (BitVec.ofNat 32 (i 1).val) k = BitVec.ofNat 32 (firstNat i k) := first_eq_all (i 1) k

theorem firstNat_lt (i : grid0.Coords) (k : Fin k0_t1_loop.trips) : firstNat i k < 20 := by
  have h1 : (i 1).val < 4 := (i 1).isLt
  have h2 : k.val < 16 := k.isLt
  unfold firstNat; omega

/-- Whether the flag word selects a unit. -/
def sel (flags : BitVec 32) (k : Fin k0_t1_loop.trips) : BitVec 1 :=
  Scalar.cmpi .eq (Scalar.andi (Scalar.shrsi flags (Scf.iv 0#32 1#32 k)) 1#32) 1#32

section Unit
variable (i : grid0.Coords) (x0 : Vec F S1x8x512x128 .bf16) (x1 x2 : Vec F S1x8x2560x128 .bf16)
  (v2 : IVec S1x128 1) (v7 : IVec S128x256 1) (v9 : FVec F S256x256 .bf16) (k : Fin k0_t1_loop.trips)

/-- The unit's queries. -/
def unitQ : FVec F S256x128 .bf16 :=
  k0_pay12 (View.ld x0 (Rect.unit (s := S1x8x512x128) (k0_off9 k) S1x1x256x128.size (k0_off9_inb k)))

/-- The unit's two own blocks of the keys or the values: the later (upper index) and the earlier. -/
def rdHi (x : Vec F S1x8x2560x128 .bf16) : Vec F S1x1x128x128 .bf16 :=
  View.ld x (Rect.unit (s := S1x8x2560x128) (k0_off10 i k) S1x1x128x128.size (k0_off10_inb i k))
def rdLo (x : Vec F S1x8x2560x128 .bf16) : Vec F S1x1x128x128 .bf16 :=
  View.ld x (Rect.unit (s := S1x8x2560x128) (k0_off11 i k) S1x1x128x128.size (k0_off11_inb i k))

/-- The state after the unit's two own blocks. -/
def unit0 : St F :=
  let v4017 := unitQ x0 k
  let v4026 := rdHi i k x1
  let v4055 := rdLo i k x1
  let v4036 := k0_pay15 v2 v4017 v4026
  let v4050 := k0_pay16 v2 v7 v9 v4017 v4026
  let v4056 := k0_pay17 v4055
  let v4060 := k0_pay19 v2 v4055
  let v4061 := k0_pay20 v2
  let v4065 := k0_pay21 v4017 v4056 k0_pay18 v4060 v4061
  let v4079 := k0_pay22 v7 v9 v4017 v4056 k0_pay18 v4060 v4061
  let v4108 := k0_pay23 v4050
  let v4109 := k0_pay24 v4050
  let v4110 := k0_pay25 v2 v7 k0_pay14 v4036 v4050 (rdHi i k x2)
  (k0_pay4 v2 v7 k0_pay13 k0_pay14 v4065 v4079 v4108 v4109 v4110 (rdLo i k x2),
    k0_pay5 k0_pay13 k0_pay14 v4079 v4108, k0_pay6 k0_pay13 k0_pay14 v4079 v4109)

/-- The state at the end of the unit's loop. -/
def unitEnd (go : BitVec 1) : St F :=
  loop k x1 x2 v2 (unitQ x0 k) v9 4 (BitVec.ofNat 32 (firstNat i k)) go (unit0 i x0 x1 x2 v2 v7 v9 k)

/-- What the trip stores: nothing, or the unit's rows. -/
def unitPieces (flags : BitVec 32) : List (View.Piece (Elt F) S1x8x512x128 .bf16) :=
  if sel flags k = 1#1 then
    [⟨Rect.unit (s := S1x8x512x128) (k0_off13 k) S1x1x256x128.size (k0_off13_inb k), k0_pay7 (unitEnd i x0 x1 x2 v2 v7 v9 k (sel flags k)).1⟩]
  else []
end Unit

/-- The conditional's test is the selection. -/
theorem ne_iff : ∀ b : BitVec 1, (Scalar.cmpi .ne (Scalar.extui b : BitVec 32) 0#32 = 1#1) ↔ b = 1#1 := by decide

section Trip
variable (c : Dev nD) (i : grid0.Coords)
  (arg2 : Memref sig .tc .vmem S1x8x512x128 .bf16) (harg2 : arg2.IsWhole) (arg3 : Memref sig .tc .vmem S1x8x2560x128 .bf16) (harg3 : arg3.IsWhole)
  (arg4 : Memref sig .tc .vmem S1x8x2560x128 .bf16) (harg4 : arg4.IsWhole) (arg5 : Memref sig .tc .vmem S256x256 .bf16) (harg5 : arg5.IsWhole)
  (arg6 : Memref sig .tc .vmem S1x8x512x128 .bf16) (harg6 : arg6.IsWhole)
  (f2 : Buf (Elt F) (arg2.view.loc (c : Thread nD τ))) (f3 : Buf (Elt F) (arg3.view.loc (c : Thread nD τ)))
  (f4 : Buf (Elt F) (arg4.view.loc (c : Thread nD τ)))
  (v2 : IVec S1x128 1) (v7 : IVec S128x256 1) (v9 : FVec F S256x256 .bf16) (flags : BitVec 32)

/-- The buffers a trip reads. -/
abbrev ins : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4))

set_option maxHeartbeats 2000000 in
/-- One trip writes its pieces and leaves the buffers it reads. -/
theorem trip (E : Set ℕ) (k : Fin k0_t1_loop.trips) (f6 : Buf (Elt F) (arg6.view.loc (c : Thread nD τ))) :
    iprop(ins c arg2 arg3 arg4 f2 f3 f4 ∗ (arg6.view.loc (c : Thread nD τ) ↦[arg6.view.set]{fullShare} f6))
    ⊢ wp frame (wpE (defs₀ (F := F)) 𝒱₀ (c : Thread nD τ) none) E
        (k0_t1_body i arg2 harg2 arg3 harg3 arg4 harg4 arg5 harg5 arg6 harg6 (BitVec.ofNat 32 (i 1).val) v2 v7 v9 flags k ())
        (fun _ => iprop(ins c arg2 arg3 arg4 f2 f3 f4 ∗ (arg6.view.loc (c : Thread nD τ) ↦[arg6.view.set]{fullShare}
          arg6.view.writes (Elt F) f6 (unitPieces i (arg2.view.read (Elt F) f2) (arg3.view.read (Elt F) f3) (arg4.view.read (Elt F) f4) v2 v7 v9 k flags)))) := by
  unfold k0_t1_body ins
  simp only [k0_part1_eq_skeleton, k0_part2_eq_skeleton, k0_part3_eq_skeleton]
  unfold k0_part1_skel k0_part2_skel k0_part3_skel
  simp only [Prog.lift, Prog.bind_op, Prog.bind_ret, Prog.pure_eq_ret]
  iintro ⟨⟨H2, H3, H4⟩, H6⟩
  iapply (wp_load 𝒱₀ (c : Thread nD τ) none E (m := arg2) (View.setOn_subset_set _ _)) $$ H2; iintro H2
  iapply (wp_load 𝒱₀ (c : Thread nD τ) none E (m := arg3) (View.setOn_subset_set _ _)) $$ H3; iintro H3
  iapply (wp_load 𝒱₀ (c : Thread nD τ) none E (m := arg3) (View.setOn_subset_set _ _)) $$ H3; iintro H3
  iapply (wp_load 𝒱₀ (c : Thread nD τ) none E (m := arg4) (View.setOn_subset_set _ _)) $$ H4; iintro H4
  iapply (wp_load 𝒱₀ (c : Thread nD τ) none E (m := arg4) (View.setOn_subset_set _ _)) $$ H4; iintro H4
  iapply (wp_call 𝒱₀ (c : Thread nD τ) none E 4 (fun u hu => nomatch hu))
  iapply (while_run_of c i k arg3 harg3 arg4 harg4 f3 f4 v2 (unitQ (arg2.view.read (Elt F) f2) k) v9 E 4 (firstNat i k) (firstNat_lt i k) (firstNat_lt i k)
    (first (BitVec.ofNat 32 (i 1).val) k) (first_eq i k) (sel flags k)
    (unit0 i (arg2.view.read (Elt F) f2) (arg3.view.read (Elt F) f3) (arg4.view.read (Elt F) f4) v2 v7 v9 k) _)
  isplitl [H3]; · iexact H3
  isplitl [H4]; · iexact H4
  iintro %kb %go' ⟨H3, H4⟩
  by_cases hs : sel flags k = 1#1
  · have hs' : Scalar.cmpi .ne (Scalar.extui (Scalar.cmpi .eq (Scalar.andi (Scalar.shrsi flags (Scf.iv 0#32 1#32 k)) 1#32) 1#32) : BitVec 32) 0#32 = 1#1 :=
      (ne_iff _).2 hs
    simp only [unitPieces, if_pos hs, if_pos hs']
    iapply (wp_load 𝒱₀ (c : Thread nD τ) none E (m := arg6) (View.setOn_subset_set _ _)) $$ H6; iintro H6
    iapply (wp_store 𝒱₀ (c : Thread nD τ) none E (m := arg6) (r := Rect.unit (s := S1x8x512x128) (k0_off13 k) S1x1x256x128.size (k0_off13_inb k))
      (Mk := Finset.univ) (S := arg6.view.set) ((View.setOn_subset_set _ _).trans (by
        rw [show (arg6.access (Rect.unit (s := S1x8x512x128) (k0_off13 k) S1x1x256x128.size (k0_off13_inb k))).set = _ from View.set_slice _ _]
        exact View.setOn_subset_set _ _))) $$ H6; iintro H6
    rw [wp_ret]; imodintro
    isplitl [H2 H3 H4]
    · isplitl [H2]; · iexact H2
      isplitl [H3]; · iexact H3
      iexact H4
    iexact H6
  · have hs' : ¬ Scalar.cmpi .ne (Scalar.extui (Scalar.cmpi .eq (Scalar.andi (Scalar.shrsi flags (Scf.iv 0#32 1#32 k)) 1#32) 1#32) : BitVec 32) 0#32 = 1#1 :=
      fun h => hs ((ne_iff _).1 h)
    simp only [unitPieces, if_neg hs, if_neg hs']
    rw [wp_ret]; imodintro
    isplitl [H2 H3 H4]
    · isplitl [H2]; · iexact H2
      isplitl [H3]; · iexact H3
      iexact H4
    iexact H6

/-- The pieces of the trips before `n`, the last trip's first. -/
def slowPieces (x0 : Vec F S1x8x512x128 .bf16) (x1 x2 : Vec F S1x8x2560x128 .bf16) : ℕ → List (View.Piece (Elt F) S1x8x512x128 .bf16)
  | 0 => []
  | n + 1 => (if h : n < k0_t1_loop.trips then unitPieces i x0 x1 x2 v2 v7 v9 ⟨n, h⟩ flags else []) ++ slowPieces x0 x1 x2 n

theorem slowPieces_succ (x0 : Vec F S1x8x512x128 .bf16) (x1 x2 : Vec F S1x8x2560x128 .bf16) (k : Fin k0_t1_loop.trips) :
    slowPieces i v2 v7 v9 flags x0 x1 x2 (k.val + 1)
      = unitPieces i x0 x1 x2 v2 v7 v9 k flags ++ slowPieces i v2 v7 v9 flags x0 x1 x2 k.val := by
  rw [slowPieces, dif_pos (show k.val < k0_t1_loop.trips from k.isLt)]

theorem slowPieces_zero (x0 : Vec F S1x8x512x128 .bf16) (x1 x2 : Vec F S1x8x2560x128 .bf16) :
    slowPieces i v2 v7 v9 flags x0 x1 x2 0 = [] := rfl

attribute [irreducible] slowPieces unitPieces

/-- Writing two runs of pieces in turn is writing them at once. -/
theorem writes_append {s : Shape} {e : EltTy} (v : View sig .tc .vmem s e) (f : v.ty.Contents (Elt F)) (L L' : List (View.Piece (Elt F) s e)) :
    v.writes (Elt F) (v.writes (Elt F) f L') L = v.writes (Elt F) f (L ++ L') := by
  induction L with
  | nil => rfl
  | cons p L ih => simp only [View.writes, List.cons_append, ih]

/-- A counted loop of this length by an invariant, with what follows it. -/
theorem loop_rule (E : Set ℕ) (body : Fin k0_t1_loop.trips → Unit → Prog (TpuEff nD τ sig (Elt F) (Λ₀ F) .tc) Unit) (I : ℕ → sProp 𝕄)
    (h : ∀ k : Fin k0_t1_loop.trips, I k.val ⊢ wp frame (wpE (defs₀ (F := F)) 𝒱₀ (c : Thread nD τ) none) E (body k ()) (fun _ => I (k.val + 1)))
    {β : Type} {kk : Unit → Prog (TpuEff nD τ sig (Elt F) (Λ₀ F) .tc) β} {Q : β → sProp 𝕄} :
    iprop(I 0 ∗ (I k0_t1_loop.trips -∗ wp frame (wpE (defs₀ (F := F)) 𝒱₀ (c : Thread nD τ) none) E (kk ()) Q))
    ⊢ wp frame (wpE (defs₀ (F := F)) 𝒱₀ (c : Thread nD τ) none) E (Scf.Loop.for k0_t1_loop k0_t1_ok ⟨⟩ body >>= kk) Q := by
  iintro ⟨HI, Hk⟩
  iapply (Scf.wp_for_bind frame (wpE (defs₀ (F := F)) 𝒱₀ (c : Thread nD τ) none) E k0_t1_loop.lb k0_t1_loop.ub k0_t1_loop.st k0_t1_ok ()
    body (fun n _ => I n) (fun k acc => h k)) $$ HI
  iintro %acc HI
  iapply Hk; iexact HI

/-- The loop over the units writes the units' pieces on top of what the buffer holds, and goes on. -/
theorem units (E : Set ℕ) (f6 : Buf (Elt F) (arg6.view.loc (c : Thread nD τ))) (L : List (View.Piece (Elt F) S1x8x512x128 .bf16))
    {β : Type} {kk : Unit → Prog (TpuEff nD τ sig (Elt F) (Λ₀ F) .tc) β} {Q : β → sProp 𝕄} :
    iprop((ins c arg2 arg3 arg4 f2 f3 f4 ∗ (arg6.view.loc (c : Thread nD τ) ↦[arg6.view.set]{fullShare} arg6.view.writes (Elt F) f6
        (slowPieces i v2 v7 v9 flags (arg2.view.read (Elt F) f2) (arg3.view.read (Elt F) f3) (arg4.view.read (Elt F) f4) 0 ++ L)))
      ∗ (iprop(ins c arg2 arg3 arg4 f2 f3 f4 ∗ (arg6.view.loc (c : Thread nD τ) ↦[arg6.view.set]{fullShare}
          arg6.view.writes (Elt F) f6 (slowPieces i v2 v7 v9 flags (arg2.view.read (Elt F) f2) (arg3.view.read (Elt F) f3) (arg4.view.read (Elt F) f4) k0_t1_loop.trips ++ L)))
        -∗ wp frame (wpE (defs₀ (F := F)) 𝒱₀ (c : Thread nD τ) none) E (kk ()) Q))
    ⊢ wp frame (wpE (defs₀ (F := F)) 𝒱₀ (c : Thread nD τ) none) E
        (Scf.Loop.for k0_t1_loop k0_t1_ok ⟨⟩ (k0_t1_body i arg2 harg2 arg3 harg3 arg4 harg4 arg5 harg5 arg6 harg6 (BitVec.ofNat 32 (i 1).val) v2 v7 v9 flags) >>= kk) Q :=
  loop_rule c E _ (fun n => iprop(ins c arg2 arg3 arg4 f2 f3 f4 ∗ (arg6.view.loc (c : Thread nD τ) ↦[arg6.view.set]{fullShare}
      arg6.view.writes (Elt F) f6 (slowPieces i v2 v7 v9 flags (arg2.view.read (Elt F) f2) (arg3.view.read (Elt F) f3) (arg4.view.read (Elt F) f4) n ++ L))))
    (fun k => by
      rw [slowPieces_succ, List.append_assoc, ← writes_append arg6.view f6 (unitPieces i _ _ _ v2 v7 v9 k flags)]
      exact trip c i arg2 harg2 arg3 harg3 arg4 harg4 arg5 harg5 arg6 harg6 f2 f3 f4 v2 v7 v9 flags E k _)

end Trip

end Cert.Proof.KernelIdeal

end
-- ==== Proof.Ideal.Run.lean ====
/- The attention kernel's body run: the sixteen fast units, their stores and the flag word, then the loop over the units. -/
module

public import proofs.«01_k».proof.Proof.Ideal.Trip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1816000 in
/-- The body's run on whole staging buffers: the pieces it leaves in the output's buffer, last first, with the proof that
    it leaves them and gives the inputs back as they were. -/
noncomputable def bodyRun (c : Dev nD) (i : grid0.Coords) (arg2 : Memref sig .tc .vmem S1x8x512x128 .bf16) (harg2 : arg2.IsWhole) (arg3 : Memref sig .tc .vmem S1x8x2560x128 .bf16) (harg3 : arg3.IsWhole) (arg4 : Memref sig .tc .vmem S1x8x2560x128 .bf16) (harg4 : arg4.IsWhole) (arg5 : Memref sig .tc .vmem S256x256 .bf16) (harg5 : arg5.IsWhole) (arg6 : Memref sig .tc .vmem S1x8x512x128 .bf16) (harg6 : arg6.IsWhole)
    (x0 : Vec F S1x8x512x128 .bf16) (x1 : Vec F S1x8x2560x128 .bf16) (x2 : Vec F S1x8x2560x128 .bf16) (x3 : Vec F S256x256 .bf16) :
    { L4 : List (View.Piece (Elt F) S1x8x512x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) 𝒱₀ c none) E (cc0_sb_attention i arg2 harg2 arg3 harg3 arg4 harg4 arg5 harg5 arg6 harg6) K } := by
  refine ⟨?_, fun E K => ?run⟩
  case run =>
    simp only [cc0_sb_attention_eq_skeleton]; unfold cc0_sb_attention_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    iapply (units c i arg2 harg2 arg3 harg3 arg4 harg4 arg5 harg5 arg6 harg6 (harg2.unread x0) (harg3.unread x1) (harg4.unread x2) _ _ _ _ E _ _)
    isplitl [H0 H1 H2 H4]
    · isplitl [H0 H1 H2]
      · isplitl [H0]; · iexact H0
        isplitl [H1]; · iexact H1
        iexact H2
      rw [slowPieces_zero, List.nil_append]
      iexact H4
    iintro ⟨⟨H0, H1, H2⟩, H4⟩
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Proof.KernelIdeal

end
-- ==== Proof.Ideal.Frame.lean ====
/- The launch: what each grid point leaves, the run of the whole program, and its frame. -/
module

public import proofs.«01_k».proof.Proof.Ideal.Run
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- One staging buffer of the output's window, through which its contents are stated. -/
abbrev VO : View sig .tc .vmem S1x8x512x128 .bf16 := (Memref.whole cc0_stg4_0 : Memref sig .tc .vmem S1x8x512x128 .bf16).view

/-- The pieces cover the output's block: the fast ones alone do. -/
theorem cover (c : Dev nD) (i : grid0.Coords) (arg2 : Memref sig .tc .vmem S1x8x512x128 .bf16) (harg2 : arg2.IsWhole) (arg3 : Memref sig .tc .vmem S1x8x2560x128 .bf16) (harg3 : arg3.IsWhole) (arg4 : Memref sig .tc .vmem S1x8x2560x128 .bf16) (harg4 : arg4.IsWhole) (arg5 : Memref sig .tc .vmem S256x256 .bf16) (harg5 : arg5.IsWhole) (arg6 : Memref sig .tc .vmem S1x8x512x128 .bf16) (harg6 : arg6.IsWhole)
    (x0 : Vec F S1x8x512x128 .bf16) (x1 : Vec F S1x8x2560x128 .bf16) (x2 : Vec F S1x8x2560x128 .bf16) (x3 : Vec F S256x256 .bf16) (y : S1x8x512x128.Idx) :
    ∃ pc ∈ (bodyRun c i arg2 harg2 arg3 harg3 arg4 harg4 arg5 harg5 arg6 harg6 x0 x1 x2 x3).1, y ∈ pc.1.set :=
  by
  obtain ⟨p, hp, hy⟩ := View.cover_of_tiledL (bodyRun.sl.H4_32 c i arg2 harg2 arg3 harg3 arg4 harg4 arg5 harg5 x0 x1 x2 x3) S1x1x128x128.size (by sl_kernel_rfl) y
  exact ⟨p, List.mem_append_right _ hp, hy⟩

/-- What the body leaves in the output's staging buffer. -/
def out (c : Dev nD) (i : grid0.Coords) (arg2 : Memref sig .tc .vmem S1x8x512x128 .bf16) (harg2 : arg2.IsWhole) (arg3 : Memref sig .tc .vmem S1x8x2560x128 .bf16) (harg3 : arg3.IsWhole) (arg4 : Memref sig .tc .vmem S1x8x2560x128 .bf16) (harg4 : arg4.IsWhole) (arg5 : Memref sig .tc .vmem S256x256 .bf16) (harg5 : arg5.IsWhole) (arg6 : Memref sig .tc .vmem S1x8x512x128 .bf16) (harg6 : arg6.IsWhole)
    (x0 : Vec F S1x8x512x128 .bf16) (x1 : Vec F S1x8x2560x128 .bf16) (x2 : Vec F S1x8x2560x128 .bf16) (x3 : Vec F S256x256 .bf16) : Vec F S1x8x512x128 .bf16 :=
  VO.read (Elt F) (VO.writes (Elt F) VO.junk (bodyRun c i arg2 harg2 arg3 harg3 arg4 harg4 arg5 harg5 arg6 harg6 x0 x1 x2 x3).1)

/-- … at grid point `t`, from the blocks staged there. -/
def outsAt (c : Dev nD) (t : Fin (cfg0 (F := F)).N) : Vec F S1x8x512x128 .bf16 :=
  out c (grid0.coords t) (ms0 t) (hs0 t) (ms1 t) (hs1 t) (ms2 t) (hs2 t) (ms3 t) (hs3 t) (ms4 t) (hs4 t) (iblk m c 0 t) (iblk m c 1 t) (iblk m c 2 t) (iblk m c 3 t)

/-- The launch's proof data: the arrays as found; after each point the inputs' blocks in place and the output's as the run leaves it. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t)
  Φ _ := Pipeline.ΦA spec0 c
  q w := Pipeline.shareOf spec0 w
  owed _ := 0

/-- The proof data's arrays are what the launch finds. -/
theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = (outsAt m c t) := rfl

theorem before0_0 (c : Dev nD) (t : Fin (cfg0 (F := F)).N) (d) : (dats m 0 c).before 0 t d = iblk m c 0 t :=
  Cert.Proof.KernelIdeal.before0 m (dats m 0 c) (A_eq m c 0) (after0_0 m c) t d
theorem before0_1 (c : Dev nD) (t : Fin (cfg0 (F := F)).N) (d) : (dats m 0 c).before 1 t d = iblk m c 1 t :=
  Cert.Proof.KernelIdeal.before1 m (dats m 0 c) (A_eq m c 1) (after0_1 m c) t d
theorem before0_2 (c : Dev nD) (t : Fin (cfg0 (F := F)).N) (d) : (dats m 0 c).before 2 t d = iblk m c 2 t :=
  Cert.Proof.KernelIdeal.before2 m (dats m 0 c) (A_eq m c 2) (after0_2 m c) t d
theorem before0_3 (c : Dev nD) (t : Fin (cfg0 (F := F)).N) (d) : (dats m 0 c).before 3 t d = iblk m c 3 t :=
  Cert.Proof.KernelIdeal.before3 m (dats m 0 c) (A_eq m c 3) (after0_3 m c) t d

/-- What the body is called with at point `t`, … -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- … and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt
  unfold out
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _)

/-- The body the table names is the body at the point's slots. -/
theorem defs₀_row (t : Fin (cfg0 (F := F)).N) :
    defs₀ (F := F) .tc cfg0.body (cfg0.bodyArgs t (cfg0.slots t)) = bodyAt0 t := by
  unfold defs₀; rw [Defs.onTc_tc]

/-- The body's obligation to the launch. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch: every array as the proof data say, and every counter at zero. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The launch without the counters. -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_of m (dats m) r h c) (run_main m ρ)

/-- The frame: the program terminates, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.KernelIdeal

end
-- ==== Proof.Value.Ops.lean ====
/- One unit's fast pass as a function of its queries and its window of keys and values: 256 query rows in two halves, each
   against three key blocks of the four in the window. -/
module

public import proofs.«01_k».proof.Proof.Ideal.Trip

@[expose] public section

noncomputable section

namespace Cert.Proof.KernelIdeal

open Cert.KernelIdeal Cert.KernelIdeal.Gen
open Idealize.ShloMosaic Idealize.ShloMosaic.TcCoe

variable {F : FTy → Type} [FloatOps F] [Named F]

/-- The lanes of the pair's first head, spread over a block's rows. -/
def lanes (v2 : IVec S1x128 1) : IVec S128x128 1 :=
  broadcastTo S128x128 (shapeCast S1x128 v2 shapeCasts_S1x128_S1x128) broadcasts_S1x128_S128x128

/-- The zero block. -/
def zeroBlk : FVec F S128x128 .bf16 := broadcast S128x128 (Scalar.ofBits .bf16 0x0000#16)

/-- A block's first-head and second-head parts. -/
def part0 (v2 : IVec S1x128 1) (b : FVec F S128x128 .bf16) : FVec F S128x128 .bf16 := select (lanes v2) b zeroBlk
def part1 (v2 : IVec S1x128 1) (b : FVec F S128x128 .bf16) : FVec F S128x128 .bf16 := select (lanes v2) zeroBlk b

/-- One block split by heads, the two parts laid end to end. -/
def split1 (v2 : IVec S1x128 1) (b : FVec F S128x128 .bf16) : FVec F S256x128 .bf16 :=
  concatenate S256x128 0 [⟨S128x128, part0 v2 b⟩, ⟨S128x128, part1 v2 b⟩] concatenates_S128x128_S128x128_S256x128_d0

/-- Four blocks split by heads. -/
def split4 (v2 : IVec S1x128 1) (w : Vec F S1x1x512x128 .bf16) : FVec F S1024x128 .bf16 :=
  let x : FVec F S512x128 .bf16 := shapeCast S512x128 w shapeCasts_S1x1x512x128_S512x128
  let b0 : FVec F S128x128 .bf16 := extractStridedSlice S128x128 ![0, 0] x slices_S512x128_o0_0_S128x128
  let b1 : FVec F S128x128 .bf16 := extractStridedSlice S128x128 ![128, 0] x slices_S512x128_o128_0_S128x128
  let b2 : FVec F S128x128 .bf16 := extractStridedSlice S128x128 ![256, 0] x slices_S512x128_o256_0_S128x128
  let b3 : FVec F S128x128 .bf16 := extractStridedSlice S128x128 ![384, 0] x slices_S512x128_o384_0_S128x128
  concatenate S1024x128 0 [⟨S128x128, part0 v2 b0⟩, ⟨S128x128, part1 v2 b0⟩, ⟨S128x128, part0 v2 b1⟩, ⟨S128x128, part1 v2 b1⟩,
    ⟨S128x128, part0 v2 b2⟩, ⟨S128x128, part1 v2 b2⟩, ⟨S128x128, part0 v2 b3⟩, ⟨S128x128, part1 v2 b3⟩]
    concatenates_S128x128_S128x128_S128x128_S128x128_S128x128_S128x128_S128x128_S128x128_S1024x128_d0

/-- The softplus as the kernel writes it. -/
def soft {s : Shape} (z : FVec F s .f32) : FVec F s .f32 :=
  maximumf z (log (addf (broadcast s (Scalar.ofBits .f32 0x3F800000#32)) (exp (minimumf z (broadcast s (Named.named κ "exp_clamp" 0x42B00000#32))))))

/-- The queries, scaled. -/
def scaled (q : Vec F S1x1x256x128 .bf16) : FVec F S256x128 .bf16 :=
  mulf (shapeCast S256x128 q shapeCasts_S1x1x256x128_S256x128) (broadcast S256x128 (Scalar.ofBits .bf16 0x3E00#16))

/-- The scores of the queries against the window. -/
def scores (v2 : IVec S1x128 1) (q : Vec F S1x1x256x128 .bf16) (kw : Vec F S1x1x512x128 .bf16) : FVec F S256x1024 .f32 :=
  matmul dot_S256x128_S1024x128_S256x1024_1_1_0_0_n_n none (scaled q) (split4 v2 kw) (constant S256x1024 .f32 0x00000000#32)

/-- Zero off the strict lower triangle. -/
def diag (v7 : IVec S128x256 1) (x : FVec F S128x256 .f32) : FVec F S128x256 .f32 :=
  select v7 x (broadcast S128x256 (Scalar.ofBits .f32 0x00000000#32))

/-- The suffix sums of three blocks' softplus, within each block. -/
def later3 (v7 : IVec S128x256 1) (v9 : FVec F S256x256 .bf16) (z0 z1 z2 : FVec F S128x256 .f32) : FVec F S384x256 .f32 :=
  matmul dot_S384x256_S256x256_S384x256_1_0_0_1_n_n none
    (truncf .bf16 (concatenate S384x256 0 [⟨S128x256, soft z0⟩, ⟨S128x256, soft z1⟩, ⟨S128x256, diag v7 (soft z2)⟩]
      concatenates_S128x256_S128x256_S128x256_S384x256_d0) bitsLt_bf16_f32) v9 (constant S384x256 .f32 0x00000000#32)

def lat0 (l : FVec F S384x256 .f32) : FVec F S128x256 .f32 := extractStridedSlice S128x256 ![0, 0] l slices_S384x256_o0_0_S128x256
def lat1 (l : FVec F S384x256 .f32) : FVec F S128x256 .f32 := extractStridedSlice S128x256 ![128, 0] l slices_S384x256_o128_0_S128x256
def lat2 (l : FVec F S384x256 .f32) : FVec F S128x256 .f32 := extractStridedSlice S128x256 ![256, 0] l slices_S384x256_o256_0_S128x256

/-- A block's total, per head. -/
def tot0 (l : FVec F S128x256 .f32) : FVec F S128x1 .f32 := extractStridedSlice S128x1 ![0, 0] l slices_S128x256_o0_0_S128x1
def tot1 (l : FVec F S128x256 .f32) : FVec F S128x1 .f32 := extractStridedSlice S128x1 ![0, 128] l slices_S128x256_o0_128_S128x1

/-- The two heads' masses over their lanes. -/
def laneMass (m0 m1 : FVec F S128x1 .f32) : FVec F S128x256 .f32 :=
  concatenate S128x256 1 [⟨S128x128, broadcastTo S128x128 (shapeCast S128x1 m0 shapeCasts_S128x1_S128x1) broadcasts_S128x1_S128x128⟩,
    ⟨S128x128, broadcastTo S128x128 (shapeCast S128x1 m1 shapeCasts_S128x1_S128x1) broadcasts_S128x1_S128x128⟩]
    concatenates_S128x128_S128x128_S128x256_d1

/-- The weights of three blocks, side by side. -/
def weights3 (v7 : IVec S128x256 1) (z0 z1 z2 : FVec F S128x256 .f32) (l : FVec F S384x256 .f32) : FVec F S128x768 .f32 :=
  concatenate S128x768 1
    [⟨S128x256, exp (subf (subf z0 (lat0 l)) (laneMass (addf (tot0 (lat2 l)) (tot0 (lat1 l))) (addf (tot1 (lat2 l)) (tot1 (lat1 l)))))⟩,
      ⟨S128x256, exp (subf (subf z1 (lat1 l)) (laneMass (tot0 (lat2 l)) (tot1 (lat2 l))))⟩,
      ⟨S128x256, diag v7 (exp (subf z2 (lat2 l)))⟩] concatenates_S128x256_S128x256_S128x256_S128x768_d1

/-- A half's output rows. -/
def halfOut (w : FVec F S128x768 .f32) (vv : FVec F S768x128 .bf16) : FVec F S1x1x128x128 .bf16 :=
  shapeCast S1x1x128x128 (truncf .bf16 (matmul dot_S128x768_S768x128_S128x128_1_0_0_1_n_n none (truncf .bf16 w bitsLt_bf16_f32) vv
    (constant S128x128 .f32 0x00000000#32)) bitsLt_bf16_f32) shapeCasts_S128x128_S1x1x128x128

/-- Whether some row's mass over the three blocks is still short of dead. -/
def halfAlive (l : FVec F S384x256 .f32) : BitVec 1 :=
  let m0 : FVec F S128x1 .f32 := addf (addf (tot0 (lat2 l)) (tot0 (lat1 l))) (tot0 (lat0 l))
  let m1 : FVec F S128x1 .f32 := addf (addf (tot1 (lat2 l)) (tot1 (lat1 l))) (tot1 (lat0 l))
  Scalar.cmpf .olt (extractAt ![0, 0, 0] (shapeCast S1x1x1 (multiReduction .minimumf [1, 2] S1 (shapeCast S1x128x1 (minimumf m0 m1) shapeCasts_S128x1_S1x128x1)
    0x7F800000#32 reduces_S1x128x1_S1 (.inl rfl) rfl) shapeCasts_S1_S1x1x1) inpos_S1x1x1_p0_0_0) (Named.named κ "dead_mass" 0x42D00000#32)

section Halves
variable (v2 : IVec S1x128 1) (v7 : IVec S128x256 1) (v9 : FVec F S256x256 .bf16) (q : Vec F S1x1x256x128 .bf16) (kw vw : Vec F S1x1x512x128 .bf16)

/-- The scores of the upper and the lower half's rows. -/
def zTop : FVec F S128x1024 .f32 := extractStridedSlice S128x1024 ![0, 0] (scores v2 q kw) slices_S256x1024_o0_0_S128x1024
def zBot : FVec F S128x1024 .f32 := extractStridedSlice S128x1024 ![128, 0] (scores v2 q kw) slices_S256x1024_o128_0_S128x1024

/-- A block's columns of them. -/
def col0 (z : FVec F S128x1024 .f32) : FVec F S128x256 .f32 := extractStridedSlice S128x256 ![0, 0] z slices_S128x1024_o0_0_S128x256
def col1 (z : FVec F S128x1024 .f32) : FVec F S128x256 .f32 := extractStridedSlice S128x256 ![0, 256] z slices_S128x1024_o0_256_S128x256
def col2 (z : FVec F S128x1024 .f32) : FVec F S128x256 .f32 := extractStridedSlice S128x256 ![0, 512] z slices_S128x1024_o0_512_S128x256
def col3 (z : FVec F S128x1024 .f32) : FVec F S128x256 .f32 := extractStridedSlice S128x256 ![0, 768] z slices_S128x1024_o0_768_S128x256

/-- The upper half's suffix sums (blocks 0, 1, 2 of the window) and the lower half's (blocks 1, 2, 3). -/
def lTop : FVec F S384x256 .f32 := later3 v7 v9 (col0 (zTop v2 q kw)) (col1 (zTop v2 q kw)) (col2 (zTop v2 q kw))
def lBot : FVec F S384x256 .f32 := later3 v7 v9 (col1 (zBot v2 q kw)) (col2 (zBot v2 q kw)) (col3 (zBot v2 q kw))

/-- What the fast pass stores for the unit's upper and lower half. -/
def fastTop : FVec F S1x1x128x128 .bf16 :=
  halfOut (weights3 v7 (col0 (zTop v2 q kw)) (col1 (zTop v2 q kw)) (col2 (zTop v2 q kw)) (lTop v2 v7 v9 q kw))
    (extractStridedSlice S768x128 ![0, 0] (split4 v2 vw) slices_S1024x128_o0_0_S768x128)
def fastBot : FVec F S1x1x128x128 .bf16 :=
  halfOut (weights3 v7 (col1 (zBot v2 q kw)) (col2 (zBot v2 q kw)) (col3 (zBot v2 q kw)) (lBot v2 v7 v9 q kw))
    (extractStridedSlice S768x128 ![256, 0] (split4 v2 vw) slices_S1024x128_o256_0_S768x128)

/-- Whether the exact pass must redo the unit, `u` being the unit's number along the sequence. -/
def more (u : BitVec 32) : BitVec 1 :=
  Scalar.ori (Scalar.andi (Scalar.cmpi .sge u 1#32) (halfAlive (lBot v2 v7 v9 q kw)))
    (Scalar.andi (Scalar.cmpi .sge u 2#32) (halfAlive (lTop v2 v7 v9 q kw)))

end Halves

end Cert.Proof.KernelIdeal

end
-- ==== Proof.Value.Fast.lean ====
/- What one grid point's fast passes store, unit by unit, and the word of the units they leave to the exact pass. -/
module

public import proofs.«01_k».proof.Proof.Value.Ops
public import proofs.«01_k».proof.Proof.Ideal.Run

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

/-- The lanes of a pair's first head, and the places below the diagonal of a block. -/
def laneMask : IVec S1x128 1 := k0_pay26
def belowMask : IVec S128x256 1 := k0_pay27

/-- Where a unit's window of keys and values begins. -/
def winOff (i : grid0.Coords) (sub : Fin 2) (p : Fin 8) : Fin 4 → ℕ := ![0, p.val, k0_off1 i (BitVec.ofNat 32 sub.val) 2, 0]

theorem winOff_inb (i : grid0.Coords) (sub : Fin 2) (p : Fin 8) : ∀ a, winOff i sub p a + S1x1x512x128.size a ≤ S1x8x2560x128.size a := by
  have h := k0_off1_inb i sub
  intro a
  have h2 := h 2
  match a with
  | 0 => simp [winOff, S1x1x512x128, S1x8x2560x128]
  | 1 => simp [winOff, S1x1x512x128, S1x8x2560x128]
  | 2 => exact h2
  | 3 => simp [winOff, S1x1x512x128, S1x8x2560x128]

theorem rowsOff_inb (sub : Fin 2) (p : Fin 8) : ∀ a, (![0, p.val, 256 * sub.val, 0] : Fin 4 → ℕ) a + S1x1x256x128.size a ≤ S1x8x512x128.size a := by
  revert sub p; decide

/-- A unit's queries, and its window of the keys or the values. -/
def unitRows (sub : Fin 2) (p : Fin 8) (x0 : Vec F S1x8x512x128 .bf16) : Vec F S1x1x256x128 .bf16 :=
  View.ld x0 (Rect.unit (s := S1x8x512x128) ![0, p.val, 256 * sub.val, 0] S1x1x256x128.size (rowsOff_inb sub p))
def unitWin (i : grid0.Coords) (sub : Fin 2) (p : Fin 8) (x : Vec F S1x8x2560x128 .bf16) : Vec F S1x1x512x128 .bf16 :=
  View.ld x (Rect.unit (s := S1x8x2560x128) (winOff i sub p) S1x1x512x128.size (winOff_inb i sub p))

/-- The suffix-sum operator. -/
def triOf (x3 : Vec F S256x256 .bf16) : FVec F S256x256 .bf16 :=
  shapeCast S256x256 (View.ld x3 (Rect.unit (s := S256x256) ![0, 0] S256x256.size inb_S256x256_S256x256_0_0)) shapeCasts_S256x256_S256x256

/-- A unit's stored halves, and its bit. -/
def unitTop (i : grid0.Coords) (sub : Fin 2) (p : Fin 8) (x0 : Vec F S1x8x512x128 .bf16) (x1 x2 : Vec F S1x8x2560x128 .bf16) (x3 : Vec F S256x256 .bf16) :
    FVec F S1x1x128x128 .bf16 :=
  fastTop laneMask belowMask (triOf x3) (unitRows sub p x0) (unitWin i sub p x1) (unitWin i sub p x2)
def unitBot (i : grid0.Coords) (sub : Fin 2) (p : Fin 8) (x0 : Vec F S1x8x512x128 .bf16) (x1 x2 : Vec F S1x8x2560x128 .bf16) (x3 : Vec F S256x256 .bf16) :
    FVec F S1x1x128x128 .bf16 :=
  fastBot laneMask belowMask (triOf x3) (unitRows sub p x0) (unitWin i sub p x1) (unitWin i sub p x2)
def unitMore (i : grid0.Coords) (sub : Fin 2) (p : Fin 8) (x0 : Vec F S1x8x512x128 .bf16) (x1 : Vec F S1x8x2560x128 .bf16) (x3 : Vec F S256x256 .bf16) : BitVec 1 :=
  more laneMask belowMask (triOf x3) (unitRows sub p x0) (unitWin i sub p x1)
    (Scalar.addi (Scalar.muli 2#32 (BitVec.ofNat 32 (i 1).val)) (BitVec.ofNat 32 sub.val))

/-- One unit's bit added to the word. -/
def addBit (f : BitVec 32) (b : BitVec 1) (n : BitVec 32) : BitVec 32 := Scalar.ori f (Scalar.shli (Scalar.extui b) n)

section
variable (i : grid0.Coords) (x0 : Vec F S1x8x512x128 .bf16) (x1 x2 : Vec F S1x8x2560x128 .bf16) (x3 : Vec F S256x256 .bf16)

/-- The word after all sixteen units. -/
def flagsWord : BitVec 32 :=
  addBit (addBit (addBit (addBit (addBit (addBit (addBit (addBit (addBit (addBit (addBit (addBit (addBit (addBit (addBit (addBit (0#32) (unitMore i 0 0 x0 x1 x3) 0#32) (unitMore i 0 1 x0 x1 x3) 1#32) (unitMore i 0 2 x0 x1 x3) 2#32) (unitMore i 0 3 x0 x1 x3) 3#32) (unitMore i 0 4 x0 x1 x3) 4#32) (unitMore i 0 5 x0 x1 x3) 5#32) (unitMore i 0 6 x0 x1 x3) 6#32) (unitMore i 0 7 x0 x1 x3) 7#32) (unitMore i 1 0 x0 x1 x3) 8#32) (unitMore i 1 1 x0 x1 x3) 9#32) (unitMore i 1 2 x0 x1 x3) 10#32) (unitMore i 1 3 x0 x1 x3) 11#32) (unitMore i 1 4 x0 x1 x3) 12#32) (unitMore i 1 5 x0 x1 x3) 13#32) (unitMore i 1 6 x0 x1 x3) 14#32) (unitMore i 1 7 x0 x1 x3) 15#32

/-- The pieces of the thirty-two halves, the latest first. -/
def fastPieces : List (View.Piece (Elt F) S1x8x512x128 .bf16) :=
  [⟨Rect.unit (s := S1x8x512x128) ![0, 7, 384, 0] S1x1x128x128.size (by decide), unitBot i 1 7 x0 x1 x2 x3⟩,
    ⟨Rect.unit (s := S1x8x512x128) ![0, 7, 256, 0] S1x1x128x128.size (by decide), unitTop i 1 7 x0 x1 x2 x3⟩,
    ⟨Rect.unit (s := S1x8x512x128) ![0, 6, 384, 0] S1x1x128x128.size (by decide), unitBot i 1 6 x0 x1 x2 x3⟩,
    ⟨Rect.unit (s := S1x8x512x128) ![0, 6, 256, 0] S1x1x128x128.size (by decide), unitTop i 1 6 x0 x1 x2 x3⟩,
    ⟨Rect.unit (s := S1x8x512x128) ![0, 5, 384, 0] S1x1x128x128.size (by decide), unitBot i 1 5 x0 x1 x2 x3⟩,
    ⟨Rect.unit (s := S1x8x512x128) ![0, 5, 256, 0] S1x1x128x128.size (by decide), unitTop i 1 5 x0 x1 x2 x3⟩,
    ⟨Rect.unit (s := S1x8x512x128) ![0, 4, 384, 0] S1x1x128x128.size (by decide), unitBot i 1 4 x0 x1 x2 x3⟩,
    ⟨Rect.unit (s := S1x8x512x128) ![0, 4, 256, 0] S1x1x128x128.size (by decide), unitTop i 1 4 x0 x1 x2 x3⟩,
    ⟨Rect.unit (s := S1x8x512x128) ![0, 3, 384, 0] S1x1x128x128.size (by decide), unitBot i 1 3 x0 x1 x2 x3⟩,
    ⟨Rect.unit (s := S1x8x512x128) ![0, 3, 256, 0] S1x1x128x128.size (by decide), unitTop i 1 3 x0 x1 x2 x3⟩,
    ⟨Rect.unit (s := S1x8x512x128) ![0, 2, 384, 0] S1x1x128x128.size (by decide), unitBot i 1 2 x0 x1 x2 x3⟩,
    ⟨Rect.unit (s := S1x8x512x128) ![0, 2, 256, 0] S1x1x128x128.size (by decide), unitTop i 1 2 x0 x1 x2 x3⟩,
    ⟨Rect.unit (s := S1x8x512x128) ![0, 1, 384, 0] S1x1x128x128.size (by decide), unitBot i 1 1 x0 x1 x2 x3⟩,
    ⟨Rect.unit (s := S1x8x512x128) ![0, 1, 256, 0] S1x1x128x128.size (by decide), unitTop i 1 1 x0 x1 x2 x3⟩,
    ⟨Rect.unit (s := S1x8x512x128) ![0, 0, 384, 0] S1x1x128x128.size (by decide), unitBot i 1 0 x0 x1 x2 x3⟩,
    ⟨Rect.unit (s := S1x8x512x128) ![0, 0, 256, 0] S1x1x128x128.size (by decide), unitTop i 1 0 x0 x1 x2 x3⟩,
    ⟨Rect.unit (s := S1x8x512x128) ![0, 7, 128, 0] S1x1x128x128.size (by decide), unitBot i 0 7 x0 x1 x2 x3⟩,
    ⟨Rect.unit (s := S1x8x512x128) ![0, 7, 0, 0] S1x1x128x128.size (by decide), unitTop i 0 7 x0 x1 x2 x3⟩,
    ⟨Rect.unit (s := S1x8x512x128) ![0, 6, 128, 0] S1x1x128x128.size (by decide), unitBot i 0 6 x0 x1 x2 x3⟩,
    ⟨Rect.unit (s := S1x8x512x128) ![0, 6, 0, 0] S1x1x128x128.size (by decide), unitTop i 0 6 x0 x1 x2 x3⟩,
    ⟨Rect.unit (s := S1x8x512x128) ![0, 5, 128, 0] S1x1x128x128.size (by decide), unitBot i 0 5 x0 x1 x2 x3⟩,
    ⟨Rect.unit (s := S1x8x512x128) ![0, 5, 0, 0] S1x1x128x128.size (by decide), unitTop i 0 5 x0 x1 x2 x3⟩,
    ⟨Rect.unit (s := S1x8x512x128) ![0, 4, 128, 0] S1x1x128x128.size (by decide), unitBot i 0 4 x0 x1 x2 x3⟩,
    ⟨Rect.unit (s := S1x8x512x128) ![0, 4, 0, 0] S1x1x128x128.size (by decide), unitTop i 0 4 x0 x1 x2 x3⟩,
    ⟨Rect.unit (s := S1x8x512x128) ![0, 3, 128, 0] S1x1x128x128.size (by decide), unitBot i 0 3 x0 x1 x2 x3⟩,
    ⟨Rect.unit (s := S1x8x512x128) ![0, 3, 0, 0] S1x1x128x128.size (by decide), unitTop i 0 3 x0 x1 x2 x3⟩,
    ⟨Rect.unit (s := S1x8x512x128) ![0, 2, 128, 0] S1x1x128x128.size (by decide), unitBot i 0 2 x0 x1 x2 x3⟩,
    ⟨Rect.unit (s := S1x8x512x128) ![0, 2, 0, 0] S1x1x128x128.size (by decide), unitTop i 0 2 x0 x1 x2 x3⟩,
    ⟨Rect.unit (s := S1x8x512x128) ![0, 1, 128, 0] S1x1x128x128.size (by decide), unitBot i 0 1 x0 x1 x2 x3⟩,
    ⟨Rect.unit (s := S1x8x512x128) ![0, 1, 0, 0] S1x1x128x128.size (by decide), unitTop i 0 1 x0 x1 x2 x3⟩,
    ⟨Rect.unit (s := S1x8x512x128) ![0, 0, 128, 0] S1x1x128x128.size (by decide), unitBot i 0 0 x0 x1 x2 x3⟩,
    ⟨Rect.unit (s := S1x8x512x128) ![0, 0, 0, 0] S1x1x128x128.size (by decide), unitTop i 0 0 x0 x1 x2 x3⟩]
end

section
variable (c : Dev nD) (i : grid0.Coords) (arg2 : Memref sig .tc .vmem S1x8x512x128 .bf16) (harg2 : arg2.IsWhole) (arg3 : Memref sig .tc .vmem S1x8x2560x128 .bf16) (harg3 : arg3.IsWhole) (arg4 : Memref sig .tc .vmem S1x8x2560x128 .bf16) (harg4 : arg4.IsWhole) (arg5 : Memref sig .tc .vmem S256x256 .bf16) (harg5 : arg5.IsWhole) (arg6 : Memref sig .tc .vmem S1x8x512x128 .bf16) (harg6 : arg6.IsWhole)
    (x0 : Vec F S1x8x512x128 .bf16) (x1 : Vec F S1x8x2560x128 .bf16) (x2 : Vec F S1x8x2560x128 .bf16) (x3 : Vec F S256x256 .bf16)

set_option maxHeartbeats 4000000 in
theorem fastPieces_eq : bodyRun.sl.H4_32 c i arg2 harg2 arg3 harg3 arg4 harg4 arg5 harg5 x0 x1 x2 x3
    = fastPieces i (arg2.view.read (Elt F) (harg2.unread x0)) (arg3.view.read (Elt F) (harg3.unread x1)) (arg4.view.read (Elt F) (harg4.unread x2))
        (arg5.view.read (Elt F) (harg5.unread x3)) := by
  sl_kernel_rfl

set_option maxHeartbeats 4000000 in
theorem flagsWord_eq : Scalar.ori (bodyRun.sl.v3873 c i arg2 harg2 arg3 harg3 arg5 harg5 x0 x1 x3) (Scalar.shli (Scalar.extui (Scalar.ori (bodyRun.sl.v3965 c i arg2 harg2 arg3 harg3 arg5 harg5 x0 x1 x3) (Scalar.andi (bodyRun.sl.v3238 i) (Scalar.cmpf .olt (k0_pay1 (bodyRun.sl.r_314 c i arg2 harg2 arg3 harg3 arg5 harg5 x0 x1 x3)) (Named.named κ "dead_mass" 0x42D00000#32))))) 15#32)
    = flagsWord i (arg2.view.read (Elt F) (harg2.unread x0)) (arg3.view.read (Elt F) (harg3.unread x1))
        (arg5.view.read (Elt F) (harg5.unread x3)) := by
  sl_kernel_rfl
end

end Cert.Proof.KernelIdeal

end
-- ==== Proof.Value.Rows.lean ====
/- One query row of stick-breaking attention over the extended reals, in the padded key coordinates: the softplus, the mass
   of the keys after one, the weight, and the sum of weighted values, each cut at a key block's edge. -/
module

public import Idealize.ShloMosaic.Lib.Pointwise

@[expose] public section

noncomputable section

namespace Cert.Proof.Rows

open Idealize.ShloMosaic

/-- The softplus. -/
def sp (z : EReal) : EReal := max z (Ideal.log (1 + Ideal.exp z))

theorem exp_nonneg (z : EReal) : 0 ≤ Ideal.exp z := by
  induction z with
  | bot => simp
  | top => simp
  | coe r => simp only [Ideal.exp_coe]; exact_mod_cast (Real.exp_pos r).le

theorem sp_coe (r : ℝ) : sp r = ((Real.log (1 + Real.exp r) : ℝ) : EReal) := by
  have h1 : (1 : EReal) + ((Real.exp r : ℝ) : EReal) = ((1 + Real.exp r : ℝ) : EReal) := by push_cast; rfl
  have h2 : ¬ (1 + Real.exp r ≤ 0) := by have := Real.exp_pos r; linarith
  unfold sp
  rw [Ideal.exp_coe, h1, Ideal.log_coe, if_neg h2, max_eq_right]
  have : r ≤ Real.log (1 + Real.exp r) := by
    rw [Real.le_log_iff_exp_le (by have := Real.exp_pos r; linarith)]; linarith
  exact_mod_cast this

@[simp] theorem sp_top : sp ⊤ = ⊤ := by simp [sp]
theorem log_one : Ideal.log 1 = 0 := by
  rw [show (1 : EReal) = ((1 : ℝ) : EReal) from rfl, Ideal.log_coe]; simp

@[simp] theorem sp_bot : sp ⊥ = 0 := by simp [sp, log_one]

theorem sp_nonneg (z : EReal) : 0 ≤ sp z := by
  induction z with
  | bot => simp
  | top => simp
  | coe r =>
    rw [sp_coe]
    have : 0 ≤ Real.log (1 + Real.exp r) := Real.log_nonneg (by have := Real.exp_pos r; linarith)
    exact_mod_cast this

/-- `softplus z - softplus (-z) = z`. -/
theorem sp_real (r : ℝ) : Real.log (1 + Real.exp r) - Real.log (1 + Real.exp (-r)) = r := by
  have h : 1 + Real.exp r = Real.exp r * (1 + Real.exp (-r)) := by
    rw [mul_add, ← Real.exp_add]; simp; ring
  rw [h, Real.log_mul (Real.exp_pos r).ne' (by have := Real.exp_pos (-r); linarith), Real.log_exp]; ring

/-- The softplus as a host library writes it. -/
theorem sp_host (x : EReal) : max x 0 + Ideal.log (1 + Ideal.exp (-(max (x - 0) (-(x - 0))))) = sp x := by
  induction x with
  | bot => simp [log_one]
  | top => simp [log_one]
  | coe r =>
    rw [sp_coe]
    have e0 : (r : EReal) - 0 = r := by simp
    have e1 : max (r : EReal) (-(r : EReal)) = ((|r| : ℝ) : EReal) := by
      rw [abs_eq_max_neg]; exact_mod_cast rfl
    have e2 : -(((|r| : ℝ) : EReal)) = ((-|r| : ℝ) : EReal) := by simp
    have h1 : (1 : EReal) + ((Real.exp (-|r|) : ℝ) : EReal) = ((1 + Real.exp (-|r|) : ℝ) : EReal) := by push_cast; rfl
    have h2 : ¬ (1 + Real.exp (-|r|) ≤ 0) := by have := Real.exp_pos (-|r|); linarith
    rw [e0, e1, e2, Ideal.exp_coe, h1, Ideal.log_coe, if_neg h2]
    have e3 : max (r : EReal) 0 = ((max r 0 : ℝ) : EReal) := by exact_mod_cast rfl
    rw [e3]
    have : max r 0 + Real.log (1 + Real.exp (-|r|)) = Real.log (1 + Real.exp r) := by
      rcases le_total 0 r with h | h
      · rw [max_eq_left h, abs_of_nonneg h]; have := sp_real r; linarith
      · rw [max_eq_right h, abs_of_nonpos h]; simp
    rw [← this]; exact_mod_cast rfl

section Row
variable (z v : ℕ → EReal) (T : ℕ)

/-- A key's softplus, if the key comes before the query. -/
def g (s : ℕ) : EReal := if s < T then sp (z s) else 0
/-- The mass of the keys from `a` on. -/
def M (a : ℕ) : EReal := ∑ s ∈ Finset.Ico a 2560, g z T s
/-- A key's weight. -/
def W (s : ℕ) : EReal := if s < T then Ideal.exp (z s - M z T s) else 0
/-- The weighted values of the keys from `a` on. -/
def A (a : ℕ) : EReal := ∑ s ∈ Finset.Ico a 2560, W z T s * v s

theorem g_nonneg (s : ℕ) : 0 ≤ g z T s := by unfold g; split; exacts [sp_nonneg _, le_rfl]
theorem M_nonneg (a : ℕ) : 0 ≤ M z T a := Finset.sum_nonneg fun s _ => g_nonneg z T s

theorem M_of_le {a : ℕ} (h : T ≤ a) : M z T a = 0 :=
  Finset.sum_eq_zero fun s hs => if_neg (by have := (Finset.mem_Ico.1 hs).1; omega)
theorem A_of_le {a : ℕ} (h : T ≤ a) : A z v T a = 0 :=
  Finset.sum_eq_zero fun s hs => by
    have := (Finset.mem_Ico.1 hs).1
    rw [W, if_neg (by omega), zero_mul]

theorem sum_block (f : ℕ → EReal) {a j : ℕ} (hj : j ≤ 128) (h : a + 128 ≤ 2560) :
    ∑ s ∈ Finset.Ico (a + j) 2560, f s = (∑ i : Fin 128, if j ≤ i.val then f (a + i.val) else 0) + ∑ s ∈ Finset.Ico (a + 128) 2560, f s := by
  rw [← Finset.sum_Ico_consecutive f (show a + j ≤ a + 128 by omega) h]
  congr 1
  rw [Fin.sum_univ_eq_sum_range (fun i => if j ≤ i then f (a + i) else 0) 128, ← Finset.sum_filter]
  have : Finset.filter (fun i => j ≤ i) (Finset.range 128) = Finset.Ico j 128 := by
    ext x; simp; omega
  rw [this, Finset.sum_Ico_add, add_comm j a, add_comm 128 a]

/-- The mass within a block and after it. -/
def L (a j : ℕ) : EReal := ∑ i : Fin 128, if j ≤ i.val then g z T (a + i.val) else 0

theorem L_nonneg (a j : ℕ) : 0 ≤ L z T a j := Finset.sum_nonneg fun i _ => by split; exacts [g_nonneg _ _ _, le_rfl]

theorem M_block {a j : ℕ} (hj : j ≤ 128) (h : a + 128 ≤ 2560) : M z T (a + j) = L z T a j + M z T (a + 128) :=
  sum_block (g z T) hj h

theorem A_block {a : ℕ} (h : a + 128 ≤ 2560) :
    A z v T a = (∑ j : Fin 128, W z T (a + j.val) * v (a + j.val)) + A z v T (a + 128) := by
  have := sum_block (fun s => W z T s * v s) (a := a) (j := 0) (by omega) h
  simp only [add_zero, Nat.zero_le, ↓reduceIte] at this
  exact this

theorem sub_sub_nonneg {x l m : EReal} (hl : 0 ≤ l) (hm : 0 ≤ m) : x - l - m = x - (l + m) := by
  have h1 : l ≠ ⊥ := fun h => by simp [h] at hl
  have h2 : m ≠ ⊥ := fun h => by simp [h] at hm
  rw [sub_eq_add_neg, sub_eq_add_neg, sub_eq_add_neg, EReal.neg_add (.inl h1) (.inr h2), sub_eq_add_neg, add_assoc]

/-- A block's weight, from the mass within the block and the mass after it. -/
theorem W_block {a j : ℕ} (hj : j ≤ 128) (h : a + 128 ≤ 2560) :
    W z T (a + j) = if a + j < T then Ideal.exp (z (a + j) - L z T a j - M z T (a + 128)) else 0 := by
  rw [W, M_block z T hj h, sub_sub_nonneg (L_nonneg _ _ _ _) (M_nonneg _ _ _)]

theorem M_anti {a b : ℕ} (h : a ≤ b) : M z T b ≤ M z T a :=
  Finset.sum_le_sum_of_subset_of_nonneg (Finset.Ico_subset_Ico h le_rfl) fun _ _ _ => g_nonneg _ _ _

/-- Once the mass is infinite no earlier key counts. -/
theorem A_dead {a b : ℕ} (hab : a ≤ b) (hb : b ≤ 2560) (h : M z T b = ⊤) : A z v T a = A z v T b := by
  unfold A
  rw [← Finset.sum_Ico_consecutive _ hab hb, Finset.sum_eq_zero, zero_add]
  intro s hs
  have hs := Finset.mem_Ico.1 hs
  have : M z T s = ⊤ := top_le_iff.1 (h ▸ M_anti z T hs.2.le)
  rw [W, this]; split <;> simp [sub_eq_add_neg]

/-- Keys of zero value do not count. -/
theorem A_pad {a b : ℕ} (hab : a ≤ b) (hb : b ≤ 2560) (h : ∀ s < b, v s = 0) : A z v T a = A z v T b := by
  unfold A
  rw [← Finset.sum_Ico_consecutive _ hab hb, Finset.sum_eq_zero, zero_add]
  intro s hs
  rw [h s (Finset.mem_Ico.1 hs).2, mul_zero]

/-- The weight as the logarithms of the break and of what the later keys leave. -/
theorem W_host {s : ℕ} (hs : s < T) (hT : T ≤ 2560) :
    Ideal.exp (-(sp (-(z s))) + (-(M z T s) - -(g z T s))) = W z T s := by
  have hM : M z T s = g z T s + M z T (s + 1) := by
    unfold M; exact Finset.sum_eq_sum_Ico_succ_bot (by omega) _
  have hg : g z T s = sp (z s) := if_pos hs
  have hn := M_nonneg z T (s + 1)
  rw [W, if_pos hs, hM, hg]
  congr 1
  generalize M z T (s + 1) = m at hn
  induction hz : z s with
  | bot => simp
  | top =>
    rw [sp_top, EReal.top_add_of_ne_bot (fun h => by simp [h] at hn)]; simp [sub_eq_add_neg]
  | coe r =>
    rw [show -((r : ℝ) : EReal) = ((-r : ℝ) : EReal) by simp, sp_coe, sp_coe]
    induction m with
    | bot => simp at hn
    | top => simp [sub_eq_add_neg]
    | coe m =>
      have := sp_real r
      norm_cast
      linarith
end Row

end Cert.Proof.Rows

end
-- ==== Proof.Value.FastIdx.lean ====
/- The fast pass read at an index: the window split by heads, the scores, the suffix sums, the weights and the stored rows. -/
module

public import proofs.«01_k».proof.Proof.Value.Fast
public import proofs.«01_k».proof.Proof.Value.Rows
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

theorem lane_slt : ∀ l : Fin 128, IntOp.cmpi .slt (BitVec.ofNat 32 l.val) 64#32 = if l.val / 64 = 0 then 1#1 else 0#1 := by decide +kernel

theorem laneMask_apply (l : Fin 128) : laneMask (ix2 0 l) = if l.val / 64 = 0 then 1#1 else 0#1 := by
  pointwise [laneMask, k0_pay26]
  exact lane_slt l

theorem lanes_apply (j l : Fin 128) : lanes laneMask (ix2 j l) = if l.val / 64 = 0 then 1#1 else 0#1 := by
  rw [← laneMask_apply l]
  pointwise [lanes]

theorem part0_apply (b : FVec Ideal S128x128 .bf16) (j l : Fin 128) :
    part0 laneMask b (ix2 j l) = if l.val / 64 = 0 then b (ix2 j l) else 0 := by
  have h := lanes_apply j l
  pointwise [part0, zeroBlk]
  rw [h]; split <;> rfl

theorem part1_apply (b : FVec Ideal S128x128 .bf16) (j l : Fin 128) :
    part1 laneMask b (ix2 j l) = if l.val / 64 = 1 then b (ix2 j l) else 0 := by
  have h := lanes_apply j l
  have : l.val / 64 = 0 ∨ l.val / 64 = 1 := by omega
  pointwise [part1, zeroBlk]
  rw [h]; rcases this with h | h <;> simp only [h, ↓reduceIte, one_ne_zero, zero_ne_one] <;> rfl

/-- Either part, by its number. -/
def partN (h : Fin 2) (b : FVec Ideal S128x128 .bf16) : FVec Ideal S128x128 .bf16 := match h with | 0 => part0 laneMask b | 1 => part1 laneMask b

theorem partN_apply (h : Fin 2) (b : FVec Ideal S128x128 .bf16) (j l : Fin 128) :
    partN h b (ix2 j l) = if l.val / 64 = h.val then b (ix2 j l) else 0 := by
  match h with
  | 0 => exact part0_apply b j l
  | 1 => exact part1_apply b j l

/-- A block split by heads. -/
theorem split1_apply (b : FVec Ideal S128x128 .bf16) (c : Fin 256) (l : Fin 128) :
    split1 laneMask b (ix2 c l) = if l.val / 64 = c.val / 128 then b (ix2 ⟨c.val % 128, Nat.mod_lt _ (by decide)⟩ l) else 0 := by
  have e : split1 laneMask b = concatenate S256x128 0 (List.ofFn fun n : Fin 2 => (⟨S128x128, partN n b⟩ : (s : Shape) × (s.Idx → EReal)))
    concatenates_S128x128_S128x128_S256x128_d0 := rfl
  rw [e, concatenate_ofFn_apply (t := S256x128) (s₁ := S128x128) 0 (fun n : Fin 2 => partN n b) concatenates_S128x128_S128x128_S256x128_d0 rfl 128 rfl
    (ix2 c l) ⟨c.val / 128, by omega⟩ rfl (ix2 ⟨c.val % 128, Nat.mod_lt _ (by decide)⟩ l) rfl
    (by intro b hb; match b with | 0 => exact absurd rfl hb | 1 => rfl), partN_apply]

/-- A block of the window. -/
def blkN (n : Fin 4) (w : Vec Ideal S1x1x512x128 .bf16) : FVec Ideal S128x128 .bf16 :=
  let x : FVec Ideal S512x128 .bf16 := shapeCast S512x128 w shapeCasts_S1x1x512x128_S512x128
  match n with
  | 0 => extractStridedSlice S128x128 ![0, 0] x slices_S512x128_o0_0_S128x128
  | 1 => extractStridedSlice S128x128 ![128, 0] x slices_S512x128_o128_0_S128x128
  | 2 => extractStridedSlice S128x128 ![256, 0] x slices_S512x128_o256_0_S128x128
  | 3 => extractStridedSlice S128x128 ![384, 0] x slices_S512x128_o384_0_S128x128

theorem blkN_apply (n : Fin 4) (w : Vec Ideal S1x1x512x128 .bf16) (j l : Fin 128) :
    blkN n w (ix2 j l) = w (ix4 0 0 ⟨128 * n.val + j.val, by omega⟩ l) := by
  match n with
  | 0 => pointwise [blkN]
  | 1 => pointwise [blkN]
  | 2 => pointwise [blkN]
  | 3 => pointwise [blkN]

/-- The window split by heads. -/
theorem split4_apply (w : Vec Ideal S1x1x512x128 .bf16) (c : Fin 1024) (l : Fin 128) :
    split4 laneMask w (ix2 c l) = if l.val / 64 = c.val / 128 % 2 then w (ix4 0 0 ⟨128 * (c.val / 256) + c.val % 128, by omega⟩ l) else 0 := by
  have e : split4 laneMask w = concatenate S1024x128 0 (List.ofFn fun n : Fin 8 => (⟨S128x128, partN ⟨n.val % 2, Nat.mod_lt _ (by decide)⟩ (blkN ⟨n.val / 2, by omega⟩ w)⟩ : (s : Shape) × (s.Idx → EReal)))
    concatenates_S128x128_S128x128_S128x128_S128x128_S128x128_S128x128_S128x128_S128x128_S1024x128_d0 := rfl
  rw [e, concatenate_ofFn_apply (t := S1024x128) (s₁ := S128x128) 0 (fun n : Fin 8 => partN ⟨n.val % 2, Nat.mod_lt _ (by decide)⟩ (blkN ⟨n.val / 2, by omega⟩ w)) concatenates_S128x128_S128x128_S128x128_S128x128_S128x128_S128x128_S128x128_S128x128_S1024x128_d0 rfl 128 rfl
    (ix2 c l) ⟨c.val / 128, by omega⟩ rfl (ix2 ⟨c.val % 128, Nat.mod_lt _ (by decide)⟩ l) rfl
    (by intro b hb; match b with | 0 => exact absurd rfl hb | 1 => rfl), partN_apply, blkN_apply]
  have : c.val / 128 / 2 = c.val / 256 := by omega
  simp only [this]

/-- The scale of the scores. -/
def scale : EReal := Ideal.ofBits .bf16 0x3E00#16

theorem scores_apply (q : Vec Ideal S1x1x256x128 .bf16) (kw : Vec Ideal S1x1x512x128 .bf16) (r : Fin 256) (c : Fin 1024) :
    scores laneMask q kw (ix2 r c)
      = ∑ l : Fin 128, q (ix4 0 0 r l) * scale * (if l.val / 64 = c.val / 128 % 2 then kw (ix4 0 0 ⟨128 * (c.val / 256) + c.val % 128, by omega⟩ l) else 0) := by
  refine Eq.trans (b := ∑ l : Fin 128, q (ix4 0 0 r l) * scale * split4 laneMask kw (ix2 c l)) ?_
    (Finset.sum_congr rfl fun l _ => congrArg _ (split4_apply kw c l))
  pointwise [scores, scaled]
  rfl

theorem clamp_top : (Named.named (F := Ideal) (φ := .f32) κ "exp_clamp" 0x42B00000#32) = (⊤ : EReal) := by
  rfl
theorem dead_top : (Named.named (F := Ideal) (φ := .f32) κ "dead_mass" 0x42D00000#32) = (⊤ : EReal) := by
  rfl

theorem soft_apply {s : Shape} (z : FVec Ideal s .f32) (j : s.Idx) : soft z j = Rows.sp (z j) := by
  have h := clamp_top
  pointwise [soft, Rows.sp]
  simp only [h]
  simp

theorem below_slt : ∀ (r : Fin 128) (c : Fin 256),
    IntOp.cmpi .slt (IntOp.andi (BitVec.ofNat 32 c.val) 127#32) (BitVec.ofNat 32 r.val) = if c.val % 128 < r.val then 1#1 else 0#1 := by decide +kernel

theorem belowMask_apply (r : Fin 128) (c : Fin 256) : belowMask (ix2 r c) = if c.val % 128 < r.val then 1#1 else 0#1 := by
  pointwise [belowMask, k0_pay27]
  exact below_slt r c

theorem diag_apply (x : FVec Ideal S128x256 .f32) (r : Fin 128) (c : Fin 256) :
    diag belowMask x (ix2 r c) = if c.val % 128 < r.val then x (ix2 r c) else 0 := by
  have h := belowMask_apply r c
  pointwise [diag]
  rw [h]; split <;> rfl

/-- The suffix-sum operator sums, within a head's half, the entries from the column's own on. -/
def IsTri (v9 : FVec Ideal S256x256 .bf16) : Prop :=
  ∀ i c : Fin 256, v9 (ix2 i c) = if i.val / 128 = c.val / 128 ∧ c.val % 128 ≤ i.val % 128 then 1 else 0

/-- Column `j` of head `h`. -/
def colOf (h : Fin 2) (j : Fin 128) : Fin 256 := ⟨128 * h.val + j.val, by omega⟩

theorem sum_cols (f : Fin 256 → EReal) : ∑ i, f i = ∑ h : Fin 2, ∑ j : Fin 128, f (colOf h j) := by
  rw [Fin.sum_univ_two, Fin.sum_univ_two_halves 128 128 rfl f]
  congr 1
  all_goals exact Finset.sum_congr rfl fun j _ => congrArg f (Fin.ext (by simp [colOf]))

theorem tri_sum {v9 : FVec Ideal S256x256 .bf16} (ht : IsTri v9) (f : Fin 256 → EReal) (h : Fin 2) (j : Fin 128) :
    ∑ i : Fin 256, f i * v9 (ix2 i (colOf h j)) = ∑ i : Fin 128, if j.val ≤ i.val then f (colOf h i) else 0 := by
  rw [sum_cols]
  have e : ∀ (h' : Fin 2) (i : Fin 128), f (colOf h' i) * v9 (ix2 (colOf h' i) (colOf h j))
      = if h' = h then (if j.val ≤ i.val then f (colOf h i) else 0) else 0 := by
    intro h' i
    rw [ht]
    have a1 : (colOf h' i).val / 128 = h'.val := by simp only [colOf]; omega
    have a2 : (colOf h j).val / 128 = h.val := by simp only [colOf]; omega
    have a3 : (colOf h' i).val % 128 = i.val := by simp only [colOf]; omega
    have a4 : (colOf h j).val % 128 = j.val := by simp only [colOf]; omega
    rw [a1, a2, a3, a4]
    by_cases hh : h' = h
    · subst hh; by_cases hj : j.val ≤ i.val <;> simp [hj]
    · have : ¬ h'.val = h.val := fun e => hh (Fin.ext e)
      simp [hh, this]
  simp only [e]
  rw [Finset.sum_comm]
  refine Finset.sum_congr rfl fun i _ => ?_
  simp

theorem lat0_apply (v9 : FVec Ideal S256x256 .bf16) (z0 z1 z2 : FVec Ideal S128x256 .f32) (r : Fin 128) (c : Fin 256) :
    lat0 (later3 belowMask v9 z0 z1 z2) (ix2 r c) = ∑ i : Fin 256, soft z0 (ix2 r i) * v9 (ix2 i c) := by
  pointwise [lat0, later3]
theorem lat1_apply (v9 : FVec Ideal S256x256 .bf16) (z0 z1 z2 : FVec Ideal S128x256 .f32) (r : Fin 128) (c : Fin 256) :
    lat1 (later3 belowMask v9 z0 z1 z2) (ix2 r c) = ∑ i : Fin 256, soft z1 (ix2 r i) * v9 (ix2 i c) := by
  pointwise [lat1, later3]
theorem lat2_apply (v9 : FVec Ideal S256x256 .bf16) (z0 z1 z2 : FVec Ideal S128x256 .f32) (r : Fin 128) (c : Fin 256) :
    lat2 (later3 belowMask v9 z0 z1 z2) (ix2 r c) = ∑ i : Fin 256, diag belowMask (soft z2) (ix2 r i) * v9 (ix2 i c) := by
  pointwise [lat2, later3]
  have h1 : ¬ 256 + r.val < 128 := by omega
  have h2 : ¬ 256 + r.val - 128 < 128 := by omega
  have h3 : 256 + r.val - 128 - 128 = r.val := by omega
  simp only [h1, h2, h3, ↓reduceDIte]

theorem laneMass_apply (m0 m1 : FVec Ideal S128x1 .f32) (r : Fin 128) (h : Fin 2) (j : Fin 128) :
    laneMass m0 m1 (ix2 r (colOf h j)) = if h = 0 then m0 (ix2 r 0) else m1 (ix2 r 0) := by
  match h with
  | 0 => pointwise [laneMass, colOf]
  | 1 => pointwise [laneMass, colOf]

end Cert.Proof.KernelIdeal

end
-- ==== Proof.Value.Half.lean ====
/- A half of a unit's fast pass, row by row: what it stores is the weighted values of the keys from its first block on, and
   what it counts is their mass. -/
module

public import proofs.«01_k».proof.Proof.Value.FastIdx

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- Column `j` of head `h` of block `n` of three. -/
def wcol (n : Fin 3) (h : Fin 2) (j : Fin 128) : Fin 768 := ⟨256 * n.val + (128 * h.val + j.val), by omega⟩

theorem sum_split (m n : ℕ) (f : Fin (m * n) → EReal) : ∑ i, f i = ∑ a : Fin m, ∑ b : Fin n, f (finProdFinEquiv (a, b)) := by
  rw [← finProdFinEquiv.sum_comp, Fintype.sum_prod_type]

theorem sum_wcol (f : Fin 768 → EReal) : ∑ i, f i = ∑ n : Fin 3, ∑ h : Fin 2, ∑ j : Fin 128, f (wcol n h j) := by
  refine (sum_split 3 256 f).trans (Finset.sum_congr rfl fun n _ => ?_)
  rw [sum_cols]
  refine Finset.sum_congr rfl fun h _ => Finset.sum_congr rfl fun j _ => congrArg f (Fin.ext ?_)
  show 128 * h.val + j.val + 256 * n.val = 256 * n.val + (128 * h.val + j.val)
  omega

section Weights
variable (v9 : FVec Ideal S256x256 .bf16) (ht : IsTri v9) (z0 z1 z2 : FVec Ideal S128x256 .f32)
  (r : Fin 128) (h : Fin 2) (z : ℕ → EReal) (a T : ℕ) (hT : T = a + 256 + r.val) (ha : a + 384 ≤ 2560)
  (hz0 : ∀ j : Fin 128, z0 (ix2 r (colOf h j)) = z (a + j.val))
  (hz1 : ∀ j : Fin 128, z1 (ix2 r (colOf h j)) = z (a + 128 + j.val))
  (hz2 : ∀ j : Fin 128, z2 (ix2 r (colOf h j)) = z (a + 256 + j.val))

include ht hT hz0 in
theorem lat0_row (j : Fin 128) : lat0 (later3 belowMask v9 z0 z1 z2) (ix2 r (colOf h j)) = Rows.L z T a j.val := by
  rw [lat0_apply, tri_sum ht]
  refine Finset.sum_congr rfl fun i _ => ?_
  rw [soft_apply, hz0, Rows.g, if_pos (show a + i.val < T by omega)]

include ht hT hz1 in
theorem lat1_row (j : Fin 128) : lat1 (later3 belowMask v9 z0 z1 z2) (ix2 r (colOf h j)) = Rows.L z T (a + 128) j.val := by
  rw [lat1_apply, tri_sum ht]
  refine Finset.sum_congr rfl fun i _ => ?_
  rw [soft_apply, hz1, Rows.g, if_pos (show a + 128 + i.val < T by omega)]

include ht hT hz2 in
theorem lat2_row (j : Fin 128) : lat2 (later3 belowMask v9 z0 z1 z2) (ix2 r (colOf h j)) = Rows.L z T (a + 256) j.val := by
  rw [lat2_apply, tri_sum ht]
  refine Finset.sum_congr rfl fun i _ => ?_
  rw [diag_apply, soft_apply, hz2, Rows.g]
  have : (colOf h i).val % 128 = i.val := by simp only [colOf]; omega
  rw [this]
  have : i.val < r.val ↔ a + 256 + i.val < T := by omega
  simp only [this]

/-- A head's total. -/
def totH (h : Fin 2) (l : FVec Ideal S128x256 .f32) : FVec Ideal S128x1 .f32 := match h with | 0 => tot0 l | 1 => tot1 l

theorem totH_apply (l : FVec Ideal S128x256 .f32) : totH h l (ix2 r 0) = l (ix2 r (colOf h 0)) := by
  match h with
  | 0 => pointwise [totH, tot0, colOf]
  | 1 => pointwise [totH, tot1, colOf]

theorem laneMass_totH (x0 x1 : FVec Ideal S128x1 .f32) (j : Fin 128) (m : EReal) (h0 : h = 0 → x0 (ix2 r 0) = m) (h1 : h = 1 → x1 (ix2 r 0) = m) :
    laneMass x0 x1 (ix2 r (colOf h j)) = m := by
  rw [laneMass_apply]
  match h with
  | 0 => exact h0 rfl
  | 1 => exact h1 rfl

/-- The three blocks' weights, by the block's number. -/
def wBlk (l : FVec Ideal S384x256 .f32) (n : Fin 3) : FVec Ideal S128x256 .f32 := match n with
  | 0 => exp (subf (subf z0 (lat0 l)) (laneMass (addf (tot0 (lat2 l)) (tot0 (lat1 l))) (addf (tot1 (lat2 l)) (tot1 (lat1 l)))))
  | 1 => exp (subf (subf z1 (lat1 l)) (laneMass (tot0 (lat2 l)) (tot1 (lat2 l))))
  | 2 => diag belowMask (exp (subf z2 (lat2 l)))

theorem weights3_wBlk (l : FVec Ideal S384x256 .f32) (n : Fin 3) (j : Fin 128) :
    weights3 belowMask z0 z1 z2 l (ix2 r (wcol n h j)) = wBlk z0 z1 z2 l n (ix2 r (colOf h j)) := by
  have e : weights3 belowMask z0 z1 z2 l = concatenate S128x768 1 (List.ofFn fun n : Fin 3 => (⟨S128x256, wBlk z0 z1 z2 l n⟩ : (s : Shape) × (s.Idx → EReal)))
    concatenates_S128x256_S128x256_S128x256_S128x768_d1 := rfl
  rw [e, concatenate_ofFn_apply (t := S128x768) (s₁ := S128x256) 1 (fun n : Fin 3 => wBlk z0 z1 z2 l n) concatenates_S128x256_S128x256_S128x256_S128x768_d1 rfl 256 rfl
    (ix2 r (wcol n h j)) n (by show (256 * n.val + (128 * h.val + j.val)) / 256 = n.val; omega) (ix2 r (colOf h j))
    (by show 128 * h.val + j.val = (256 * n.val + (128 * h.val + j.val)) % 256; omega)
    (by intro b hb; match b with | 0 => rfl | 1 => exact absurd rfl hb)]

/-- The weights of the three blocks. -/
theorem weights3_apply (l : FVec Ideal S384x256 .f32) (n : Fin 3) (j : Fin 128) :
    weights3 belowMask z0 z1 z2 l (ix2 r (wcol n h j)) = match n with
      | 0 => Ideal.exp (z0 (ix2 r (colOf h j)) - lat0 l (ix2 r (colOf h j)) - (totH h (lat2 l) (ix2 r 0) + totH h (lat1 l) (ix2 r 0)))
      | 1 => Ideal.exp (z1 (ix2 r (colOf h j)) - lat1 l (ix2 r (colOf h j)) - totH h (lat2 l) (ix2 r 0))
      | 2 => if j.val < r.val then Ideal.exp (z2 (ix2 r (colOf h j)) - lat2 l (ix2 r (colOf h j))) else 0 := by
  rw [weights3_wBlk]
  match n with
  | 0 =>
    rw [← laneMass_totH r h (addf (tot0 (lat2 l)) (tot0 (lat1 l))) (addf (tot1 (lat2 l)) (tot1 (lat1 l))) j
      (totH h (lat2 l) (ix2 r 0) + totH h (lat1 l) (ix2 r 0)) (fun e => by subst e; rfl) (fun e => by subst e; rfl)]
    rfl
  | 1 =>
    rw [← laneMass_totH r h (tot0 (lat2 l)) (tot1 (lat2 l)) j
      (totH h (lat2 l) (ix2 r 0)) (fun e => by subst e; rfl) (fun e => by subst e; rfl)]
    rfl
  | 2 =>
    have hd := diag_apply (exp (subf z2 (lat2 l))) r (colOf h j)
    have e2 : (colOf h j).val % 128 = j.val := by simp only [colOf]; omega
    rw [e2] at hd
    exact hd

include ht hT ha hz0 hz1 hz2 in
theorem weights3_row (n : Fin 3) (j : Fin 128) :
    weights3 belowMask z0 z1 z2 (later3 belowMask v9 z0 z1 z2) (ix2 r (wcol n h j)) = Rows.W z T (a + 128 * n.val + j.val) := by
  rw [weights3_apply, Rows.W_block z T (by omega) (by omega)]
  have M3 : Rows.M z T (a + 384) = 0 := Rows.M_of_le z T (by omega)
  have M2 : Rows.M z T (a + 256) = Rows.L z T (a + 256) 0 := by
    have := Rows.M_block z T (a := a + 256) (j := 0) (by omega) (by omega)
    rw [show a + 256 + 128 = a + 384 by omega, M3] at this; exact this.trans (add_zero _)
  have M1 : Rows.M z T (a + 128) = Rows.L z T (a + 128) 0 + Rows.L z T (a + 256) 0 := by
    have := Rows.M_block z T (a := a + 128) (j := 0) (by omega) (by omega)
    rw [show a + 128 + 128 = a + 256 by omega, M2] at this; exact this
  have e0 := lat0_row v9 ht z0 z1 z2 r h z a T hT hz0
  have e1 := lat1_row v9 ht z0 z1 z2 r h z a T hT hz1
  have e2 := lat2_row v9 ht z0 z1 z2 r h z a T hT hz2
  match n with
  | 0 =>
    simp only [totH_apply, e0, e1, e2, hz0]
    simp only [Fin.val_zero, mul_zero, add_zero]
    rw [if_pos (by omega), M1, add_comm (Rows.L z T (a + 256) 0)]
  | 1 =>
    simp only [totH_apply, e0, e1, e2, hz1]
    simp only [Fin.val_one, mul_one]
    rw [if_pos (by omega), show a + 128 + 128 = a + 256 by omega, M2]
    rfl
  | 2 =>
    simp only [totH_apply, e0, e1, e2, hz2]
    simp only [Fin.val_two, show 128 * 2 = 256 by rfl]
    rw [show a + 256 + 128 = a + 384 by omega, M3, sub_eq_add_neg _ (0 : EReal), neg_zero, add_zero]
    have : j.val < r.val ↔ a + 256 + j.val < T := by omega
    simp only [this]

include ht hT ha hz0 hz1 hz2 in
/-- A dead half's rows have infinite mass. -/
theorem dead_row (hd : ∀ (r : Fin 128) (h : Fin 2), totH h (lat2 (later3 belowMask v9 z0 z1 z2)) (ix2 r 0) + totH h (lat1 (later3 belowMask v9 z0 z1 z2)) (ix2 r 0)
      + totH h (lat0 (later3 belowMask v9 z0 z1 z2)) (ix2 r 0) = (⊤ : EReal)) : Rows.M z T a = ⊤ := by
  have M3 : Rows.M z T (a + 384) = 0 := Rows.M_of_le z T (by omega)
  have M2 : Rows.M z T (a + 256) = Rows.L z T (a + 256) 0 := by
    have := Rows.M_block z T (a := a + 256) (j := 0) (by omega) (by omega)
    rw [show a + 256 + 128 = a + 384 by omega, M3] at this; exact this.trans (add_zero _)
  have M1 : Rows.M z T (a + 128) = Rows.L z T (a + 128) 0 + Rows.L z T (a + 256) 0 := by
    have := Rows.M_block z T (a := a + 128) (j := 0) (by omega) (by omega)
    rw [show a + 128 + 128 = a + 256 by omega, M2] at this; exact this
  have M0 := Rows.M_block z T (a := a) (j := 0) (by omega) (by omega)
  rw [add_zero, M1] at M0
  have := hd r h
  rw [totH_apply, totH_apply, totH_apply, lat0_row v9 ht z0 z1 z2 r h z a T hT hz0, lat1_row v9 ht z0 z1 z2 r h z a T hT hz1,
    lat2_row v9 ht z0 z1 z2 r h z a T hT hz2] at this
  rw [M0, ← this, add_comm (Rows.L z T a 0), add_comm (Rows.L z T (a + 128) 0)]
  rfl

end Weights

/-- A half's rows. -/
theorem halfOut_apply (w : FVec Ideal S128x768 .f32) (vv : FVec Ideal S768x128 .bf16) (r l : Fin 128) :
    halfOut w vv (ix4 0 0 r l) = ∑ c : Fin 768, w (ix2 r c) * vv (ix2 c l) := by
  pointwise [halfOut]

/-- The rows are the weighted values of the keys from the first block on. -/
theorem half_row (w : FVec Ideal S128x768 .f32) (vv : FVec Ideal S768x128 .bf16) (r l : Fin 128) (h : Fin 2) (hl : l.val / 64 = h.val)
    (z v : ℕ → EReal) (a T : ℕ) (hT : T = a + 256 + r.val) (ha : a + 384 ≤ 2560)
    (hw : ∀ (n : Fin 3) (j : Fin 128), w (ix2 r (wcol n h j)) = Rows.W z T (a + 128 * n.val + j.val))
    (hv : ∀ (n : Fin 3) (h' : Fin 2) (j : Fin 128), vv (ix2 (wcol n h' j) l) = if l.val / 64 = h'.val then v (a + 128 * n.val + j.val) else 0) :
    halfOut w vv (ix4 0 0 r l) = Rows.A z v T a := by
  rw [halfOut_apply, sum_wcol]
  have e : ∀ n : Fin 3, ∑ h' : Fin 2, ∑ j : Fin 128, w (ix2 r (wcol n h' j)) * vv (ix2 (wcol n h' j) l)
      = ∑ j : Fin 128, Rows.W z T (a + 128 * n.val + j.val) * v (a + 128 * n.val + j.val) := by
    intro n
    rw [Finset.sum_eq_single h]
    · refine Finset.sum_congr rfl fun j _ => ?_
      rw [hw, hv, if_pos hl]
    · intro h' _ hh
      refine Finset.sum_eq_zero fun j _ => ?_
      rw [hv, if_neg (fun e => hh (Fin.ext (by omega))), mul_zero]
    · intro hh; exact absurd (Finset.mem_univ _) hh
  simp only [e, Fin.sum_univ_three]
  rw [Rows.A_block z v T (a := a) (by omega), Rows.A_block z v T (a := a + 128) (by omega), Rows.A_block z v T (a := a + 128 + 128) (by omega),
    Rows.A_of_le z v T (by omega), add_zero, add_assoc]
  simp only [Fin.val_zero, Fin.val_one, Fin.val_two, mul_zero, mul_one, add_zero, add_assoc]
  rfl

theorem s1_all (a b : S1.Idx) : a = b := funext fun x => by
  match x with
  | 0 =>
    have h1 : (a 0).val < 1 := (a 0).isLt
    have h2 : (b 0).val < 1 := (b 0).isLt
    exact Fin.ext (by omega)

/-- A minimum that is infinite is of infinite values. -/
theorem min_top {s t : Shape} {axes : List (Fin s.rank)} (src : FVec Ideal s .f32) (acc : BitVec 32) (h : s.Reduces axes t) (hφ : FKind.Formats .f32)
    (hacc : acc = FKind.minimumf.neutral .f32 hφ) (j : t.Idx) (hx : multiReduction .minimumf axes t src acc h hφ hacc j = (⊤ : EReal))
    (i : s.Idx) (hi : h.drop i = j) : src i = (⊤ : EReal) := by
  rw [multiReduction_minimumf_eq_fold] at hx
  have h1 : (⊤ : EReal) ≤ Finset.fold min (FloatOps.ofBits (F := Ideal) .f32 acc) src (Finset.univ.filter fun i => h.drop i = j) := le_of_eq hx.symm
  rw [Finset.le_fold_min] at h1
  exact top_le_iff.1 (h1.2 i (Finset.mem_filter.2 ⟨Finset.mem_univ _, hi⟩))

theorem not_olt_top {x : EReal} (h : ¬ Scalar.cmpf (F := Ideal) (φ := .f32) .olt x (⊤ : EReal) = 1#1) : x = ⊤ := by
  by_contra hx
  apply h
  show BitVec.ofBool (decide (x < ⊤)) = 1#1
  rw [decide_eq_true (lt_top_iff_ne_top.2 hx)]; rfl

/-- A half that is not alive is dead in every row of either head. -/
theorem halfAlive_dead (l : FVec Ideal S384x256 .f32) (hl : ¬ halfAlive l = 1#1) (r : Fin 128) (h : Fin 2) :
    totH h (lat2 l) (ix2 r 0) + totH h (lat1 l) (ix2 r 0) + totH h (lat0 l) (ix2 r 0) = (⊤ : EReal) := by
  unfold halfAlive at hl
  rw [dead_top] at hl
  have h1 := not_olt_top hl
  rw [show ∀ x : FVec Ideal S1 .f32, extractAt ![0, 0, 0] (shapeCast S1x1x1 x shapeCasts_S1_S1x1x1) inpos_S1x1x1_p0_0_0 = x (ix1 0) from
    fun x => congrArg x (s1_all _ _)] at h1
  have h2 := min_top _ _ _ _ _ _ h1 (ix3 0 r 0) (s1_all _ _)
  have h3 : ∀ x : FVec Ideal S128x1 .f32, shapeCast S1x128x1 x shapeCasts_S128x1_S1x128x1 (ix3 0 r 0) = x (ix2 r 0) := fun x => by pointwise
  rw [h3] at h2
  have h4 : (⊤ : EReal) ≤ min (tot0 (lat2 l) (ix2 r 0) + tot0 (lat1 l) (ix2 r 0) + tot0 (lat0 l) (ix2 r 0))
      (tot1 (lat2 l) (ix2 r 0) + tot1 (lat1 l) (ix2 r 0) + tot1 (lat0 l) (ix2 r 0)) := le_of_eq h2.symm
  match h with
  | 0 => exact top_le_iff.1 (h4.trans (min_le_left _ _))
  | 1 => exact top_le_iff.1 (h4.trans (min_le_right _ _))

end Cert.Proof.KernelIdeal

end
-- ==== Proof.Value.Unit.lean ====
/- A unit's fast pass in the coordinates of its grid point: the row's scores and values by padded key position. -/
module

public import proofs.«01_k».proof.Proof.Value.Half
public import Idealize.ShloMosaic.Lib.Pipeline.ValueKit.Tiles

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- A query row's scores against the keys by padded position, in pair `p` and head `h` of it. -/
def zRow (x0 : Vec Ideal S1x8x512x128 .bf16) (x1 : Vec Ideal S1x8x2560x128 .bf16) (p : Fin 8) (R : Fin 512) (h : Fin 2) (s : ℕ) : EReal :=
  if hs : s < 2560 then ∑ l : Fin 128, x0 (ix4 0 p R l) * scale * (if l.val / 64 = h.val then x1 (ix4 0 p ⟨s, hs⟩ l) else 0) else 0

/-- A lane's values by padded position. -/
def vCol (x2 : Vec Ideal S1x8x2560x128 .bf16) (p : Fin 8) (l : Fin 128) (s : ℕ) : EReal :=
  if hs : s < 2560 then x2 (ix4 0 p ⟨s, hs⟩ l) else 0

/-- How many padded keys come before a query row of the grid point. -/
def tRow (i : grid0.Coords) (R : Fin 512) : ℕ := 512 + 512 * (i 1).val + R.val

/-- Head of a lane. -/
def hd (l : Fin 128) : Fin 2 := ⟨l.val / 64, by omega⟩

/-- The grid point's result at a row and a lane. -/
def attnAt (i : grid0.Coords) (x0 : Vec Ideal S1x8x512x128 .bf16) (x1 x2 : Vec Ideal S1x8x2560x128 .bf16) (p : Fin 8) (R : Fin 512) (l : Fin 128) : EReal :=
  Rows.A (zRow x0 x1 p R (hd l)) (vCol x2 p l) (tRow i R) 0

theorem winOff_val : ∀ (a : Fin 4) (sub : Fin 2),
    (Scalar.indexCast (Scalar.muli (Scalar.subi (Scalar.addi (Scalar.muli 2#32 (Scalar.addi (Scalar.muli 2#32 (BitVec.ofNat 32 a.val)) (BitVec.ofNat 32 sub.val))) 4#32) 2#32) 128#32)).toNat
      = 128 * (4 * a.val + 2 * sub.val + 2) := by decide +kernel

/-- The padded position at which a unit's window begins. -/
def winAt (i : grid0.Coords) (sub : Fin 2) : ℕ := 128 * (4 * (i 1).val + 2 * sub.val + 2)

theorem winAt_le (i : grid0.Coords) (sub : Fin 2) : winAt i sub + 512 ≤ 2560 := by
  have : (i 1).val < 4 := (i 1).isLt
  unfold winAt; omega

section Unit
variable (i : grid0.Coords) (sub : Fin 2) (p : Fin 8) (x0 : Vec Ideal S1x8x512x128 .bf16) (x1 x2 : Vec Ideal S1x8x2560x128 .bf16)

theorem unitWin_apply (x : Vec Ideal S1x8x2560x128 .bf16) (y : Fin 512) (l : Fin 128) :
    unitWin i sub p x (ix4 0 0 y l) = x (ix4 0 p ⟨winAt i sub + y.val, by have := winAt_le i sub; omega⟩ l) := by
  refine View.ld_unit_apply_of _ _ _ _ _ _ fun a => ?_
  match a with
  | 0 => rfl
  | 1 => rfl
  | 2 => show winAt i sub + y.val = k0_off1 i (BitVec.ofNat 32 sub.val) 2 + y.val; congr 1; exact (winOff_val (i 1) sub).symm
  | 3 => show l.val = 0 + l.val; omega

theorem unitRows_apply (y : Fin 256) (l : Fin 128) :
    unitRows sub p x0 (ix4 0 0 y l) = x0 (ix4 0 p ⟨256 * sub.val + y.val, by omega⟩ l) := by
  refine View.ld_unit_apply_of _ _ _ _ _ _ fun a => ?_
  match a with
  | 0 => rfl
  | 1 => rfl
  | 2 => rfl
  | 3 => show l.val = 0 + l.val; omega

/-- The unit's scores are its rows' scores. -/
theorem scores_row (y : Fin 256) (n : Fin 4) (h : Fin 2) (j : Fin 128) :
    scores laneMask (unitRows sub p x0) (unitWin i sub p x1) (ix2 y ⟨256 * n.val + (colOf h j).val, by have := (colOf h j).isLt; omega⟩)
      = zRow x0 x1 p ⟨256 * sub.val + y.val, by omega⟩ h (winAt i sub + 128 * n.val + j.val) := by
  have hw := winAt_le i sub
  rw [scores_apply, zRow, dif_pos (by omega)]
  refine Finset.sum_congr rfl fun l _ => ?_
  rw [unitRows_apply, unitWin_apply]
  have e1 : (256 * n.val + (colOf h j).val) / 128 % 2 = h.val := by simp only [colOf]; omega
  have e2 : winAt i sub + (128 * ((256 * n.val + (colOf h j).val) / 256) + (256 * n.val + (colOf h j).val) % 128) = winAt i sub + 128 * n.val + j.val := by
    simp only [colOf]; omega
  simp only [e1, e2]

theorem zTop_row (r : Fin 128) (n : Fin 4) (h : Fin 2) (j : Fin 128) :
    zTop laneMask (unitRows sub p x0) (unitWin i sub p x1) (ix2 r ⟨256 * n.val + (colOf h j).val, by have := (colOf h j).isLt; omega⟩)
      = zRow x0 x1 p ⟨256 * sub.val + r.val, by omega⟩ h (winAt i sub + 128 * n.val + j.val) := by
  have := scores_row i sub p x0 x1 ⟨r.val, by omega⟩ n h j
  refine Eq.trans ?_ this
  pointwise [zTop]

theorem zBot_row (r : Fin 128) (n : Fin 4) (h : Fin 2) (j : Fin 128) :
    zBot laneMask (unitRows sub p x0) (unitWin i sub p x1) (ix2 r ⟨256 * n.val + (colOf h j).val, by have := (colOf h j).isLt; omega⟩)
      = zRow x0 x1 p ⟨256 * sub.val + 128 + r.val, by omega⟩ h (winAt i sub + 128 * n.val + j.val) := by
  have := scores_row i sub p x0 x1 ⟨128 + r.val, by omega⟩ n h j
  have e : (⟨256 * sub.val + (128 + r.val), by omega⟩ : Fin 512) = ⟨256 * sub.val + 128 + r.val, by omega⟩ := Fin.ext (by simp only; omega)
  rw [e] at this
  refine Eq.trans ?_ this
  pointwise [zBot]

theorem col0_apply (z : FVec Ideal S128x1024 .f32) (r : Fin 128) (c : Fin 256) : col0 z (ix2 r c) = z (ix2 r ⟨256 * (0 : Fin 4).val + c.val, by have := c.isLt; simp; omega⟩) := by
  pointwise [col0]
theorem col1_apply (z : FVec Ideal S128x1024 .f32) (r : Fin 128) (c : Fin 256) : col1 z (ix2 r c) = z (ix2 r ⟨256 * (1 : Fin 4).val + c.val, by have := c.isLt; simp; omega⟩) := by
  pointwise [col1]
theorem col2_apply (z : FVec Ideal S128x1024 .f32) (r : Fin 128) (c : Fin 256) : col2 z (ix2 r c) = z (ix2 r ⟨256 * (2 : Fin 4).val + c.val, by have := c.isLt; simp; omega⟩) := by
  pointwise [col2]
theorem col3_apply (z : FVec Ideal S128x1024 .f32) (r : Fin 128) (c : Fin 256) : col3 z (ix2 r c) = z (ix2 r ⟨256 * (3 : Fin 4).val + c.val, by have := c.isLt; simp; omega⟩) := by
  pointwise [col3]

/-- The two halves' values: rows of the split window. -/
theorem vTop_row (n : Fin 3) (h : Fin 2) (j l : Fin 128) :
    (extractStridedSlice S768x128 ![0, 0] (split4 laneMask (unitWin i sub p x2)) slices_S1024x128_o0_0_S768x128 : FVec Ideal S768x128 .bf16) (ix2 (wcol n h j) l)
      = if l.val / 64 = h.val then vCol x2 p l (winAt i sub + 128 * n.val + j.val) else 0 := by
  have hw := winAt_le i sub
  have e := split4_apply (unitWin i sub p x2) ⟨256 * n.val + (128 * h.val + j.val), by omega⟩ l
  rw [unitWin_apply] at e
  rw [vCol, dif_pos (by omega)]
  have e1 : (256 * n.val + (128 * h.val + j.val)) / 128 % 2 = h.val := by omega
  have e2 : winAt i sub + (128 * ((256 * n.val + (128 * h.val + j.val)) / 256) + (256 * n.val + (128 * h.val + j.val)) % 128) = winAt i sub + 128 * n.val + j.val := by omega
  simp only [e1, e2] at e
  rw [← e]
  pointwise [wcol]

theorem vBot_row (n : Fin 3) (h : Fin 2) (j l : Fin 128) :
    (extractStridedSlice S768x128 ![256, 0] (split4 laneMask (unitWin i sub p x2)) slices_S1024x128_o256_0_S768x128 : FVec Ideal S768x128 .bf16) (ix2 (wcol n h j) l)
      = if l.val / 64 = h.val then vCol x2 p l (winAt i sub + 128 + 128 * n.val + j.val) else 0 := by
  have hw := winAt_le i sub
  have e := split4_apply (unitWin i sub p x2) ⟨256 + (256 * n.val + (128 * h.val + j.val)), by omega⟩ l
  rw [unitWin_apply] at e
  rw [vCol, dif_pos (by omega)]
  have e1 : (256 + (256 * n.val + (128 * h.val + j.val))) / 128 % 2 = h.val := by omega
  have e2 : winAt i sub + (128 * ((256 + (256 * n.val + (128 * h.val + j.val))) / 256) + (256 + (256 * n.val + (128 * h.val + j.val))) % 128) = winAt i sub + 128 + 128 * n.val + j.val := by omega
  simp only [e1, e2] at e
  rw [← e]
  pointwise [wcol]

variable (x3 : Vec Ideal S256x256 .bf16) (ht : IsTri (triOf x3))

include ht in
/-- The upper half stores the weighted values of the keys from the window's first block on, … -/
theorem unitTop_row (r l : Fin 128) : unitTop i sub p x0 x1 x2 x3 (ix4 0 0 r l)
    = Rows.A (zRow x0 x1 p ⟨256 * sub.val + r.val, by omega⟩ (hd l)) (vCol x2 p l) (tRow i ⟨256 * sub.val + r.val, by omega⟩) (winAt i sub) := by
  have hw := winAt_le i sub
  have hT : tRow i ⟨256 * sub.val + r.val, by omega⟩ = winAt i sub + 256 + r.val := by unfold tRow winAt; simp only; omega
  refine half_row _ _ r l (hd l) rfl _ _ _ _ hT (by omega) (fun n j => ?_) (fun n h' j => vTop_row i sub p x2 n h' j l)
  refine weights3_row _ ht _ _ _ r (hd l) _ _ _ hT (by omega) (fun j => ?_) (fun j => ?_) (fun j => ?_) n j
  · rw [col0_apply, zTop_row]; rfl
  · rw [col1_apply, zTop_row]; rfl
  · rw [col2_apply, zTop_row]; rfl

include ht in
/-- … the lower half from its second block on. -/
theorem unitBot_row (r l : Fin 128) : unitBot i sub p x0 x1 x2 x3 (ix4 0 0 r l)
    = Rows.A (zRow x0 x1 p ⟨256 * sub.val + 128 + r.val, by omega⟩ (hd l)) (vCol x2 p l) (tRow i ⟨256 * sub.val + 128 + r.val, by omega⟩) (winAt i sub + 128) := by
  have hw := winAt_le i sub
  have hT : tRow i ⟨256 * sub.val + 128 + r.val, by omega⟩ = winAt i sub + 128 + 256 + r.val := by unfold tRow winAt; simp only; omega
  refine half_row _ _ r l (hd l) rfl _ _ _ _ hT (by omega) (fun n j => ?_) (fun n h' j => vBot_row i sub p x2 n h' j l)
  refine weights3_row _ ht _ _ _ r (hd l) _ _ _ hT (by omega) (fun j => ?_) (fun j => ?_) (fun j => ?_) n j
  · rw [col1_apply, zBot_row]; rfl
  · rw [col2_apply, zBot_row]; congr 1
  · rw [col3_apply, zBot_row]; congr 1

theorem lTop_dead (h : ¬ halfAlive (lTop laneMask belowMask (triOf x3) (unitRows sub p x0) (unitWin i sub p x1)) = 1#1) (ht : IsTri (triOf x3)) (r : Fin 128) (hh : Fin 2) :
    Rows.M (zRow x0 x1 p ⟨256 * sub.val + r.val, by omega⟩ hh) (tRow i ⟨256 * sub.val + r.val, by omega⟩) (winAt i sub) = ⊤ := by
  have hw := winAt_le i sub
  have hT : tRow i ⟨256 * sub.val + r.val, by omega⟩ = winAt i sub + 256 + r.val := by unfold tRow winAt; simp only; omega
  refine dead_row _ ht _ _ _ r hh _ _ _ hT (by omega) (fun j => ?_) (fun j => ?_) (fun j => ?_) (halfAlive_dead _ h)
  · rw [col0_apply, zTop_row]; rfl
  · rw [col1_apply, zTop_row]; rfl
  · rw [col2_apply, zTop_row]; rfl

theorem lBot_dead (h : ¬ halfAlive (lBot laneMask belowMask (triOf x3) (unitRows sub p x0) (unitWin i sub p x1)) = 1#1) (ht : IsTri (triOf x3)) (r : Fin 128) (hh : Fin 2) :
    Rows.M (zRow x0 x1 p ⟨256 * sub.val + 128 + r.val, by omega⟩ hh) (tRow i ⟨256 * sub.val + 128 + r.val, by omega⟩) (winAt i sub + 128) = ⊤ := by
  have hw := winAt_le i sub
  have hT : tRow i ⟨256 * sub.val + 128 + r.val, by omega⟩ = winAt i sub + 128 + 256 + r.val := by unfold tRow winAt; simp only; omega
  refine dead_row _ ht _ _ _ r hh _ _ _ hT (by omega) (fun j => ?_) (fun j => ?_) (fun j => ?_) (halfAlive_dead _ h)
  · rw [col1_apply, zBot_row]; rfl
  · rw [col2_apply, zBot_row]; congr 1
  · rw [col3_apply, zBot_row]; congr 1

theorem u_sge : ∀ (a : Fin 4) (sub : Fin 2),
    (1 ≤ 2 * a.val + sub.val → Scalar.cmpi .sge (Scalar.addi (Scalar.muli 2#32 (BitVec.ofNat 32 a.val)) (BitVec.ofNat 32 sub.val)) 1#32 = 1#1)
    ∧ (2 ≤ 2 * a.val + sub.val → Scalar.cmpi .sge (Scalar.addi (Scalar.muli 2#32 (BitVec.ofNat 32 a.val)) (BitVec.ofNat 32 sub.val)) 2#32 = 1#1) := by decide +kernel

theorem bits_or : ∀ a b c d : BitVec 1, ¬ Scalar.ori (Scalar.andi a b) (Scalar.andi c d) = 1#1 → (a = 1#1 → ¬ b = 1#1) ∧ (c = 1#1 → ¬ d = 1#1) := by decide

include ht in
/-- A unit whose bit is clear has its result from the fast pass. -/
theorem unit_done (hm : ¬ unitMore i sub p x0 x1 x3 = 1#1) (hp : ∀ (s : ℕ) (l : Fin 128), s < 512 → vCol x2 p l s = 0) (r l : Fin 128) :
    unitTop i sub p x0 x1 x2 x3 (ix4 0 0 r l) = attnAt i x0 x1 x2 p ⟨256 * sub.val + r.val, by omega⟩ l
    ∧ unitBot i sub p x0 x1 x2 x3 (ix4 0 0 r l) = attnAt i x0 x1 x2 p ⟨256 * sub.val + 128 + r.val, by omega⟩ l := by
  have hw := winAt_le i sub
  obtain ⟨h1, h2⟩ := bits_or _ _ _ _ hm
  obtain ⟨u1, u2⟩ := u_sge (i 1) sub
  rw [unitTop_row i sub p x0 x1 x2 x3 ht, unitBot_row i sub p x0 x1 x2 x3 ht]
  constructor
  · by_cases hu : 2 ≤ 2 * (i 1).val + sub.val
    · exact (Rows.A_dead _ _ _ (Nat.zero_le _) (by omega) (lTop_dead i sub p x0 x1 x3 (h2 (u2 hu)) ht r (hd l))).symm
    · exact (Rows.A_pad _ _ _ (Nat.zero_le _) (by omega) (fun s hs => hp s l (by unfold winAt at hs; omega))).symm
  · by_cases hu : 1 ≤ 2 * (i 1).val + sub.val
    · exact (Rows.A_dead _ _ _ (Nat.zero_le _) (by omega) (lBot_dead i sub p x0 x1 x3 (h1 (u1 hu)) ht r (hd l))).symm
    · exact (Rows.A_pad _ _ _ (Nat.zero_le _) (by omega) (fun s hs => hp s l (by unfold winAt at hs; omega))).symm

end Unit

end Cert.Proof.KernelIdeal

end
-- ==== Proof.Value.SlowOps.lean ====
/- The exact pass as a function of one key block at a time: 256 query rows, the block's scores and suffix sums, and the
   accumulator and masses after it. -/
module

public import proofs.«01_k».proof.Proof.Value.Unit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

section Defs
variable {F : FTy → Type} [FloatOps F] [Named F]

/-- A block's rows split by heads. -/
def splitB (v2 : IVec S1x128 1) (b : Vec F S1x1x128x128 .bf16) : FVec F S256x128 .bf16 :=
  split1 v2 (shapeCast S128x128 b shapeCasts_S1x1x128x128_S128x128)

/-- The scores against a block, and its suffix sums. -/
def zB (v2 : IVec S1x128 1) (q : FVec F S256x128 .bf16) (b : Vec F S1x1x128x128 .bf16) : FVec F S256x256 .f32 :=
  matmul dot_S256x128_S256x128_S256x256_1_1_0_0_n_n none q (splitB v2 b) (constant S256x256 .f32 0x00000000#32)
def lB (v9 : FVec F S256x256 .bf16) (sp : FVec F S256x256 .f32) : FVec F S256x256 .f32 :=
  matmul dot_S256x256_S256x256_S256x256_1_0_0_1_n_n none (truncf .bf16 sp bitsLt_bf16_f32) v9 (constant S256x256 .f32 0x00000000#32)

def up (x : FVec F S256x256 .f32) : FVec F S128x256 .f32 := extractStridedSlice S128x256 ![0, 0] x slices_S256x256_o0_0_S128x256
def lo (x : FVec F S256x256 .f32) : FVec F S128x256 .f32 := extractStridedSlice S128x256 ![128, 0] x slices_S256x256_o128_0_S128x256

/-- The diagonal cut out of the lower or of the upper rows. -/
def maskLo (v7 : IVec S128x256 1) (x : FVec F S256x256 .f32) : FVec F S256x256 .f32 :=
  concatenate S256x256 0 [⟨S128x256, up x⟩, ⟨S128x256, diag v7 (lo x)⟩] concatenates_S128x256_S128x256_S256x256_d0
def maskUp (v7 : IVec S128x256 1) (x : FVec F S256x256 .f32) : FVec F S256x256 .f32 :=
  concatenate S256x256 0 [⟨S128x256, diag v7 (up x)⟩, ⟨S128x256, lo x⟩] concatenates_S128x256_S128x256_S256x256_d0

/-- The masses over the heads' lanes. -/
def massB (m0 m1 : FVec F S256x1 .f32) : FVec F S256x256 .f32 :=
  concatenate S256x256 1 [⟨S256x128, broadcastTo S256x128 (shapeCast S256x1 m0 shapeCasts_S256x1_S256x1) broadcasts_S256x1_S256x128⟩,
    ⟨S256x128, broadcastTo S256x128 (shapeCast S256x1 m1 shapeCasts_S256x1_S256x1) broadcasts_S256x1_S256x128⟩]
    concatenates_S256x128_S256x128_S256x256_d1

def wB (z l : FVec F S256x256 .f32) (m0 m1 : FVec F S256x1 .f32) : FVec F S256x256 .f32 := exp (subf (subf z l) (massB m0 m1))
def accB (v2 : IVec S1x128 1) (acc : FVec F S256x128 .f32) (w : FVec F S256x256 .f32) (b : Vec F S1x1x128x128 .bf16) : FVec F S256x128 .f32 :=
  addf acc (matmul dot_S256x256_S256x128_S256x128_1_0_0_1_n_n none (truncf .bf16 w bitsLt_bf16_f32) (splitB v2 b) (constant S256x128 .f32 0x00000000#32))
def add0 (m : FVec F S256x1 .f32) (l : FVec F S256x256 .f32) : FVec F S256x1 .f32 :=
  addf m (extractStridedSlice S256x1 ![0, 0] l slices_S256x256_o0_0_S256x1)
def add1 (m : FVec F S256x1 .f32) (l : FVec F S256x256 .f32) : FVec F S256x1 .f32 :=
  addf m (extractStridedSlice S256x1 ![0, 128] l slices_S256x256_o0_128_S256x1)

/-- One unmasked block more. -/
def blockB (v2 : IVec S1x128 1) (v9 : FVec F S256x256 .bf16) (q : FVec F S256x128 .bf16) (s : St F) (kb vb : Vec F S1x1x128x128 .bf16) : St F :=
  let z := zB v2 q kb
  let l := lB v9 (soft z)
  (accB v2 s.1 (wB z l s.2.1 s.2.2) vb, add0 s.2.1 l, add1 s.2.2 l)

/-- Whether some row is still short of dead. -/
def aliveB (m0 m1 : FVec F S256x1 .f32) : BitVec 1 :=
  Scalar.cmpf .olt (extractAt ![0, 0, 0] (shapeCast S1x1x1 (multiReduction .minimumf [1, 2] S1 (shapeCast S1x256x1 (minimumf m0 m1) shapeCasts_S256x1_S1x256x1)
    0x7F800000#32 reduces_S1x256x1_S1 (.inl rfl) rfl) shapeCasts_S1_S1x1x1) inpos_S1x1x1_p0_0_0) (Named.named κ "dead_mass" 0x42D00000#32)

def zero1 : FVec F S128x1 .f32 := broadcast S128x1 (Scalar.ofBits .f32 0x00000000#32)
/-- The masses before the later own block: infinite on the upper rows, none of whose keys it holds. -/
def big1 : FVec F S256x1 .f32 :=
  concatenate S256x1 0 [⟨S128x1, broadcast S128x1 (Named.named κ "big" 0x7149F2CA#32)⟩, ⟨S128x1, zero1⟩] concatenates_S128x1_S128x1_S256x1_d0
def reset (m : FVec F S256x1 .f32) : FVec F S256x1 .f32 :=
  concatenate S256x1 0 [⟨S128x1, zero1⟩, ⟨S128x1, extractStridedSlice S128x1 ![128, 0] m slices_S256x1_o128_0_S128x1⟩] concatenates_S128x1_S128x1_S256x1_d0

/-- The state after the two own blocks. -/
def own (v2 : IVec S1x128 1) (v7 : IVec S128x256 1) (v9 : FVec F S256x256 .bf16) (q : FVec F S256x128 .bf16) (kh vh kl vl : Vec F S1x1x128x128 .bf16) : St F :=
  let zh := zB v2 q kh
  let lh := lB v9 (maskLo v7 (soft zh))
  let acc := accB v2 (broadcast S256x128 (Scalar.ofBits .f32 0x00000000#32)) (maskLo v7 (wB zh lh big1 big1)) vh
  let m0 := reset (add0 big1 lh)
  let m1 := reset (add1 big1 lh)
  let zl := zB v2 q kl
  let ll := lB v9 (maskUp v7 (soft zl))
  (accB v2 acc (maskUp v7 (wB zl ll m0 m1)) vl, add0 m0 ll, add1 m1 ll)

theorem unit0_eq (i : grid0.Coords) (x0 : Vec F S1x8x512x128 .bf16) (x1 x2 : Vec F S1x8x2560x128 .bf16)
    (v2 : IVec S1x128 1) (v7 : IVec S128x256 1) (v9 : FVec F S256x256 .bf16) (k : Fin k0_t1_loop.trips) :
    unit0 i x0 x1 x2 v2 v7 v9 k = own v2 v7 v9 (unitQ x0 k) (rdHi i k x1) (rdHi i k x2) (rdLo i k x1) (rdLo i k x2) := by
  sl_kernel_rfl

theorem step_eq (k : Fin k0_t1_loop.trips) (x1 x2 : Vec F S1x8x2560x128 .bf16) (v2 : IVec S1x128 1) (q : FVec F S256x128 .bf16) (v9 : FVec F S256x256 .bf16)
    (kb : BitVec 32) (h : k0_chk1 k kb) (s : St F) :
    (step k x1 x2 v2 q v9 kb h s).2 = blockB v2 v9 q (blockB v2 v9 q (blockB v2 v9 q (blockB v2 v9 q s (rd k kb h 0 x1) (rd k kb h 0 x2))
      (rd k kb h 1 x1) (rd k kb h 1 x2)) (rd k kb h 2 x1) (rd k kb h 2 x2)) (rd k kb h 3 x1) (rd k kb h 3 x2) := by
  sl_kernel_rfl

theorem step_go (k : Fin k0_t1_loop.trips) (x1 x2 : Vec F S1x8x2560x128 .bf16) (v2 : IVec S1x128 1) (q : FVec F S256x128 .bf16) (v9 : FVec F S256x256 .bf16)
    (kb : BitVec 32) (h : k0_chk1 k kb) (s : St F) :
    (step k x1 x2 v2 q v9 kb h s).1 = aliveB (step k x1 x2 v2 q v9 kb h s).2.2.1 (step k x1 x2 v2 q v9 kb h s).2.2.2 := by
  sl_kernel_rfl
end Defs

/-! The operations read at an index. -/

theorem splitB_apply (b : Vec Ideal S1x1x128x128 .bf16) (h : Fin 2) (j l : Fin 128) :
    splitB laneMask b (ix2 (colOf h j) l) = if l.val / 64 = h.val then b (ix4 0 0 j l) else 0 := by
  rw [splitB, split1_apply]
  have e1 : (colOf h j).val / 128 = h.val := by simp only [colOf]; omega
  have e2 : (colOf h j).val % 128 = j.val := by simp only [colOf]; omega
  have e3 : ∀ (j : Fin 128), shapeCast S128x128 b shapeCasts_S1x1x128x128_S128x128 (ix2 j l) = b (ix4 0 0 j l) := fun j => by pointwise
  simp only [e1, e2, e3]

theorem zB_apply (q : FVec Ideal S256x128 .bf16) (b : Vec Ideal S1x1x128x128 .bf16) (R : Fin 256) (h : Fin 2) (j : Fin 128) :
    zB laneMask q b (ix2 R (colOf h j)) = ∑ l : Fin 128, q (ix2 R l) * (if l.val / 64 = h.val then b (ix4 0 0 j l) else 0) := by
  refine Eq.trans (b := ∑ l : Fin 128, q (ix2 R l) * splitB laneMask b (ix2 (colOf h j) l)) ?_
    (Finset.sum_congr rfl fun l _ => congrArg _ (splitB_apply b h j l))
  generalize colOf h j = c
  pointwise [zB]

theorem lB_apply {v9 : FVec Ideal S256x256 .bf16} (ht : IsTri v9) (sp : FVec Ideal S256x256 .f32) (R : Fin 256) (h : Fin 2) (j : Fin 128) :
    lB v9 sp (ix2 R (colOf h j)) = ∑ i : Fin 128, if j.val ≤ i.val then sp (ix2 R (colOf h i)) else 0 := by
  rw [← tri_sum ht (fun c => sp (ix2 R c))]
  generalize colOf h j = c
  pointwise [lB]

theorem massB_apply (m0 m1 : FVec Ideal S256x1 .f32) (R : Fin 256) (h : Fin 2) (j : Fin 128) :
    massB m0 m1 (ix2 R (colOf h j)) = if h = 0 then m0 (ix2 R 0) else m1 (ix2 R 0) := by
  match h with
  | 0 => pointwise [massB, colOf]
  | 1 => pointwise [massB, colOf]

theorem accB_apply (acc : FVec Ideal S256x128 .f32) (w : FVec Ideal S256x256 .f32) (b : Vec Ideal S1x1x128x128 .bf16) (R : Fin 256) (l : Fin 128) :
    accB laneMask acc w b (ix2 R l) = acc (ix2 R l) + ∑ j : Fin 128, w (ix2 R (colOf (hd l) j)) * b (ix4 0 0 j l) := by
  refine Eq.trans (b := acc (ix2 R l) + ∑ c : Fin 256, w (ix2 R c) * splitB laneMask b (ix2 c l)) ?_ ?_
  · pointwise [accB]
  · congr 1
    rw [sum_cols, Finset.sum_eq_single (hd l)]
    · refine Finset.sum_congr rfl fun j _ => ?_
      rw [splitB_apply, if_pos (show l.val / 64 = (hd l).val from rfl)]
    · intro h _ hh
      refine Finset.sum_eq_zero fun j _ => ?_
      rw [splitB_apply, if_neg (fun e => hh (Fin.ext (e.symm))), mul_zero]
    · intro hh; exact absurd (Finset.mem_univ _) hh

/-- A head's mass, and its block's total added. -/
def mH (h : Fin 2) (m0 m1 : FVec Ideal S256x1 .f32) : FVec Ideal S256x1 .f32 := match h with | 0 => m0 | 1 => m1

theorem massB_mH (m0 m1 : FVec Ideal S256x1 .f32) (R : Fin 256) (h : Fin 2) (j : Fin 128) :
    massB m0 m1 (ix2 R (colOf h j)) = mH h m0 m1 (ix2 R 0) := by
  rw [massB_apply]
  match h with
  | 0 => rfl
  | 1 => rfl

theorem add_mH (m0 m1 : FVec Ideal S256x1 .f32) (l : FVec Ideal S256x256 .f32) (R : Fin 256) (h : Fin 2) :
    mH h (add0 m0 l) (add1 m1 l) (ix2 R 0) = mH h m0 m1 (ix2 R 0) + l (ix2 R (colOf h 0)) := by
  match h with
  | 0 => pointwise [mH, add0, colOf]
  | 1 => pointwise [mH, add1, colOf]

theorem maskLo_apply (x : FVec Ideal S256x256 .f32) (R : Fin 256) (c : Fin 256) :
    maskLo belowMask x (ix2 R c) = if R.val < 128 ∨ c.val % 128 + 128 < R.val then x (ix2 R c) else 0 := by
  by_cases hR : R.val < 128
  · rw [if_pos (.inl hR)]
    pointwise [maskLo, up]
    simp [hR]
  · have e := diag_apply (lo x) ⟨R.val - 128, by omega⟩ c
    have : (c.val % 128 < R.val - 128) ↔ (R.val < 128 ∨ c.val % 128 + 128 < R.val) := by omega
    simp only [this] at e
    have e2 : lo x (ix2 ⟨R.val - 128, by omega⟩ c) = x (ix2 R c) := by
      have : (⟨128 + (R.val - 128), by omega⟩ : Fin 256) = R := Fin.ext (by simp only; omega)
      pointwise [lo]
      rw [this]
    rw [e2] at e
    rw [← e]
    pointwise [maskLo]
    simp [hR]

theorem maskUp_apply (x : FVec Ideal S256x256 .f32) (R : Fin 256) (c : Fin 256) :
    maskUp belowMask x (ix2 R c) = if c.val % 128 < R.val then x (ix2 R c) else 0 := by
  by_cases hR : R.val < 128
  · have e := diag_apply (up x) ⟨R.val, by omega⟩ c
    have e2 : up x (ix2 ⟨R.val, by omega⟩ c) = x (ix2 R c) := by
      pointwise [up]
    rw [e2] at e
    rw [← e]
    pointwise [maskUp]
    simp [hR]
  · rw [if_pos (by omega)]
    have : (⟨128 + (R.val - 128), by omega⟩ : Fin 256) = R := Fin.ext (by simp only; omega)
    pointwise [maskUp, lo]
    simp [hR, this]

theorem big_top : (Named.named (F := Ideal) (φ := .f32) κ "big" 0x7149F2CA#32) = (⊤ : EReal) := by
  rfl

theorem big1_apply (R : Fin 256) : (big1 : FVec Ideal S256x1 .f32) (ix2 R 0) = if R.val < 128 then (⊤ : EReal) else 0 := by
  have h := big_top
  pointwise [big1, zero1]
  simp [h]

theorem reset_apply (m : FVec Ideal S256x1 .f32) (R : Fin 256) : reset m (ix2 R 0) = if R.val < 128 then 0 else m (ix2 R 0) := by
  by_cases hR : R.val < 128
  · rw [if_pos hR]
    pointwise [reset, zero1]
    simp [hR]
  · have : (⟨128 + (R.val - 128), by omega⟩ : Fin 256) = R := Fin.ext (by simp only; omega)
    rw [if_neg hR]
    pointwise [reset, zero1]
    simp [hR, this]

/-- Not alive is dead in every row of either head. -/
theorem aliveB_dead (m0 m1 : FVec Ideal S256x1 .f32) (hl : ¬ aliveB m0 m1 = 1#1) (R : Fin 256) (h : Fin 2) : mH h m0 m1 (ix2 R 0) = (⊤ : EReal) := by
  unfold aliveB at hl
  rw [dead_top] at hl
  have h1 := not_olt_top hl
  rw [show ∀ x : FVec Ideal S1 .f32, extractAt ![0, 0, 0] (shapeCast S1x1x1 x shapeCasts_S1_S1x1x1) inpos_S1x1x1_p0_0_0 = x (ix1 0) from
    fun x => congrArg x (s1_all _ _)] at h1
  have h2 := min_top _ _ _ _ _ _ h1 (ix3 0 R 0) (s1_all _ _)
  have h3 : ∀ x : FVec Ideal S256x1 .f32, shapeCast S1x256x1 x shapeCasts_S256x1_S1x256x1 (ix3 0 R 0) = x (ix2 R 0) := fun x => by pointwise
  rw [h3] at h2
  have h4 : (⊤ : EReal) ≤ min (m0 (ix2 R 0)) (m1 (ix2 R 0)) := le_of_eq h2.symm
  match h with
  | 0 => exact top_le_iff.1 (h4.trans (min_le_left _ _))
  | 1 => exact top_le_iff.1 (h4.trans (min_le_right _ _))

end Cert.Proof.KernelIdeal

end
-- ==== Proof.Value.Exact.lean ====
/- What the exact pass of a unit stores: the state after each block holds the row's mass and weighted values from that
   block on, and at the end of the loop nothing earlier counts any more. -/
module

public import proofs.«01_k».proof.Proof.Value.SlowOps

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

section Row
variable (zz : Fin 2 → ℕ → EReal) (vv : Fin 128 → ℕ → EReal) (T : ℕ) (R : Fin 256)

/-- The state of row `R` with the keys from `a` on taken in. -/
def At (a : ℕ) (s : St Ideal) : Prop :=
  (∀ l : Fin 128, s.1 (ix2 R l) = Rows.A (zz (hd l)) (vv l) T a) ∧ ∀ h : Fin 2, mH h s.2.1 s.2.2 (ix2 R 0) = Rows.M (zz h) T a

theorem block_at {b : ℕ} (hb : b + 128 ≤ 2560) {acc : FVec Ideal S256x128 .f32} {m0 m1 : FVec Ideal S256x1 .f32} (w l : FVec Ideal S256x256 .f32)
    (vb : Vec Ideal S1x1x128x128 .bf16) (hs : At zz vv T R (b + 128) (acc, m0, m1))
    (hl : ∀ h : Fin 2, l (ix2 R (colOf h 0)) = Rows.L (zz h) T b 0)
    (hw : ∀ (h : Fin 2) (j : Fin 128), w (ix2 R (colOf h j)) = Rows.W (zz h) T (b + j.val))
    (hv : ∀ j l : Fin 128, vb (ix4 0 0 j l) = vv l (b + j.val)) :
    At zz vv T R b (accB laneMask acc w vb, add0 m0 l, add1 m1 l) := by
  constructor
  · intro x
    refine (accB_apply _ _ _ _ _).trans ?_
    rw [Rows.A_block _ _ _ hb, add_comm]
    have h1 : acc (ix2 R x) = _ := hs.1 x
    rw [h1]
    congr 1
    exact Finset.sum_congr rfl fun j _ => by rw [hw, hv]
  · intro h
    refine (add_mH _ _ _ _ _).trans ?_
    have h1 : mH h m0 m1 (ix2 R 0) = _ := hs.2 h
    have h2 := Rows.M_block (zz h) T (a := b) (j := 0) (by omega) hb
    rw [h1, hl, add_comm]
    exact h2.symm

theorem lB_row {v9 : FVec Ideal S256x256 .bf16} (ht : IsTri v9) {b : ℕ} (sp : FVec Ideal S256x256 .f32)
    (hsp : ∀ (h : Fin 2) (j : Fin 128), sp (ix2 R (colOf h j)) = Rows.g (zz h) T (b + j.val)) (h : Fin 2) (j : Fin 128) :
    lB v9 sp (ix2 R (colOf h j)) = Rows.L (zz h) T b j.val := by
  rw [lB_apply ht]
  exact Finset.sum_congr rfl fun i _ => by rw [hsp]

theorem wB_apply (z l : FVec Ideal S256x256 .f32) (m0 m1 : FVec Ideal S256x1 .f32) (h : Fin 2) (j : Fin 128) :
    wB z l m0 m1 (ix2 R (colOf h j)) = Ideal.exp (z (ix2 R (colOf h j)) - l (ix2 R (colOf h j)) - mH h m0 m1 (ix2 R 0)) := by
  rw [← massB_mH m0 m1 R h j]
  rfl

variable {v9 : FVec Ideal S256x256 .bf16} (ht : IsTri v9) (q : FVec Ideal S256x128 .bf16)

include ht in
/-- An unmasked block, all of whose keys come before the row. -/
theorem blockB_at {b : ℕ} (hb : b + 128 ≤ 2560) (hT : b + 128 ≤ T) (s : St Ideal) (kb vb : Vec Ideal S1x1x128x128 .bf16)
    (hs : At zz vv T R (b + 128) s)
    (hz : ∀ (h : Fin 2) (j : Fin 128), zB laneMask q kb (ix2 R (colOf h j)) = zz h (b + j.val))
    (hv : ∀ j l : Fin 128, vb (ix4 0 0 j l) = vv l (b + j.val)) :
    At zz vv T R b (blockB laneMask v9 q s kb vb) := by
  have hl := lB_row zz T R ht (b := b) (soft (zB laneMask q kb)) (fun h j => by
    rw [soft_apply, hz, Rows.g, if_pos (by omega)])
  refine block_at zz vv T R hb _ _ _ hs (fun h => hl h 0) (fun h j => ?_) hv
  rw [wB_apply, hl, hz, Rows.W_block _ _ (by omega) hb, if_pos (by omega)]
  have h1 : mH h s.2.1 s.2.2 (ix2 R 0) = _ := hs.2 h
  rw [h1]

theorem exp_sub_top (x : EReal) : Ideal.exp (x - ⊤) = 0 := by
  rw [sub_eq_add_neg, EReal.neg_top, EReal.add_bot]; simp

include ht in
/-- The two own blocks. -/
theorem own_at {b : ℕ} (hb : b + 256 ≤ 2560) (hT : T = b + R.val) (kh vh kl vl : Vec Ideal S1x1x128x128 .bf16)
    (hzh : ∀ (h : Fin 2) (j : Fin 128), zB laneMask q kh (ix2 R (colOf h j)) = zz h (b + 128 + j.val))
    (hvh : ∀ j l : Fin 128, vh (ix4 0 0 j l) = vv l (b + 128 + j.val))
    (hzl : ∀ (h : Fin 2) (j : Fin 128), zB laneMask q kl (ix2 R (colOf h j)) = zz h (b + j.val))
    (hvl : ∀ j l : Fin 128, vl (ix4 0 0 j l) = vv l (b + j.val)) :
    At zz vv T R b (own laneMask belowMask v9 q kh vh kl vl) := by
  have hc : ∀ (h : Fin 2) (j : Fin 128), (colOf h j).val % 128 = j.val := fun h j => by simp only [colOf]; omega
  have hbig : ∀ h : Fin 2, mH h big1 big1 (ix2 R 0) = if R.val < 128 then (⊤ : EReal) else 0 := fun h => by
    match h with
    | 0 => exact big1_apply R
    | 1 => exact big1_apply R
  have hres : ∀ (h : Fin 2) (m0 m1 : FVec Ideal S256x1 .f32), mH h (reset m0) (reset m1) (ix2 R 0) = if R.val < 128 then 0 else mH h m0 m1 (ix2 R 0) := fun h m0 m1 => by
    match h with
    | 0 => exact reset_apply m0 R
    | 1 => exact reset_apply m1 R
  have hacc0 : (broadcast S256x128 (Scalar.ofBits .f32 0x00000000#32) : FVec Ideal S256x128 .f32) = fun _ => (0 : EReal) := by
    funext x; exact (show Ideal.ofBits .f32 0x00000000#32 = 0 from Ideal.ofBits_zero_f32)
  -- the state after the later own block and the reset
  have hfirst : At zz vv T R (b + 128)
      (accB laneMask (broadcast S256x128 (Scalar.ofBits .f32 0x00000000#32))
        (maskLo belowMask (wB (zB laneMask q kh) (lB v9 (maskLo belowMask (soft (zB laneMask q kh)))) big1 big1)) vh,
       reset (add0 big1 (lB v9 (maskLo belowMask (soft (zB laneMask q kh))))), reset (add1 big1 (lB v9 (maskLo belowMask (soft (zB laneMask q kh)))))) := by
    by_cases hR : R.val < 128
    · refine ⟨fun l => ?_, fun h => ?_⟩
      · refine (accB_apply _ _ _ _ _).trans ?_
        rw [Rows.A_of_le _ _ _ (by omega), hacc0]
        simp only [zero_add]
        refine Finset.sum_eq_zero fun j _ => ?_
        rw [maskLo_apply, if_pos (.inl hR), wB_apply, hbig, if_pos hR, exp_sub_top, zero_mul]
      · refine (hres _ _ _).trans ?_
        rw [if_pos hR, Rows.M_of_le _ _ (by omega)]
    · have hl := lB_row zz T R ht (b := b + 128) (maskLo belowMask (soft (zB laneMask q kh))) (fun h j => by
        rw [maskLo_apply, soft_apply, hzh, hc, Rows.g]
        exact if_congr (by omega) rfl rfl)
      have h1 := block_at zz vv T R (b := b + 128) (by omega) (acc := broadcast S256x128 (Scalar.ofBits .f32 0x00000000#32)) (m0 := big1) (m1 := big1)
        (maskLo belowMask (wB (zB laneMask q kh) (lB v9 (maskLo belowMask (soft (zB laneMask q kh)))) big1 big1))
        (lB v9 (maskLo belowMask (soft (zB laneMask q kh)))) vh
        ⟨fun l => by rw [Rows.A_of_le _ _ _ (by omega), hacc0], fun h => by rw [Rows.M_of_le _ _ (by omega)]; exact (hbig h).trans (if_neg hR)⟩
        (fun h => hl h 0)
        (fun h j => by
          rw [maskLo_apply, wB_apply, hl, hzh, hc, Rows.W_block _ _ (by omega) (by omega), hbig, if_neg hR, Rows.M_of_le (zz h) T (a := b + 128 + 128) (by omega)]
          exact if_congr (by omega) rfl rfl)
        hvh
      exact ⟨h1.1, fun h => (hres _ _ _).trans ((if_neg hR).trans (h1.2 h))⟩
  have hl := lB_row zz T R ht (b := b) (maskUp belowMask (soft (zB laneMask q kl))) (fun h j => by
    rw [maskUp_apply, soft_apply, hzl, hc, Rows.g]
    exact if_congr (by omega) rfl rfl)
  refine block_at zz vv T R (by omega) _ _ _ hfirst (fun h => hl h 0) (fun h j => ?_) hvl
  rw [maskUp_apply, wB_apply, hl, hzl, hc, Rows.W_block _ _ (by omega) (by omega)]
  have h1 := hfirst.2 h
  simp only at h1
  rw [h1]
  exact if_congr (by omega) rfl rfl

end Row

/-! The blocks a unit reads. -/

theorem off9_all : ∀ k : Fin k0_t1_loop.trips, k0_off9 k = ![0, k.val % 8, 256 * (k.val / 8), 0] := by decide +kernel
theorem off13_all : ∀ k : Fin k0_t1_loop.trips, k0_off13 k = ![0, k.val % 8, 256 * (k.val / 8), 0] := by decide +kernel
theorem off12_all : ∀ (k : Fin k0_t1_loop.trips) (b : Fin 20) (n : Fin 4), 4 ≤ b.val →
    k0_off12 k (BitVec.ofNat 32 b.val) (BitVec.ofNat 32 n.val) = ![0, k.val % 8, 128 * (b.val - n.val), 0] := by decide +kernel
/-- A grid point with a given second coordinate. -/
def atTile (a : Fin 4) : grid0.Coords := fun x => match x with | 0 => (0 : Fin 32) | 1 => a
theorem off10_all : ∀ (a : Fin 4) (k : Fin k0_t1_loop.trips), k0_off10 (atTile a) k = ![0, k.val % 8, 128 * (4 * a.val + 2 * (k.val / 8) + 5), 0] := by decide +kernel
theorem off11_all : ∀ (a : Fin 4) (k : Fin k0_t1_loop.trips), k0_off11 (atTile a) k = ![0, k.val % 8, 128 * (4 * a.val + 2 * (k.val / 8) + 4), 0] := by decide +kernel

section Unit
variable (i : grid0.Coords) (k : Fin k0_t1_loop.trips) (x0 : Vec Ideal S1x8x512x128 .bf16) (x1 x2 : Vec Ideal S1x8x2560x128 .bf16)

/-- A unit's pair of heads and its half of the tile. -/
def pairOf : Fin 8 := ⟨k.val % 8, by omega⟩
def subOf : Fin 2 := ⟨k.val / 8, by have h : k.val < 16 := k.isLt; omega⟩

theorem ld_blk (x : Vec Ideal S1x8x2560x128 .bf16) (off : Fin 4 → ℕ) (inb) (p : Fin 8) (b : ℕ) (hb : b + 128 ≤ 2560)
    (ho : off = ![0, p.val, b, 0]) (j l : Fin 128) :
    View.ld x (Rect.unit (s := S1x8x2560x128) off S1x1x128x128.size inb) (ix4 0 0 j l) = x (ix4 0 p ⟨b + j.val, by omega⟩ l) := by
  subst ho
  refine View.ld_unit_apply_of _ _ _ _ _ _ fun a => ?_
  match a with
  | 0 => rfl
  | 1 => rfl
  | 2 => rfl
  | 3 => show l.val = 0 + l.val; omega

theorem unitQ_apply (R : Fin 256) (l : Fin 128) :
    unitQ x0 k (ix2 R l) = x0 (ix4 0 (pairOf k) ⟨256 * (subOf k).val + R.val, by have := (subOf k).isLt; omega⟩ l) * scale := by
  have h : View.ld x0 (Rect.unit (s := S1x8x512x128) (k0_off9 k) S1x1x256x128.size (k0_off9_inb k)) (ix4 0 0 R l)
      = x0 (ix4 0 (pairOf k) ⟨256 * (subOf k).val + R.val, by have := (subOf k).isLt; omega⟩ l) := by
    have ho := off9_all k
    revert ho
    generalize k0_off9_inb k = inb
    revert inb
    generalize k0_off9 k = off
    intro inb ho
    subst ho
    refine View.ld_unit_apply_of _ _ _ _ _ _ fun a => ?_
    match a with
    | 0 => rfl
    | 1 => rfl
    | 2 => rfl
    | 3 => show l.val = 0 + l.val; omega
  rw [← h]
  unfold unitQ
  generalize View.ld x0 _ = y
  pointwise [k0_pay12]
  rfl

/-- A block's scores are the row's. -/
theorem zB_row (R : Fin 256) (blk : Vec Ideal S1x1x128x128 .bf16) (b : ℕ) (hb : b + 128 ≤ 2560)
    (h1 : ∀ j l : Fin 128, blk (ix4 0 0 j l) = x1 (ix4 0 (pairOf k) ⟨b + j.val, by omega⟩ l)) (h : Fin 2) (j : Fin 128) :
    zB laneMask (unitQ x0 k) blk (ix2 R (colOf h j))
      = zRow x0 x1 (pairOf k) ⟨256 * (subOf k).val + R.val, by have := (subOf k).isLt; omega⟩ h (b + j.val) := by
  rw [zB_apply, zRow, dif_pos (by omega)]
  exact Finset.sum_congr rfl fun l _ => by rw [unitQ_apply, h1]

theorem vB_row (blk : Vec Ideal S1x1x128x128 .bf16) (b : ℕ) (hb : b + 128 ≤ 2560)
    (h1 : ∀ j l : Fin 128, blk (ix4 0 0 j l) = x2 (ix4 0 (pairOf k) ⟨b + j.val, by omega⟩ l)) (j l : Fin 128) :
    blk (ix4 0 0 j l) = vCol x2 (pairOf k) l (b + j.val) := by
  rw [vCol, dif_pos (by omega), h1]

theorem rdHi_apply (x : Vec Ideal S1x8x2560x128 .bf16) (j l : Fin 128) :
    rdHi i k x (ix4 0 0 j l) = x (ix4 0 (pairOf k) ⟨winAt i (subOf k) + 256 + 128 + j.val, by have := winAt_le i (subOf k); omega⟩ l) :=
  ld_blk x _ _ (pairOf k) (winAt i (subOf k) + 256 + 128) (winAt_le i (subOf k)) ((off10_all (i 1) k).trans (by
    have e : 128 * (4 * (i 1).val + 2 * (k.val / 8) + 5) = winAt i (subOf k) + 256 + 128 := by unfold winAt subOf; simp only; omega
    rw [e]; rfl)) j l

theorem rdLo_apply (x : Vec Ideal S1x8x2560x128 .bf16) (j l : Fin 128) :
    rdLo i k x (ix4 0 0 j l) = x (ix4 0 (pairOf k) ⟨winAt i (subOf k) + 256 + j.val, by have := winAt_le i (subOf k); omega⟩ l) :=
  ld_blk x _ _ (pairOf k) (winAt i (subOf k) + 256) (by have := winAt_le i (subOf k); omega) ((off11_all (i 1) k).trans (by
    have e : 128 * (4 * (i 1).val + 2 * (k.val / 8) + 4) = winAt i (subOf k) + 256 := by unfold winAt subOf; simp only; omega
    rw [e]; rfl)) j l

theorem rd_apply (x : Vec Ideal S1x8x2560x128 .bf16) (b : ℕ) (hb : b < 20) (hb4 : 4 ≤ b) (h : k0_chk1 k (BitVec.ofNat 32 b)) (n : Fin 4) (j l : Fin 128) :
    rd k (BitVec.ofNat 32 b) h n x (ix4 0 0 j l) = x (ix4 0 (pairOf k) ⟨128 * (b - n.val) + j.val, by omega⟩ l) :=
  ld_blk x _ _ (pairOf k) (128 * (b - n.val)) (by omega) (off12_all k ⟨b, hb⟩ n hb4) j l

variable (R : Fin 256)

/-- A row's scores and values in its unit. -/
abbrev uz : Fin 2 → ℕ → EReal := zRow x0 x1 (pairOf k) ⟨256 * (subOf k).val + R.val, by have := (subOf k).isLt; omega⟩
abbrev uv : Fin 128 → ℕ → EReal := vCol x2 (pairOf k)

variable {v9 : FVec Ideal S256x256 .bf16} (ht : IsTri v9)

include ht in
/-- The loop leaves the row's whole result, from any state that holds what is due by then. -/
theorem loop_row (hp : ∀ (s : ℕ) (l : Fin 128), s < 512 → vCol x2 (pairOf k) l s = 0) (T : ℕ) :
    ∀ (n b : ℕ), b < 4 * (n + 1) → b < 20 → 128 * (b + 1) ≤ T → ∀ (go : BitVec 1) (s : St Ideal),
      (∀ R, At (uz k x0 x1 R) (uv k x2) (T + R.val) R (128 * (b + 1)) s) →
      (¬ go = 1#1 → ∀ R h, Rows.M (uz k x0 x1 R h) (T + R.val) (128 * (b + 1)) = ⊤) →
      ∀ R l, (loop k x1 x2 laneMask (unitQ x0 k) v9 n (BitVec.ofNat 32 b) go s).1 (ix2 R l) = Rows.A (uz k x0 x1 R (hd l)) (uv k x2 l) (T + R.val) 0 := by
  intro n
  induction n with
  | zero =>
    intro b hb hb' hT go s hs hg R l
    rw [loop]
    refine ((hs R).1 l).trans (Rows.A_pad _ _ _ (Nat.zero_le _) (by omega) (fun s h => hp s l (by omega))).symm
  | succ n ih =>
    intro b hb hb' hT go s hs hg
    by_cases hc : Scalar.andi (Scalar.cmpi .sge (BitVec.ofNat 32 b) 4#32) go = 1#1
    · have hb4 : 4 ≤ b := by
        by_contra hlt
        have h4 : Scalar.cmpi .sge (BitVec.ofNat 32 b) 4#32 = 0#1 := by
          rw [sge_iff ⟨b, hb'⟩, if_neg (by simp only; omega)]
        rw [h4] at hc; exact (show ∀ g : BitVec 1, ¬ Scalar.andi (0#1) g = 1#1 by decide) go hc
      have hchk : k0_chk1 k (BitVec.ofNat 32 b) := chk_all k ⟨b, hb'⟩ hb4
      have hnew : ∀ R, At (uz k x0 x1 R) (uv k x2) (T + R.val) R (128 * (b - 4 + 1)) (step k x1 x2 laneMask (unitQ x0 k) v9 (BitVec.ofNat 32 b) hchk s).2 := by
        intro R
        rw [step_eq]
        have hz := fun (m : Fin 4) => zB_row k x0 x1 R _ _ (by omega) (rd_apply k x1 b hb' hb4 hchk m)
        have hv := fun (m : Fin 4) => vB_row k x2 _ _ (by omega) (rd_apply k x2 b hb' hb4 hchk m)
        have e0 : 128 * (b + 1) = 128 * (b - (0 : Fin 4).val) + 128 := by show 128 * (b + 1) = 128 * (b - 0) + 128; omega
        have e1 : 128 * (b - (0 : Fin 4).val) = 128 * (b - (1 : Fin 4).val) + 128 := by show 128 * (b - 0) = 128 * (b - 1) + 128; omega
        have e2 : 128 * (b - (1 : Fin 4).val) = 128 * (b - (2 : Fin 4).val) + 128 := by show 128 * (b - 1) = 128 * (b - 2) + 128; omega
        have e3 : 128 * (b - (2 : Fin 4).val) = 128 * (b - (3 : Fin 4).val) + 128 := by show 128 * (b - 2) = 128 * (b - 3) + 128; omega
        have e4 : 128 * (b - 4 + 1) = 128 * (b - (3 : Fin 4).val) := by show 128 * (b - 4 + 1) = 128 * (b - 3); omega
        rw [e4]
        refine blockB_at _ _ _ R ht _ (by omega) (by omega) _ _ _ ?_ (hz 3) (hv 3)
        rw [← e3]
        refine blockB_at _ _ _ R ht _ (by omega) (by omega) _ _ _ ?_ (hz 2) (hv 2)
        rw [← e2]
        refine blockB_at _ _ _ R ht _ (by omega) (by omega) _ _ _ ?_ (hz 1) (hv 1)
        rw [← e1]
        refine blockB_at _ _ _ R ht _ (by omega) (by omega) _ _ _ ?_ (hz 0) (hv 0)
        rw [← e0]
        exact hs R
      intro R l
      simp only [loop, hc, ↓reduceIte, dif_pos hchk]
      rw [subi_eq ⟨b, hb'⟩ hb4]
      refine ih (b - 4) (by omega) (by omega) (by omega) _ _ hnew (fun hg R h => ?_) R l
      rw [step_go] at hg
      rw [← (hnew R).2 h]
      exact aliveB_dead _ _ hg R h
    · intro R l
      simp only [loop, hc, ↓reduceIte]
      refine ((hs R).1 l).trans ?_
      by_cases hgo : go = 1#1
      · have hlt : ¬ 4 ≤ b := fun h4 => hc (by
          rw [sge_iff ⟨b, hb'⟩, if_pos h4, hgo]; rfl)
        exact (Rows.A_pad _ _ _ (Nat.zero_le _) (by omega) (fun s h => hp s l (by omega))).symm
      · exact (Rows.A_dead _ _ _ (Nat.zero_le _) (by omega) (hg hgo R (hd l))).symm

include ht in
/-- A selected unit's rows hold the result. -/
theorem unitEnd_row (hp : ∀ (s : ℕ) (l : Fin 128), s < 512 → vCol x2 (pairOf k) l s = 0) (l : Fin 128) :
    (unitEnd i x0 x1 x2 laneMask belowMask v9 k 1#1).1 (ix2 R l)
      = attnAt i x0 x1 x2 (pairOf k) ⟨256 * (subOf k).val + R.val, by have := (subOf k).isLt; omega⟩ l := by
  have hw := winAt_le i (subOf k)
  have hb : 128 * (firstNat i k + 1) = winAt i (subOf k) + 256 := by unfold firstNat winAt subOf; simp only; omega
  have hT : ∀ R : Fin 256, winAt i (subOf k) + 256 + R.val = tRow i ⟨256 * (subOf k).val + R.val, by have := (subOf k).isLt; omega⟩ := fun R => by
    unfold tRow winAt; simp only; omega
  have h1 := firstNat_lt i k
  refine (loop_row k x0 x1 x2 ht hp (winAt i (subOf k) + 256) 4 (firstNat i k) (by omega) h1 (by omega) 1#1 _ (fun R => ?_) (fun h => absurd rfl h) R l).trans ?_
  · rw [hb, unit0_eq]
    exact own_at _ _ _ R ht _ (by omega) rfl _ _ _ _
      (zB_row k x0 x1 R _ _ (by omega) (rdHi_apply i k x1)) (vB_row k x2 _ _ (by omega) (rdHi_apply i k x2))
      (zB_row k x0 x1 R _ _ (by omega) (rdLo_apply i k x1)) (vB_row k x2 _ _ (by omega) (rdLo_apply i k x2))
  · rw [hT]; rfl

end Unit

end Cert.Proof.KernelIdeal

end
-- ==== Proof.Value.Point.lean ====
/- One grid point's result: the exact passes of the units selected, the fast passes of the others. -/
module

public import proofs.«01_k».proof.Proof.Value.Exact
public import proofs.«01_k».proof.Proof.Ideal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-! The word's bits. -/

theorem sel_bit (f : BitVec 32) (k : Fin k0_t1_loop.trips) : sel f k = BitVec.ofBool (f.getLsbD k.val) := by
  have hk : k.val < 16 := k.isLt
  have h0 : (Scf.iv 0#32 1#32 k.val : BitVec 32).toNat = k.val := by
    simp [Scf.iv]; omega
  unfold sel
  simp only [Scalar.cmpi, IntOp.cmpi, Scalar.shrsi, IntOp.shrsi, h0, Scalar.andi, IntOp.andi, BitVec.sshiftRight']
  rw [if_pos (by omega), BitVec.and_one_eq_setWidth_ofBool_getLsbD, BitVec.getLsbD_sshiftRight]
  have : k.val + 0 < 32 := by omega
  have h32 : k.val < 32 := by omega
  simp [this, h32]
  generalize f[k.val] = b
  revert b; decide

theorem addBit_bit (f : BitVec 32) (b : BitVec 1) (n : Fin 16) (k : ℕ) (hk : k < 16) :
    (addBit f b (BitVec.ofNat 32 n.val)).getLsbD k = (f.getLsbD k || (decide (k = n.val) && b.getLsbD 0)) := by
  have h0 : (BitVec.ofNat 32 n.val).toNat = n.val := by simp; omega
  simp only [addBit, Scalar.ori, IntOp.ori, Scalar.shli, IntOp.shli, h0, Scalar.extui]
  rw [if_pos (by omega), BitVec.getLsbD_or, BitVec.shiftLeft_eq', h0, BitVec.getLsbD_shiftLeft, BitVec.getLsbD_setWidth]
  congr 1
  rcases lt_trichotomy k n.val with h | h | h
  · simp [h, h.ne]
  · subst h; simp; omega
  · have : b.getLsbD (k - n.val) = false := BitVec.getLsbD_of_ge _ _ (by omega)
    simp [this, h.ne']

theorem ofBool_bit (b : BitVec 1) : BitVec.ofBool (b.getLsbD 0) = b := by revert b; decide

section Word
variable (i : grid0.Coords) (x0 : Vec Ideal S1x8x512x128 .bf16) (x1 x2 : Vec Ideal S1x8x2560x128 .bf16) (x3 : Vec Ideal S256x256 .bf16)

/-- The word selects the units whose bit is set. -/
theorem sel_flags (k : Fin k0_t1_loop.trips) : sel (flagsWord i x0 x1 x3) k = unitMore i (subOf k) (pairOf k) x0 x1 x3 := by
  rw [sel_bit, flagsWord]
  have hk : k.val < 16 := k.isLt
  generalize hb : (fun s p => unitMore i s p x0 x1 x3) = B
  have hB : ∀ s p, unitMore i s p x0 x1 x3 = B s p := fun s p => congrFun (congrFun hb s) p
  simp only [hB]
  rw [show (0#32 : BitVec 32) = BitVec.ofNat 32 (0 : Fin 16).val from rfl, show (1#32 : BitVec 32) = BitVec.ofNat 32 (1 : Fin 16).val from rfl,
    show (2#32 : BitVec 32) = BitVec.ofNat 32 (2 : Fin 16).val from rfl, show (3#32 : BitVec 32) = BitVec.ofNat 32 (3 : Fin 16).val from rfl,
    show (4#32 : BitVec 32) = BitVec.ofNat 32 (4 : Fin 16).val from rfl, show (5#32 : BitVec 32) = BitVec.ofNat 32 (5 : Fin 16).val from rfl,
    show (6#32 : BitVec 32) = BitVec.ofNat 32 (6 : Fin 16).val from rfl, show (7#32 : BitVec 32) = BitVec.ofNat 32 (7 : Fin 16).val from rfl,
    show (8#32 : BitVec 32) = BitVec.ofNat 32 (8 : Fin 16).val from rfl, show (9#32 : BitVec 32) = BitVec.ofNat 32 (9 : Fin 16).val from rfl,
    show (10#32 : BitVec 32) = BitVec.ofNat 32 (10 : Fin 16).val from rfl, show (11#32 : BitVec 32) = BitVec.ofNat 32 (11 : Fin 16).val from rfl,
    show (12#32 : BitVec 32) = BitVec.ofNat 32 (12 : Fin 16).val from rfl, show (13#32 : BitVec 32) = BitVec.ofNat 32 (13 : Fin 16).val from rfl,
    show (14#32 : BitVec 32) = BitVec.ofNat 32 (14 : Fin 16).val from rfl, show (15#32 : BitVec 32) = BitVec.ofNat 32 (15 : Fin 16).val from rfl]
  simp only [addBit_bit _ _ _ k.val hk]
  obtain ⟨k, hk'⟩ := k
  simp only at hk ⊢
  interval_cases k <;> simp [subOf, pairOf] <;> exact ofBool_bit _

/-! The fast pieces. -/

variable (ht : IsTri (triOf x3)) (y : S1x8x512x128.Idx)
  (hp : ∀ (p : Fin 8) (s : ℕ) (l : Fin 128), s < 512 → vCol x2 p l s = 0)
  (hy : ∀ (sub : Fin 2) (p : Fin 8), (y 1).val = p.val → (y 2).val / 256 = sub.val → ¬ unitMore i sub p x0 x1 x3 = 1#1)

/-- The result at an index of the block. -/
def attnIdx (y : S1x8x512x128.Idx) : EReal := attnAt i x0 x1 x2 (y 1) (y 2) (y 3)

include ht hp hy

theorem top_at (sub : Fin 2) (p : Fin 8) (off : Fin 4 → ℕ) (ho : off = ![0, p.val, 256 * sub.val, 0]) :
    View.TileAt (Val := Elt Ideal) (e := .bf16) y off S1x1x128x128.size (unitTop i sub p x0 x1 x2 x3) (attnIdx i x0 x1 x2 y) := by
  subst ho
  intro x hx
  have h1 : (y 1).val = p.val + (x 1).val := hx 1
  have h2 : (y 2).val = 256 * sub.val + (x 2).val := hx 2
  have h3 : (y 3).val = 0 + (x 3).val := hx 3
  have l0 : (x 0).val < 1 := (x 0).isLt
  have l1 : (x 1).val < 1 := (x 1).isLt
  have l2 : (x 2).val < 128 := (x 2).isLt
  have e := (unit_done i sub p x0 x1 x2 x3 ht (hy sub p (by omega) (by omega)) (hp p) (x 2) (x 3)).1
  have ex : x = ix4 0 0 (x 2) (x 3) := funext fun a => by
    match a with
    | 0 => exact Fin.ext (by show (x 0).val = 0; omega)
    | 1 => exact Fin.ext (by show (x 1).val = 0; omega)
    | 2 => rfl
    | 3 => rfl
  rw [ex]
  refine e.trans ?_
  unfold attnIdx
  have e1 : p = y 1 := Fin.ext (by omega)
  have e2 : (⟨256 * sub.val + (x 2).val, by omega⟩ : Fin 512) = y 2 := Fin.ext h2.symm
  have e3 : x 3 = y 3 := Fin.ext (by omega)
  exact congr (congr (congrArg (attnAt i x0 x1 x2) e1) e2) e3

theorem bot_at (sub : Fin 2) (p : Fin 8) (off : Fin 4 → ℕ) (ho : off = ![0, p.val, 256 * sub.val + 128, 0]) :
    View.TileAt (Val := Elt Ideal) (e := .bf16) y off S1x1x128x128.size (unitBot i sub p x0 x1 x2 x3) (attnIdx i x0 x1 x2 y) := by
  subst ho
  intro x hx
  have h1 : (y 1).val = p.val + (x 1).val := hx 1
  have h2 : (y 2).val = 256 * sub.val + 128 + (x 2).val := hx 2
  have h3 : (y 3).val = 0 + (x 3).val := hx 3
  have l0 : (x 0).val < 1 := (x 0).isLt
  have l1 : (x 1).val < 1 := (x 1).isLt
  have l2 : (x 2).val < 128 := (x 2).isLt
  have e := (unit_done i sub p x0 x1 x2 x3 ht (hy sub p (by omega) (by omega)) (hp p) (x 2) (x 3)).2
  have ex : x = ix4 0 0 (x 2) (x 3) := funext fun a => by
    match a with
    | 0 => exact Fin.ext (by show (x 0).val = 0; omega)
    | 1 => exact Fin.ext (by show (x 1).val = 0; omega)
    | 2 => rfl
    | 3 => rfl
  rw [ex]
  refine e.trans ?_
  unfold attnIdx
  have e1 : p = y 1 := Fin.ext (by omega)
  have e2 : (⟨256 * sub.val + 128 + (x 2).val, by omega⟩ : Fin 512) = y 2 := Fin.ext h2.symm
  have e3 : x 3 = y 3 := Fin.ext (by omega)
  exact congr (congr (congrArg (attnAt i x0 x1 x2) e1) e2) e3

theorem fast_at : View.AllAt (fastPieces i x0 x1 x2 x3) y (attnIdx i x0 x1 x2 y) := by
  unfold fastPieces
  refine View.allAt_cons_unit _ _ _ _ _ (bot_at i x0 x1 x2 x3 ht y hp hy 1 7 _ rfl) ?_
  refine View.allAt_cons_unit _ _ _ _ _ (top_at i x0 x1 x2 x3 ht y hp hy 1 7 _ rfl) ?_
  refine View.allAt_cons_unit _ _ _ _ _ (bot_at i x0 x1 x2 x3 ht y hp hy 1 6 _ rfl) ?_
  refine View.allAt_cons_unit _ _ _ _ _ (top_at i x0 x1 x2 x3 ht y hp hy 1 6 _ rfl) ?_
  refine View.allAt_cons_unit _ _ _ _ _ (bot_at i x0 x1 x2 x3 ht y hp hy 1 5 _ rfl) ?_
  refine View.allAt_cons_unit _ _ _ _ _ (top_at i x0 x1 x2 x3 ht y hp hy 1 5 _ rfl) ?_
  refine View.allAt_cons_unit _ _ _ _ _ (bot_at i x0 x1 x2 x3 ht y hp hy 1 4 _ rfl) ?_
  refine View.allAt_cons_unit _ _ _ _ _ (top_at i x0 x1 x2 x3 ht y hp hy 1 4 _ rfl) ?_
  refine View.allAt_cons_unit _ _ _ _ _ (bot_at i x0 x1 x2 x3 ht y hp hy 1 3 _ rfl) ?_
  refine View.allAt_cons_unit _ _ _ _ _ (top_at i x0 x1 x2 x3 ht y hp hy 1 3 _ rfl) ?_
  refine View.allAt_cons_unit _ _ _ _ _ (bot_at i x0 x1 x2 x3 ht y hp hy 1 2 _ rfl) ?_
  refine View.allAt_cons_unit _ _ _ _ _ (top_at i x0 x1 x2 x3 ht y hp hy 1 2 _ rfl) ?_
  refine View.allAt_cons_unit _ _ _ _ _ (bot_at i x0 x1 x2 x3 ht y hp hy 1 1 _ rfl) ?_
  refine View.allAt_cons_unit _ _ _ _ _ (top_at i x0 x1 x2 x3 ht y hp hy 1 1 _ rfl) ?_
  refine View.allAt_cons_unit _ _ _ _ _ (bot_at i x0 x1 x2 x3 ht y hp hy 1 0 _ rfl) ?_
  refine View.allAt_cons_unit _ _ _ _ _ (top_at i x0 x1 x2 x3 ht y hp hy 1 0 _ rfl) ?_
  refine View.allAt_cons_unit _ _ _ _ _ (bot_at i x0 x1 x2 x3 ht y hp hy 0 7 _ rfl) ?_
  refine View.allAt_cons_unit _ _ _ _ _ (top_at i x0 x1 x2 x3 ht y hp hy 0 7 _ rfl) ?_
  refine View.allAt_cons_unit _ _ _ _ _ (bot_at i x0 x1 x2 x3 ht y hp hy 0 6 _ rfl) ?_
  refine View.allAt_cons_unit _ _ _ _ _ (top_at i x0 x1 x2 x3 ht y hp hy 0 6 _ rfl) ?_
  refine View.allAt_cons_unit _ _ _ _ _ (bot_at i x0 x1 x2 x3 ht y hp hy 0 5 _ rfl) ?_
  refine View.allAt_cons_unit _ _ _ _ _ (top_at i x0 x1 x2 x3 ht y hp hy 0 5 _ rfl) ?_
  refine View.allAt_cons_unit _ _ _ _ _ (bot_at i x0 x1 x2 x3 ht y hp hy 0 4 _ rfl) ?_
  refine View.allAt_cons_unit _ _ _ _ _ (top_at i x0 x1 x2 x3 ht y hp hy 0 4 _ rfl) ?_
  refine View.allAt_cons_unit _ _ _ _ _ (bot_at i x0 x1 x2 x3 ht y hp hy 0 3 _ rfl) ?_
  refine View.allAt_cons_unit _ _ _ _ _ (top_at i x0 x1 x2 x3 ht y hp hy 0 3 _ rfl) ?_
  refine View.allAt_cons_unit _ _ _ _ _ (bot_at i x0 x1 x2 x3 ht y hp hy 0 2 _ rfl) ?_
  refine View.allAt_cons_unit _ _ _ _ _ (top_at i x0 x1 x2 x3 ht y hp hy 0 2 _ rfl) ?_
  refine View.allAt_cons_unit _ _ _ _ _ (bot_at i x0 x1 x2 x3 ht y hp hy 0 1 _ rfl) ?_
  refine View.allAt_cons_unit _ _ _ _ _ (top_at i x0 x1 x2 x3 ht y hp hy 0 1 _ rfl) ?_
  refine View.allAt_cons_unit _ _ _ _ _ (bot_at i x0 x1 x2 x3 ht y hp hy 0 0 _ rfl) ?_
  refine View.allAt_cons_unit _ _ _ _ _ (top_at i x0 x1 x2 x3 ht y hp hy 0 0 _ rfl) ?_
  exact View.allAt_nil _ _
omit ht hp hy

/-! The exact pieces. -/

variable (flags : BitVec 32)

theorem mem_slow {v2 : IVec S1x128 1} {v7 : IVec S128x256 1} {v9 : FVec Ideal S256x256 .bf16} (pc : View.Piece (Elt Ideal) S1x8x512x128 .bf16) :
    ∀ n : ℕ, pc ∈ slowPieces i v2 v7 v9 flags x0 x1 x2 n ↔ ∃ k : Fin k0_t1_loop.trips, k.val < n ∧ pc ∈ unitPieces i x0 x1 x2 v2 v7 v9 k flags := by
  intro n
  induction n with
  | zero => rw [slowPieces_zero]; simp
  | succ n ih =>
    by_cases hn : n < k0_t1_loop.trips
    · have := slowPieces_succ i v2 v7 v9 flags x0 x1 x2 ⟨n, hn⟩
      rw [this, List.mem_append, ih]
      constructor
      · rintro (h | ⟨k, h1, h2⟩)
        · exact ⟨⟨n, hn⟩, Nat.lt_succ_self n, h⟩
        · exact ⟨k, by omega, h2⟩
      · rintro ⟨k, h1, h2⟩
        by_cases e : k.val = n
        · left; rw [show (⟨n, hn⟩ : Fin k0_t1_loop.trips) = k from Fin.ext e.symm]; exact h2
        · right; exact ⟨k, by omega, h2⟩
    · unfold slowPieces
      rw [dif_neg hn, List.nil_append, ih]
      exact ⟨fun ⟨k, h1, h2⟩ => ⟨k, by omega, h2⟩, fun ⟨k, h1, h2⟩ => ⟨k, by have := k.isLt; omega, h2⟩⟩

/-- The unit of an index. -/
def unitOf : Fin k0_t1_loop.trips := ⟨(y 1).val + 8 * ((y 2).val / 256), by
  have h1 : (y 1).val < 8 := (y 1).isLt
  have h2 : (y 2).val < 512 := (y 2).isLt
  show _ < 16; omega⟩

/-- A unit's rectangle holds the indices of the unit, … -/
theorem unit_holds (k : Fin k0_t1_loop.trips) (h : y ∈ (Rect.unit (s := S1x8x512x128) (k0_off13 k) S1x1x256x128.size (k0_off13_inb k)).set) : k = unitOf y := by
  have h := Rect.mem_set_unit.mp h
  rw [off13_all] at h
  have h1 : k.val % 8 ≤ (y 1).val ∧ (y 1).val < k.val % 8 + 1 := h 1
  have h2 : 256 * (k.val / 8) ≤ (y 2).val ∧ (y 2).val < 256 * (k.val / 8) + 256 := h 2
  exact Fin.ext (by simp only [unitOf]; omega)

/-- … and all of them. -/
theorem unit_mem : y ∈ (Rect.unit (s := S1x8x512x128) (k0_off13 (unitOf y)) S1x1x256x128.size (k0_off13_inb (unitOf y))).set := by
  refine Rect.mem_set_unit.mpr ?_
  rw [off13_all]
  have l0 : (y 0).val < 1 := (y 0).isLt
  have l1 : (y 1).val < 8 := (y 1).isLt
  have l2 : (y 2).val < 512 := (y 2).isLt
  have l3 : (y 3).val < 128 := (y 3).isLt
  intro a
  match a with
  | 0 => exact ⟨Nat.zero_le _, l0⟩
  | 1 => show (unitOf y).val % 8 ≤ (y 1).val ∧ (y 1).val < (unitOf y).val % 8 + 1; simp only [unitOf]; omega
  | 2 => show 256 * ((unitOf y).val / 8) ≤ (y 2).val ∧ (y 2).val < 256 * ((unitOf y).val / 8) + 256; simp only [unitOf]; omega
  | 3 => exact ⟨Nat.zero_le _, l3⟩

theorem pay7_apply (w : FVec Ideal S256x128 .f32) (x : S1x1x256x128.Idx) : k0_pay7 w x = w (ix2 (x 2) (x 3)) := by
  have l0 : (x 0).val < 1 := (x 0).isLt
  have l1 : (x 1).val < 1 := (x 1).isLt
  have e : ∀ (r : Fin 256) (l : Fin 128), k0_pay7 w (ix4 0 0 r l) = w (ix2 r l) := fun r l => by pointwise [k0_pay7]
  have ex : x = ix4 0 0 (x 2) (x 3) := funext fun a => by
    match a with
    | 0 => exact Fin.ext (by show (x 0).val = 0; omega)
    | 1 => exact Fin.ext (by show (x 1).val = 0; omega)
    | 2 => rfl
    | 3 => rfl
  exact (congrArg (k0_pay7 w) ex).trans (e (x 2) (x 3))

variable {v9 : FVec Ideal S256x256 .bf16} (ht9 : IsTri v9)

include ht9 hp in
theorem slow_at (n : ℕ) : View.AllAt (slowPieces i laneMask belowMask v9 flags x0 x1 x2 n) y (attnIdx i x0 x1 x2 y) := by
  intro pc hpc
  obtain ⟨k, _, hk⟩ := (mem_slow i x0 x1 x2 flags pc n).1 hpc
  unfold unitPieces at hk
  by_cases hs : sel flags k = 1#1
  · rw [if_pos hs, List.mem_singleton] at hk
    subst hk
    intro x hx
    have hset : y ∈ (Rect.unit (s := S1x8x512x128) (k0_off13 k) S1x1x256x128.size (k0_off13_inb k)).set := by rw [← hx]; exact (Rect.unit (s := S1x8x512x128) (k0_off13 k) S1x1x256x128.size (k0_off13_inb k)).idx_mem x
    have hy2 : ∀ a, (y a).val = k0_off13 k a + (x a).val := fun a => by
      rw [← hx, Rect.emb_apply]; show k0_off13 k a + 1 * (x a).val = _; omega
    have o1 : k0_off13 k 1 = k.val % 8 := congrFun (off13_all k) 1
    have o2 : k0_off13 k 2 = 256 * (k.val / 8) := congrFun (off13_all k) 2
    have o3 : k0_off13 k 3 = 0 := congrFun (off13_all k) 3
    have h1 : (y 1).val = k0_off13 k 1 + (x 1).val := hy2 1
    have h2 : (y 2).val = k0_off13 k 2 + (x 2).val := hy2 2
    have h3 : (y 3).val = k0_off13 k 3 + (x 3).val := hy2 3
    rw [o1] at h1; rw [o2] at h2; rw [o3] at h3
    have l0 : (x 0).val < 1 := (x 0).isLt
    have l1 : (x 1).val < 1 := (x 1).isLt
    have e := unitEnd_row i k x0 x1 x2 (x 2) ht9 (hp (pairOf k)) (x 3)
    refine (pay7_apply _ x).trans ?_
    rw [hs]
    refine e.trans ?_
    unfold attnIdx
    have e1 : pairOf k = y 1 := Fin.ext (by simp only [pairOf]; omega)
    have e2 : (⟨256 * (subOf k).val + (x 2).val, by have := (subOf k).isLt; have : (x 2).val < 256 := (x 2).isLt; omega⟩ : Fin 512) = y 2 := Fin.ext h2.symm
    have e3 : x 3 = y 3 := Fin.ext (by omega)
    exact congr (congr (congrArg (attnAt i x0 x1 x2) e1) e2) e3
  · rw [if_neg hs] at hk
    exact absurd hk List.not_mem_nil

theorem canon_left {L L' : List (View.Piece (Elt Ideal) S1x8x512x128 .bf16)} {v : EReal} (hc : ∃ p ∈ L, y ∈ p.1.set) (h : View.AllAt L y v) :
    View.canon (L ++ L') y = v := by
  induction L with
  | nil => obtain ⟨p, hp, _⟩ := hc; exact absurd hp List.not_mem_nil
  | cons p L ih =>
    rw [List.cons_append]
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine ih ?_ fun q hq => h q (List.mem_cons_of_mem _ hq)
      obtain ⟨q, hq, hyq⟩ := hc
      rcases List.mem_cons.mp hq with rfl | hq'
      · exact absurd hyq hm
      · exact ⟨q, hq', hyq⟩

theorem canon_right {L L' : List (View.Piece (Elt Ideal) S1x8x512x128 .bf16)} (h : ∀ p ∈ L, y ∉ p.1.set) :
    View.canon (L ++ L') y = View.canon L' y := by
  induction L with
  | nil => rfl
  | cons p L ih =>
    rw [List.cons_append, View.canon_cons_of_not_mem _ _ (h p List.mem_cons_self)]
    exact ih fun q hq => h q (List.mem_cons_of_mem _ hq)

theorem slow_mem {v2 : IVec S1x128 1} {v7 : IVec S128x256 1} {v9 : FVec Ideal S256x256 .bf16} (hs : sel flags (unitOf y) = 1#1) :
    ∃ p ∈ slowPieces i v2 v7 v9 flags x0 x1 x2 k0_t1_loop.trips, y ∈ p.1.set := by
  refine ⟨⟨Rect.unit (s := S1x8x512x128) (k0_off13 (unitOf y)) S1x1x256x128.size (k0_off13_inb (unitOf y)),
    k0_pay7 (unitEnd i x0 x1 x2 v2 v7 v9 (unitOf y) (sel flags (unitOf y))).1⟩, (mem_slow i x0 x1 x2 flags _ _).2 ⟨unitOf y, (unitOf y).isLt, ?_⟩, unit_mem y⟩
  unfold unitPieces
  rw [if_pos hs]
  exact List.mem_singleton.2 rfl

theorem slow_not_mem {v2 : IVec S1x128 1} {v7 : IVec S128x256 1} {v9 : FVec Ideal S256x256 .bf16} (hs : ¬ sel flags (unitOf y) = 1#1) :
    ∀ p ∈ slowPieces i v2 v7 v9 flags x0 x1 x2 k0_t1_loop.trips, y ∉ p.1.set := by
  intro pc hpc hset
  obtain ⟨k, _, hk⟩ := (mem_slow i x0 x1 x2 _ pc _).1 hpc
  unfold unitPieces at hk
  by_cases hs' : sel flags k = 1#1
  · rw [if_pos hs', List.mem_singleton] at hk
    subst hk
    rw [unit_holds y k hset] at hs'
    exact hs hs'
  · rw [if_neg hs'] at hk
    exact absurd hk List.not_mem_nil

include ht hp in
/-- All the pieces read back. -/
theorem pieces_at (hf : ∀ k, sel flags k = unitMore i (subOf k) (pairOf k) x0 x1 x3) (hcov : ∃ p ∈ fastPieces i x0 x1 x2 x3, y ∈ p.1.set) :
    View.canon (slowPieces i laneMask belowMask (triOf x3) flags x0 x1 x2 k0_t1_loop.trips ++ fastPieces i x0 x1 x2 x3) y
      = attnIdx i x0 x1 x2 y := by
  by_cases hs : sel flags (unitOf y) = 1#1
  · exact canon_left y (slow_mem i x0 x1 x2 y flags hs) (slow_at i x0 x1 x2 y hp flags ht _)
  · rw [canon_right y (slow_not_mem i x0 x1 x2 y flags hs)]
    refine View.canon_eq_of_allAt _ y _ hcov (fast_at i x0 x1 x2 x3 ht y hp fun sub p h1 h2 hm => hs ?_)
    rw [hf, ← hm]
    have e1 : subOf (unitOf y) = sub := Fin.ext (by simp only [subOf, unitOf]; have : (y 1).val < 8 := (y 1).isLt; omega)
    have e2 : pairOf (unitOf y) = p := Fin.ext (by simp only [pairOf, unitOf]; have : (y 1).val < 8 := (y 1).isLt; omega)
    rw [e1, e2]
end Word

section Out
variable (c : Dev nD) (i : grid0.Coords) (arg2 : Memref sig .tc .vmem S1x8x512x128 .bf16) (harg2 : arg2.IsWhole) (arg3 : Memref sig .tc .vmem S1x8x2560x128 .bf16) (harg3 : arg3.IsWhole) (arg4 : Memref sig .tc .vmem S1x8x2560x128 .bf16) (harg4 : arg4.IsWhole) (arg5 : Memref sig .tc .vmem S256x256 .bf16) (harg5 : arg5.IsWhole) (arg6 : Memref sig .tc .vmem S1x8x512x128 .bf16) (harg6 : arg6.IsWhole)
  (x0 : Vec Ideal S1x8x512x128 .bf16) (x1 : Vec Ideal S1x8x2560x128 .bf16) (x2 : Vec Ideal S1x8x2560x128 .bf16) (x3 : Vec Ideal S256x256 .bf16)

/-- What the body leaves at an index of the output's block. -/
theorem out_at (ht : IsTri (triOf x3)) (hp : ∀ (p : Fin 8) (s : ℕ) (l : Fin 128), s < 512 → vCol x2 p l s = 0) (y : S1x8x512x128.Idx) :
    out c i arg2 harg2 arg3 harg3 arg4 harg4 arg5 harg5 arg6 harg6 x0 x1 x2 x3 y = attnIdx i x0 x1 x2 y := by
  have h0 : arg2.view.read (Elt Ideal) (harg2.unread x0) = x0 := harg2.read_unread x0
  have h1 : arg3.view.read (Elt Ideal) (harg3.unread x1) = x1 := harg3.read_unread x1
  have h2 : arg4.view.read (Elt Ideal) (harg4.unread x2) = x2 := harg4.read_unread x2
  have h3 : arg5.view.read (Elt Ideal) (harg5.unread x3) = x3 := harg5.read_unread x3
  have hv9 : (bodyRun.sl.v9 c arg5 harg5 x3 : FVec Ideal S256x256 .bf16) = triOf x3 :=
    (show (bodyRun.sl.v9 c arg5 harg5 x3 : FVec Ideal S256x256 .bf16) = triOf (arg5.view.read (Elt Ideal) (harg5.unread x3)) by sl_kernel_rfl).trans (congrArg triOf h3)
  have hm2 : (cmpi .slt bodyRun.sl.v0 bodyRun.sl.v1 : IVec S1x128 1) = laneMask := by sl_kernel_rfl
  have hm7 : (bodyRun.sl.v7 : IVec S128x256 1) = belowMask := by sl_kernel_rfl
  have hF := fastPieces_eq (F := Ideal) c i arg2 harg2 arg3 harg3 arg4 harg4 arg5 harg5 x0 x1 x2 x3
  have hL : (bodyRun c i arg2 harg2 arg3 harg3 arg4 harg4 arg5 harg5 arg6 harg6 x0 x1 x2 x3).1
      = slowPieces i (cmpi .slt bodyRun.sl.v0 bodyRun.sl.v1) bodyRun.sl.v7 (bodyRun.sl.v9 c arg5 harg5 x3) (Scalar.ori (bodyRun.sl.v3873 c i arg2 harg2 arg3 harg3 arg5 harg5 x0 x1 x3) (Scalar.shli (Scalar.extui (Scalar.ori (bodyRun.sl.v3965 c i arg2 harg2 arg3 harg3 arg5 harg5 x0 x1 x3) (Scalar.andi (bodyRun.sl.v3238 i) (Scalar.cmpf .olt (k0_pay1 (bodyRun.sl.r_314 c i arg2 harg2 arg3 harg3 arg5 harg5 x0 x1 x3)) (Named.named κ "dead_mass" 0x42D00000#32))))) 15#32))
          (arg2.view.read (Elt Ideal) (harg2.unread x0)) (arg3.view.read (Elt Ideal) (harg3.unread x1)) (arg4.view.read (Elt Ideal) (harg4.unread x2)) k0_t1_loop.trips
        ++ bodyRun.sl.H4_32 c i arg2 harg2 arg3 harg3 arg4 harg4 arg5 harg5 x0 x1 x2 x3 := rfl
  have hcov : ∃ p ∈ fastPieces i x0 x1 x2 x3, y ∈ p.1.set := View.cover_of_tiledL (fastPieces i x0 x1 x2 x3) S1x1x128x128.size (by sl_kernel_rfl) y
  rw [flagsWord_eq, hF, h0, h1, h2, h3, hv9, hm2, hm7] at hL
  unfold out
  rw [View.read_writes_eq_canon _ _ _ (cover c i arg2 harg2 arg3 harg3 arg4 harg4 arg5 harg5 arg6 harg6 x0 x1 x2 x3), hL]
  exact pieces_at i x0 x1 x2 x3 ht y hp _ (sel_flags i x0 x1 x3) hcov
end Out

end Cert.Proof.KernelIdeal

end
-- ==== Proof.Value.Host.lean ====
/- What the kernel's host operations hand the launch, read at an index: the packed, padded queries, keys and values, and the
   block triangle. -/
module

public import proofs.«01_k».proof.Proof.Value.Point
public import Idealize.ShloMosaic.Lib.StableHlo.Run
public import Idealize.ShloMosaic.Lib.KernelVsHost
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.StableHlo

section Terms
variable {F : FTy → Type} [FloatOps F] [Named F]

/-- An argument's lanes in pairs of heads. -/
def inPairs (x : FVec F S32x2048x1024 .f32) : FVec F S32x8x2048x128 .f32 :=
  transpose S32x8x2048x128 [0, 2, 1, 3] (shapeCast S32x2048x8x128 x shapeCasts_S32x2048x1024_S32x2048x8x128) transposes_S32x2048x8x128_S32x8x2048x128_0_2_1_3

/-- Queries, keys and values side by side. -/
def packed (q k v : FVec F S32x2048x1024 .f32) : FVec F S32x24x2048x128 .f32 :=
  concatenate S32x24x2048x128 1 [⟨S32x8x2048x128, inPairs q⟩, ⟨S32x8x2048x128, inPairs k⟩, ⟨S32x8x2048x128, inPairs v⟩]
    concatenates_S32x8x2048x128_S32x8x2048x128_S32x8x2048x128_S32x24x2048x128_d1

/-- The launch's first array: the packed rows after 512 rows of zeros. -/
def padded (q k v : FVec F S32x2048x1024 .f32) : FVec F S32x24x2560x128 .bf16 :=
  pad S32x24x2560x128 ![0, 0, 512, 0] ![0, 0, 0, 0] ![0, 0, 0, 0] (truncf .bf16 (packed q k v) bitsLt_bf16_f32)
    (sitofp .bf16 (constantI S_ 32 0#32)) pads_S32x24x2048x128_S32x24x2560x128_000_000_51200_000 h_S_

/-- The lower triangle of a block, and a block of zeros. -/
def lower : FVec F S128x128 .bf16 :=
  uitofp .bf16 (cmpi .sge (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))
def none128 : FVec F S128x128 .bf16 := broadcastInDim S128x128 ![] bcast_S_S128x128 (constant S_ .bf16 0x0000#16)

/-- The launch's second array: two lower triangles on the diagonal. -/
def triangles : FVec F S256x256 .bf16 :=
  concatenate S256x256 0
    [⟨S128x256, concatenate S128x256 1 [⟨S128x128, lower⟩, ⟨S128x128, none128⟩] concatenates_S128x128_S128x128_S128x256_d1⟩,
     ⟨S128x256, concatenate S128x256 1 [⟨S128x128, none128⟩, ⟨S128x128, lower⟩] concatenates_S128x128_S128x128_S128x256_d1⟩]
    concatenates_S128x256_S128x256_S256x256_d0

variable (m : (ℓ : Loc nD τ sig) → Buf (Elt F) ℓ)

set_option maxHeartbeats 4000000 in
theorem V_padded (c : Dev nD) : V m c main_v8
    = padded (m ((c : Thread nD τ).loc main_arg0)) (m ((c : Thread nD τ).loc main_arg1)) (m ((c : Thread nD τ).loc main_arg2)) := by
  unfold V hostOps
  simp only [hostOps0, hostOps0_1, hostOps0_2, hostOps0_3, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_triangles (c : Dev nD) : V m c main_v18 = triangles := by
  unfold V hostOps
  simp only [hostOps0, hostOps0_1, hostOps0_2, hostOps0_3, List.flatten_cons, List.flatten_nil, List.append_nil, List.cons_append,
      List.nil_append, TRef.binary, TRef.nullary, TRef.ternary, TRef.unary, TRef.toBuf, TRef.ofBuf, cast_eq]
  after_results_simp <;> rfl
end Terms

theorem inPairs_apply (x : FVec Ideal S32x2048x1024 .f32) (b : Fin 32) (p : Fin 8) (n : Fin 2048) (l : Fin 128) :
    inPairs x (ix4 b p n l) = x (ix3 b n ⟨128 * p.val + l.val, by omega⟩) := by
  pointwise [inPairs]
  congr 1
  funext a
  apply Fin.ext
  match a with
  | 0 => simp; try omega
  | 1 => simp; try omega
  | 2 => simp; try omega

/-- One of the three packed arrays. -/
def which {α : Type} (w : Fin 3) (q k v : α) : α := match w with | 0 => q | 1 => k | 2 => v

theorem packed_apply (q k v : FVec Ideal S32x2048x1024 .f32) (b : Fin 32) (w : Fin 3) (p : Fin 8) (n : Fin 2048) (l : Fin 128) :
    packed q k v (ix4 b ⟨8 * w.val + p.val, by omega⟩ n l) = which w q k v (ix3 b n ⟨128 * p.val + l.val, by omega⟩) := by
  have e : packed q k v = concatenate S32x24x2048x128 1 (List.ofFn fun w : Fin 3 => (⟨S32x8x2048x128, inPairs (which w q k v)⟩ : (s : Shape) × (s.Idx → EReal)))
    concatenates_S32x8x2048x128_S32x8x2048x128_S32x8x2048x128_S32x24x2048x128_d1 := rfl
  rw [e, concatenate_ofFn_apply (t := S32x24x2048x128) (s₁ := S32x8x2048x128) 1 (fun w : Fin 3 => inPairs (which w q k v)) concatenates_S32x8x2048x128_S32x8x2048x128_S32x8x2048x128_S32x24x2048x128_d1 rfl 8 rfl
    (ix4 b ⟨8 * w.val + p.val, by omega⟩ n l) w (by show (8 * w.val + p.val) / 8 = w.val; omega) (ix4 b p n l) (by show p.val = (8 * w.val + p.val) % 8; omega)
    (by intro a ha; match a with | 0 => rfl | 1 => exact absurd rfl ha | 2 => rfl | 3 => rfl)]
  exact inPairs_apply _ _ _ _ _

theorem padded_apply (q k v : FVec Ideal S32x2048x1024 .f32) (b : Fin 32) (w : Fin 3) (p : Fin 8) (s : Fin 2560) (l : Fin 128) :
    padded q k v (ix4 b ⟨8 * w.val + p.val, by omega⟩ s l)
      = if hs : 512 ≤ s.val then which w q k v (ix3 b ⟨s.val - 512, by omega⟩ ⟨128 * p.val + l.val, by omega⟩) else 0 := by
  unfold padded
  by_cases hs : 512 ≤ s.val
  · rw [dif_pos hs, ← packed_apply q k v b w p ⟨s.val - 512, by omega⟩ l]
    refine (pad_apply_of_inside _ _ _ _ _ _ _ _ (ix4 b ⟨8 * w.val + p.val, by omega⟩ ⟨s.val - 512, by omega⟩ l) fun a => ?_).trans rfl
    match a with
    | 0 => show b.val = 0 + b.val * 1; omega
    | 1 => show 8 * w.val + p.val = 0 + (8 * w.val + p.val) * 1; omega
    | 2 => show s.val = 512 + (s.val - 512) * 1; omega
    | 3 => show l.val = 0 + l.val * 1; omega
  · rw [dif_neg hs]
    refine (pad_apply_of_not_inside _ _ _ _ _ _ _ _ 2 fun h => hs h.1).trans ?_
    show (((0#32 : BitVec 32).toInt : ℝ) : EReal) = 0
    simp

/-- Pair `p` of packed array `w`; the padded row and the query row of a grid point's row `R`. -/
def slot (w : Fin 3) (p : Fin 8) : Fin 24 := ⟨8 * w.val + p.val, by omega⟩
def paddedRow (a : Fin 4) (R : Fin 512) : Fin 2560 := ⟨512 * (a.val + 1) + R.val, by omega⟩
def queryRow (a : Fin 4) (R : Fin 512) : Fin 2048 := ⟨512 * a.val + R.val, by omega⟩

theorem ge_bit : ∀ i c : Fin 128, IntOp.cmpi .sge (BitVec.ofNat 32 i.val) (BitVec.ofNat 32 c.val) = if c.val ≤ i.val then 1#1 else 0#1 := by decide +kernel

theorem lower_apply (i c : Fin 128) : (lower : FVec Ideal S128x128 .bf16) (ix2 i c) = if c.val ≤ i.val then 1 else 0 := by
  have h := ge_bit i c
  pointwise [lower]
  rw [h]
  split
  · show (((1#1 : BitVec 1).toNat : ℝ) : EReal) = 1
    simp
  · show (((0#1 : BitVec 1).toNat : ℝ) : EReal) = 0
    simp

theorem none128_apply (j : S128x128.Idx) : (none128 : FVec Ideal S128x128 .bf16) j = 0 := Ideal.ofBits_zero_bf16

/-- A quarter of the triangles. -/
def quarter (a b : Fin 2) : FVec Ideal S128x128 .bf16 := if a = b then lower else none128

def halfRow (a : Fin 2) : FVec Ideal S128x256 .bf16 :=
  concatenate S128x256 1 (List.ofFn fun b : Fin 2 => (⟨S128x128, quarter a b⟩ : (s : Shape) × (s.Idx → EReal))) concatenates_S128x128_S128x128_S128x256_d1

theorem isTri_triangles : IsTri (triangles : FVec Ideal S256x256 .bf16) := by
  intro i c
  have e : (triangles : FVec Ideal S256x256 .bf16) = concatenate S256x256 0 (List.ofFn fun a : Fin 2 => (⟨S128x256, halfRow a⟩ : (s : Shape) × (s.Idx → EReal)))
    concatenates_S128x256_S128x256_S256x256_d0 := rfl
  have h2 : (if i.val / 128 = c.val / 128 ∧ c.val % 128 ≤ i.val % 128 then (1 : EReal) else 0)
      = quarter ⟨i.val / 128, by omega⟩ ⟨c.val / 128, by omega⟩ (ix2 ⟨i.val % 128, by omega⟩ ⟨c.val % 128, by omega⟩) := by
    unfold quarter
    simp only [Fin.mk.injEq]
    by_cases h : i.val / 128 = c.val / 128
    · rw [if_pos h, lower_apply]; simp only [h, true_and]
    · rw [if_neg h, none128_apply, if_neg (fun h' => h h'.1)]
  rw [h2, e]
  rw [concatenate_ofFn_apply (t := S256x256) (s₁ := S128x256) 0 halfRow concatenates_S128x256_S128x256_S256x256_d0 rfl 128 rfl (ix2 i c) ⟨i.val / 128, by omega⟩ rfl (ix2 ⟨i.val % 128, by omega⟩ c) rfl
    (by intro b hb; match b with | 0 => exact absurd rfl hb | 1 => rfl)]
  unfold halfRow
  rw [concatenate_ofFn_apply (t := S128x256) (s₁ := S128x128) 1 (quarter _) concatenates_S128x128_S128x128_S128x256_d1 rfl 128 rfl (ix2 _ c) ⟨c.val / 128, by omega⟩ rfl (ix2 ⟨i.val % 128, by omega⟩ ⟨c.val % 128, by omega⟩) rfl
    (by intro b hb; match b with | 0 => rfl | 1 => exact absurd rfl hb)]

end Cert.Proof.KernelIdeal

end
-- ==== Proof.Value.Ref.lean ====
/- The plain reference's terms by name, and each of them read at an index. -/
module

public import proofs.«01_k».proof.Proof.Gen.ReferenceIdeal.Run
public import proofs.«01_k».proof.Proof.Value.Rows
public import Idealize.ShloMosaic.Lib.Pointwise
public import Idealize.ShloMosaic.Lib.IdealHost

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic

section Terms
variable {F : FTy → Type} [FloatOps F]

/-- An argument's rows by head. -/
def heads (x : FVec F S32x2048x1024 .f32) : FVec F S32x16x2048x64 .f32 :=
  transpose S32x16x2048x64 [0, 2, 1, 3] (shapeCast S32x2048x16x64 x shapeCasts_S32x2048x1024_S32x2048x16x64) transposes_S32x2048x16x64_S32x16x2048x64_0_2_1_3

/-- The scaled scores. -/
def scores (q k : FVec F S32x2048x1024 .f32) : FVec F S32x16x2048x2048 .f32 :=
  mulf (Host.dotGeneral dot_S32x16x2048x64_S32x16x2048x64_S32x16x2048x2048_3_3_2_2_01_01 none (heads q) (heads k))
    (broadcastInDim S32x16x2048x2048 ![] bcast_S_S32x16x2048x2048 (constant S_ .f32 0x3E000000#32))

/-- A plane of zeros. -/
def zeros : FVec F S32x16x2048x2048 .f32 := broadcastInDim S32x16x2048x2048 ![] bcast_S_S32x16x2048x2048 (constant S_ .f32 0x00000000#32)

/-- The softplus of a plane. -/
def soft (d : FVec F S32x16x2048x2048 .f32) : FVec F S32x16x2048x2048 .f32 :=
  select (cmpf .une (subf d zeros) (subf d zeros)) (addf d zeros)
    (addf (maximumf d zeros) (Host.log1p (Host.exp (Host.negf (Host.absf (subf d zeros))))))

/-- Which keys come before which query. -/
def mask : IVec S32x16x2048x2048 1 :=
  broadcastInDim S32x16x2048x2048 ![2, 3] bcast_S2048x2048_S32x16x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- The logarithm of what a key leaves of the stick. -/
def left (z : FVec F S32x16x2048x2048 .f32) : FVec F S32x16x2048x2048 .f32 :=
  select mask (Host.negf (soft z)) (broadcastInDim S32x16x2048x2048 ![] bcast_S_S32x16x2048x2048 (id (constant S_ .f32 0x00000000#32)))

/-- The suffix sums of a plane along the keys. -/
def suffix (x : FVec F S32x16x2048x2048 .f32) : FVec F S32x16x2048x2048 .f32 :=
  Host.reduceWindowAdd ![1, 1, 1, 2048] ![1, 1, 1, 1] ![0, 0, 0, 0] ![0, 0, 0, 2047] x
    (broadcastInDim S_ ![] bcast_S_S_ (constant S_ .f32 0x00000000#32))
    reduceWindows_S32x16x2048x2048_S32x16x2048x2048_w1s1p0_0_w1s1p0_0_w1s1p0_0_w2048s1p0_2047 h_S_

/-- The weights. -/
def weights (z : FVec F S32x16x2048x2048 .f32) : FVec F S32x16x2048x2048 .f32 :=
  select mask (Host.exp (addf (Host.negf (soft (Host.negf z))) (subf (suffix (left z)) (left z))))
    (broadcastInDim S32x16x2048x2048 ![] bcast_S_S32x16x2048x2048 (id (constant S_ .f32 0x00000000#32)))

/-- Heads in pairs, a pair's two heads side by side. -/
def paired (x : FVec F S32x16x2048x64 .f32) : FVec F S32x8x2048x128 .f32 :=
  shapeCast S32x8x2048x128 (transpose S32x8x2048x2x64 [0, 1, 3, 2, 4] (shapeCast S32x8x2x2048x64 x shapeCasts_S32x16x2048x64_S32x8x2x2048x64)
    transposes_S32x8x2x2048x64_S32x8x2048x2x64_0_1_3_2_4) shapeCasts_S32x8x2048x2x64_S32x8x2048x128

/-- The whole of it. -/
def attention (q k v : FVec F S32x2048x1024 .f32) : FVec F S32x8x2048x128 .bf16 :=
  truncf .bf16 (paired (Host.dotGeneral dot_S32x16x2048x2048_S32x16x2048x64_S32x16x2048x64_3_2_2_3_01_01 none (weights (scores q k)) (heads v))) bitsLt_bf16_f32

theorem res_eq (m : (ℓ : Loc nD τ sig) → Buf (Elt F) ℓ) (c : Dev nD) :
    Cert.ReferenceIdeal.Value.res_main_v29 m c
      = attention (m ((c.tc : Thread nD τ).loc main_arg0)) (m ((c.tc : Thread nD τ).loc main_arg1)) (m ((c.tc : Thread nD τ).loc main_arg2)) := by
  unfold Cert.ReferenceIdeal.Value.res_main_v29; rfl
end Terms

theorem f32_zero : Ideal.ofBits .f32 0x00000000#32 = 0 := Ideal.ofBits_zero_f32

theorem heads_apply (x : FVec Ideal S32x2048x1024 .f32) (b : Fin 32) (h : Fin 16) (n : Fin 2048) (d : Fin 64) :
    heads x (ix4 b h n d) = x (ix3 b n ⟨64 * h.val + d.val, by omega⟩) := by
  pointwise [heads]
  congr 1
  funext a
  apply Fin.ext
  match a with
  | 0 => simp; try omega
  | 1 => simp; try omega
  | 2 => simp; try omega

theorem scores_apply (q k : FVec Ideal S32x2048x1024 .f32) (b : Fin 32) (h : Fin 16) (n s : Fin 2048) :
    scores q k (ix4 b h n s)
      = (∑ d : Fin 64, q (ix3 b n ⟨64 * h.val + d.val, by omega⟩) * k (ix3 b s ⟨64 * h.val + d.val, by omega⟩)) * Ideal.ofBits .f32 0x3E000000#32 := by
  refine Eq.trans (b := (∑ d : Fin 64, heads q (ix4 b h n d) * heads k (ix4 b h s d)) * Ideal.ofBits .f32 0x3E000000#32) ?_
    (congrArg (· * _) (Finset.sum_congr rfl fun d _ => by rw [heads_apply, heads_apply]))
  pointwise [scores]

theorem zeros_apply (j : S32x16x2048x2048.Idx) : (zeros : FVec Ideal S32x16x2048x2048 .f32) j = 0 := f32_zero

theorem soft_apply (d : FVec Ideal S32x16x2048x2048 .f32) (j : S32x16x2048x2048.Idx) : soft d j = Rows.sp (d j) := by
  rw [← Rows.sp_host]
  have h0 := zeros_apply j
  pointwise [soft]
  rw [h0]
  generalize d j = x
  rw [if_neg (by simp), sub_zero]
  rfl

theorem lt_bit : ∀ a b : ℕ, a < 2048 → b < 2048 → IntOp.cmpi .slt (BitVec.ofNat 32 a) (BitVec.ofNat 32 b) = if a < b then 1#1 else 0#1 := by
  intro a b ha hb
  have e : (BitVec.ofNat 32 a).slt (BitVec.ofNat 32 b) = decide (a < b) := by
    rw [BitVec.slt_eq_decide, BitVec.toInt_ofNat', BitVec.toInt_ofNat']
    congr 1
    rw [Int.bmod_def, Int.bmod_def]
    simp only [eq_iff_iff]
    omega
  unfold IntOp.cmpi
  simp only [e]
  by_cases h : a < b <;> simp [h]

theorem mask_apply (b : Fin 32) (h : Fin 16) (n s : Fin 2048) : mask (ix4 b h n s) = if s.val < n.val then 1#1 else 0#1 := by
  rw [← lt_bit s.val n.val s.isLt n.isLt]
  pointwise [mask]

theorem foldl_add {N : ℕ} (f : Fin N → EReal) : ∀ (l : List (Fin N)) (v : EReal), l.foldl (fun r n => r + f n) v = v + (l.map f).sum
  | [], v => by simp
  | n :: l, v => by rw [List.foldl_cons, foldl_add f l, List.map_cons, List.sum_cons, add_assoc]

/-- A window sum started from zero, at an index: the sum over the window's places. -/
theorem windowSum_apply {s t : Shape} (window strides lo hi : Fin s.rank → ℕ) (h : s.ReduceWindows window strides lo hi t) (x : s.Idx → EReal) (j : t.Idx) :
    Ideal.hostReduceWindowAdd window strides lo hi h x 0 j
      = ∑ w : Shape.Idx ⟨s.rank, window⟩, (if hin : ∀ a, lo a ≤ (j (a.cast h.1.symm)).val * strides a + (w a).val ∧ (j (a.cast h.1.symm)).val * strides a + (w a).val - lo a < s.size a then
          x (fun a => ⟨(j (a.cast h.1.symm)).val * strides a + (w a).val - lo a, (hin a).2⟩) else (0 : EReal)) := by
  unfold Ideal.hostReduceWindowAdd Host.reduceWindow
  refine (foldl_add _ _ _).trans ?_
  rw [zero_add, ← Fin.sum_univ_def]
  refine Fintype.sum_equiv (Shape.rowMajor ⟨s.rank, window⟩).symm _ _ fun i => ?_
  by_cases hin : ∀ a, lo a ≤ (j (a.cast h.1.symm)).val * strides a + ((Shape.rowMajor ⟨s.rank, window⟩).symm i a).val ∧ (j (a.cast h.1.symm)).val * strides a + ((Shape.rowMajor ⟨s.rank, window⟩).symm i a).val - lo a < s.size a
  · exact (dif_pos hin).trans (by rw [dif_pos hin])
  · exact (dif_neg hin).trans (by rw [dif_neg hin])

/-- A plane's entry at a key given as a number, zero past the last key. -/
def atKey (x : FVec Ideal S32x16x2048x2048 .f32) (b : Fin 32) (h : Fin 16) (n : Fin 2048) (s : ℕ) : EReal :=
  if hs : s < 2048 then x (ix4 b h n ⟨s, hs⟩) else 0

/-- A window's entry: the plane's, at the key the window's place comes to. -/
theorem window_at (x : FVec Ideal S32x16x2048x2048 .f32) (b : Fin 32) (h : Fin 16) (n s : Fin 2048) (w : Shape.Idx ⟨4, ![1, 1, 1, 2048]⟩) :
    (if hin : ∀ a : Fin 4, (![0, 0, 0, 0] : Fin 4 → ℕ) a ≤ (ix4 b h n s a).val * (![1, 1, 1, 1] : Fin 4 → ℕ) a + (w a).val
          ∧ (ix4 b h n s a).val * (![1, 1, 1, 1] : Fin 4 → ℕ) a + (w a).val - (![0, 0, 0, 0] : Fin 4 → ℕ) a < S32x16x2048x2048.size a then
        x (fun a => ⟨(ix4 b h n s a).val * (![1, 1, 1, 1] : Fin 4 → ℕ) a + (w a).val - (![0, 0, 0, 0] : Fin 4 → ℕ) a, (hin a).2⟩) else (0 : EReal))
      = atKey x b h n (s.val + (w 3).val) := by
  have h0 : (w 0).val = 0 := by have : (w 0).val < 1 := (w 0).isLt; omega
  have h1 : (w 1).val = 0 := by have : (w 1).val < 1 := (w 1).isLt; omega
  have h2 : (w 2).val = 0 := by have : (w 2).val < 1 := (w 2).isLt; omega
  unfold atKey
  by_cases hs : s.val + (w 3).val < 2048
  · rw [dif_pos hs, dif_pos fun a => match a with
      | 0 => ⟨Nat.zero_le _, by show b.val * 1 + (w 0).val - 0 < 32; omega⟩
      | 1 => ⟨Nat.zero_le _, by show h.val * 1 + (w 1).val - 0 < 16; omega⟩
      | 2 => ⟨Nat.zero_le _, by show n.val * 1 + (w 2).val - 0 < 2048; omega⟩
      | 3 => ⟨Nat.zero_le _, by show s.val * 1 + (w 3).val - 0 < 2048; omega⟩]
    congr 1
    funext a
    apply Fin.ext
    match a with
    | 0 => show b.val * 1 + (w 0).val - 0 = b.val; omega
    | 1 => show h.val * 1 + (w 1).val - 0 = h.val; omega
    | 2 => show n.val * 1 + (w 2).val - 0 = n.val; omega
    | 3 => show s.val * 1 + (w 3).val - 0 = s.val + (w 3).val; omega
  · rw [dif_neg hs, dif_neg fun hin => ?_]
    have h3 : s.val * 1 + (w 3).val - 0 < 2048 := (hin 3).2
    omega

theorem suffix_apply (x : FVec Ideal S32x16x2048x2048 .f32) (b : Fin 32) (h : Fin 16) (n s : Fin 2048) :
    suffix x (ix4 b h n s) = ∑ t ∈ Finset.Ico s.val 2048, atKey x b h n t := by
  have hv : (broadcastInDim S_ ![] bcast_S_S_ (constant (F := Ideal) S_ .f32 0x00000000#32)) (Shape.Idx.first h_S_) = (0 : EReal) := f32_zero
  refine Eq.trans (b := ∑ k : Fin 2048, atKey x b h n (s.val + k.val)) ?_ ?_
  · unfold suffix Host.reduceWindowAdd
    rw [hv]
    refine (windowSum_apply (s := S32x16x2048x2048) (t := S32x16x2048x2048) ![1, 1, 1, 2048] ![1, 1, 1, 1] ![0, 0, 0, 0] ![0, 0, 0, 2047]
      reduceWindows_S32x16x2048x2048_S32x16x2048x2048_w1s1p0_0_w1s1p0_0_w1s1p0_0_w2048s1p0_2047 x (ix4 b h n s)).trans ?_
    refine (Finset.sum_congr rfl fun w _ => window_at x b h n s w).trans ?_
    exact (Fintype.sum_bijective (fun k : Fin 2048 => (ix4 0 0 0 k : Shape.Idx ⟨4, ![1, 1, 1, 2048]⟩)) ⟨fun a b h => congrFun h 3, fun w =>
        ⟨w 3, funext fun a => match a with
          | 0 => (Subsingleton.elim (α := Fin 1) _ _) | 1 => (Subsingleton.elim (α := Fin 1) _ _) | 2 => (Subsingleton.elim (α := Fin 1) _ _) | 3 => rfl⟩⟩
        (fun k => atKey x b h n (s.val + k.val)) _ fun k => rfl).symm
  · rw [Fin.sum_univ_eq_sum_range (fun k => atKey x b h n (s.val + k)) 2048, Finset.range_eq_Ico, Finset.sum_Ico_add]
    rw [← Finset.sum_Ico_consecutive _ (show 0 + s.val ≤ 2048 by omega) (show 2048 ≤ 2048 + s.val by omega), zero_add]
    rw [Finset.sum_eq_zero (s := Finset.Ico 2048 _), add_zero]
    intro t ht
    exact dif_neg (by have := (Finset.mem_Ico.1 ht).1; omega)

theorem paired_apply (x : FVec Ideal S32x16x2048x64 .f32) (b : Fin 32) (p : Fin 8) (n : Fin 2048) (l : Fin 128) :
    paired x (ix4 b p n l) = x (ix4 b ⟨2 * p.val + l.val / 64, by omega⟩ n ⟨l.val % 64, Nat.mod_lt _ (by decide)⟩) := by
  pointwise [paired]
  congr 1
  funext a
  apply Fin.ext
  match a with
  | 0 => simp; try omega
  | 1 => simp; try omega
  | 2 => simp; try omega
  | 3 => simp; try omega

theorem attention_apply (q k v : FVec Ideal S32x2048x1024 .f32) (b : Fin 32) (p : Fin 8) (n : Fin 2048) (l : Fin 128) :
    attention q k v (ix4 b p n l)
      = ∑ s : Fin 2048, weights (scores q k) (ix4 b ⟨2 * p.val + l.val / 64, by omega⟩ n s) * v (ix3 b s ⟨128 * p.val + l.val, by omega⟩) := by
  refine Eq.trans (b := paired (Host.dotGeneral dot_S32x16x2048x2048_S32x16x2048x64_S32x16x2048x64_3_2_2_3_01_01 none (weights (scores q k)) (heads v)) (ix4 b p n l)) rfl ?_
  rw [paired_apply]
  refine Eq.trans (b := ∑ s : Fin 2048, weights (scores q k) (ix4 b ⟨2 * p.val + l.val / 64, by omega⟩ n s) * heads v (ix4 b ⟨2 * p.val + l.val / 64, by omega⟩ s ⟨l.val % 64, Nat.mod_lt _ (by decide)⟩)) ?_
    (Finset.sum_congr rfl fun s _ => by
      rw [heads_apply]; congr 3; apply Fin.ext; show 64 * (2 * p.val + l.val / 64) + l.val % 64 = 128 * p.val + l.val; omega)
  generalize weights (scores q k) = w
  generalize heads v = hv
  pointwise

theorem neg_sum (f : ℕ → EReal) (S : Finset ℕ) (hf : ∀ t, 0 ≤ f t) : ∑ t ∈ S, -(f t) = -(∑ t ∈ S, f t) := by
  induction S using Finset.cons_induction with
  | empty => simp
  | cons a S ha ih =>
    rw [Finset.sum_cons, Finset.sum_cons, ih, EReal.neg_add (.inl fun h => ?_) (.inr fun h => ?_), sub_eq_add_neg]
    · have := hf a; simp [h] at this
    · have := Finset.sum_nonneg (s := S) fun t _ => hf t
      simp [h] at this

/-- The weight of a key, from a row of scores that agrees with the plane's. -/
theorem weights_apply (z : FVec Ideal S32x16x2048x2048 .f32) (zr : ℕ → EReal) (b : Fin 32) (h : Fin 16) (n s : Fin 2048)
    (hz : ∀ t : Fin 2048, z (ix4 b h n t) = zr (512 + t.val)) :
    weights z (ix4 b h n s) = Rows.W zr (512 + n.val) (512 + s.val) := by
  have hl : ∀ t : Fin 2048, left z (ix4 b h n t) = -(Rows.g zr (512 + n.val) (512 + t.val)) := fun t => by
    refine Eq.trans (b := if mask (ix4 b h n t) = 1#1 then -(soft z (ix4 b h n t)) else Ideal.ofBits .f32 0x00000000#32) ?_ ?_
    · generalize hs : soft z = sz
      have := hs
      pointwise [left]
      rw [hs]
      show Scalar.select _ _ (Ideal.ofBits .f32 0x00000000#32) = _
      rw [f32_zero]
      rfl
    · rw [mask_apply, soft_apply, hz, f32_zero]
      unfold Rows.g
      by_cases hc : t.val < n.val
      · simp [hc]
      · simp [hc]
  have hM : suffix (left z) (ix4 b h n s) = -(Rows.M zr (512 + n.val) (512 + s.val)) := by
    rw [suffix_apply]
    unfold Rows.M
    rw [Finset.sum_congr rfl (g := fun t => -(Rows.g zr (512 + n.val) (512 + t))) fun t ht => (by
      have ht := (Finset.mem_Ico.1 ht).2
      unfold atKey
      rw [dif_pos ht, hl ⟨t, ht⟩]), neg_sum _ _ (fun t => Rows.g_nonneg _ _ _), Finset.sum_Ico_add (Rows.g zr (512 + n.val)) s.val 2048 512]
    congr 3
    omega
  have hw : weights z (ix4 b h n s)
      = if mask (ix4 b h n s) = 1#1 then Ideal.exp (-(soft (Host.negf z) (ix4 b h n s)) + (suffix (left z) (ix4 b h n s) - left z (ix4 b h n s))) else Ideal.ofBits .f32 0x00000000#32 := by
    generalize hs : soft (Host.negf z) = sz
    generalize hs' : left z = lz
    generalize hs'' : suffix lz = uz
    unfold weights
    rw [hs, hs', hs'']
    pointwise
    show Scalar.select _ _ (Ideal.ofBits .f32 0x00000000#32) = _
    rw [f32_zero]
    rfl
  rw [hw, soft_apply, hM, hl, mask_apply, f32_zero]
  by_cases hc : s.val < n.val
  · rw [if_pos hc, if_pos rfl, ← Rows.W_host zr _ (by omega) (by omega), ← hz]
    rfl
  · rw [if_neg hc, if_neg (by decide), Rows.W, if_neg (by omega)]

end Cert.Proof.Ref

end
-- ==== Proof.Value.Same.lean ====
/- A grid point's result as the reference's: its scores, its values, and the row's sum over the keys. -/
module

public import proofs.«01_k».proof.Proof.Value.Host
public import proofs.«01_k».proof.Proof.Value.Ref

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem

/-! ### Scores -/

theorem scale_val : scale = (((1 : ℝ) / 8 : ℝ) : EReal) := by
  unfold scale
  simp [Ideal.ofBits, Ideal.ieee, -EReal.coe_mul]; norm_num

theorem scale_f32 : Ideal.ofBits .f32 0x3E000000#32 = scale := by
  rw [scale_val]
  simp [Ideal.ofBits, Ideal.ieee, -EReal.coe_mul]; norm_num

theorem sum_mul_scale {ι : Type} [Fintype ι] (f : ι → EReal) : (∑ i, f i) * scale = ∑ i, f i * scale := by
  rw [scale_val]
  refine map_sum (⟨⟨fun x => x * (((1 : ℝ) / 8 : ℝ) : EReal), zero_mul _⟩, fun x y => ?_⟩ : EReal →+ EReal) f Finset.univ
  exact EReal.right_distrib_of_nonneg_of_ne_top (by exact_mod_cast (by norm_num : (0 : ℝ) ≤ 1 / 8)) (EReal.coe_ne_top _) x y

/-- A pair's lanes, those of the other head left out, summed as the head's own. -/
theorem sum_lanes (h : Fin 2) (f : Fin 128 → EReal) :
    (∑ l : Fin 128, if l.val / 64 = h.val then f l else 0) = ∑ d : Fin 64, f ⟨64 * h.val + d.val, by omega⟩ := by
  rw [← Finset.sum_filter]
  refine (Finset.sum_bij (fun d _ => (⟨64 * h.val + d.val, by omega⟩ : Fin 128)) (fun d _ => ?_) (fun a _ b _ e => ?_) (fun l hl => ?_) fun d _ => rfl).symm
  · simp; omega
  · apply Fin.ext; have := congrArg Fin.val e; simp at this; exact this
  · have := (Finset.mem_filter.1 hl).2
    exact ⟨⟨l.val % 64, Nat.mod_lt _ (by decide)⟩, Finset.mem_univ _, Fin.ext (by show 64 * h.val + l.val % 64 = l.val; omega)⟩

section Point
variable (q k v : FVec Ideal S32x2048x1024 .f32) (b : Fin 32) (a : Fin 4)
  (x0 : Vec Ideal S1x8x512x128 .bf16) (x1 x2 : Vec Ideal S1x8x2560x128 .bf16)
  (h0 : ∀ p R l, x0 (ix4 0 p R l) = padded q k v (ix4 b (slot 0 p) (paddedRow a R) l))
  (h1 : ∀ p s l, x1 (ix4 0 p s l) = padded q k v (ix4 b (slot 1 p) s l))
  (h2 : ∀ p s l, x2 (ix4 0 p s l) = padded q k v (ix4 b (slot 2 p) s l))
include h0 h1 h2

theorem zRow_eq (p : Fin 8) (R : Fin 512) (h : Fin 2) (s : Fin 2048) :
    Ref.scores q k (ix4 b ⟨2 * p.val + h.val, by omega⟩ ⟨512 * a.val + R.val, by omega⟩ s) = zRow x0 x1 p R h (512 + s.val) := by
  unfold zRow
  rw [dif_pos (by omega), Ref.scores_apply, scale_f32, sum_mul_scale]
  have hq : ∀ l, x0 (ix4 0 p R l) = q (ix3 b ⟨512 * a.val + R.val, by omega⟩ ⟨128 * p.val + l.val, by omega⟩) := fun l => by
    rw [h0, slot, padded_apply, dif_pos (by show 512 ≤ 512 * (a.val + 1) + R.val; omega)]
    show q _ = q _
    congr 2
    apply Fin.ext; show 512 * (a.val + 1) + R.val - 512 = 512 * a.val + R.val; omega
  have hk : ∀ l, x1 (ix4 0 p ⟨512 + s.val, by omega⟩ l) = k (ix3 b s ⟨128 * p.val + l.val, by omega⟩) := fun l => by
    rw [h1, slot, padded_apply, dif_pos (by show 512 ≤ 512 + s.val; omega)]
    show k _ = k _
    congr 2
    apply Fin.ext; show 512 + s.val - 512 = s.val; omega
  refine Eq.trans ?_ (Eq.trans (sum_lanes h fun l => x0 (ix4 0 p R l) * scale * x1 (ix4 0 p ⟨512 + s.val, by omega⟩ l)).symm (Finset.sum_congr rfl fun l _ => ?_))
  · refine Finset.sum_congr rfl fun d _ => ?_
    rw [hq, hk]
    have e : (⟨64 * (2 * p.val + h.val) + d.val, by omega⟩ : Fin 1024) = ⟨128 * p.val + (64 * h.val + d.val), by omega⟩ := Fin.ext (by show 64 * (2 * p.val + h.val) + d.val = 128 * p.val + (64 * h.val + d.val); omega)
    simp only [e]
    rw [mul_right_comm]
  · split <;> simp

theorem vCol_zero (p : Fin 8) (s : ℕ) (l : Fin 128) (hs : s < 512) : vCol x2 p l s = 0 := by
  unfold vCol
  rw [dif_pos (by omega), h2, slot, padded_apply, dif_neg (by show ¬ 512 ≤ s; omega)]

theorem vCol_eq (p : Fin 8) (s : Fin 2048) (l : Fin 128) : vCol x2 p l (512 + s.val) = v (ix3 b s ⟨128 * p.val + l.val, by omega⟩) := by
  unfold vCol
  rw [dif_pos (by omega), h2, slot, padded_apply, dif_pos (by show 512 ≤ 512 + s.val; omega)]
  show v _ = v _
  congr 2
  apply Fin.ext; show 512 + s.val - 512 = s.val; omega

/-- A point's result is the reference's. -/
theorem attnAt_eq (i : grid0.Coords) (hi : (i 1).val = a.val) (p : Fin 8) (R : Fin 512) (l : Fin 128) :
    attnAt i x0 x1 x2 p R l = Ref.attention q k v (ix4 b p (queryRow a R) l) := by
  unfold attnAt queryRow
  have hT : tRow i R = 512 + (512 * a.val + R.val) := by unfold tRow; omega
  rw [hT, Rows.A_pad _ _ _ (show 0 ≤ 512 by omega) (by omega) (fun s hs => vCol_zero q k v b a x0 x1 x2 h0 h1 h2 p s l hs), Ref.attention_apply]
  unfold Rows.A
  rw [← Finset.sum_Ico_add (fun s => Rows.W (zRow x0 x1 p R (hd l)) (512 + (512 * a.val + R.val)) s * vCol x2 p l s) 0 2048 512, ← Finset.range_eq_Ico,
    ← Fin.sum_univ_eq_sum_range (fun s => Rows.W (zRow x0 x1 p R (hd l)) (512 + (512 * a.val + R.val)) (512 + s) * vCol x2 p l (512 + s)) 2048]
  refine Finset.sum_congr rfl fun s _ => ?_
  rw [vCol_eq q k v b a x0 x1 x2 h0 h1 h2]
  congr 1
  exact (Ref.weights_apply (Ref.scores q k) (zRow x0 x1 p R (hd l)) b ⟨2 * p.val + l.val / 64, by omega⟩ ⟨512 * a.val + R.val, by omega⟩ s
    fun t => zRow_eq q k v b a x0 x1 x2 h0 h1 h2 p R (hd l) t).symm
end Point

end Cert.Proof.KernelIdeal

end
-- ==== Proof.Value.Blocks.lean ====
/- The blocks the kernel's windows stage, read at an index. -/
module

public import proofs.«01_k».proof.Proof.Value.Host
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem

/-! ### Blocks -/

theorem index0 : ∀ t : Fin grid0.N, win0_0.index t 0 = (grid0.coords t 0).val ∧ win0_0.index t 1 = 0 ∧ win0_0.index t 2 = (grid0.coords t 1).val + 1 ∧ win0_0.index t 3 = 0 := by decide +kernel
theorem index1 : ∀ t : Fin grid0.N, win0_1.index t 0 = (grid0.coords t 0).val ∧ win0_1.index t 1 = 1 ∧ win0_1.index t 2 = 0 ∧ win0_1.index t 3 = 0 := by decide +kernel
theorem index2 : ∀ t : Fin grid0.N, win0_2.index t 0 = (grid0.coords t 0).val ∧ win0_2.index t 1 = 2 ∧ win0_2.index t 2 = 0 ∧ win0_2.index t 3 = 0 := by decide +kernel
theorem index3 : ∀ t : Fin grid0.N, win0_3.index t 0 = 0 ∧ win0_3.index t 1 = 0 := by decide +kernel
theorem index4 : ∀ t : Fin grid0.N, win0_4.index t 0 = (grid0.coords t 0).val ∧ win0_4.index t 1 = 0 ∧ win0_4.index t 2 = (grid0.coords t 1).val ∧ win0_4.index t 3 = 0 := by decide +kernel
theorem point_of : ∀ (b : Fin 32) (a : Fin 4), ∃ t : Fin grid0.N, (grid0.coords t 0).val = b.val ∧ (grid0.coords t 1).val = a.val := by decide +kernel

variable (m : (ℓ : Loc nD τ sig) → Buf (Elt Ideal) ℓ)

/-- A core's three arguments. -/
abbrev argQ (c : Dev nD) : FVec Ideal S32x2048x1024 .f32 := m ((c : Thread nD τ).loc main_arg0)
abbrev argK (c : Dev nD) : FVec Ideal S32x2048x1024 .f32 := m ((c : Thread nD τ).loc main_arg1)
abbrev argV (c : Dev nD) : FVec Ideal S32x2048x1024 .f32 := m ((c : Thread nD τ).loc main_arg2)

theorem iblk0_apply (c : Dev nD) (t : Fin (cfg0 (F := Ideal)).N) (p : Fin 8) (R : Fin 512) (l : Fin 128) :
    (iblk m c 0 t : Vec Ideal S1x8x512x128 .bf16) (ix4 0 p R l)
      = padded (argQ m c) (argK m c) (argV m c) (ix4 (grid0.coords t 0) (slot 0 p) (paddedRow (grid0.coords t 1) R) l) := by
  obtain ⟨e0, e1, e2, e3⟩ := index0 t
  rw [← V_padded]
  unfold iblk
  rw [View.read_apply]
  show V m c main_v8 _ = V m c main_v8 _
  congr 1
  funext a
  apply Fin.ext
  match a with
  | ⟨0, _⟩ => show win0_0.index t 0 * 1 + 1 * 0 = (grid0.coords t 0).val; rw [e0]; omega
  | ⟨1, _⟩ => show win0_0.index t 1 * 8 + 1 * p.val = 8 * 0 + p.val; rw [e1]; omega
  | ⟨2, _⟩ => show win0_0.index t 2 * 512 + 1 * R.val = 512 * ((grid0.coords t 1).val + 1) + R.val; rw [e2]; omega
  | ⟨3, _⟩ => show win0_0.index t 3 * 128 + 1 * l.val = l.val; rw [e3]; omega

theorem iblk1_apply (c : Dev nD) (t : Fin (cfg0 (F := Ideal)).N) (p : Fin 8) (s : Fin 2560) (l : Fin 128) :
    (iblk m c 1 t : Vec Ideal S1x8x2560x128 .bf16) (ix4 0 p s l)
      = padded (argQ m c) (argK m c) (argV m c) (ix4 (grid0.coords t 0) (slot 1 p) s l) := by
  obtain ⟨e0, e1, e2, e3⟩ := index1 t
  rw [← V_padded]
  unfold iblk
  rw [View.read_apply]
  show V m c main_v8 _ = V m c main_v8 _
  congr 1
  funext a
  apply Fin.ext
  match a with
  | ⟨0, _⟩ => show win0_1.index t 0 * 1 + 1 * 0 = (grid0.coords t 0).val; rw [e0]; omega
  | ⟨1, _⟩ => show win0_1.index t 1 * 8 + 1 * p.val = 8 * 1 + p.val; rw [e1]; omega
  | ⟨2, _⟩ => show win0_1.index t 2 * 2560 + 1 * s.val = s.val; rw [e2]; omega
  | ⟨3, _⟩ => show win0_1.index t 3 * 128 + 1 * l.val = l.val; rw [e3]; omega

theorem iblk2_apply (c : Dev nD) (t : Fin (cfg0 (F := Ideal)).N) (p : Fin 8) (s : Fin 2560) (l : Fin 128) :
    (iblk m c 2 t : Vec Ideal S1x8x2560x128 .bf16) (ix4 0 p s l)
      = padded (argQ m c) (argK m c) (argV m c) (ix4 (grid0.coords t 0) (slot 2 p) s l) := by
  obtain ⟨e0, e1, e2, e3⟩ := index2 t
  rw [← V_padded]
  unfold iblk
  rw [View.read_apply]
  show V m c main_v8 _ = V m c main_v8 _
  congr 1
  funext a
  apply Fin.ext
  match a with
  | ⟨0, _⟩ => show win0_2.index t 0 * 1 + 1 * 0 = (grid0.coords t 0).val; rw [e0]; omega
  | ⟨1, _⟩ => show win0_2.index t 1 * 8 + 1 * p.val = 8 * 2 + p.val; rw [e1]; omega
  | ⟨2, _⟩ => show win0_2.index t 2 * 2560 + 1 * s.val = s.val; rw [e2]; omega
  | ⟨3, _⟩ => show win0_2.index t 3 * 128 + 1 * l.val = l.val; rw [e3]; omega

theorem iblk3_apply (c : Dev nD) (t : Fin (cfg0 (F := Ideal)).N) (j : S256x256.Idx) :
    (iblk m c 3 t : Vec Ideal S256x256 .bf16) j = (triangles : FVec Ideal S256x256 .bf16) j := by
  obtain ⟨e0, e1⟩ := index3 t
  rw [← V_triangles m c]
  unfold iblk
  rw [View.read_apply]
  show V m c main_v18 _ = V m c main_v18 _
  congr 1
  funext a
  apply Fin.ext
  match a with
  | ⟨0, _⟩ => show win0_3.index t 0 * 256 + 1 * (j 0).val = (j 0).val; rw [e0]; omega
  | ⟨1, _⟩ => show win0_3.index t 1 * 256 + 1 * (j 1).val = (j 1).val; rw [e1]; omega

/-- The triangles as the body reads them. -/
theorem isTri_of (x : Vec Ideal S256x256 .bf16) (h : ∀ j, x j = (triangles : FVec Ideal S256x256 .bf16) j) : IsTri (triOf x) := by
  have e : triOf x = (triangles : FVec Ideal S256x256 .bf16) := by
    funext j
    rw [← h]
    unfold triOf
    pointwise
  rw [e]
  exact isTri_triangles

end Cert.Proof.KernelIdeal

end
-- ==== Proof.Value.Result.lean ====
/- The kernel's result array, filled by the points' blocks, is the reference's attention. -/
module

public import proofs.«01_k».proof.Proof.Value.Same
public import proofs.«01_k».proof.Proof.Value.Blocks
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

theorem flushed4 (c : Dev nD) (t : Fin (cfg0 (F := Ideal)).N) :
    (dats m 0 c).flushed 4 t = ((cfg0 (F := Ideal)).win 4).cut (grid0.coords t) (outsAt m c t) := by
  show ((cfg0 (F := Ideal)).win 4).cut (grid0.coords t) ((dats m 0 c).after 4 t) = _
  rw [after0_4]

theorem outsAt_apply (c : Dev nD) (t : Fin (cfg0 (F := Ideal)).N) (y : S1x8x512x128.Idx) :
    outsAt m c t y = Ref.attention (argQ m c) (argK m c) (argV m c)
      (ix4 (grid0.coords t 0) (y 1) (queryRow (grid0.coords t 1) (y 2)) (y 3)) := by
  have h0 := iblk0_apply m c t
  have h1 := iblk1_apply m c t
  have h2 := iblk2_apply m c t
  have h3 := isTri_of (iblk m c 3 t) (iblk3_apply m c t)
  unfold outsAt
  generalize (iblk m c 0 t : Vec Ideal S1x8x512x128 .bf16) = x0 at h0 ⊢
  generalize (iblk m c 1 t : Vec Ideal S1x8x2560x128 .bf16) = x1 at h1 ⊢
  generalize (iblk m c 2 t : Vec Ideal S1x8x2560x128 .bf16) = x2 at h2 ⊢
  generalize (iblk m c 3 t : Vec Ideal S256x256 .bf16) = x3 at h3 ⊢
  rw [out_at _ _ _ _ _ _ _ _ _ _ _ _ _ _ _ _ h3
    (fun p s l hs => vCol_zero _ _ _ _ (grid0.coords t 1) _ _ _ h0 h1 h2 p s l hs)]
  exact attnAt_eq _ _ _ _ (grid0.coords t 1) _ _ _ h0 h1 h2 _ rfl _ _ _

/-- A block of the result array read back, from its entries. -/
theorem cut4 (t : Fin (cfg0 (F := Ideal)).N) (O : Vec Ideal S1x8x512x128 .bf16) (G : S32x8x2048x128.Idx → EReal)
    (h : ∀ y : S1x8x512x128.Idx, O y = G (ix4 (grid0.coords t 0) (y 1) (queryRow (grid0.coords t 1) (y 2)) (y 3))) :
    ((cfg0 (F := Ideal)).win 4).cut (grid0.coords t) O = (((cfg0 (F := Ideal)).win 4).blk t).view.read (Elt Ideal) G := by
  obtain ⟨e0, e1, e2, e3⟩ := index4 t
  funext y
  rw [View.read_apply]
  refine (h y).trans ?_
  show G _ = G _
  congr 1
  funext a
  apply Fin.ext
  have hy0 : (y 0).val = 0 := by have : (y 0).val < 1 := (y 0).isLt; omega
  match a with
  | ⟨0, _⟩ => show (grid0.coords t 0).val = win0_4.index t 0 * 1 + 1 * (y 0).val; rw [e0]; omega
  | ⟨1, _⟩ => show (y 1).val = win0_4.index t 1 * 8 + 1 * (y 1).val; rw [e1]; omega
  | ⟨2, _⟩ => show 512 * (grid0.coords t 1).val + (y 2).val = win0_4.index t 2 * 512 + 1 * (y 2).val; rw [e2]; omega
  | ⟨3, _⟩ => show (y 3).val = win0_4.index t 3 * 128 + 1 * (y 3).val; rw [e3]; omega

/-- Every index of the result array lies in some point's block. -/
theorem cover4 (j : S32x8x2048x128.Idx) : ∃ t : Fin (cfg0 (F := Ideal)).N, ((cfg0 (F := Ideal)).win 4).flush t = true ∧ j ∈ (((cfg0 (F := Ideal)).win 4).blk t).view.set := by
  obtain ⟨t, ht0, ht1⟩ := point_of (j 0) ⟨(j 2).val / 512, by have : (j 2).val < 2048 := (j 2).isLt; omega⟩
  obtain ⟨e0, e1, e2, e3⟩ := index4 t
  refine ⟨t, flush0_4 t, ?_⟩
  have hm : (((cfg0 (F := Ideal)).win 4).blk t).view.emb (ix4 0 (j 1) ⟨(j 2).val % 512, Nat.mod_lt _ (by decide)⟩ (j 3) : S1x8x512x128.Idx) = j := by
    funext a
    apply Fin.ext
    match a with
    | ⟨0, _⟩ => show win0_4.index t 0 * 1 + 1 * 0 = (j 0).val; rw [e0, ht0]; omega
    | ⟨1, _⟩ => show win0_4.index t 1 * 8 + 1 * (j 1).val = (j 1).val; rw [e1]; omega
    | ⟨2, _⟩ => show win0_4.index t 2 * 512 + 1 * ((j 2).val % 512) = (j 2).val; rw [e2, ht1]; show (j 2).val / 512 * 512 + _ = _; omega
    | ⟨3, _⟩ => show win0_4.index t 3 * 128 + 1 * (j 3).val = (j 3).val; rw [e3]; omega
  rw [← hm]
  exact View.emb_mem_set _ _

theorem array4 (c : Dev nD) : (dats m 0 c).arrAt 4 (cfg0 (F := Ideal)).N = Ref.attention (argQ m c) (argK m c) (argV m c) :=
  (dats m 0 c).arrAt_eq_of_cover 4 _ (fun t _ => (flushed4 m c t).trans (cut4 t _ _ (outsAt_apply m c t))) cover4

/-- The kernel's run: the reference's attention of its arguments, which it leaves alone. -/
theorem run_value (ρ : Dev nD → PrngReg) : θ_run defs (onTc (τ := τ) (main (F := Ideal))) ⟨m, fun _ => 0, ρ⟩ (fun r => ∀ c : Dev nD,
      r.2.mem ((c.tc : Thread nD τ).loc main_v19) = Ref.attention (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 4).trans (array4 m c), args_of m (dats m) r h c⟩) (run_main m ρ)

end Cert.Proof.KernelIdeal

end
-- ==== Proof.Tail.Row.lean ====
/- One row of the block's last part over the extended reals: the two gated branches, their merge, the projection out, the
   residual and the final norm, with the two gating functions left open; and the two gating functions each side writes. -/
module

public import Idealize.ShloMosaic.Lib.Pointwise
public import Idealize.ShloMosaic.Lib.IdealHost

@[expose] public section

noncomputable section

namespace Cert.Proof.Tail

open Idealize.ShloMosaic

/-- One half, as the kernel writes it. -/
def half : EReal := Ideal.ofBits .bf16 0x3F00#16

theorem half_eq : half = (((1 : ℝ) / 2 : ℝ) : EReal) := by
  simp [half, Ideal.ofBits, Ideal.ieee, -EReal.coe_mul]; norm_num

/-- The kernel's sigmoid: by the hyperbolic tangent. -/
def sigT (z : EReal) : EReal := half + half * Ideal.tanh (z * half)

/-- The kernel's silu: by the hyperbolic tangent. -/
def siluT (z : EReal) : EReal := z * half + (z * half) * Ideal.tanh (z * half)

/-- The reference's sigmoid. -/
def sigL (z : EReal) : EReal := Ideal.div 1 (1 + Ideal.exp (-z))

/-- The reference's silu. -/
def siluL (z : EReal) : EReal := z * sigL z

theorem sigL_eq (z : EReal) : sigL z = Ideal.logistic z := rfl

/-- The sigmoid of a real by the hyperbolic tangent of its half. -/
theorem half_tanh (r : ℝ) : 1 / 2 + 1 / 2 * Real.tanh (r * (1 / 2)) = (1 + Real.exp (-r))⁻¹ := by
  have h1 := Real.exp_pos (r * (1 / 2))
  have h2 := Real.exp_pos (-(r * (1 / 2)))
  have h3 : Real.exp (-r) = Real.exp (-(r * (1 / 2))) * Real.exp (-(r * (1 / 2))) := by rw [← Real.exp_add]; ring_nf
  have h4 : Real.exp (r * (1 / 2)) * Real.exp (-(r * (1 / 2))) = 1 := by rw [← Real.exp_add]; simp
  rw [Real.tanh_eq_sinh_div_cosh, Real.sinh_eq, Real.cosh_eq, h3]
  generalize Real.exp (r * (1 / 2)) = a at *
  generalize Real.exp (-(r * (1 / 2))) = b at *
  have h5 : 0 < a + b := by linarith
  have h6 : 0 < 1 + b * b := by nlinarith
  field_simp
  nlinarith

theorem sig_eq (z : EReal) : sigT z = sigL z := by
  rw [sigL_eq]
  induction z with
  | bot =>
    rw [sigT, half_eq, EReal.bot_mul_coe_of_pos (by norm_num)]
    simp only [Ideal.tanh_bot, Ideal.logistic_bot]
    have : ((1 / 2 : ℝ) : EReal) + ((1 / 2 : ℝ) : EReal) * (((-1 : ℝ)) : EReal) = ((1 / 2 + 1 / 2 * (-1) : ℝ) : EReal) := by push_cast; rfl
    rw [show (-1 : EReal) = ((-1 : ℝ) : EReal) from rfl, this]; norm_num
  | top =>
    rw [sigT, half_eq, EReal.top_mul_coe_of_pos (by norm_num)]
    simp only [Ideal.tanh_top, Ideal.logistic_top, mul_one]
    rw [← EReal.coe_add]; norm_num
  | coe r =>
    rw [sigT, half_eq, ← EReal.coe_mul, Ideal.tanh_coe, Ideal.logistic_coe, ← half_tanh]
    push_cast; rfl

/-- The two silus agree at every gate that is not minus infinity. -/
theorem silu_eq (z : EReal) (hz : ⊥ < z) : siluT z = siluL z := by
  rw [siluL, ← sig_eq]
  induction z with
  | bot => exact absurd hz (lt_irrefl _)
  | top =>
    rw [siluT, sig_eq, sigL_eq, half_eq, EReal.top_mul_coe_of_pos (by norm_num)]
    simp
  | coe r =>
    rw [siluT, sigT, half_eq, ← EReal.coe_mul, Ideal.tanh_coe]
    norm_cast
    ring

section Row
variable (silu sig : EReal → EReal) (a za d zb ma mb x gate ps fg : Fin 1024 → EReal)
  (pw : Fin 4 → Fin 256 → Fin 256 → EReal) (wa wb wo : Fin 1024 → Fin 1024 → EReal)

/-- The branch of the attention, a column of its projection. -/
def pa (n : Fin 1024) : EReal := ∑ k : Fin 1024, (a k * silu (za k)) * wa k n

/-- A column of the pooling map, within its group of 256. -/
def mixed (n : Fin 1024) : EReal :=
  (∑ k : Fin 256, d ⟨256 * (n.val / 256) + k.val, by omega⟩ * pw ⟨n.val / 256, by omega⟩ k ⟨n.val % 256, by omega⟩) * ps n

/-- The branch of the pooling, a column of its projection. -/
def pb (n : Fin 1024) : EReal := ∑ k : Fin 1024, (mixed d ps pw k * silu (zb k)) * wb k n

/-- The two branches merged. -/
def merged (n : Fin 1024) : EReal := sig (ma n) * pa silu a za wa n + sig (mb n) * pb silu d zb ps pw wb n

/-- The residual with the gated projection of the merge. -/
def resid (n : Fin 1024) : EReal :=
  x n + gate n * ∑ k : Fin 1024, merged silu sig a za d zb ma mb ps pw wa wb k * wo k n

/-- The row's norm, applied. -/
def normed (y : Fin 1024 → EReal) (fg : Fin 1024 → EReal) (n : Fin 1024) : EReal :=
  y n * Ideal.rsqrt (Ideal.div (∑ k : Fin 1024, y k * y k) (Ideal.ofBits .f32 0x44800000#32) + Ideal.ofBits .f32 0x358637BD#32) * fg n

/-- The whole row. -/
def out (n : Fin 1024) : EReal := normed (resid silu sig a za d zb ma mb x gate ps pw wa wb wo) fg n

end Row

/-- The row is the same by either side's gating functions, where no gate of a silu is minus infinity. -/
theorem out_eq (a za d zb ma mb x gate ps fg : Fin 1024 → EReal)
    (pw : Fin 4 → Fin 256 → Fin 256 → EReal) (wa wb wo : Fin 1024 → Fin 1024 → EReal)
    (h1 : ∀ k, ⊥ < za k) (h2 : ∀ k, ⊥ < zb k) :
    out siluT sigT a za d zb ma mb x gate ps fg pw wa wb wo = out siluL sigL a za d zb ma mb x gate ps fg pw wa wb wo := by
  have hs : sigT = sigL := funext sig_eq
  have e1 : pa siluT a za wa = pa siluL a za wa := by
    funext n; unfold pa; exact Finset.sum_congr rfl fun k _ => by rw [silu_eq _ (h1 k)]
  have e2 : pb siluT d zb ps pw wb = pb siluL d zb ps pw wb := by
    funext n; unfold pb; exact Finset.sum_congr rfl fun k _ => by rw [silu_eq _ (h2 k)]
  have e3 : merged siluT sigT a za d zb ma mb ps pw wa wb = merged siluL sigL a za d zb ma mb ps pw wa wb := by
    funext n; unfold merged; rw [hs, e1, e2]
  funext n
  unfold out
  have e4 : resid siluT sigT a za d zb ma mb x gate ps pw wa wb wo = resid siluL sigL a za d zb ma mb x gate ps pw wa wb wo := by
    funext n; unfold resid; rw [e3]
  rw [e4]

end Cert.Proof.Tail

end
-- ==== Proof.Tail.Ref.lean ====
/- The plain reference of the block's last part: its terms by name, and its result read at an entry as the row formula at
   the reference's gating functions. -/
module

public import proofs.«01_k».proof.Proof.Gen.Reference2Ideal.Run
public import proofs.«01_k».proof.Proof.Tail.Row

@[expose] public section

set_option maxRecDepth 16384

noncomputable section

namespace Cert.Proof.Tail.Ref

open Cert.Reference2Ideal Cert.Reference2Ideal.Gen
open Idealize.ShloMosaic Idealize.ShloMosaic.TcCoe Idealize.ShloMosaic.Tactic

section Terms
variable {F : FTy → Type} [FloatOps F]

/-- The sigmoid of a plane. -/
def sigP (z : FVec F S32x2048x1024 .f32) : FVec F S32x2048x1024 .f32 :=
  Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf z)))

/-- The attention's columns. -/
def cols (a : FVec F S32x8x2048x128 .bf16) : FVec F S32x2048x1024 .f32 :=
  shapeCast _ (transpose S32x2048x8x128 [0, 2, 1, 3] (extf .f32 a bitsLt_bf16_f32) transposes_S32x8x2048x128_S32x2048x8x128_0_2_1_3) shapeCasts_S32x2048x8x128_S32x2048x1024

/-- The five parts of the projection. -/
def part0 (r : FVec F S32x2048x5120 .bf16) : FVec F S32x2048x1024 .f32 := extractStridedSlice S32x2048x1024 ![0, 0, 0] (extf .f32 r bitsLt_bf16_f32) slices_S32x2048x5120_S32x2048x1024_0_0_0
def part1 (r : FVec F S32x2048x5120 .bf16) : FVec F S32x2048x1024 .f32 := extractStridedSlice S32x2048x1024 ![0, 0, 1024] (extf .f32 r bitsLt_bf16_f32) slices_S32x2048x5120_S32x2048x1024_0_0_1024
def part2 (r : FVec F S32x2048x5120 .bf16) : FVec F S32x2048x1024 .f32 := extractStridedSlice S32x2048x1024 ![0, 0, 2048] (extf .f32 r bitsLt_bf16_f32) slices_S32x2048x5120_S32x2048x1024_0_0_2048
def part3 (r : FVec F S32x2048x5120 .bf16) : FVec F S32x2048x1024 .f32 := extractStridedSlice S32x2048x1024 ![0, 0, 3072] (extf .f32 r bitsLt_bf16_f32) slices_S32x2048x5120_S32x2048x1024_0_0_3072
def part4 (r : FVec F S32x2048x5120 .bf16) : FVec F S32x2048x1024 .f32 := extractStridedSlice S32x2048x1024 ![0, 0, 4096] (extf .f32 r bitsLt_bf16_f32) slices_S32x2048x5120_S32x2048x1024_0_0_4096

/-- The pooling maps, group by group, and their scale. -/
def mix (d : FVec F S32x2048x1024 .f32) (pw : FVec F S4x256x256 .f32) (ps : FVec F S1024 .f32) : FVec F S32x2048x1024 .f32 :=
  mulf (shapeCast _ (transpose S32x2048x4x256 [2, 3, 0, 1] (Host.dotGeneral dot_S4x256x256_S32x2048x4x256_S4x256x32x2048_1_3_2_01_0_2 none pw (shapeCast _ d shapeCasts_S32x2048x1024_S32x2048x4x256)) transposes_S4x256x32x2048_S32x2048x4x256_2_3_0_1) shapeCasts_S32x2048x4x256_S32x2048x1024)
    (broadcastInDim S32x2048x1024 ![0, 1, 2] bcast_S1x1x1024_S32x2048x1024_0_1_2 (broadcastInDim S1x1x1024 ![2] bcast_S1024_S1x1x1024_2 ps))

/-- A plane times a matrix. -/
def times (x : FVec F S32x2048x1024 .f32) (w : FVec F S1024x1024 .f32) : FVec F S32x2048x1024 .f32 :=
  Host.dotGeneral dot_S32x2048x1024_S1024x1024_S32x2048x1024_2_0_01_1_n_n none x w

/-- A gated plane. -/
def gated (u z : FVec F S32x2048x1024 .f32) : FVec F S32x2048x1024 .f32 := mulf u (mulf z (sigP z))

/-- The residual with the gated projection of the merged branches. -/
def resid (a : FVec F S32x8x2048x128 .bf16) (r : FVec F S32x2048x5120 .bf16) (x : FVec F S32x2048x1024 .f32) (g : FVec F S32x1024 .f32)
    (pw : FVec F S4x256x256 .f32) (ps : FVec F S1024 .f32) (wa wb wo : FVec F S1024x1024 .f32) : FVec F S32x2048x1024 .f32 :=
  addf x (mulf (broadcastInDim S32x2048x1024 ![0, 1, 2] bcast_S32x1x1024_S32x2048x1024_0_1_2 (broadcastInDim S32x1x1024 ![0, 2] bcast_S32x1024_S32x1x1024_0_2 g))
    (times (addf (mulf (sigP (part3 r)) (times (gated (cols a) (part0 r)) wa)) (mulf (sigP (part4 r)) (times (gated (mix (part1 r) pw ps) (part2 r)) wb))) wo))

/-- The norm of a plane's rows. -/
def norm (y : FVec F S32x2048x1024 .f32) (fg : FVec F S1024 .f32) : FVec F S32x2048x1024 .f32 :=
  mulf (mulf y (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf y y) (constant S_ .f32 0x00000000#32) reducesTo_S32x2048x1024_S32x2048_d2 h_S_))
        (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 fg))

/-- The whole of it. -/
def tail (a : FVec F S32x8x2048x128 .bf16) (r : FVec F S32x2048x5120 .bf16) (x : FVec F S32x2048x1024 .f32) (g : FVec F S32x1024 .f32)
    (pw : FVec F S4x256x256 .f32) (ps : FVec F S1024 .f32) (wa wb wo : FVec F S1024x1024 .f32) (fg : FVec F S1024 .f32) : FVec F S32x2048x1024 .f32 :=
  norm (resid a r x g pw ps wa wb wo) fg

theorem res_eq (m : (ℓ : Loc nD τ sig) → Buf (Elt F) ℓ) (c : Dev nD) :
    Cert.Reference2Ideal.Value.res_main_v54 m c
      = tail (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  unfold Cert.Reference2Ideal.Value.res_main_v54; rfl
end Terms

section At
variable (a : FVec Ideal S32x8x2048x128 .bf16) (r : FVec Ideal S32x2048x5120 .bf16) (x : FVec Ideal S32x2048x1024 .f32) (g : FVec Ideal S32x1024 .f32)
    (pw : FVec Ideal S4x256x256 .f32) (ps : FVec Ideal S1024 .f32) (wa wb wo : FVec Ideal S1024x1024 .f32) (fg : FVec Ideal S1024 .f32)
    (b : Fin 32) (s : Fin 2048)

theorem sigP_apply (z : FVec Ideal S32x2048x1024 .f32) (j : S32x2048x1024.Idx) : sigP z j = sigL (z j) := by
  unfold sigL
  pointwise [sigP]

theorem cols_apply (k : Fin 1024) : cols a (ix3 b s k) = a (ix4 b ⟨k.val / 128, by omega⟩ s ⟨k.val % 128, Nat.mod_lt _ (by decide)⟩) := by
  pointwise [cols]

theorem part0_apply (k : Fin 1024) : part0 r (ix3 b s k) = r (ix3 b s ⟨k.val, by omega⟩) := by
  pointwise [part0]
theorem part1_apply (k : Fin 1024) : part1 r (ix3 b s k) = r (ix3 b s ⟨1024 + k.val, by omega⟩) := by
  pointwise [part1]
theorem part2_apply (k : Fin 1024) : part2 r (ix3 b s k) = r (ix3 b s ⟨2048 + k.val, by omega⟩) := by
  pointwise [part2]
theorem part3_apply (k : Fin 1024) : part3 r (ix3 b s k) = r (ix3 b s ⟨3072 + k.val, by omega⟩) := by
  pointwise [part3]
theorem part4_apply (k : Fin 1024) : part4 r (ix3 b s k) = r (ix3 b s ⟨4096 + k.val, by omega⟩) := by
  pointwise [part4]

theorem times_apply (u : FVec Ideal S32x2048x1024 .f32) (w : FVec Ideal S1024x1024 .f32) (n : Fin 1024) :
    times u w (ix3 b s n) = ∑ k : Fin 1024, u (ix3 b s k) * w (ix2 k n) := by
  pointwise [times]

theorem gated_apply (u z : FVec Ideal S32x2048x1024 .f32) (n : Fin 1024) :
    gated u z (ix3 b s n) = u (ix3 b s n) * siluL (z (ix3 b s n)) := by
  unfold siluL
  rw [← sigP_apply]
  pointwise [gated]

theorem mix_apply (d : FVec Ideal S32x2048x1024 .f32) (n : Fin 1024) :
    mix d pw ps (ix3 b s n) = mixed (fun k => d (ix3 b s k)) (fun k => ps (ix1 k)) (fun g k n => pw (ix3 g k n)) n := by
  unfold mixed
  pointwise [mix]
  exact congrArg (· * _) (Finset.sum_congr rfl fun k _ => by
    rw [mul_comm (pw _)]; exact congrArg (fun j => d (ix3 b s j) * _) (Fin.ext (by show n.val / 256 * 256 + k.val = 256 * (n.val / 256) + k.val; omega)))

theorem norm_apply (y : FVec Ideal S32x2048x1024 .f32) (n : Fin 1024) :
    norm y fg (ix3 b s n) = normed (fun k => y (ix3 b s k)) (fun k => fg (ix1 k)) n := by
  unfold normed
  pointwise [norm]

theorem tail_apply (n : Fin 1024) :
    tail a r x g pw ps wa wb wo fg (ix3 b s n)
      = out siluL sigL (fun k => a (ix4 b ⟨k.val / 128, by omega⟩ s ⟨k.val % 128, Nat.mod_lt _ (by decide)⟩)) (fun k => r (ix3 b s ⟨k.val, by omega⟩))
          (fun k => r (ix3 b s ⟨1024 + k.val, by omega⟩)) (fun k => r (ix3 b s ⟨2048 + k.val, by omega⟩)) (fun k => r (ix3 b s ⟨3072 + k.val, by omega⟩))
          (fun k => r (ix3 b s ⟨4096 + k.val, by omega⟩)) (fun k => x (ix3 b s k)) (fun k => g (ix2 b k)) (fun k => ps (ix1 k)) (fun k => fg (ix1 k))
          (fun g k n => pw (ix3 g k n)) (fun k n => wa (ix2 k n)) (fun k n => wb (ix2 k n)) (fun k n => wo (ix2 k n)) n := by
  unfold tail
  rw [norm_apply]
  unfold out
  congr 1
  funext k
  unfold Tail.resid merged pa pb
  simp only [← part0_apply, ← part1_apply, ← part2_apply, ← part3_apply, ← part4_apply, ← cols_apply, ← mix_apply, ← sigP_apply, ← gated_apply, ← times_apply]
  have e : resid a r x g pw ps wa wb wo (ix3 b s k) = x (ix3 b s k) + g (ix2 b k) *
      times (addf (mulf (sigP (part3 r)) (times (gated (cols a) (part0 r)) wa)) (mulf (sigP (part4 r)) (times (gated (mix (part1 r) pw ps) (part2 r)) wb))) wo (ix3 b s k) := by
    unfold resid
    generalize times (addf (mulf (sigP (part3 r)) (times (gated (cols a) (part0 r)) wa)) (mulf (sigP (part4 r)) (times (gated (mix (part1 r) pw ps) (part2 r)) wb))) wo = Z
    pointwise []
  rw [e, times_apply]
  rfl
end At

end Cert.Proof.Tail.Ref

end
-- ==== Proof.Tail.Point.lean ====
/- What a grid point of the block's last part computes, as a function of its staged blocks, read at an entry: the row
   formula at the kernel's gating functions. -/
module

public import proofs.«01_k».proof.Proof.Gen.Kernel2Ideal.Skeleton
public import proofs.«01_k».proof.Proof.Tail.Row
public import Idealize.ShloMosaic.Lib.Pipeline.Value
public import Idealize.ShloMosaic.Lib.Pipeline.ValueKit

@[expose] public section

set_option maxRecDepth 16384

noncomputable section

namespace Cert.Proof.Tail

open Cert.Kernel2Ideal Cert.Kernel2Ideal.Gen
open Idealize.ShloMosaic Idealize.ShloMosaic.TcCoe Idealize.ShloMosaic.Tactic

theorem z32 : Ideal.ofBits .f32 0x00000000#32 = 0 := Ideal.ofBits_zero_f32

/-- A lane pair's plane of the attention block. -/
def plane (x0 : Vec Ideal S1x8x512x128 .bf16) (n : Fin 8) : FVec Ideal S512x128 .bf16 :=
  match n with
  | 0 => shapeCast S512x128 (View.ld x0 (Rect.unit ![0, 0, 0, 0] ![1, 1, 512, 128] inb_S1x8x512x128_S1x1x512x128_0_0_0_0)) shapeCasts_S1x1x512x128_S512x128
  | 1 => shapeCast S512x128 (View.ld x0 (Rect.unit ![0, 1, 0, 0] ![1, 1, 512, 128] inb_S1x8x512x128_S1x1x512x128_0_1_0_0)) shapeCasts_S1x1x512x128_S512x128
  | 2 => shapeCast S512x128 (View.ld x0 (Rect.unit ![0, 2, 0, 0] ![1, 1, 512, 128] inb_S1x8x512x128_S1x1x512x128_0_2_0_0)) shapeCasts_S1x1x512x128_S512x128
  | 3 => shapeCast S512x128 (View.ld x0 (Rect.unit ![0, 3, 0, 0] ![1, 1, 512, 128] inb_S1x8x512x128_S1x1x512x128_0_3_0_0)) shapeCasts_S1x1x512x128_S512x128
  | 4 => shapeCast S512x128 (View.ld x0 (Rect.unit ![0, 4, 0, 0] ![1, 1, 512, 128] inb_S1x8x512x128_S1x1x512x128_0_4_0_0)) shapeCasts_S1x1x512x128_S512x128
  | 5 => shapeCast S512x128 (View.ld x0 (Rect.unit ![0, 5, 0, 0] ![1, 1, 512, 128] inb_S1x8x512x128_S1x1x512x128_0_5_0_0)) shapeCasts_S1x1x512x128_S512x128
  | 6 => shapeCast S512x128 (View.ld x0 (Rect.unit ![0, 6, 0, 0] ![1, 1, 512, 128] inb_S1x8x512x128_S1x1x512x128_0_6_0_0)) shapeCasts_S1x1x512x128_S512x128
  | 7 => shapeCast S512x128 (View.ld x0 (Rect.unit ![0, 7, 0, 0] ![1, 1, 512, 128] inb_S1x8x512x128_S1x1x512x128_0_7_0_0)) shapeCasts_S1x1x512x128_S512x128

/-- The eight planes side by side. -/
def sideBySide (x0 : Vec Ideal S1x8x512x128 .bf16) : FVec Ideal S512x1024 .bf16 :=
  k0_pay2
    (View.ld x0 (Rect.unit ![0, 0, 0, 0] ![1, 1, 512, 128] inb_S1x8x512x128_S1x1x512x128_0_0_0_0))
    (View.ld x0 (Rect.unit ![0, 1, 0, 0] ![1, 1, 512, 128] inb_S1x8x512x128_S1x1x512x128_0_1_0_0))
    (View.ld x0 (Rect.unit ![0, 2, 0, 0] ![1, 1, 512, 128] inb_S1x8x512x128_S1x1x512x128_0_2_0_0))
    (View.ld x0 (Rect.unit ![0, 3, 0, 0] ![1, 1, 512, 128] inb_S1x8x512x128_S1x1x512x128_0_3_0_0))
    (View.ld x0 (Rect.unit ![0, 4, 0, 0] ![1, 1, 512, 128] inb_S1x8x512x128_S1x1x512x128_0_4_0_0))
    (View.ld x0 (Rect.unit ![0, 5, 0, 0] ![1, 1, 512, 128] inb_S1x8x512x128_S1x1x512x128_0_5_0_0))
    (View.ld x0 (Rect.unit ![0, 6, 0, 0] ![1, 1, 512, 128] inb_S1x8x512x128_S1x1x512x128_0_6_0_0))
    (View.ld x0 (Rect.unit ![0, 7, 0, 0] ![1, 1, 512, 128] inb_S1x8x512x128_S1x1x512x128_0_7_0_0))

theorem flat_apply (v : Vec Ideal S1x1x512x128 .bf16) (r : Fin 512) (l : Fin 128) :
    (shapeCast S512x128 v shapeCasts_S1x1x512x128_S512x128 : FVec Ideal S512x128 .bf16) (ix2 r l) = v (ix4 0 0 r l) := by
  pointwise []

theorem plane_of (x0 : Vec Ideal S1x8x512x128 .bf16) (n : ℕ) (hn : n < 8) (inb) (r : Fin 512) (l : Fin 128) :
    (shapeCast S512x128 (View.ld x0 (Rect.unit ![0, n, 0, 0] ![1, 1, 512, 128] inb)) shapeCasts_S1x1x512x128_S512x128 : FVec Ideal S512x128 .bf16) (ix2 r l)
      = x0 (ix4 0 ⟨n, hn⟩ r l) := by
  refine (flat_apply _ r l).trans ?_
  show x0 _ = x0 _
  congr 1
  funext a
  apply Fin.ext
  match a with
  | 0 => rfl
  | 1 => show n + 1 * 0 = n; omega
  | 2 => show 0 + 1 * r.val = r.val; omega
  | 3 => show 0 + 1 * l.val = l.val; omega

theorem plane_apply (x0 : Vec Ideal S1x8x512x128 .bf16) (n : Fin 8) (r : Fin 512) (l : Fin 128) : plane x0 n (ix2 r l) = x0 (ix4 0 n r l) := by
  match n with
  | 0 => exact plane_of x0 0 (by decide) _ r l
  | 1 => exact plane_of x0 1 (by decide) _ r l
  | 2 => exact plane_of x0 2 (by decide) _ r l
  | 3 => exact plane_of x0 3 (by decide) _ r l
  | 4 => exact plane_of x0 4 (by decide) _ r l
  | 5 => exact plane_of x0 5 (by decide) _ r l
  | 6 => exact plane_of x0 6 (by decide) _ r l
  | 7 => exact plane_of x0 7 (by decide) _ r l

theorem sideBySide_apply (x0 : Vec Ideal S1x8x512x128 .bf16) (r : Fin 512) (k : Fin 1024) :
    sideBySide x0 (ix2 r k) = x0 (ix4 0 ⟨k.val / 128, by omega⟩ r ⟨k.val % 128, Nat.mod_lt _ (by decide)⟩) := by
  have e : sideBySide x0 = concatenate S512x1024 1 (List.ofFn fun n : Fin 8 => (⟨S512x128, plane x0 n⟩ : (s : Shape) × (s.Idx → EReal)))
      concatenates_S512x128_S512x128_S512x128_S512x128_S512x128_S512x128_S512x128_S512x128_S512x1024_d1 := rfl
  rw [e, concatenate_ofFn_apply (t := S512x1024) (s₁ := S512x128) 1 (fun n : Fin 8 => plane x0 n) concatenates_S512x128_S512x128_S512x128_S512x128_S512x128_S512x128_S512x128_S512x128_S512x1024_d1 rfl 128 rfl
    (ix2 r k) ⟨k.val / 128, by omega⟩ rfl (ix2 r ⟨k.val % 128, Nat.mod_lt _ (by decide)⟩) rfl
    (by intro b hb; match b with | 0 => rfl | 1 => exact absurd rfl hb), plane_apply]

/-- The attention's branch. -/
theorem pay5_apply (v16 : FVec Ideal S512x1024 .bf16) (x1 : Vec Ideal S1x512x1024 .bf16) (w : Vec Ideal S1024x1024 .bf16) (r : Fin 512) (n : Fin 1024) :
    k0_pay5 v16 (k0_pay3 x1) (k0_pay4 x1) w (ix2 r n) = pa siluT (fun k => v16 (ix2 r k)) (fun k => x1 (ix3 0 r k)) (fun k n => w (ix2 k n)) n := by
  unfold k0_pay5 k0_pay4 k0_pay3 pa siluT half
  pointwise []

/-- A group's pooling map. -/
theorem pay6_apply (d : Vec Ideal S1x512x256 .bf16) (pw : Vec Ideal S1x256x256 .bf16) (ps : Vec Ideal S1x256 .f32) (r : Fin 512) (n : Fin 256) :
    k0_pay6 d pw ps (ix2 r n) = (∑ k : Fin 256, d (ix3 0 r k) * pw (ix3 0 k n)) * ps (ix2 0 n) := by
  unfold k0_pay6
  pointwise []

/-- The gated projection of the merged branches. -/
theorem pay11_apply (v27 : FVec Ideal S512x1024 .f32) (v80 : Vec Ideal S512x1024 .bf16) (x3 x4 x5 : Vec Ideal S1x512x1024 .bf16) (wb wo : Vec Ideal S1024x1024 .bf16)
    (r : Fin 512) (n : Fin 1024) :
    k0_pay11 v27 v80 (k0_pay10 x3) wb x4 x5 wo (ix2 r n)
      = ∑ j : Fin 1024, (sigT (x4 (ix3 0 r j)) * v27 (ix2 r j)
          + sigT (x5 (ix3 0 r j)) * ∑ k : Fin 1024, (v80 (ix2 r k) * siluT (x3 (ix3 0 r k))) * wb (ix2 k j)) * wo (ix2 j n) := by
  unfold k0_pay11 k0_pay10 siluT sigT half
  pointwise []

/-- The residual and the norm. -/
theorem pay1_apply (v117 v119 : FVec Ideal S512x1024 .f32) (g : Vec Ideal S1x1x1024 .f32) (fg : Vec Ideal S1x1024 .f32) (r : Fin 512) (n : Fin 1024) :
    k0_pay1 v117 v119 g fg (ix3 0 r n)
      = normed (fun k => v119 (ix2 r k) + g (ix3 0 0 k) * v117 (ix2 r k)) (fun k => fg (ix2 0 k)) n := by
  unfold k0_pay1 normed
  pointwise []

/-- The scratch that holds the pooling maps' four column groups, read back. -/
def pooled (x2 : Vec Ideal S1x512x1024 .bf16) (x8 : Vec Ideal S4x256x256 .bf16) (x9 : Vec Ideal S1x1024 .f32) :
    List (View.Piece (Elt Ideal) S512x1024 .bf16) :=
  [⟨Rect.unit ![0, 768] ![512, 256] inb_S512x1024_S512x256_0_768,
      k0_pay9 (View.ld x2 (Rect.unit ![0, 0, 768] ![1, 512, 256] inb_S1x512x1024_S1x512x256_0_0_768))
        (View.ld x8 (Rect.unit ![3, 0, 0] ![1, 256, 256] inb_S4x256x256_S1x256x256_3_0_0))
        (View.ld x9 (Rect.unit ![0, 768] ![1, 256] inb_S1x1024_S1x256_0_768))⟩,
    ⟨Rect.unit ![0, 512] ![512, 256] inb_S512x1024_S512x256_0_512,
      k0_pay8 (View.ld x2 (Rect.unit ![0, 0, 512] ![1, 512, 256] inb_S1x512x1024_S1x512x256_0_0_512))
        (View.ld x8 (Rect.unit ![2, 0, 0] ![1, 256, 256] inb_S4x256x256_S1x256x256_2_0_0))
        (View.ld x9 (Rect.unit ![0, 512] ![1, 256] inb_S1x1024_S1x256_0_512))⟩,
    ⟨Rect.unit ![0, 256] ![512, 256] inb_S512x1024_S512x256_0_256,
      k0_pay7 (View.ld x2 (Rect.unit ![0, 0, 256] ![1, 512, 256] inb_S1x512x1024_S1x512x256_0_0_256))
        (View.ld x8 (Rect.unit ![1, 0, 0] ![1, 256, 256] inb_S4x256x256_S1x256x256_1_0_0))
        (View.ld x9 (Rect.unit ![0, 256] ![1, 256] inb_S1x1024_S1x256_0_256))⟩,
    ⟨Rect.unit ![0, 0] ![512, 256] inb_S512x1024_S512x256_0_0,
      k0_pay6 (View.ld x2 (Rect.unit ![0, 0, 0] ![1, 512, 256] inb_S1x512x1024_S1x512x256_0_0_0))
        (View.ld x8 (Rect.unit ![0, 0, 0] ![1, 256, 256] inb_S4x256x256_S1x256x256_0_0_0))
        (View.ld x9 (Rect.unit ![0, 0] ![1, 256] inb_S1x1024_S1x256_0_0))⟩]

/-- The pooling maps' columns. -/
def mixIdx (x2 : Vec Ideal S1x512x1024 .bf16) (x8 : Vec Ideal S4x256x256 .bf16) (x9 : Vec Ideal S1x1024 .f32) (y : S512x1024.Idx) : EReal :=
  mixed (fun k => x2 (ix3 0 (y 0) k)) (fun k => x9 (ix2 0 k)) (fun g k n => x8 (ix3 g k n)) (y 1)

theorem group_apply (x2 : Vec Ideal S1x512x1024 .bf16) (x8 : Vec Ideal S4x256x256 .bf16) (x9 : Vec Ideal S1x1024 .f32) (g o : ℕ) (hg : g < 4) (ho : o = 256 * g)
    (i2 i8 i9 iy) (r : Fin 512) (n : Fin 256) :
    k0_pay6 (View.ld x2 (Rect.unit ![0, 0, o] ![1, 512, 256] i2)) (View.ld x8 (Rect.unit ![g, 0, 0] ![1, 256, 256] i8))
        (View.ld x9 (Rect.unit ![0, o] ![1, 256] i9)) (ix2 r n)
      = mixIdx x2 x8 x9 ((Rect.unit ![0, o] ![512, 256] iy : Rect S512x1024).emb (ix2 r n)) := by
  subst ho
  have e0 : ((Rect.unit ![0, 256 * g] ![512, 256] iy : Rect S512x1024).emb (ix2 r n) 0 : Fin 512) = r := by
    apply Fin.ext; show 0 + 1 * r.val = r.val; omega
  have e1 : ((Rect.unit ![0, 256 * g] ![512, 256] iy : Rect S512x1024).emb (ix2 r n) 1 : Fin 1024) = (⟨256 * g + n.val, by have := n.isLt; omega⟩ : Fin 1024) := by
    apply Fin.ext; show 256 * g + 1 * n.val = 256 * g + n.val; omega
  unfold mixIdx mixed
  rw [pay6_apply, e0, e1]
  have q1 : (256 * g + n.val) / 256 = g := by omega
  have q2 : (256 * g + n.val) % 256 = n.val := by omega
  congr 1
  · refine Finset.sum_congr rfl fun k _ => ?_
    congr 1
    · show x2 _ = x2 _
      congr 1
      funext a
      apply Fin.ext
      match a with
      | 0 => rfl
      | 1 => show 0 + 1 * r.val = r.val; omega
      | 2 => show 256 * g + 1 * k.val = 256 * ((256 * g + n.val) / 256) + k.val; omega
    · show x8 _ = x8 _
      congr 1
      funext a
      apply Fin.ext
      match a with
      | 0 => show g + 1 * 0 = (256 * g + n.val) / 256; omega
      | 1 => show 0 + 1 * k.val = k.val; omega
      | 2 => show 0 + 1 * n.val = (256 * g + n.val) % 256; omega
  · show x9 _ = x9 _
    congr 1
    funext a
    apply Fin.ext
    match a with
    | 0 => rfl
    | 1 => show 256 * g + 1 * n.val = 256 * g + n.val; omega

theorem ix2_eta {a b : ℕ} (y : (⟨2, ![a, b]⟩ : Shape).Idx) : y = ix2 (y 0) (y 1) := by
  funext k; match k with | 0 => rfl | 1 => rfl

theorem pay7_eq : (k0_pay7 : Vec Ideal S1x512x256 .bf16 → Vec Ideal S1x256x256 .bf16 → Vec Ideal S1x256 .f32 → FVec Ideal S512x256 .bf16) = k0_pay6 := rfl
theorem pay8_eq : (k0_pay8 : Vec Ideal S1x512x256 .bf16 → Vec Ideal S1x256x256 .bf16 → Vec Ideal S1x256 .f32 → FVec Ideal S512x256 .bf16) = k0_pay6 := rfl
theorem pay9_eq : (k0_pay9 : Vec Ideal S1x512x256 .bf16 → Vec Ideal S1x256x256 .bf16 → Vec Ideal S1x256 .f32 → FVec Ideal S512x256 .bf16) = k0_pay6 := rfl

theorem group_at (x2 : Vec Ideal S1x512x1024 .bf16) (x8 : Vec Ideal S4x256x256 .bf16) (x9 : Vec Ideal S1x1024 .f32) (g o : ℕ) (hg : g < 4) (ho : o = 256 * g)
    (i2 i8 i9 iy) (x : S512x256.Idx) :
    k0_pay6 (View.ld x2 (Rect.unit ![0, 0, o] ![1, 512, 256] i2)) (View.ld x8 (Rect.unit ![g, 0, 0] ![1, 256, 256] i8))
        (View.ld x9 (Rect.unit ![0, o] ![1, 256] i9)) x
      = mixIdx x2 x8 x9 ((Rect.unit ![0, o] ![512, 256] iy : Rect S512x1024).emb x) := by
  obtain ⟨r, n, rfl⟩ : ∃ r n, x = ix2 r n := ⟨x 0, x 1, ix2_eta x⟩
  exact group_apply x2 x8 x9 g o hg ho i2 i8 i9 iy r n

theorem pooled_apply (x2 : Vec Ideal S1x512x1024 .bf16) (x8 : Vec Ideal S4x256x256 .bf16) (x9 : Vec Ideal S1x1024 .f32) (y : S512x1024.Idx) :
    View.canon (pooled x2 x8 x9) y = mixIdx x2 x8 x9 y := by
  have h0 := group_at x2 x8 x9 0 0 (by decide) rfl inb_S1x512x1024_S1x512x256_0_0_0 inb_S4x256x256_S1x256x256_0_0_0 inb_S1x1024_S1x256_0_0 inb_S512x1024_S512x256_0_0
  have h1 := group_at x2 x8 x9 1 256 (by decide) rfl inb_S1x512x1024_S1x512x256_0_0_256 inb_S4x256x256_S1x256x256_1_0_0 inb_S1x1024_S1x256_0_256 inb_S512x1024_S512x256_0_256
  have h2 := group_at x2 x8 x9 2 512 (by decide) rfl inb_S1x512x1024_S1x512x256_0_0_512 inb_S4x256x256_S1x256x256_2_0_0 inb_S1x1024_S1x256_0_512 inb_S512x1024_S512x256_0_512
  have h3 := group_at x2 x8 x9 3 768 (by decide) rfl inb_S1x512x1024_S1x512x256_0_0_768 inb_S4x256x256_S1x256x256_3_0_0 inb_S1x1024_S1x256_0_768 inb_S512x1024_S512x256_0_768
  unfold pooled
  rw [pay7_eq, pay8_eq, pay9_eq]
  have hy : (y 1).val < 1024 := (y 1).isLt
  have hy0 : (y 0).val < 512 := (y 0).isLt
  have key : ∀ (o : ℕ) (iy), o ≤ (y 1).val → (y 1).val < o + 256 → y ∈ (Rect.unit ![0, o] ![512, 256] iy : Rect S512x1024).set := by
    intro o iy h1 h2
    rw [Rect.mem_set_unit]
    intro a
    match a with
    | 0 => exact ⟨Nat.zero_le _, by show (y 0).val < 0 + 512; omega⟩
    | 1 => exact ⟨h1, h2⟩
  generalize k0_pay6 (View.ld x2 (Rect.unit ![0, 0, 0] ![1, 512, 256] inb_S1x512x1024_S1x512x256_0_0_0)) _ _ = P0 at h0 ⊢
  generalize k0_pay6 (View.ld x2 (Rect.unit ![0, 0, 256] ![1, 512, 256] inb_S1x512x1024_S1x512x256_0_0_256)) _ _ = P1 at h1 ⊢
  generalize k0_pay6 (View.ld x2 (Rect.unit ![0, 0, 512] ![1, 512, 256] inb_S1x512x1024_S1x512x256_0_0_512)) _ _ = P2 at h2 ⊢
  generalize k0_pay6 (View.ld x2 (Rect.unit ![0, 0, 768] ![1, 512, 256] inb_S1x512x1024_S1x512x256_0_0_768)) _ _ = P3 at h3 ⊢
  generalize mixIdx x2 x8 x9 = G at h0 h1 h2 h3 ⊢
  refine View.canon_apply_of_pieces (Val := Elt Ideal) (e := .bf16) G _ ?_ y ?_
  · exact List.forall_mem_cons.mpr ⟨h3, List.forall_mem_cons.mpr ⟨h2, List.forall_mem_cons.mpr ⟨h1, List.forall_mem_cons.mpr ⟨h0, fun _ h => absurd h List.not_mem_nil⟩⟩⟩⟩
  · by_cases h3 : 768 ≤ (y 1).val
    · exact ⟨_, List.Mem.head _, key 768 inb_S512x1024_S512x256_0_768 h3 (by omega)⟩
    by_cases h2 : 512 ≤ (y 1).val
    · exact ⟨_, List.Mem.tail _ (List.Mem.head _), key 512 inb_S512x1024_S512x256_0_512 h2 (by omega)⟩
    by_cases h1 : 256 ≤ (y 1).val
    · exact ⟨_, List.Mem.tail _ (List.Mem.tail _ (List.Mem.head _)), key 256 inb_S512x1024_S512x256_0_256 h1 (by omega)⟩
    · exact ⟨_, List.Mem.tail _ (List.Mem.tail _ (List.Mem.tail _ (List.Mem.head _))), key 0 inb_S512x1024_S512x256_0_0 (Nat.zero_le _) (by omega)⟩

/-- A point's block, as its payloads of its staged blocks. -/
def block (x0 : Vec Ideal S1x8x512x128 .bf16) (x1 x2 x3 x4 x5 : Vec Ideal S1x512x1024 .bf16) (x6 : Vec Ideal S1x512x1024 .f32) (x7 : Vec Ideal S1x1x1024 .f32)
    (x8 : Vec Ideal S4x256x256 .bf16) (x9 : Vec Ideal S1x1024 .f32) (x10 x11 x12 : Vec Ideal S1024x1024 .bf16) (x13 : Vec Ideal S1x1024 .f32) : FVec Ideal S1x512x1024 .f32 :=
  k0_pay1 (k0_pay11 (k0_pay5 (sideBySide x0) (k0_pay3 x1) (k0_pay4 x1) x10)
      ((View.whole cc0_scratch0).readCov (Val := Elt Ideal) (pooled x2 x8 x9) (Rect.unit ![0, 0] ![512, 1024] inb_S512x1024_S512x1024_0_0 : Rect S512x1024).toLoadRect)
      (k0_pay10 x3) x11 x4 x5 x12) (k0_pay12 x6) x7 x13

/-- An entry of a point's block is the row formula of its staged blocks' rows. -/
theorem block_apply (x0 : Vec Ideal S1x8x512x128 .bf16) (x1 x2 x3 x4 x5 : Vec Ideal S1x512x1024 .bf16) (x6 : Vec Ideal S1x512x1024 .f32) (x7 : Vec Ideal S1x1x1024 .f32)
    (x8 : Vec Ideal S4x256x256 .bf16) (x9 : Vec Ideal S1x1024 .f32) (x10 x11 x12 : Vec Ideal S1024x1024 .bf16) (x13 : Vec Ideal S1x1024 .f32) (r : Fin 512) (n : Fin 1024) :
    block x0 x1 x2 x3 x4 x5 x6 x7 x8 x9 x10 x11 x12 x13 (ix3 0 r n)
      = out siluT sigT (fun k => x0 (ix4 0 ⟨k.val / 128, by omega⟩ r ⟨k.val % 128, Nat.mod_lt _ (by decide)⟩)) (fun k => x1 (ix3 0 r k)) (fun k => x2 (ix3 0 r k))
          (fun k => x3 (ix3 0 r k)) (fun k => x4 (ix3 0 r k)) (fun k => x5 (ix3 0 r k)) (fun k => x6 (ix3 0 r k)) (fun k => x7 (ix3 0 0 k)) (fun k => x9 (ix2 0 k))
          (fun k => x13 (ix2 0 k)) (fun g k n => x8 (ix3 g k n)) (fun k n => x10 (ix2 k n)) (fun k n => x11 (ix2 k n)) (fun k n => x12 (ix2 k n)) n := by
  have hv : ∀ k : Fin 1024, (View.whole cc0_scratch0).readCov (Val := Elt Ideal) (pooled x2 x8 x9) (Rect.unit ![0, 0] ![512, 1024] inb_S512x1024_S512x1024_0_0 : Rect S512x1024).toLoadRect (ix2 r k)
      = mixed (fun k => x2 (ix3 0 r k)) (fun k => x9 (ix2 0 k)) (fun g k n => x8 (ix3 g k n)) k := by
    intro k
    rw [View.readCov_eq_canon']
    refine (congrArg (View.canon (pooled x2 x8 x9)) (?_ : _ = ix2 r k)).trans (pooled_apply x2 x8 x9 (ix2 r k))
    funext a
    apply Fin.ext
    match a with
    | 0 => show 0 + 1 * r.val = r.val; omega
    | 1 => show 0 + 1 * k.val = k.val; omega
  have h12 : ∀ k : Fin 1024, (k0_pay12 x6 : FVec Ideal S512x1024 .f32) (ix2 r k) = x6 (ix3 0 r k) := by
    intro k; unfold k0_pay12; pointwise []
  unfold block
  rw [pay1_apply]
  unfold out
  congr 1
  funext k
  rw [h12, pay11_apply]
  unfold resid merged
  congr 2
  refine Finset.sum_congr rfl fun j _ => ?_
  rw [pay5_apply]
  unfold pb
  simp only [hv, sideBySide_apply]

end Cert.Proof.Tail

end
-- ==== Proof.Tail.Blocks.lean ====
/- The blocks the launch's windows stage, read at an entry of the arguments. -/
module

public import proofs.«01_k».proof.Proof.Gen.Kernel2Ideal.Value
public import proofs.«01_k».proof.Proof.Tail.Point
public import Idealize.ShloMosaic.Lib.StableHlo.Run
public import Idealize.ShloMosaic.Lib.Pipeline.Value

@[expose] public section

set_option maxRecDepth 16384

noncomputable section

namespace Cert.Proof.Tail

open Cert.Kernel2Ideal Cert.Kernel2Ideal.Gen
open Idealize.ShloMosaic Idealize.ShloMosaic.TcCoe Idealize.ShloMosaic.Tactic
open Idealize.SL.Sem
open Idealize.ShloMosaic.StableHlo

theorem index0 : ∀ t : Fin grid0.N, win0_0.index t 0 = (grid0.coords t 0).val ∧ win0_0.index t 1 = 0 ∧ win0_0.index t 2 = (grid0.coords t 1).val ∧ win0_0.index t 3 = 0 := by decide +kernel
theorem index1 : ∀ t : Fin grid0.N, win0_1.index t 0 = (grid0.coords t 0).val ∧ win0_1.index t 1 = (grid0.coords t 1).val ∧ win0_1.index t 2 = 0 := by decide +kernel
theorem index2 : ∀ t : Fin grid0.N, win0_2.index t 0 = (grid0.coords t 0).val ∧ win0_2.index t 1 = (grid0.coords t 1).val ∧ win0_2.index t 2 = 1 := by decide +kernel
theorem index3 : ∀ t : Fin grid0.N, win0_3.index t 0 = (grid0.coords t 0).val ∧ win0_3.index t 1 = (grid0.coords t 1).val ∧ win0_3.index t 2 = 2 := by decide +kernel
theorem index4 : ∀ t : Fin grid0.N, win0_4.index t 0 = (grid0.coords t 0).val ∧ win0_4.index t 1 = (grid0.coords t 1).val ∧ win0_4.index t 2 = 3 := by decide +kernel
theorem index5 : ∀ t : Fin grid0.N, win0_5.index t 0 = (grid0.coords t 0).val ∧ win0_5.index t 1 = (grid0.coords t 1).val ∧ win0_5.index t 2 = 4 := by decide +kernel
theorem index6 : ∀ t : Fin grid0.N, win0_6.index t 0 = (grid0.coords t 0).val ∧ win0_6.index t 1 = (grid0.coords t 1).val ∧ win0_6.index t 2 = 0 := by decide +kernel
theorem index7 : ∀ t : Fin grid0.N, win0_7.index t 0 = (grid0.coords t 0).val ∧ win0_7.index t 1 = 0 ∧ win0_7.index t 2 = 0 := by decide +kernel
theorem index8 : ∀ t : Fin grid0.N, win0_8.index t 0 = 0 ∧ win0_8.index t 1 = 0 ∧ win0_8.index t 2 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel
theorem index13 : ∀ t : Fin grid0.N, win0_13.index t 0 = 0 ∧ win0_13.index t 1 = 0 := by decide +kernel
theorem index14 : ∀ t : Fin grid0.N, win0_14.index t 0 = (grid0.coords t 0).val ∧ win0_14.index t 1 = (grid0.coords t 1).val ∧ win0_14.index t 2 = 0 := by decide +kernel
theorem point_of : ∀ (b : Fin 32) (a : Fin 4), ∃ t : Fin grid0.N, (grid0.coords t 0).val = b.val ∧ (grid0.coords t 1).val = a.val := by decide +kernel

/-- A row of a tile. -/
abbrev tileRow (a : Fin 4) (r : Fin 512) : Fin 2048 := ⟨512 * a.val + r.val, by omega⟩

variable (m : (ℓ : Loc nD τ sig) → Buf (Elt Ideal) ℓ)

/-- A core's arguments. -/
abbrev arg0 (c : Dev nD) : FVec Ideal S32x8x2048x128 .bf16 := m ((c : Thread nD τ).loc main_arg0)
abbrev arg1 (c : Dev nD) : FVec Ideal S32x2048x5120 .bf16 := m ((c : Thread nD τ).loc main_arg1)
abbrev arg2 (c : Dev nD) : FVec Ideal S32x2048x1024 .f32 := m ((c : Thread nD τ).loc main_arg2)
abbrev arg3 (c : Dev nD) : FVec Ideal S32x1024 .f32 := m ((c : Thread nD τ).loc main_arg3)
abbrev arg4 (c : Dev nD) : FVec Ideal S4x256x256 .f32 := m ((c : Thread nD τ).loc main_arg4)
abbrev arg5 (c : Dev nD) : FVec Ideal S1024 .f32 := m ((c : Thread nD τ).loc main_arg5)
abbrev arg6 (c : Dev nD) : FVec Ideal S1024x1024 .f32 := m ((c : Thread nD τ).loc main_arg6)
abbrev arg7 (c : Dev nD) : FVec Ideal S1024x1024 .f32 := m ((c : Thread nD τ).loc main_arg7)
abbrev arg8 (c : Dev nD) : FVec Ideal S1024x1024 .f32 := m ((c : Thread nD τ).loc main_arg8)
abbrev arg9 (c : Dev nD) : FVec Ideal S1024 .f32 := m ((c : Thread nD τ).loc main_arg9)

/-! ### What the host operations hand the launch -/

theorem V_host0 (c : Dev nD) : (V m c main_v0 : FVec Ideal S32x1x1024 .f32) = shapeCast S32x1x1024 (arg3 m c) shapeCasts_S32x1024_S32x1x1024 := by
  unfold V
  simp only [hostOps0, List.flatten_cons, List.flatten_nil, List.append_nil, List.cons_append, List.nil_append, TRef.binary, TRef.nullary, TRef.ternary, TRef.unary, TRef.toBuf, TRef.ofBuf, cast_eq]
  after_results_simp <;> rfl

theorem V_host1 (c : Dev nD) : (V m c main_v1 : FVec Ideal S4x256x256 .bf16) = truncf .bf16 (arg4 m c) bitsLt_bf16_f32 := by
  unfold V
  simp only [hostOps0, List.flatten_cons, List.flatten_nil, List.append_nil, List.cons_append, List.nil_append, TRef.binary, TRef.nullary, TRef.ternary, TRef.unary, TRef.toBuf, TRef.ofBuf, cast_eq]
  after_results_simp <;> rfl

theorem V_host2 (c : Dev nD) : (V m c main_v2 : FVec Ideal S1x1024 .f32) = shapeCast S1x1024 (arg5 m c) shapeCasts_S1024_S1x1024 := by
  unfold V
  simp only [hostOps0, List.flatten_cons, List.flatten_nil, List.append_nil, List.cons_append, List.nil_append, TRef.binary, TRef.nullary, TRef.ternary, TRef.unary, TRef.toBuf, TRef.ofBuf, cast_eq]
  after_results_simp <;> rfl

theorem V_host3 (c : Dev nD) : (V m c main_v3 : FVec Ideal S1024x1024 .bf16) = truncf .bf16 (arg6 m c) bitsLt_bf16_f32 := by
  unfold V
  simp only [hostOps0, List.flatten_cons, List.flatten_nil, List.append_nil, List.cons_append, List.nil_append, TRef.binary, TRef.nullary, TRef.ternary, TRef.unary, TRef.toBuf, TRef.ofBuf, cast_eq]
  after_results_simp <;> rfl

theorem V_host4 (c : Dev nD) : (V m c main_v4 : FVec Ideal S1024x1024 .bf16) = truncf .bf16 (arg7 m c) bitsLt_bf16_f32 := by
  unfold V
  simp only [hostOps0, List.flatten_cons, List.flatten_nil, List.append_nil, List.cons_append, List.nil_append, TRef.binary, TRef.nullary, TRef.ternary, TRef.unary, TRef.toBuf, TRef.ofBuf, cast_eq]
  after_results_simp <;> rfl

theorem V_host5 (c : Dev nD) : (V m c main_v5 : FVec Ideal S1024x1024 .bf16) = truncf .bf16 (arg8 m c) bitsLt_bf16_f32 := by
  unfold V
  simp only [hostOps0, List.flatten_cons, List.flatten_nil, List.append_nil, List.cons_append, List.nil_append, TRef.binary, TRef.nullary, TRef.ternary, TRef.unary, TRef.toBuf, TRef.ofBuf, cast_eq]
  after_results_simp <;> rfl

theorem V_host6 (c : Dev nD) : (V m c main_v6 : FVec Ideal S1x1024 .f32) = shapeCast S1x1024 (arg9 m c) shapeCasts_S1024_S1x1024 := by
  unfold V
  simp only [hostOps0, List.flatten_cons, List.flatten_nil, List.append_nil, List.cons_append, List.nil_append, TRef.binary, TRef.nullary, TRef.ternary, TRef.unary, TRef.toBuf, TRef.ofBuf, cast_eq]
  after_results_simp <;> rfl

theorem V_in0 (c : Dev nD) : (V m c main_arg0 : FVec Ideal S32x8x2048x128 .bf16) = arg0 m c := V_main_arg0 m c

theorem V_in1 (c : Dev nD) : (V m c main_arg1 : FVec Ideal S32x2048x5120 .bf16) = arg1 m c := V_main_arg1 m c

theorem V_in2 (c : Dev nD) : (V m c main_arg2 : FVec Ideal S32x2048x1024 .f32) = arg2 m c := V_main_arg2 m c

/-! ### Blocks -/

theorem blk0 (c : Dev nD) (t : Fin cfg0.N) (p : Fin 8) (r : Fin 512) (l : Fin 128) : (iblk m c 0 t : Vec Ideal S1x8x512x128 .bf16) (ix4 0 p r l) = arg0 m c (ix4 (grid0.coords t 0) p (tileRow (grid0.coords t 1) r) l) := by
  obtain ⟨e0, e1, e2, e3⟩ := index0 t
  rw [← V_in0]
  unfold iblk
  rw [View.read_apply]
  show V m c main_arg0 _ = V m c main_arg0 _
  congr 1
  funext a
  apply Fin.ext
  match a with
  | ⟨0, _⟩ => show win0_0.index t 0 * 1 + 1 * 0 = (grid0.coords t 0).val; rw [e0] <;> omega
  | ⟨1, _⟩ => show win0_0.index t 1 * 8 + 1 * p.val = p.val; rw [e1] <;> omega
  | ⟨2, _⟩ => show win0_0.index t 2 * 512 + 1 * r.val = (512 * (grid0.coords t 1).val + r.val); rw [e2] <;> omega
  | ⟨3, _⟩ => show win0_0.index t 3 * 128 + 1 * l.val = l.val; rw [e3] <;> omega

theorem blk1 (c : Dev nD) (t : Fin cfg0.N) (r : Fin 512) (k : Fin 1024) : (iblk m c 1 t : Vec Ideal S1x512x1024 .bf16) (ix3 0 r k) = arg1 m c (ix3 (grid0.coords t 0) (tileRow (grid0.coords t 1) r) ⟨k.val, by omega⟩) := by
  obtain ⟨e0, e1, e2⟩ := index1 t
  rw [← V_in1]
  unfold iblk
  rw [View.read_apply]
  show V m c main_arg1 _ = V m c main_arg1 _
  congr 1
  funext a
  apply Fin.ext
  match a with
  | ⟨0, _⟩ => show win0_1.index t 0 * 1 + 1 * 0 = (grid0.coords t 0).val; rw [e0] <;> omega
  | ⟨1, _⟩ => show win0_1.index t 1 * 512 + 1 * r.val = (512 * (grid0.coords t 1).val + r.val); rw [e1] <;> omega
  | ⟨2, _⟩ => show win0_1.index t 2 * 1024 + 1 * k.val = k.val; rw [e2] <;> omega

theorem blk2 (c : Dev nD) (t : Fin cfg0.N) (r : Fin 512) (k : Fin 1024) : (iblk m c 2 t : Vec Ideal S1x512x1024 .bf16) (ix3 0 r k) = arg1 m c (ix3 (grid0.coords t 0) (tileRow (grid0.coords t 1) r) ⟨1024 + k.val, by omega⟩) := by
  obtain ⟨e0, e1, e2⟩ := index2 t
  rw [← V_in1]
  unfold iblk
  rw [View.read_apply]
  show V m c main_arg1 _ = V m c main_arg1 _
  congr 1
  funext a
  apply Fin.ext
  match a with
  | ⟨0, _⟩ => show win0_2.index t 0 * 1 + 1 * 0 = (grid0.coords t 0).val; rw [e0] <;> omega
  | ⟨1, _⟩ => show win0_2.index t 1 * 512 + 1 * r.val = (512 * (grid0.coords t 1).val + r.val); rw [e1] <;> omega
  | ⟨2, _⟩ => show win0_2.index t 2 * 1024 + 1 * k.val = 1024 + k.val; rw [e2] <;> omega

theorem blk3 (c : Dev nD) (t : Fin cfg0.N) (r : Fin 512) (k : Fin 1024) : (iblk m c 3 t : Vec Ideal S1x512x1024 .bf16) (ix3 0 r k) = arg1 m c (ix3 (grid0.coords t 0) (tileRow (grid0.coords t 1) r) ⟨2048 + k.val, by omega⟩) := by
  obtain ⟨e0, e1, e2⟩ := index3 t
  rw [← V_in1]
  unfold iblk
  rw [View.read_apply]
  show V m c main_arg1 _ = V m c main_arg1 _
  congr 1
  funext a
  apply Fin.ext
  match a with
  | ⟨0, _⟩ => show win0_3.index t 0 * 1 + 1 * 0 = (grid0.coords t 0).val; rw [e0] <;> omega
  | ⟨1, _⟩ => show win0_3.index t 1 * 512 + 1 * r.val = (512 * (grid0.coords t 1).val + r.val); rw [e1] <;> omega
  | ⟨2, _⟩ => show win0_3.index t 2 * 1024 + 1 * k.val = 2048 + k.val; rw [e2] <;> omega

theorem blk4 (c : Dev nD) (t : Fin cfg0.N) (r : Fin 512) (k : Fin 1024) : (iblk m c 4 t : Vec Ideal S1x512x1024 .bf16) (ix3 0 r k) = arg1 m c (ix3 (grid0.coords t 0) (tileRow (grid0.coords t 1) r) ⟨3072 + k.val, by omega⟩) := by
  obtain ⟨e0, e1, e2⟩ := index4 t
  rw [← V_in1]
  unfold iblk
  rw [View.read_apply]
  show V m c main_arg1 _ = V m c main_arg1 _
  congr 1
  funext a
  apply Fin.ext
  match a with
  | ⟨0, _⟩ => show win0_4.index t 0 * 1 + 1 * 0 = (grid0.coords t 0).val; rw [e0] <;> omega
  | ⟨1, _⟩ => show win0_4.index t 1 * 512 + 1 * r.val = (512 * (grid0.coords t 1).val + r.val); rw [e1] <;> omega
  | ⟨2, _⟩ => show win0_4.index t 2 * 1024 + 1 * k.val = 3072 + k.val; rw [e2] <;> omega

theorem blk5 (c : Dev nD) (t : Fin cfg0.N) (r : Fin 512) (k : Fin 1024) : (iblk m c 5 t : Vec Ideal S1x512x1024 .bf16) (ix3 0 r k) = arg1 m c (ix3 (grid0.coords t 0) (tileRow (grid0.coords t 1) r) ⟨4096 + k.val, by omega⟩) := by
  obtain ⟨e0, e1, e2⟩ := index5 t
  rw [← V_in1]
  unfold iblk
  rw [View.read_apply]
  show V m c main_arg1 _ = V m c main_arg1 _
  congr 1
  funext a
  apply Fin.ext
  match a with
  | ⟨0, _⟩ => show win0_5.index t 0 * 1 + 1 * 0 = (grid0.coords t 0).val; rw [e0] <;> omega
  | ⟨1, _⟩ => show win0_5.index t 1 * 512 + 1 * r.val = (512 * (grid0.coords t 1).val + r.val); rw [e1] <;> omega
  | ⟨2, _⟩ => show win0_5.index t 2 * 1024 + 1 * k.val = 4096 + k.val; rw [e2] <;> omega

theorem blk6 (c : Dev nD) (t : Fin cfg0.N) (r : Fin 512) (k : Fin 1024) : (iblk m c 6 t : Vec Ideal S1x512x1024 .f32) (ix3 0 r k) = arg2 m c (ix3 (grid0.coords t 0) (tileRow (grid0.coords t 1) r) k) := by
  obtain ⟨e0, e1, e2⟩ := index6 t
  rw [← V_in2]
  unfold iblk
  rw [View.read_apply]
  show V m c main_arg2 _ = V m c main_arg2 _
  congr 1
  funext a
  apply Fin.ext
  match a with
  | ⟨0, _⟩ => show win0_6.index t 0 * 1 + 1 * 0 = (grid0.coords t 0).val; rw [e0] <;> omega
  | ⟨1, _⟩ => show win0_6.index t 1 * 512 + 1 * r.val = (512 * (grid0.coords t 1).val + r.val); rw [e1] <;> omega
  | ⟨2, _⟩ => show win0_6.index t 2 * 1024 + 1 * k.val = k.val; rw [e2] <;> omega

theorem blk7 (c : Dev nD) (t : Fin cfg0.N) (k : Fin 1024) : (iblk m c 7 t : Vec Ideal S1x1x1024 .f32) (ix3 0 0 k) = arg3 m c (ix2 (grid0.coords t 0) k) := by
  obtain ⟨e0, e1, e2⟩ := index7 t
  have hV : arg3 m c (ix2 (grid0.coords t 0) k) = (V m c main_v0 : FVec Ideal S32x1x1024 .f32) (ix3 (grid0.coords t 0) 0 k) := by
    rw [V_host0]
    pointwise []
  rw [hV]
  unfold iblk
  rw [View.read_apply]
  show V m c main_v0 _ = V m c main_v0 _
  congr 1
  funext a
  apply Fin.ext
  match a with
  | ⟨0, _⟩ => show win0_7.index t 0 * 1 + 1 * 0 = (grid0.coords t 0).val; rw [e0] <;> omega
  | ⟨1, _⟩ => show win0_7.index t 1 * 1 + 1 * 0 = 0; rw [e1] <;> omega
  | ⟨2, _⟩ => show win0_7.index t 2 * 1024 + 1 * k.val = k.val; rw [e2] <;> omega

theorem blk8 (c : Dev nD) (t : Fin cfg0.N) (g : Fin 4) (k n : Fin 256) : (iblk m c 8 t : Vec Ideal S4x256x256 .bf16) (ix3 g k n) = arg4 m c (ix3 g k n) := by
  obtain ⟨e0, e1, e2⟩ := index8 t
  have hV : arg4 m c (ix3 g k n) = (V m c main_v1 : FVec Ideal S4x256x256 .bf16) (ix3 g k n) := by
    rw [V_host1]
    pointwise []
  rw [hV]
  unfold iblk
  rw [View.read_apply]
  show V m c main_v1 _ = V m c main_v1 _
  congr 1
  funext a
  apply Fin.ext
  match a with
  | ⟨0, _⟩ => show win0_8.index t 0 * 4 + 1 * g.val = g.val; rw [e0] <;> omega
  | ⟨1, _⟩ => show win0_8.index t 1 * 256 + 1 * k.val = k.val; rw [e1] <;> omega
  | ⟨2, _⟩ => show win0_8.index t 2 * 256 + 1 * n.val = n.val; rw [e2] <;> omega

theorem blk9 (c : Dev nD) (t : Fin cfg0.N) (k : Fin 1024) : (iblk m c 9 t : Vec Ideal S1x1024 .f32) (ix2 0 k) = arg5 m c (ix1 k) := by
  obtain ⟨e0, e1⟩ := index9 t
  have hV : arg5 m c (ix1 k) = (V m c main_v2 : FVec Ideal S1x1024 .f32) (ix2 0 k) := by
    rw [V_host2]
    pointwise []
  rw [hV]
  unfold iblk
  rw [View.read_apply]
  show V m c main_v2 _ = V m c main_v2 _
  congr 1
  funext a
  apply Fin.ext
  match a with
  | ⟨0, _⟩ => show win0_9.index t 0 * 1 + 1 * 0 = 0; rw [e0] <;> omega
  | ⟨1, _⟩ => show win0_9.index t 1 * 1024 + 1 * k.val = k.val; rw [e1] <;> omega

theorem blk10 (c : Dev nD) (t : Fin cfg0.N) (k n : Fin 1024) : (iblk m c 10 t : Vec Ideal S1024x1024 .bf16) (ix2 k n) = arg6 m c (ix2 k n) := by
  obtain ⟨e0, e1⟩ := index10 t
  have hV : arg6 m c (ix2 k n) = (V m c main_v3 : FVec Ideal S1024x1024 .bf16) (ix2 k n) := by
    rw [V_host3]
    pointwise []
  rw [hV]
  unfold iblk
  rw [View.read_apply]
  show V m c main_v3 _ = V m c main_v3 _
  congr 1
  funext a
  apply Fin.ext
  match a with
  | ⟨0, _⟩ => show win0_10.index t 0 * 1024 + 1 * k.val = k.val; rw [e0] <;> omega
  | ⟨1, _⟩ => show win0_10.index t 1 * 1024 + 1 * n.val = n.val; rw [e1] <;> omega

theorem blk11 (c : Dev nD) (t : Fin cfg0.N) (k n : Fin 1024) : (iblk m c 11 t : Vec Ideal S1024x1024 .bf16) (ix2 k n) = arg7 m c (ix2 k n) := by
  obtain ⟨e0, e1⟩ := index11 t
  have hV : arg7 m c (ix2 k n) = (V m c main_v4 : FVec Ideal S1024x1024 .bf16) (ix2 k n) := by
    rw [V_host4]
    pointwise []
  rw [hV]
  unfold iblk
  rw [View.read_apply]
  show V m c main_v4 _ = V m c main_v4 _
  congr 1
  funext a
  apply Fin.ext
  match a with
  | ⟨0, _⟩ => show win0_11.index t 0 * 1024 + 1 * k.val = k.val; rw [e0] <;> omega
  | ⟨1, _⟩ => show win0_11.index t 1 * 1024 + 1 * n.val = n.val; rw [e1] <;> omega

theorem blk12 (c : Dev nD) (t : Fin cfg0.N) (k n : Fin 1024) : (iblk m c 12 t : Vec Ideal S1024x1024 .bf16) (ix2 k n) = arg8 m c (ix2 k n) := by
  obtain ⟨e0, e1⟩ := index12 t
  have hV : arg8 m c (ix2 k n) = (V m c main_v5 : FVec Ideal S1024x1024 .bf16) (ix2 k n) := by
    rw [V_host5]
    pointwise []
  rw [hV]
  unfold iblk
  rw [View.read_apply]
  show V m c main_v5 _ = V m c main_v5 _
  congr 1
  funext a
  apply Fin.ext
  match a with
  | ⟨0, _⟩ => show win0_12.index t 0 * 1024 + 1 * k.val = k.val; rw [e0] <;> omega
  | ⟨1, _⟩ => show win0_12.index t 1 * 1024 + 1 * n.val = n.val; rw [e1] <;> omega

theorem blk13 (c : Dev nD) (t : Fin cfg0.N) (k : Fin 1024) : (iblk m c 13 t : Vec Ideal S1x1024 .f32) (ix2 0 k) = arg9 m c (ix1 k) := by
  obtain ⟨e0, e1⟩ := index13 t
  have hV : arg9 m c (ix1 k) = (V m c main_v6 : FVec Ideal S1x1024 .f32) (ix2 0 k) := by
    rw [V_host6]
    pointwise []
  rw [hV]
  unfold iblk
  rw [View.read_apply]
  show V m c main_v6 _ = V m c main_v6 _
  congr 1
  funext a
  apply Fin.ext
  match a with
  | ⟨0, _⟩ => show win0_13.index t 0 * 1 + 1 * 0 = 0; rw [e0] <;> omega
  | ⟨1, _⟩ => show win0_13.index t 1 * 1024 + 1 * k.val = k.val; rw [e1] <;> omega

end Cert.Proof.Tail

end
-- ==== Proof.Tail.Result.lean ====
/- The launch's result array, filled by the points' blocks, is the reference's last part, where no silu gate is minus
   infinity. -/
module

public import proofs.«01_k».proof.Defs
public import proofs.«01_k».proof.Proof.Gen.Pre_gates_above
public import proofs.«01_k».proof.Proof.Tail.Ref
public import proofs.«01_k».proof.Proof.Tail.Blocks
public import Idealize.ShloMosaic.Lib.Pipeline.ValueKit

@[expose] public section

set_option maxRecDepth 16384

noncomputable section

namespace Cert.Proof.Tail

open Cert.Kernel2Ideal Cert.Kernel2Ideal.Gen
open Idealize.ShloMosaic Idealize.ShloMosaic.TcCoe Idealize.ShloMosaic.Tactic
open Idealize.SL.Sem

/-- Minus infinity, as the precondition writes it. -/
theorem bits_bot : Ideal.ofBits .bf16 0xFF80#16 = ⊥ := by simp [Ideal.ofBits, Ideal.ieee]

/-- Of two one-bit words whose conjunction is one, each is one. -/
theorem both_one (x y : BitVec 1) (h : x &&& y = 1#1) : x = 1#1 ∧ y = 1#1 := by
  revert x y; decide

theorem gt_one (x y : EReal) (h : Ideal.cmp .ogt x y = 1#1) : y < x := by
  by_contra hp
  rw [show Ideal.cmp .ogt x y = 0#1 by simp [Ideal.cmp, hp]] at h
  exact absurd h (by decide)

/-- A part of the projection, read at an entry. -/
theorem slice0 (a1 : FVec Ideal S32x2048x5120 .bf16) (h) (b : Fin 32) (s : Fin 2048) (k : Fin 1024) :
    extractStridedSlice Cert.Pre_gates_above.S32x2048x1024 ![0, 0, 0] a1 h (ix3 b s k) = a1 (ix3 b s ⟨k.val, by omega⟩) := by
  pointwise []
theorem slice2 (a1 : FVec Ideal S32x2048x5120 .bf16) (h) (b : Fin 32) (s : Fin 2048) (k : Fin 1024) :
    extractStridedSlice Cert.Pre_gates_above.S32x2048x1024 ![0, 0, 2048] a1 h (ix3 b s k) = a1 (ix3 b s ⟨2048 + k.val, by omega⟩) := by
  pointwise []

/-- What the precondition says of the projection's parts. -/
theorem gates_of (a0 : FVec Ideal S32x8x2048x128 .bf16) (a1 : FVec Ideal S32x2048x5120 .bf16) (a2 : FVec Ideal S32x2048x1024 .f32) (a3 : FVec Ideal S32x1024 .f32)
    (a4 : FVec Ideal S4x256x256 .f32) (a5 : FVec Ideal S1024 .f32) (a6 a7 a8 : FVec Ideal S1024x1024 .f32) (a9 : FVec Ideal S1024 .f32)
    (h : Cert.Pre_gates_above.fn (F := Ideal) a0 a1 a2 a3 a4 a5 a6 a7 a8 a9 = fun _ => 1#1) (b : Fin 32) (s : Fin 2048) (k : Fin 1024) :
    ⊥ < a1 (ix3 b s ⟨k.val, by omega⟩) ∧ ⊥ < a1 (ix3 b s ⟨2048 + k.val, by omega⟩) := by
  have h1 := congrFun h (ix3 b s k)
  unfold Cert.Pre_gates_above.fn at h1
  obtain ⟨h2, h3⟩ := both_one _ _ h1
  have g2 := gt_one _ (Ideal.ofBits .bf16 0xFF80#16) h2
  have g3 := gt_one _ (Ideal.ofBits .bf16 0xFF80#16) h3
  rw [bits_bot] at g2 g3
  exact ⟨lt_of_lt_of_eq g2 (slice0 a1 _ b s k), lt_of_lt_of_eq g3 (slice2 a1 _ b s k)⟩

variable (m : (ℓ : Loc nD τ sig) → Buf (Elt Ideal) ℓ)

/-- What a point leaves in the output's block. -/
theorem outs_eq (c : Dev nD) (t : Fin cfg0.N) : outsAt0 m c t
    = block (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) := by
  unfold outsAt0
  frame_out
  rfl

/-- The reference's last part of a core's arguments. -/
abbrev answer (c : Dev nD) : FVec Ideal S32x2048x1024 .f32 :=
  Ref.tail (arg0 m c) (arg1 m c) (arg2 m c) (arg3 m c) (arg4 m c) (arg5 m c) (arg6 m c) (arg7 m c) (arg8 m c) (arg9 m c)

theorem outs_apply (c : Dev nD) (t : Fin cfg0.N)
    (hg : ∀ (b : Fin 32) (s : Fin 2048) (k : Fin 1024), ⊥ < arg1 m c (ix3 b s ⟨k.val, by omega⟩) ∧ ⊥ < arg1 m c (ix3 b s ⟨2048 + k.val, by omega⟩)) (r : Fin 512) (n : Fin 1024) :
    outsAt0 m c t (ix3 0 r n) = answer m c (ix3 (grid0.coords t 0) (tileRow (grid0.coords t 1) r) n) := by
  rw [outs_eq, block_apply]
  refine Eq.trans ?_ (Ref.tail_apply _ _ _ _ _ _ _ _ _ _ (grid0.coords t 0) (tileRow (grid0.coords t 1) r) n).symm
  simp only [blk0, blk1, blk2, blk3, blk4, blk5, blk6, blk7, blk8, blk9, blk10, blk11, blk12, blk13]
  exact congrFun (out_eq _ _ _ _ _ _ _ _ _ _ _ _ _ _ (fun k => (hg _ _ k).1) (fun k => (hg _ _ k).2)) n

/-- A block of the result array read back, from its entries. -/
theorem cut14 (t : Fin cfg0.N) (O : Vec Ideal S1x512x1024 .f32) (G : S32x2048x1024.Idx → EReal)
    (h : ∀ (r : Fin 512) (n : Fin 1024), O (ix3 0 r n) = G (ix3 (grid0.coords t 0) (tileRow (grid0.coords t 1) r) n)) :
    (cfg0.win 14).cut (grid0.coords t) O = ((cfg0.win 14).blk t).view.read (Elt Ideal) G := by
  obtain ⟨e0, e1, e2⟩ := index14 t
  funext y
  rw [View.read_apply]
  have hy0 : (y 0).val = 0 := by have : (y 0).val < 1 := (y 0).isLt; omega
  refine Eq.trans (congrArg O (?_ : _ = (ix3 0 (y 1) (y 2) : S1x512x1024.Idx))) ((h (y 1) (y 2)).trans ?_)
  · funext a
    apply Fin.ext
    match a with
    | ⟨0, _⟩ => exact hy0
    | ⟨1, _⟩ => rfl
    | ⟨2, _⟩ => rfl
  show G _ = G _
  congr 1
  funext a
  apply Fin.ext
  match a with
  | ⟨0, _⟩ => show (grid0.coords t 0).val = win0_14.index t 0 * 1 + 1 * (y 0).val; rw [e0]; omega
  | ⟨1, _⟩ => show 512 * (grid0.coords t 1).val + (y 1).val = win0_14.index t 1 * 512 + 1 * (y 1).val; rw [e1]; omega
  | ⟨2, _⟩ => show (y 2).val = win0_14.index t 2 * 1024 + 1 * (y 2).val; rw [e2]; omega

/-- Every index of the result array lies in some point's block. -/
theorem cover14 (j : S32x2048x1024.Idx) : ∃ t : Fin cfg0.N, (cfg0.win 14).flush t = true ∧ j ∈ ((cfg0.win 14).blk t).view.set := by
  obtain ⟨t, ht0, ht1⟩ := point_of (j 0) ⟨(j 1).val / 512, by have : (j 1).val < 2048 := (j 1).isLt; omega⟩
  obtain ⟨e0, e1, e2⟩ := index14 t
  refine ⟨t, flush0_14 t, ?_⟩
  have hm : ((cfg0.win 14).blk t).view.emb (ix3 0 ⟨(j 1).val % 512, Nat.mod_lt _ (by decide)⟩ (j 2) : S1x512x1024.Idx) = j := by
    funext a
    apply Fin.ext
    match a with
    | ⟨0, _⟩ => show win0_14.index t 0 * 1 + 1 * 0 = (j 0).val; rw [e0, ht0]; omega
    | ⟨1, _⟩ => show win0_14.index t 1 * 512 + 1 * ((j 1).val % 512) = (j 1).val; rw [e1, ht1]; show (j 1).val / 512 * 512 + _ = _; omega
    | ⟨2, _⟩ => show win0_14.index t 2 * 1024 + 1 * (j 2).val = (j 2).val; rw [e2]; omega
  rw [← hm]
  exact View.emb_mem_set _ _

theorem array14 (c : Dev nD)
    (hg : ∀ (b : Fin 32) (s : Fin 2048) (k : Fin 1024), ⊥ < arg1 m c (ix3 b s ⟨k.val, by omega⟩) ∧ ⊥ < arg1 m c (ix3 b s ⟨2048 + k.val, by omega⟩)) :
    (dats m 0 c).arrAt 14 cfg0.N = answer m c :=
  (dats m 0 c).arrAt_eq_of_cover 14 _ (fun t _ => (Cert.Kernel2Ideal.Value.flushed14 m c t).trans (cut14 t _ _ (outs_apply m c t hg))) cover14

end Cert.Proof.Tail

end
-- ==== Proof.Proj.Ideal.Kit.lean ====
/- What the run of the projection kernel is stated over: the buffers as the host operations of @main leave them when the
   launch begins, the blocks its windows stage, and how the argument arrays are read back at the end. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Proj.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the launch begins. -/
abbrev V (c : Dev nD) (b : Ref sig .tc) : Buf (Elt F) ((c : Thread nD τ).loc b) :=
  StableHlo.after hostOps0 (fun b => m (c, b)) b

theorem fresh0 : (hostOps0 : List (HloOp τ sig (Elt F))).Forall fun op => op.fresh = ∅ := by
  simp only [List.Forall]; repeat' constructor

/-- @main is the host operations, then the launch. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub fresh0 main_chain

/-- A buffer no host operation writes is found as launched. -/
theorem V_arg (c : Dev nD) (b : Ref sig .tc)
    (hb : b = main_arg0 ∨ b = main_arg1 ∨ b = main_arg2 ∨ b = main_arg3 ∨ b = main_arg4) : V m c b = m ((c : Thread nD τ).loc b) := by
  rcases hb with rfl | rfl | rfl | rfl | rfl <;>
  · refine StableHlo.after_of_forall_not_mem (b := Proc.devRef .tc _) _ _ (List.forall_iff_forall_mem.mp ?_)
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0's staging buffer holds its block at every point, for proof data whose array is `V`'s and whose body leaves
    the block in place. -/
theorem before0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1's staging buffer holds its block at every point, for proof data whose array is `V`'s and whose body leaves
    the block in place. -/
theorem before1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2's staging buffer holds its block at every point, for proof data whose array is `V`'s and whose body leaves
    the block in place. -/
theorem before2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Window 3's staging buffer holds its block at every point, for proof data whose array is `V`'s and whose body leaves
    the block in place. -/
theorem before3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Window 4's staging buffer holds its block at every point, for proof data whose array is `V`'s and whose body leaves
    the block in place. -/
theorem before4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The arguments are unchanged after a run to the launch's post. -/
theorem args_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats 0 c).arrAt_in 0 rfl _).trans ((hA c 0).trans (V_arg m c main_arg0 (by simp)))),
   ((h c).2 main_arg1 (show main_arg1 ∈ Pipeline.restRefs sig spec0 from Pipeline.mem_restRefs_of main_arg1 (by decide) (by decide))).trans (V_arg m c _ (by simp)),
   ((h c).2 main_arg2 (show main_arg2 ∈ Pipeline.restRefs sig spec0 from Pipeline.mem_restRefs_of main_arg2 (by decide) (by decide))).trans (V_arg m c _ (by simp)),
   ((h c).2 main_arg3 (show main_arg3 ∈ Pipeline.restRefs sig spec0 from Pipeline.mem_restRefs_of main_arg3 (by decide) (by decide))).trans (V_arg m c _ (by simp)),
   ((h c).2 main_arg4 (show main_arg4 ∈ Pipeline.restRefs sig spec0 from Pipeline.mem_restRefs_of main_arg4 (by decide) (by decide))).trans (V_arg m c _ (by simp))⟩

/-- Each window's staging memref at point `t`, and that it is a whole buffer. -/
abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x2560x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048x1024 .bf16 := win0_6.stage (cfg0.slots t 6)
abbrev hs6 (t : Fin cfg0.N) : (ms6 t).IsWhole := hstage0_6 ((cfg0.slots t 6).cast nbuf0_6)

/-- The scratch buffer, kept from point to point. -/
abbrev scr : Memref sig .tc .vmem S2048x1024 .bf16 := Memref.whole cc0_scratch0
abbrev hscr : (scr : Memref sig .tc .vmem S2048x1024 .bf16).IsWhole := Memref.isWhole_whole _

/-- The scoped memory before the first point: the scratch buffer at some contents, and the generator's register. -/
theorem PhiA0_eq (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

end Cert.Proof.Proj.Kernel3Ideal

end
-- ==== Proof.Proj.Ideal.Points.lean ====
/- The grid points of the projection: which branch of the body runs at each, and what each does with the output windows. -/
module

public import proofs.«01_k».proof.Proof.Proj.Ideal.Kit

@[expose] public section

set_option maxRecDepth 16384

noncomputable section

namespace Cert.Proof.Proj.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cond1_iff : ∀ t : Fin grid0.N, k0_cond1 (grid0.coords t) = 1#1 ↔ t.val % 8 = 0 := by decide +kernel
theorem cond2_iff : ∀ t : Fin grid0.N, k0_cond2 (grid0.coords t) = 1#1 ↔ (t.val % 8 = 1 ∨ t.val % 8 = 2) := by decide +kernel
theorem cond3_iff : ∀ t : Fin grid0.N, k0_cond3 (grid0.coords t) = 1#1 ↔ (t.val % 8 = 3 ∨ 5 ≤ t.val % 8) := by decide +kernel
theorem cond4_iff : ∀ t : Fin grid0.N, k0_cond4 (grid0.coords t) = 1#1 ↔ t.val % 8 = 4 := by decide +kernel

theorem idle5 : ∀ t : Fin grid0.N, idle0 5 (grid0.coords t) = decide (3 ≤ t.val % 8) := by decide +kernel
theorem idle6 : ∀ t : Fin grid0.N, idle0 6 (grid0.coords t) = decide (t.val % 8 < 3) := by decide +kernel
theorem flush5 : ∀ t : Fin grid0.N, win0_5.flush t = decide (t.val % 8 < 2 ∨ t.val % 8 = 7) := by decide +kernel
theorem flush6 : ∀ t : Fin grid0.N, win0_6.flush t = decide (3 ≤ t.val % 8) := by decide +kernel
theorem fetch5 : ∀ t : Fin grid0.N, win0_5.fetch t = false := by decide +kernel
theorem fetch6 : ∀ t : Fin grid0.N, win0_6.fetch t = false := by decide +kernel

end Cert.Proof.Proj.Kernel3Ideal

end
-- ==== Proof.Proj.Ideal.RunA.lean ====
/- The run of the projection's body, case A. -/
module

public import proofs.«01_k».proof.Proof.Proj.Ideal.Kit

@[expose] public section

set_option maxRecDepth 16384

noncomputable section

namespace Cert.Proof.Proj.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first column block of a batch: the body normalises the rows into the scratch buffer and stores
    the first third of the packed output. The stores are named as pieces, last first. -/
noncomputable def runA (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1x8x2560x128 .bf16) (harg7 : arg7.IsWhole) (arg8 : Memref sig .tc .vmem S1x2048x1024 .bf16) (harg8 : arg8.IsWhole) (arg9 : Memref sig .tc .vmem S2048x1024 .bf16) (harg9 : arg9.IsWhole)
    (x0 : Vec F S1x2048x1024 .f32) (x1 : Vec F S1x1024 .f32) (x2 : Vec F S1x1x1024 .f32) (x3 : Vec F S1x1x1024 .f32) (x4 : Vec F S1024x1024 .bf16)
    (h1 : k0_cond1 i = 1#1) (h2 : ¬ k0_cond2 i = 1#1) (h3 : ¬ k0_cond3 i = 1#1) (h4 : ¬ k0_cond4 i = 1#1) :
    Σ' (L7 : List (View.Piece (Elt F) S1x8x2560x128 .bf16)), { L9 : List (View.Piece (Elt F) S2048x1024 .bf16) //
      ∀ (y8 : Vec F S1x2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y8 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ owns (c : Thread nD τ) arg8 fullShare y8 ∗ (∃ f, arg9.view.loc (c : Thread nD τ) ↦[arg9.view.set]{fullShare} arg9.view.writes (Elt F) f L9)) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K } := by
  refine ⟨?_, ?_, fun y8 E K => ?run⟩
  case run =>
    simp only [cc0_in_proj_eq_skeleton]; unfold cc0_in_proj_skel
    simp only [dif_pos h1, dif_neg h2, dif_neg h3, dif_neg h4, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; isplitr; · ipureintro; exact harg8.read_unread _
      iexact H8
    iexists _; iexact H9

end Cert.Proof.Proj.Kernel3Ideal

end
-- ==== Proof.Proj.Ideal.RunB.lean ====
/- The run of the projection's body, case B. -/
module

public import proofs.«01_k».proof.Proof.Proj.Ideal.RunA

@[expose] public section

set_option maxRecDepth 16384

noncomputable section

namespace Cert.Proof.Proj.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the two further column blocks of the packed output: the body multiplies the kept rows. The stores are named as pieces, last first. -/
noncomputable def runB (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1x8x2560x128 .bf16) (harg7 : arg7.IsWhole) (arg8 : Memref sig .tc .vmem S1x2048x1024 .bf16) (harg8 : arg8.IsWhole) (arg9 : Memref sig .tc .vmem S2048x1024 .bf16) (harg9 : arg9.IsWhole)
    (x0 : Vec F S1x2048x1024 .f32) (x1 : Vec F S1x1024 .f32) (x2 : Vec F S1x1x1024 .f32) (x3 : Vec F S1x1x1024 .f32) (x4 : Vec F S1024x1024 .bf16) (x9 : Vec F S2048x1024 .bf16)
    (h1 : ¬ k0_cond1 i = 1#1) (h2 : k0_cond2 i = 1#1) (h3 : ¬ k0_cond3 i = 1#1) (h4 : ¬ k0_cond4 i = 1#1) :
    { L7 : List (View.Piece (Elt F) S1x8x2560x128 .bf16) //
      ∀ (y8 : Vec F S1x2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y8 ∗ owns (c : Thread nD τ) arg9 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ owns (c : Thread nD τ) arg8 fullShare y8 ∗ owns (c : Thread nD τ) arg9 fullShare x9) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K } := by
  refine ⟨?_, fun y8 E K => ?run⟩
  case run =>
    simp only [cc0_in_proj_eq_skeleton]; unfold cc0_in_proj_skel
    simp only [dif_neg h1, dif_pos h2, dif_neg h3, dif_neg h4, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8; obtain rfl := harg9.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; isplitr; · ipureintro; exact harg8.read_unread _
      iexact H8
    iexists _; isplitr; · ipureintro; exact harg9.read_unread _
    iexact H9

end Cert.Proof.Proj.Kernel3Ideal

end
-- ==== Proof.Proj.Ideal.RunC.lean ====
/- The run of the projection's body, case C. -/
module

public import proofs.«01_k».proof.Proof.Proj.Ideal.RunB

@[expose] public section

set_option maxRecDepth 16384

noncomputable section

namespace Cert.Proof.Proj.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a plain column block: the body multiplies the kept rows. The stores are named as pieces, last first. -/
noncomputable def runC (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1x8x2560x128 .bf16) (harg7 : arg7.IsWhole) (arg8 : Memref sig .tc .vmem S1x2048x1024 .bf16) (harg8 : arg8.IsWhole) (arg9 : Memref sig .tc .vmem S2048x1024 .bf16) (harg9 : arg9.IsWhole)
    (x0 : Vec F S1x2048x1024 .f32) (x1 : Vec F S1x1024 .f32) (x2 : Vec F S1x1x1024 .f32) (x3 : Vec F S1x1x1024 .f32) (x4 : Vec F S1024x1024 .bf16) (x9 : Vec F S2048x1024 .bf16)
    (h1 : ¬ k0_cond1 i = 1#1) (h2 : ¬ k0_cond2 i = 1#1) (h3 : k0_cond3 i = 1#1) (h4 : ¬ k0_cond4 i = 1#1) :
    { L8 : List (View.Piece (Elt F) S1x2048x1024 .bf16) //
      ∀ (y7 : Vec F S1x8x2560x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y7 ∗ (∃ d, owns (c : Thread nD τ) arg8 fullShare d) ∗ owns (c : Thread nD τ) arg9 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y7 ∗ (∃ f, arg8.view.loc (c : Thread nD τ) ↦[arg8.view.set]{fullShare} arg8.view.writes (Elt F) f L8) ∗ owns (c : Thread nD τ) arg9 fullShare x9) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K } := by
  refine ⟨?_, fun y7 E K => ?run⟩
  case run =>
    simp only [cc0_in_proj_eq_skeleton]; unfold cc0_in_proj_skel
    simp only [dif_neg h1, dif_neg h2, dif_pos h3, dif_neg h4, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg9.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; · ipureintro; exact harg7.read_unread _
      iexact H7
    isplitl [H8]
    · iexists _; iexact H8
    iexists _; isplitr; · ipureintro; exact harg9.read_unread _
    iexact H9

end Cert.Proof.Proj.Kernel3Ideal

end
-- ==== Proof.Proj.Ideal.RunD.lean ====
/- The run of the projection's body, case D. -/
module

public import proofs.«01_k».proof.Proof.Proj.Ideal.RunC

@[expose] public section

set_option maxRecDepth 16384

noncomputable section

namespace Cert.Proof.Proj.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the pooled column block: the body multiplies the kept rows and pools the products. The stores are named as pieces, last first. -/
noncomputable def runD (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1x8x2560x128 .bf16) (harg7 : arg7.IsWhole) (arg8 : Memref sig .tc .vmem S1x2048x1024 .bf16) (harg8 : arg8.IsWhole) (arg9 : Memref sig .tc .vmem S2048x1024 .bf16) (harg9 : arg9.IsWhole)
    (x0 : Vec F S1x2048x1024 .f32) (x1 : Vec F S1x1024 .f32) (x2 : Vec F S1x1x1024 .f32) (x3 : Vec F S1x1x1024 .f32) (x4 : Vec F S1024x1024 .bf16) (x9 : Vec F S2048x1024 .bf16)
    (h1 : ¬ k0_cond1 i = 1#1) (h2 : ¬ k0_cond2 i = 1#1) (h3 : ¬ k0_cond3 i = 1#1) (h4 : k0_cond4 i = 1#1) :
    { L8 : List (View.Piece (Elt F) S1x2048x1024 .bf16) //
      ∀ (y7 : Vec F S1x8x2560x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y7 ∗ (∃ d, owns (c : Thread nD τ) arg8 fullShare d) ∗ owns (c : Thread nD τ) arg9 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y7 ∗ (∃ f, arg8.view.loc (c : Thread nD τ) ↦[arg8.view.set]{fullShare} arg8.view.writes (Elt F) f L8) ∗ owns (c : Thread nD τ) arg9 fullShare x9) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K } := by
  refine ⟨?_, fun y7 E K => ?run⟩
  case run =>
    simp only [cc0_in_proj_eq_skeleton]; unfold cc0_in_proj_skel
    simp only [dif_neg h1, dif_neg h2, dif_neg h3, dif_pos h4, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg9.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; · ipureintro; exact harg7.read_unread _
      iexact H7
    isplitl [H8]
    · iexists _; iexact H8
    iexists _; isplitr; · ipureintro; exact harg9.read_unread _
    iexact H9

end Cert.Proof.Proj.Kernel3Ideal

end
-- ==== Proof.Proj.Ideal.Frame.lean ====
/- The launch of the projection: what each grid point leaves, the run of the whole program, and its frame. -/
module

public import proofs.«01_k».proof.Proof.Proj.Ideal.Points
public import proofs.«01_k».proof.Proof.Proj.Ideal.RunA
public import proofs.«01_k».proof.Proof.Proj.Ideal.RunB
public import proofs.«01_k».proof.Proof.Proj.Ideal.RunC
public import proofs.«01_k».proof.Proof.Proj.Ideal.RunD
public import Idealize.ShloMosaic.Lib.Pipeline.TableIdle
public import Idealize.ShloMosaic.Lib.Claim

@[expose] public section

set_option maxRecDepth 16384

noncomputable section

namespace Cert.Proof.Proj.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem negs_A {t : Fin grid0.N} (h : t.val % 8 = 0) : k0_cond1 (grid0.coords t) = 1#1 ∧ ¬ k0_cond2 (grid0.coords t) = 1#1 ∧ ¬ k0_cond3 (grid0.coords t) = 1#1 ∧ ¬ k0_cond4 (grid0.coords t) = 1#1 := by
  simp only [cond1_iff, cond2_iff, cond3_iff, cond4_iff]; omega
theorem negs_B {t : Fin grid0.N} (h : t.val % 8 = 1 ∨ t.val % 8 = 2) : ¬ k0_cond1 (grid0.coords t) = 1#1 ∧ k0_cond2 (grid0.coords t) = 1#1 ∧ ¬ k0_cond3 (grid0.coords t) = 1#1 ∧ ¬ k0_cond4 (grid0.coords t) = 1#1 := by
  simp only [cond1_iff, cond2_iff, cond3_iff, cond4_iff]; omega
theorem negs_C {t : Fin grid0.N} (h : t.val % 8 = 3 ∨ 5 ≤ t.val % 8) : ¬ k0_cond1 (grid0.coords t) = 1#1 ∧ ¬ k0_cond2 (grid0.coords t) = 1#1 ∧ k0_cond3 (grid0.coords t) = 1#1 ∧ ¬ k0_cond4 (grid0.coords t) = 1#1 := by
  simp only [cond1_iff, cond2_iff, cond3_iff, cond4_iff]; omega
theorem negs_D {t : Fin grid0.N} (h : t.val % 8 = 4) : ¬ k0_cond1 (grid0.coords t) = 1#1 ∧ ¬ k0_cond2 (grid0.coords t) = 1#1 ∧ ¬ k0_cond3 (grid0.coords t) = 1#1 ∧ k0_cond4 (grid0.coords t) = 1#1 := by
  simp only [cond1_iff, cond2_iff, cond3_iff, cond4_iff]; omega

/-- The run at a point of each kind, on the blocks staged there. -/
abbrev rA (c : Dev nD) (t : Fin grid0.N) (h : t.val % 8 = 0) :=
  runA c (grid0.coords t) (ms0 t) (hs0 t) (ms1 t) (hs1 t) (ms2 t) (hs2 t) (ms3 t) (hs3 t) (ms4 t) (hs4 t) (ms5 t) (hs5 t) (ms6 t) (hs6 t) scr hscr (iblk m c 0 t) (iblk m c 1 t) (iblk m c 2 t) (iblk m c 3 t) (iblk m c 4 t) (negs_A h).1 (negs_A h).2.1 (negs_A h).2.2.1 (negs_A h).2.2.2
abbrev rB (c : Dev nD) (t : Fin grid0.N) (x9 : Vec F S2048x1024 .bf16) (h : t.val % 8 = 1 ∨ t.val % 8 = 2) :=
  runB c (grid0.coords t) (ms0 t) (hs0 t) (ms1 t) (hs1 t) (ms2 t) (hs2 t) (ms3 t) (hs3 t) (ms4 t) (hs4 t) (ms5 t) (hs5 t) (ms6 t) (hs6 t) scr hscr (iblk m c 0 t) (iblk m c 1 t) (iblk m c 2 t) (iblk m c 3 t) (iblk m c 4 t) x9 (negs_B h).1 (negs_B h).2.1 (negs_B h).2.2.1 (negs_B h).2.2.2
abbrev rC (c : Dev nD) (t : Fin grid0.N) (x9 : Vec F S2048x1024 .bf16) (h : t.val % 8 = 3 ∨ 5 ≤ t.val % 8) :=
  runC c (grid0.coords t) (ms0 t) (hs0 t) (ms1 t) (hs1 t) (ms2 t) (hs2 t) (ms3 t) (hs3 t) (ms4 t) (hs4 t) (ms5 t) (hs5 t) (ms6 t) (hs6 t) scr hscr (iblk m c 0 t) (iblk m c 1 t) (iblk m c 2 t) (iblk m c 3 t) (iblk m c 4 t) x9 (negs_C h).1 (negs_C h).2.1 (negs_C h).2.2.1 (negs_C h).2.2.2
abbrev rD (c : Dev nD) (t : Fin grid0.N) (x9 : Vec F S2048x1024 .bf16) (h : t.val % 8 = 4) :=
  runD c (grid0.coords t) (ms0 t) (hs0 t) (ms1 t) (hs1 t) (ms2 t) (hs2 t) (ms3 t) (hs3 t) (ms4 t) (hs4 t) (ms5 t) (hs5 t) (ms6 t) (hs6 t) scr hscr (iblk m c 0 t) (iblk m c 1 t) (iblk m c 2 t) (iblk m c 3 t) (iblk m c 4 t) x9 (negs_D h).1 (negs_D h).2.1 (negs_D h).2.2.1 (negs_D h).2.2.2

/-- One staging buffer of each output's window, and the scratch buffer, through which their contents are stated. -/
abbrev VQ : View sig .tc .vmem S1x8x2560x128 .bf16 := (Memref.whole cc0_stg5_0 : Memref sig .tc .vmem S1x8x2560x128 .bf16).view
abbrev VR : View sig .tc .vmem S1x2048x1024 .bf16 := (Memref.whole cc0_stg6_0 : Memref sig .tc .vmem S1x2048x1024 .bf16).view
abbrev VH : View sig .tc .vmem S2048x1024 .bf16 := (scr : Memref sig .tc .vmem S2048x1024 .bf16).view

/-- The first point of the batch of point `n`. -/
def base (n : ℕ) : Fin grid0.N := ⟨8 * (n / 8) % 256, (Nat.mod_lt _ (by decide)).trans_eq N_0.symm⟩
theorem base_mod (n : ℕ) : (base n).val % 8 = 0 := by simp only [base]; omega
theorem base_self (t : Fin grid0.N) (h : t.val % 8 = 0) : base t.val = t := by
  have := t.isLt.trans_eq N_0
  exact Fin.ext (by simp only [base]; omega)

/-- What the scratch buffer holds after the first point of a batch. -/
def hAt (c : Dev nD) (b : Fin grid0.N) (h : b.val % 8 = 0) : Vec F S2048x1024 .bf16 :=
  VH.read (Elt F) (VH.writes (Elt F) VH.junk (rA m c b h).2.1)

theorem hAt_congr (c : Dev nD) {b b' : Fin grid0.N} (e : b = b') (h : b.val % 8 = 0) (h' : b'.val % 8 = 0) : hAt m c b h = hAt m c b' h' := by
  subst e; rfl

/-- … and at every later point of the batch. -/
def hOf (c : Dev nD) (n : ℕ) : Vec F S2048x1024 .bf16 := hAt m c (base n) (base_mod n)

theorem hOf_congr (c : Dev nD) {n k : ℕ} (h : n / 8 = k / 8) : hOf m c n = hOf m c k := by
  have e : base n = base k := Fin.ext (by simp only [base, h])
  exact hAt_congr m c e _ _

def outA7 (c : Dev nD) (t : Fin grid0.N) (h : t.val % 8 = 0) : Vec F S1x8x2560x128 .bf16 :=
  VQ.read (Elt F) (VQ.writes (Elt F) VQ.junk (rA m c t h).1)
def outB7 (c : Dev nD) (t : Fin grid0.N) (h : t.val % 8 = 1 ∨ t.val % 8 = 2) : Vec F S1x8x2560x128 .bf16 :=
  VQ.read (Elt F) (VQ.writes (Elt F) VQ.junk (rB m c t (hOf m c t.val) h).1)
def outC8 (c : Dev nD) (t : Fin grid0.N) (h : t.val % 8 = 3 ∨ 5 ≤ t.val % 8) : Vec F S1x2048x1024 .bf16 :=
  VR.read (Elt F) (VR.writes (Elt F) VR.junk (rC m c t (hOf m c t.val) h).1)
def outD8 (c : Dev nD) (t : Fin grid0.N) (h : t.val % 8 = 4) : Vec F S1x2048x1024 .bf16 :=
  VR.read (Elt F) (VR.writes (Elt F) VR.junk (rD m c t (hOf m c t.val) h).1)

/-- The point whose packed output stands in the staging buffer after point `t`: past the third point of a batch, that one. -/
def qv (n : ℕ) : ℕ := if n % 8 < 3 then n else 8 * (n / 8) + 2
theorem qv_lt {n : ℕ} (h : n < 256) : qv n < 256 := by
  by_cases h3 : n % 8 < 3
  · rw [qv, if_pos h3]; exact h
  · rw [qv, if_neg h3]; omega
theorem qv_mod {n : ℕ} (h : ¬ n % 8 = 0) : qv n % 8 = 1 ∨ qv n % 8 = 2 := by
  by_cases h3 : n % 8 < 3
  · rw [qv, if_pos h3]; omega
  · rw [qv, if_neg h3]; omega
def qpt (t : Fin grid0.N) : Fin grid0.N := ⟨qv t.val, (qv_lt (t.isLt.trans_eq N_0)).trans_eq N_0.symm⟩
theorem qpt_mod (t : Fin grid0.N) (h : ¬ t.val % 8 = 0) : (qpt t).val % 8 = 1 ∨ (qpt t).val % 8 = 2 := qv_mod h

theorem outB7_congr (c : Dev nD) {t t' : Fin grid0.N} (e : t = t') (h : t.val % 8 = 1 ∨ t.val % 8 = 2) (h' : t'.val % 8 = 1 ∨ t'.val % 8 = 2) :
    outB7 m c t h = outB7 m c t' h' := by
  subst e; rfl

def out7 (c : Dev nD) (t : Fin grid0.N) : Vec F S1x8x2560x128 .bf16 :=
  if h : t.val % 8 = 0 then outA7 m c t h else outB7 m c (qpt t) (qpt_mod t h)
def out8 (c : Dev nD) (t : Fin grid0.N) : Vec F S1x2048x1024 .bf16 :=
  if h : t.val % 8 = 4 then outD8 m c t h else if h' : t.val % 8 = 3 ∨ 5 ≤ t.val % 8 then outC8 m c t h' else VR.read (Elt F) VR.junk

theorem out7_A (c : Dev nD) (t : Fin grid0.N) (h : t.val % 8 = 0) : out7 m c t = outA7 m c t h := dif_pos h
theorem out7_B (c : Dev nD) (t : Fin grid0.N) (h : t.val % 8 = 1 ∨ t.val % 8 = 2) : out7 m c t = outB7 m c t h := by
  have e : qpt t = t := Fin.ext (if_pos (by omega))
  unfold out7; rw [dif_neg (by omega)]; exact outB7_congr m c e _ _
theorem out7_late (c : Dev nD) (t s : Fin grid0.N) (h : 3 ≤ t.val % 8) (hs : s.val = 8 * (t.val / 8) + 2) : out7 m c t = out7 m c s := by
  have e : qpt t = s := Fin.ext ((if_neg (by omega)).trans hs.symm)
  have e' : qpt s = s := Fin.ext (if_pos (by omega))
  unfold out7; rw [dif_neg (by omega), dif_neg (by omega)]; exact outB7_congr m c (e.trans e'.symm) _ _
theorem out8_D (c : Dev nD) (t : Fin grid0.N) (h : t.val % 8 = 4) : out8 m c t = outD8 m c t h := dif_pos h
theorem out8_C (c : Dev nD) (t : Fin grid0.N) (h : t.val % 8 = 3 ∨ 5 ≤ t.val % 8) : out8 m c t = outC8 m c t h := by
  unfold out8; rw [dif_neg (by omega), dif_pos h]

/-- What is carried into point `n`: at the first point of a batch nothing that is known, later the scratch buffer's contents. -/
def carried (c : Dev nD) (n : ℕ) : sProp 𝕄 :=
  if n % 8 = 0 then Pipeline.ΦA spec0 c else iprop(owns (c : Thread nD τ) scr fullShare (hOf m c n) ∗ (∃ r, prngReg c r))

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out7 m c t
    | ⟨6, _⟩ => out8 m c t
  Φ k := carried m c k.val
  q _ := fullShare
  owed _ := 0

theorem A_eq (c : Dev nD) (w : Fin cfg0.W) : (dats m 0 c).A w = V m c (Pipeline.arrRef spec0 w) := by
  dsimp only [dats]
theorem Phi_eq (c : Dev nD) (k) : (dats m 0 c).Φ k = carried m c k.val := rfl
theorem after0_0 (c : Dev nD) (t : Fin cfg0.N) : (dats m 0 c).after 0 t = iblk m c 0 t := rfl
theorem before0_0 (c : Dev nD) (t : Fin cfg0.N) (d) : (dats m 0 c).before 0 t d = iblk m c 0 t :=
  before0 m (dats m 0 c) (A_eq m c 0) (after0_0 m c) t d
theorem after0_1 (c : Dev nD) (t : Fin cfg0.N) : (dats m 0 c).after 1 t = iblk m c 1 t := rfl
theorem before0_1 (c : Dev nD) (t : Fin cfg0.N) (d) : (dats m 0 c).before 1 t d = iblk m c 1 t :=
  before1 m (dats m 0 c) (A_eq m c 1) (after0_1 m c) t d
theorem after0_2 (c : Dev nD) (t : Fin cfg0.N) : (dats m 0 c).after 2 t = iblk m c 2 t := rfl
theorem before0_2 (c : Dev nD) (t : Fin cfg0.N) (d) : (dats m 0 c).before 2 t d = iblk m c 2 t :=
  before2 m (dats m 0 c) (A_eq m c 2) (after0_2 m c) t d
theorem after0_3 (c : Dev nD) (t : Fin cfg0.N) : (dats m 0 c).after 3 t = iblk m c 3 t := rfl
theorem before0_3 (c : Dev nD) (t : Fin cfg0.N) (d) : (dats m 0 c).before 3 t d = iblk m c 3 t :=
  before3 m (dats m 0 c) (A_eq m c 3) (after0_3 m c) t d
theorem after0_4 (c : Dev nD) (t : Fin cfg0.N) : (dats m 0 c).after 4 t = iblk m c 4 t := rfl
theorem before0_4 (c : Dev nD) (t : Fin cfg0.N) (d) : (dats m 0 c).before 4 t d = iblk m c 4 t :=
  before4 m (dats m 0 c) (A_eq m c 4) (after0_4 m c) t d
theorem after0_5 (c : Dev nD) (t : Fin cfg0.N) : (dats m 0 c).after 5 t = out7 m c t := rfl
theorem after0_6 (c : Dev nD) (t : Fin cfg0.N) : (dats m 0 c).after 6 t = out8 m c t := rfl

/-- A window's buffer after a point that is live for it, or writes it back, is as stated. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_flush (c : Dev nD) (w : Fin cfg0.W) (t : Fin cfg0.N) (hi : cfg0.idle w (cfg0.grid.coords t) = true) (h : (cfg0.win w).flush t = true) :
    (dats m 0 c).leavesExact w t = owns (c : Thread nD τ) ((cfg0.win w).stage (cfg0.slots t w)) fullShare ((dats m 0 c).after w t) := by
  unfold Dat.leavesExact; rw [hi, h]

/-- At the last point of a batch the packed output's buffer still holds what the third point left. -/
theorem before_last (c : Dev nD) (t : Fin cfg0.N) (h : t.val % 8 = 7) (d) : (dats m 0 c).before 5 t d = out7 m c t := by
  have hN : t.val < 256 := by have := t.isLt; exact this.trans_eq N_0
  rw [(dats m 0 c).before_idle_run 5 fetch5 d 4 t (by omega) (fun j h1 h2 =>
    ⟨(idle5 j).trans (decide_eq_true (by omega)), (flush5 j).trans (decide_eq_false (by omega))⟩)]
  rw [(dats m 0 c).before_of_pos 5 _ (by simp only; omega) (fetch5 _) d]
  rw [if_neg (by rw [show (cfg0.win 5).flush _ = _ from flush5 _]; simp only [decide_eq_true_eq]; omega)]
  unfold Dat.left
  rw [show cfg0.idle 5 (cfg0.grid.coords _) = false from (idle5 _).trans (decide_eq_false (by simp only; omega))]
  exact (out7_late m c t _ (by omega) (by simp only; omega)).symm

/-- What the body is called with at point `t`, … -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- … and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t
    ∗ (dats m 0 c).leavesExact 6 t)

theorem coverA7 (c : Dev nD) (t : Fin grid0.N) (h : t.val % 8 = 0) (y : S1x8x2560x128.Idx) : ∃ pc ∈ (rA m c t h).1, y ∈ pc.1.set :=
  View.cover_of_tiledBy (rA m c t h).1 S1x1x512x128.size (by sl_kernel_rfl) y
theorem coverA9 (c : Dev nD) (t : Fin grid0.N) (h : t.val % 8 = 0) (y : S2048x1024.Idx) : ∃ pc ∈ (rA m c t h).2.1, y ∈ pc.1.set :=
  View.cover_of_tiledL (rA m c t h).2.1 S256x1024.size (by sl_kernel_rfl) y
theorem coverB7 (c : Dev nD) (t : Fin grid0.N) (x9) (h : t.val % 8 = 1 ∨ t.val % 8 = 2) (y : S1x8x2560x128.Idx) : ∃ pc ∈ (rB m c t x9 h).1, y ∈ pc.1.set :=
  View.cover_of_tiledBy (rB m c t x9 h).1 S1x1x512x128.size (by sl_kernel_rfl) y
theorem coverC8 (c : Dev nD) (t : Fin grid0.N) (x9) (h : t.val % 8 = 3 ∨ 5 ≤ t.val % 8) (y : S1x2048x1024.Idx) : ∃ pc ∈ (rC m c t x9 h).1, y ∈ pc.1.set :=
  View.cover_of_tiledL (rC m c t x9 h).1 S1x512x1024.size (by sl_kernel_rfl) y
theorem coverD8 (c : Dev nD) (t : Fin grid0.N) (x9) (h : t.val % 8 = 4) (y : S1x2048x1024.Idx) : ∃ pc ∈ (rD m c t x9 h).1, y ∈ pc.1.set :=
  View.cover_of_tiledL (rD m c t x9 h).1 S1x512x256.size (by sl_kernel_rfl) y

/-- The body at a point of kind A. -/
theorem sound_A (c : Dev nD) (t : Fin cfg0.N) (h : t.val % 8 = 0) :
    bodyPre m c t ⊢ wp frame (wpE (defs₀ (F := F)) Variants.none c none) Set.univ (bodyAt0 t) (fun _ => bodyPost m c t) := by
  have hN : t.val < 256 := t.isLt.trans_eq N_0
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, Phi_eq, Phi_eq]
  rw [show carried m c t.castSucc.val = _ from if_pos h, PhiA0_eq,
    show carried m c t.succ.val = _ from if_neg (by simp only [Fin.val_succ]; omega),
    show hOf m c t.succ.val = hAt m c t h from by
      have e : base t.succ.val = t := Fin.ext (by simp only [base, Fin.val_succ]; omega)
      exact hAt_congr m c e _ _]
  rw [leaves_live m c 5 t ((idle5 t).trans (decide_eq_false (by omega))), after0_5, out7_A m c t h,
    (dats m 0 c).leavesExact_idle 6 t ((idle6 t).trans (decide_eq_true (by omega))) ((flush6 t).trans (decide_eq_false (by omega)))]
  unfold outA7 hAt
  iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
  iapply ((rA m c t h).2.2 ((dats m 0 c).before 6 t d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, ⟨%e5, H5⟩, H6, ⟨%e9, HS⟩⟩
  isplitl [HS Hr]
  · isplitl [HS]
    · unfold owns; iexists _; isplitr
      swap; · iexact HS
      ipureintro; exact View.read_writes_of_cover _ _ _ _ _ (coverA9 m c t h)
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverA7 m c t h)
  iexists _; iexact H6

/-- The body at a point of kind B. -/
theorem sound_B (c : Dev nD) (t : Fin cfg0.N) (h : t.val % 8 = 1 ∨ t.val % 8 = 2) :
    bodyPre m c t ⊢ wp frame (wpE (defs₀ (F := F)) Variants.none c none) Set.univ (bodyAt0 t) (fun _ => bodyPost m c t) := by
  have hN : t.val < 256 := t.isLt.trans_eq N_0
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, Phi_eq, Phi_eq]
  rw [show carried m c t.castSucc.val = _ from if_neg (by simp only [Fin.val_castSucc]; omega), Fin.val_castSucc]
  rw [show carried m c t.succ.val = _ from if_neg (by simp only [Fin.val_succ]; omega),
    hOf_congr m c (n := t.succ.val) (k := t.val) (by simp only [Fin.val_succ]; omega)]
  rw [leaves_live m c 5 t ((idle5 t).trans (decide_eq_false (by omega))), after0_5, out7_B m c t h,
    (dats m 0 c).leavesExact_idle 6 t ((idle6 t).trans (decide_eq_true (by omega))) ((flush6 t).trans (decide_eq_false (by omega)))]
  unfold outB7
  iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
  iapply ((rB m c t (hOf m c t.val) h).2 ((dats m 0 c).before 6 t d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, ⟨%e5, H5⟩, H6, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverB7 m c t (hOf m c t.val) h)
  iexists _; iexact H6

/-- The body at a point of kind C. -/
theorem sound_C (c : Dev nD) (t : Fin cfg0.N) (h : t.val % 8 = 3 ∨ 5 ≤ t.val % 8) :
    bodyPre m c t ⊢ wp frame (wpE (defs₀ (F := F)) Variants.none c none) Set.univ (bodyAt0 t) (fun _ => bodyPost m c t) := by
  have hN : t.val < 256 := t.isLt.trans_eq N_0
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, Phi_eq, Phi_eq]
  rw [show carried m c t.castSucc.val = _ from if_neg (by simp only [Fin.val_castSucc]; omega), Fin.val_castSucc]
  have hs : iprop(owns (c : Thread nD τ) scr fullShare (hOf m c t.val) ∗ (∃ r, prngReg c r)) ⊢ carried m c t.succ.val := by
    unfold carried
    by_cases h7 : t.val % 8 = 7
    · rw [if_pos (by simp only [Fin.val_succ]; omega), PhiA0_eq]
      iintro ⟨H, Hr⟩
      isplitl [H]; · iexists _; iexact H
      iexact Hr
    · rw [if_neg (by simp only [Fin.val_succ]; omega), hOf_congr m c (n := t.succ.val) (k := t.val) (by simp only [Fin.val_succ]; omega)]
  have hq : ∀ d, owns (c : Thread nD τ) (ms5 t) fullShare ((dats m 0 c).before 5 t d) ⊢ (dats m 0 c).leavesExact 5 t := fun d => by
    by_cases h7 : t.val % 8 = 7
    · rw [leaves_flush m c 5 t ((idle5 t).trans (decide_eq_true (by omega))) ((flush5 t).trans (decide_eq_true (by omega))), before_last m c t h7, after0_5]
    · rw [(dats m 0 c).leavesExact_idle 5 t ((idle5 t).trans (decide_eq_true (by omega))) ((flush5 t).trans (decide_eq_false (by omega)))]
      iintro H; iexists d; iexact H
  rw [leaves_live m c 6 t ((idle6 t).trans (decide_eq_false (by omega))), after0_6, out8_C m c t h]
  unfold outC8
  iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
  iapply ((rC m c t (hOf m c t.val) h).2 ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, ⟨%e6, H6⟩, HS⟩
  isplitl [HS Hr]
  · iapply hs
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (hq d5); iexact H5
  unfold owns; iexists _; isplitr
  swap; · iexact H6
  ipureintro; exact View.read_writes_of_cover _ _ _ _ _ (coverC8 m c t (hOf m c t.val) h)

/-- The body at a point of kind D. -/
theorem sound_D (c : Dev nD) (t : Fin cfg0.N) (h : t.val % 8 = 4) :
    bodyPre m c t ⊢ wp frame (wpE (defs₀ (F := F)) Variants.none c none) Set.univ (bodyAt0 t) (fun _ => bodyPost m c t) := by
  have hN : t.val < 256 := t.isLt.trans_eq N_0
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, Phi_eq, Phi_eq]
  rw [show carried m c t.castSucc.val = _ from if_neg (by simp only [Fin.val_castSucc]; omega), Fin.val_castSucc]
  rw [show carried m c t.succ.val = _ from if_neg (by simp only [Fin.val_succ]; omega),
    hOf_congr m c (n := t.succ.val) (k := t.val) (by simp only [Fin.val_succ]; omega)]
  rw [leaves_live m c 6 t ((idle6 t).trans (decide_eq_false (by omega))), after0_6, out8_D m c t h,
    (dats m 0 c).leavesExact_idle 5 t ((idle5 t).trans (decide_eq_true (by omega))) ((flush5 t).trans (decide_eq_false (by omega)))]
  unfold outD8
  iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
  iapply ((rD m c t (hOf m c t.val) h).2 ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, ⟨%e6, H6⟩, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  unfold owns; iexists _; isplitr
  swap; · iexact H6
  ipureintro; exact View.read_writes_of_cover _ _ _ _ _ (coverD8 m c t (hOf m c t.val) h)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hA : t.val % 8 = 0
  · exact sound_A m c t hA
  by_cases hB : t.val % 8 = 1 ∨ t.val % 8 = 2
  · exact sound_B m c t hB
  by_cases hD : t.val % 8 = 4
  · exact sound_D m c t hD
  exact sound_C m c t (by omega)

theorem defs₀_row (t : Fin cfg0.N) :
    defs₀ (F := F) .tc cfg0.body (cfg0.bodyArgs t (cfg0.slots t)) = bodyAt0 t := by
  unfold defs₀; rw [Defs.onTc_tc]

/-- The body's obligation to the launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m) (hA := A_eq m)
    (hin := fun c => by rw [Phi_eq]; exact (show carried m c 0 = _ from if_pos rfl) ▸ .rfl)
    (hout := fun c => by
      rw [Phi_eq, show (Fin.last cfg0.N).val = 256 from N_0, show carried m c 256 = _ from if_pos rfl])

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun r h c => args_of m (dats m) (A_eq m) r h c) (run_main m ρ))
    ((θ_run defs _ _).mono (fun _ h => h.2) (run_main_quiescent m ρ))

end Cert.Proof.Proj.Kernel3Ideal

end
-- ==== Proof.Proj.Value.Row.lean ====
/- One row of the projection over the extended reals: its norm and modulation, and the trailing sum of a column. -/
module

public import Idealize.ShloMosaic.Lib.Pointwise
public import Idealize.ShloMosaic.Lib.IdealHost
public import Idealize.ShloMosaic.Lib.WordArith
public import Idealize.ShloMosaic.Lib.PlanTiles.Rows

@[expose] public section

noncomputable section

namespace Cert.Proof.Proj

open Idealize.ShloMosaic

/-- The number one, as both sides write it. -/
def one32 : EReal := Ideal.ofBits .f32 0x3F800000#32

theorem one32_eq : one32 = ((1 : ℝ) : EReal) := by
  simp [one32, Ideal.ofBits, Ideal.ieee, -EReal.coe_mul]; norm_num

/-- The row's norm, its gain, and the modulation. -/
def modulated (x g s b : Fin 1024 → EReal) (k : Fin 1024) : EReal :=
  x k * Ideal.rsqrt (Ideal.div (∑ k : Fin 1024, x k * x k) (Ideal.ofBits .f32 0x44800000#32) + Ideal.ofBits .f32 0x358637BD#32) * g k
    * (one32 + s k) + b k

/-- The value `d` rows before row `R`, zero before the first row. -/
def lag (u : ℕ → EReal) (R d : ℕ) : EReal := if d ≤ R then u (R - d) else 0

/-- The sum of the last `win` rows up to row `R`. -/
def trail (win : ℕ) (u : ℕ → EReal) (R : ℕ) : EReal := ∑ d ∈ Finset.range win, lag u R d

/-- How many of the last `win` rows up to row `R` there are. -/
def cnt (win R : ℕ) : EReal := (((min (R + 1) win : ℕ) : ℝ) : EReal)

/-- The column's mean over the last `win` rows, less the row's own value. -/
def pool (win : ℕ) (u : ℕ → EReal) (R : ℕ) : EReal := trail win u R * Ideal.div one32 (cnt win R) - u R

/-- A product by the reciprocal of a count is the quotient by the count. -/
theorem mul_recip (win R : ℕ) (h : 0 < win) (x : EReal) : x * Ideal.div one32 (cnt win R) = Ideal.div x (cnt win R) := by
  have hne : (((min (R + 1) win : ℕ) : ℝ)) ≠ 0 := by
    have : 0 < min (R + 1) win := by omega
    exact_mod_cast this.ne'
  unfold cnt
  rw [Ideal.div_coe hne, Ideal.div_coe hne, one32_eq]
  congr 1
  rw [← EReal.coe_mul, one_mul]

theorem pool_eq (win : ℕ) (u : ℕ → EReal) (R : ℕ) (h : 0 < win) : pool win u R = Ideal.div (trail win u R) (cnt win R) - u R := by
  rw [pool, mul_recip win R h]

/-- The count of rows, as the words count it. -/
theorem count_word (r b w : ℕ) (h : r + b < 2 ^ 31) (hw : w < 2 ^ 31) :
    Scalar.sitofp (F := Ideal) .f32 (IntOp.minsi (BitVec.ofNat 32 r + BitVec.ofNat 32 b) (BitVec.ofNat 32 w)) = (((min (r + b) w : ℕ) : ℝ) : EReal) := by
  rw [← BitVec.ofNat_add, PlanTiles.minsi_word h hw, Nat.min_comm]
  have hm : min (r + b) w < 2 ^ 31 := by omega
  show (((BitVec.ofNat 32 (min (r + b) w)).toInt : ℝ) : EReal) = _
  rw [BitVec.toInt_eq_toNat_of_lt (by rw [BitVec.toNat_ofNat]; omega), BitVec.toNat_ofNat, Nat.mod_eq_of_lt (by omega)]
  norm_cast

end Cert.Proof.Proj

end
-- ==== Proof.Proj.Value.Point.lean ====
/- What a grid point of the projection stores, read at an entry: the product of the kept rows and the staged columns, in the layout of the
   query-key-value array, in the rows of the other array, or pooled over the rows before. -/
module

public import proofs.«01_k».proof.Proof.Gen.Kernel3Ideal.Skeleton
public import proofs.«01_k».proof.Proof.Proj.Value.Row
public import Idealize.ShloMosaic.Lib.Pipeline.Value
public import Idealize.ShloMosaic.Lib.Pipeline.ValueKit
public import Idealize.ShloMosaic.Lib.KernelVsHost
public import Idealize.ShloMosaic.Lib.WordArith
public import Idealize.ShloMosaic.Lib.PlanTiles.Rows

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic

theorem z16 : Ideal.ofBits .bf16 0x0000#16 = 0 := by simp [Ideal.ofBits, Ideal.ieee]
theorem z32 : Ideal.ofBits .f32 0x00000000#32 = 0 := Ideal.ofBits_zero_f32

/-- An entry of the product of the kept rows and a column block. -/
def prod (X : Vec Ideal S2048x1024 .bf16) (w : Vec Ideal S1024x1024 .bf16) (R n : ℕ) : EReal :=
  ∑ k : Fin 1024, X (ix2 ⟨R % 2048, Nat.mod_lt _ (by decide)⟩ k) * w (ix2 k ⟨n % 1024, Nat.mod_lt _ (by decide)⟩)

/-- The product of one tile of rows and a column block. -/
def prodV (L : Vec Ideal S512x1024 .bf16) (W : Vec Ideal S1024x1024 .bf16) : FVec Ideal S512x1024 .f32 :=
  matmul dot_S512x1024_S1024x1024_S512x1024_1_0_0_1_n_n none (show FVec Ideal S512x1024 .bf16 from L) (shapeCast S1024x1024 W shapeCasts_S1024x1024_S1024x1024 : FVec Ideal S1024x1024 .bf16) (constant S512x1024 .f32 0x00000000#32)

theorem prodV_apply (L : Vec Ideal S512x1024 .bf16) (W : Vec Ideal S1024x1024 .bf16) (r : Fin 512) (n : Fin 1024) :
    prodV L W (ix2 r n) = ∑ k : Fin 1024, L (ix2 r k) * W (ix2 k n) := by
  unfold prodV
  pointwise [z32]

/-- A tile of rows is a part of the kept rows. -/
def IsRows (X : Vec Ideal S2048x1024 .bf16) (m : ℕ) (L : Vec Ideal S512x1024 .bf16) : Prop :=
  ∀ (r : Fin 512) (k : Fin 1024), L (ix2 r k) = X (ix2 ⟨(512 * m + r.val) % 2048, Nat.mod_lt _ (by decide)⟩ k)

/-- A load of the whole column block. -/
def IsCols (w W : Vec Ideal S1024x1024 .bf16) : Prop := ∀ k n : Fin 1024, W (ix2 k n) = w (ix2 k n)

theorem prodV_eq (X : Vec Ideal S2048x1024 .bf16) (w : Vec Ideal S1024x1024 .bf16) (m : ℕ) (L : Vec Ideal S512x1024 .bf16) (W : Vec Ideal S1024x1024 .bf16)
    (hL : IsRows X m L) (hW : IsCols w W) (r : Fin 512) (n : Fin 1024) : prodV L W (ix2 r n) = prod X w (512 * m + r.val) n.val := by
  rw [prodV_apply]
  unfold prod
  refine Finset.sum_congr rfl fun k _ => ?_
  rw [hL r k, hW k n]
  congr 3
  exact Fin.ext (Nat.mod_eq_of_lt n.isLt).symm

/-- The query-key-value block as one function of its index: zero rows first. -/
def GQ (X : Vec Ideal S2048x1024 .bf16) (w : Vec Ideal S1024x1024 .bf16) (y : S1x8x2560x128.Idx) : EReal :=
  if (y 2).val < 512 then 0 else prod X w ((y 2).val - 512) (128 * (y 1).val + (y 3).val)

/-- The other block as one function of its index. -/
def GC (X : Vec Ideal S2048x1024 .bf16) (w : Vec Ideal S1024x1024 .bf16) (y : S1x2048x1024.Idx) : EReal :=
  prod X w (y 1).val (y 2).val

/-- The pooled block as one function of its index. -/
def GD (X : Vec Ideal S2048x1024 .bf16) (w : Vec Ideal S1024x1024 .bf16) (y : S1x2048x1024.Idx) : EReal :=
  pool (2 ^ ((y 2).val / 256 + 1)) (fun R => prod X w R (y 2).val) (y 1).val

/-- The payload of one tile of the query-key-value block. -/
def tileQ (oc : ℕ) (hs : Shape.Slices S512x1024 ![0, oc] S512x128) (L : Vec Ideal S512x1024 .bf16) (W : Vec Ideal S1024x1024 .bf16) : FVec Ideal S1x1x512x128 .bf16 :=
  shapeCast S1x1x512x128 (extractStridedSlice S512x128 ![0, oc] (truncf .bf16 (prodV L W) bitsLt_bf16_f32 : FVec Ideal S512x1024 .bf16) hs : FVec Ideal S512x128 .bf16) shapeCasts_S512x128_S1x1x512x128

theorem tileQ_apply (oc : ℕ) (hoc : oc + 128 ≤ 1024) (hs) (L : Vec Ideal S512x1024 .bf16) (W : Vec Ideal S1024x1024 .bf16) (r : Fin 512) (l : Fin 128) :
    tileQ oc hs L W (ix4 0 0 r l) = prodV L W (ix2 r ⟨oc + l.val, by omega⟩) := by
  unfold tileQ
  generalize prodV L W = P
  pointwise []

theorem tileQ_ok (X : Vec Ideal S2048x1024 .bf16) (w : Vec Ideal S1024x1024 .bf16) (m : ℕ) (L : Vec Ideal S512x1024 .bf16) (W : Vec Ideal S1024x1024 .bf16)
    (hL : IsRows X m L) (hW : IsCols w W) (p o oc : ℕ) (ho : o = 512 + 512 * m) (hoc : oc = 128 * p) (hp : p < 8) (hs) (inb)
    (x : (Rect.unit ![0, p, o, 0] ![1, 1, 512, 128] inb : Rect S1x8x2560x128).shape.Idx) :
    tileQ oc hs L W x = GQ X w ((Rect.unit ![0, p, o, 0] ![1, 1, 512, 128] inb : Rect S1x8x2560x128).emb x) := by
  obtain ⟨a, b, r, l, rfl⟩ : ∃ (a : Fin 1) (b : Fin 1) (r : Fin 512) (l : Fin 128), x = ix4 a b r l := ⟨x 0, x 1, x 2, x 3, eq_ix4 x⟩
  obtain rfl : a = 0 := Subsingleton.elim _ _
  obtain rfl : b = 0 := Subsingleton.elim _ _
  subst ho hoc
  refine (tileQ_apply _ (by omega) hs L W r l).trans ?_
  rw [prodV_eq X w m L W hL hW]
  unfold GQ
  show _ = if (512 + 512 * m + 1 * r.val) < 512 then (0 : EReal) else prod X w (512 + 512 * m + 1 * r.val - 512) (128 * (p + 1 * 0) + (0 + 1 * l.val))
  rw [if_neg (by omega)]
  congr 1 <;> (try dsimp only) <;> omega

/-- The payload of one tile of the other block. -/
def tileC (L : Vec Ideal S512x1024 .bf16) (W : Vec Ideal S1024x1024 .bf16) : FVec Ideal S1x512x1024 .bf16 :=
  shapeCast S1x512x1024 (truncf .bf16 (prodV L W) bitsLt_bf16_f32 : FVec Ideal S512x1024 .bf16) shapeCasts_S512x1024_S1x512x1024

theorem tileC_ok (X : Vec Ideal S2048x1024 .bf16) (w : Vec Ideal S1024x1024 .bf16) (m : ℕ) (L : Vec Ideal S512x1024 .bf16) (W : Vec Ideal S1024x1024 .bf16)
    (hL : IsRows X m L) (hW : IsCols w W) (o : ℕ) (ho : o = 512 * m) (inb)
    (x : (Rect.unit ![0, o, 0] ![1, 512, 1024] inb : Rect S1x2048x1024).shape.Idx) :
    tileC L W x = GC X w ((Rect.unit ![0, o, 0] ![1, 512, 1024] inb : Rect S1x2048x1024).emb x) := by
  obtain ⟨a, r, l, rfl⟩ : ∃ (a : Fin 1) (r : Fin 512) (l : Fin 1024), x = ix3 a r l := ⟨x 0, x 1, x 2, eq_ix3 x⟩
  obtain rfl : a = 0 := Subsingleton.elim _ _
  subst ho
  have e : tileC L W (ix3 0 r l) = prodV L W (ix2 r l) := by
    unfold tileC
    generalize prodV L W = P
    pointwise []
  refine e.trans ?_
  rw [prodV_eq X w m L W hL hW]
  unfold GC
  show _ = prod X w (512 * m + 1 * r.val) (0 + 1 * l.val)
  congr 1 <;> (try dsimp only) <;> omega

/-! The pooling of one group of columns. -/

/-- The rows of a tile under the sixteen rows before them. -/
def under (oc : ℕ) (h1 : Shape.Slices S16x1024 ![0, oc] S16x256) (h2 : Shape.Slices S512x1024 ![0, oc] S512x256)
    (prev : FVec Ideal S16x1024 .f32) (u : FVec Ideal S512x1024 .f32) : FVec Ideal S528x256 .f32 :=
  concatenate S528x256 0 [⟨S16x256, extractStridedSlice S16x256 ![0, oc] prev h1⟩, ⟨S512x256, extractStridedSlice S512x256 ![0, oc] u h2⟩] concatenates_S16x256_S512x256_S528x256_d0

/-- One doubling of the window. -/
def dbl (s : BitVec 32) (E : FVec Ideal S528x256 .f32) : FVec Ideal S528x256 .f32 :=
  addf E (dynamicRotate 0 s none E rotates_S528x256_d0)

/-- The last part of a group's pooling. -/
def poolOf (oc : ℕ) (h2 : Shape.Slices S512x1024 ![0, oc] S512x256) (win b : BitVec 32) (S : FVec Ideal S528x256 .f32) (u : FVec Ideal S512x1024 .f32) : FVec Ideal S1x512x256 .bf16 :=
  shapeCast S1x512x256 (truncf .bf16 (subf
    (mulf (extractStridedSlice S512x256 ![16, 0] S slices_S528x256_o16_0_S512x256)
      (broadcastTo S512x256 (divf (broadcast S512x1 (Scalar.ofBits .f32 0x3F800000#32))
        (sitofp .f32 (minsi (addi (iota .tc S512x1 32 [0] iota_S512x1_d0_w32) (broadcast S512x1 b)) (broadcast S512x1 win)))) broadcasts_S512x1_S512x256))
    (extractStridedSlice S512x256 ![0, oc] u h2) : FVec Ideal S512x256 .f32) bitsLt_bf16_f32 : FVec Ideal S512x256 .bf16) shapeCasts_S512x256_S1x512x256

theorem dbl_apply (s : BitVec 32) (d : ℕ) (hs : s.toNat = d) (E : FVec Ideal S528x256 .f32) (i : Fin 528) (l : Fin 256) (h : d ≤ i.val) :
    dbl s E (ix2 i l) = E (ix2 i l) + E (ix2 ⟨i.val - d, by omega⟩ l) := by
  unfold dbl
  show E (ix2 i l) + dynamicRotate 0 s none E rotates_S528x256_d0 (ix2 i l) = _
  rw [dynamicRotate_apply (s := S528x256) 0 s E rotates_S528x256_d0 (ix2 i l) (ix2 ⟨i.val - d, by omega⟩ l)]
  intro b
  match b with
  | 0 =>
    rw [if_pos rfl, hs]
    show i.val - d = (i.val + 528 - d % 528) % 528
    have := i.isLt; omega
  | 1 => exact (if_neg (by decide)).symm

theorem poolOf_apply (oc : ℕ) (hoc : oc + 256 ≤ 1024) (h2) (win b : BitVec 32) (S : FVec Ideal S528x256 .f32) (u : FVec Ideal S512x1024 .f32) (r : Fin 512) (l : Fin 256) :
    poolOf oc h2 win b S u (ix3 0 r l)
      = S (ix2 ⟨16 + r.val, by omega⟩ l) * Ideal.div one32 (Scalar.sitofp (F := Ideal) .f32 (IntOp.minsi (BitVec.ofNat 32 r.val + b) win)) - u (ix2 r ⟨oc + l.val, by omega⟩) := by
  unfold poolOf one32
  pointwise []
  rfl

/-- Sums of rows downward: at a row far enough down, `S` holds the sum of the last `k` rows of `E`. -/
def Sums (k : ℕ) (E S : FVec Ideal S528x256 .f32) : Prop :=
  ∀ (i : Fin 528) (l : Fin 256), k ≤ i.val + 1 → S (ix2 i l) = ∑ d ∈ Finset.range k, E (ix2 ⟨(i.val - d) % 528, Nat.mod_lt _ (by decide)⟩ l)

theorem Sums.one (E : FVec Ideal S528x256 .f32) : Sums 1 E E := by
  intro i l _
  rw [Finset.sum_range_one]
  congr 2
  exact Fin.ext (Nat.mod_eq_of_lt (show i.val - 0 < 528 by have := i.isLt; omega)).symm

theorem Sums.dbl {k : ℕ} {E S : FVec Ideal S528x256 .f32} (h : Sums k E S) (s : BitVec 32) (hs : s.toNat = k) : Sums (k + k) E (Proj.dbl s S) := by
  intro i l hi
  rw [dbl_apply s k hs S i l (by omega), h i l (by omega), h ⟨i.val - k, by omega⟩ l (by show k ≤ i.val - k + 1; omega), Finset.sum_range_add]
  congr 1
  refine Finset.sum_congr rfl fun d _ => ?_
  congr 3
  show (i.val - k - d) % 528 = _
  rw [Nat.sub_sub]

theorem under_lo (oc : ℕ) (hoc : oc + 256 ≤ 1024) (h1 h2) (prev : FVec Ideal S16x1024 .f32) (u : FVec Ideal S512x1024 .f32) (i : Fin 528) (l : Fin 256) (h : i.val < 16) :
    under oc h1 h2 prev u (ix2 i l) = prev (ix2 ⟨i.val, h⟩ ⟨oc + l.val, by omega⟩) := by
  unfold under
  refine (concatenate_pair_apply_left (t := S528x256) (s₁ := S16x256) (s₂ := S512x256) 0 _ _ _ _ rfl (ix2 ⟨i.val, h⟩ l) (fun b => by match b with | 0 => rfl | 1 => rfl)).trans ?_
  generalize prev = P
  pointwise []

theorem under_hi (oc : ℕ) (hoc : oc + 256 ≤ 1024) (h1 h2) (prev : FVec Ideal S16x1024 .f32) (u : FVec Ideal S512x1024 .f32) (i : Fin 528) (l : Fin 256) (h : 16 ≤ i.val) :
    under oc h1 h2 prev u (ix2 i l) = u (ix2 ⟨i.val - 16, by omega⟩ ⟨oc + l.val, by omega⟩) := by
  unfold under
  refine (concatenate_pair_apply_right (t := S528x256) (s₁ := S16x256) (s₂ := S512x256) 0 _ _ _ _ rfl rfl (ix2 ⟨i.val - 16, by omega⟩ l) (fun b hb => by match b with | 0 => exact absurd rfl hb | 1 => rfl)
    (by show i.val - 16 + 16 = i.val; omega)).trans ?_
  generalize u = P
  pointwise []

/-- The sixteen rows before a tile. -/
def IsPrev (X : Vec Ideal S2048x1024 .bf16) (w : Vec Ideal S1024x1024 .bf16) (m : ℕ) (prev : FVec Ideal S16x1024 .f32) : Prop :=
  ∀ (j : Fin 16) (n : Fin 1024), prev (ix2 j n) = if 16 ≤ 512 * m + j.val then prod X w (512 * m + j.val - 16) n.val else 0

/-- A tile's products. -/
def IsProd (X : Vec Ideal S2048x1024 .bf16) (w : Vec Ideal S1024x1024 .bf16) (m : ℕ) (u : FVec Ideal S512x1024 .f32) : Prop :=
  ∀ (r : Fin 512) (n : Fin 1024), u (ix2 r n) = prod X w (512 * m + r.val) n.val

/-- A row under the tile is a lagged row. -/
theorem under_lag (X : Vec Ideal S2048x1024 .bf16) (w : Vec Ideal S1024x1024 .bf16) (m : ℕ) (prev : FVec Ideal S16x1024 .f32) (u : FVec Ideal S512x1024 .f32)
    (hp : IsPrev X w m prev) (hu : IsProd X w m u) (oc : ℕ) (hoc : oc + 256 ≤ 1024) (h1 h2) (r : Fin 512) (d : ℕ) (hd : d ≤ 16) (l : Fin 256) :
    under oc h1 h2 prev u (ix2 ⟨(16 + r.val - d) % 528, Nat.mod_lt _ (by decide)⟩ l) = lag (fun R => prod X w R (oc + l.val)) (512 * m + r.val) d := by
  have hr := r.isLt
  have hm : (16 + r.val - d) % 528 = 16 + r.val - d := Nat.mod_eq_of_lt (by omega)
  unfold lag
  by_cases h : r.val < d
  · rw [under_lo oc hoc h1 h2 prev u _ l (show (16 + r.val - d) % 528 < 16 by omega), hp]
    show (if 16 ≤ 512 * m + (16 + r.val - d) % 528 then _ else _) = _
    by_cases h' : d ≤ 512 * m + r.val
    · rw [if_pos (by omega), if_pos h']
      show prod X w (512 * m + (16 + r.val - d) % 528 - 16) _ = _
      congr 1; omega
    · rw [if_neg (by omega), if_neg h']
  · rw [under_hi oc hoc h1 h2 prev u _ l (show 16 ≤ (16 + r.val - d) % 528 by omega), hu, if_pos (by omega)]
    show prod X w (512 * m + ((16 + r.val - d) % 528 - 16)) _ = _
    congr 1; omega

/-- One pooled tile is the pooled block there. -/
theorem poolOf_ok (X : Vec Ideal S2048x1024 .bf16) (w : Vec Ideal S1024x1024 .bf16) (m : ℕ) (hm : m < 4) (prev : FVec Ideal S16x1024 .f32) (u : FVec Ideal S512x1024 .f32)
    (hp : IsPrev X w m prev) (hu : IsProd X w m u) (g o oc b win : ℕ) (hg : g < 4) (ho : o = 512 * m) (hoc : oc = 256 * g) (hb : b = 512 * m + 1) (hwin : win = 2 ^ (g + 1)) (h1 h2)
    (S : FVec Ideal S528x256 .f32) (hS : Sums win (under oc h1 h2 prev u) S) (inb)
    (x : (Rect.unit ![0, o, oc] ![1, 512, 256] inb : Rect S1x2048x1024).shape.Idx) :
    poolOf oc h2 (BitVec.ofNat 32 win) (BitVec.ofNat 32 b) S u x = GD X w ((Rect.unit ![0, o, oc] ![1, 512, 256] inb : Rect S1x2048x1024).emb x) := by
  obtain ⟨a, r, l, rfl⟩ : ∃ (a : Fin 1) (r : Fin 512) (l : Fin 256), x = ix3 a r l := ⟨x 0, x 1, x 2, eq_ix3 x⟩
  obtain rfl : a = 0 := Subsingleton.elim _ _
  have hr := r.isLt
  have hl := l.isLt
  have hw16 : win ≤ 16 := by
    subst hwin
    have : 2 ^ (g + 1) ≤ 2 ^ 4 := Nat.pow_le_pow_right (by decide) (by omega)
    simpa using this
  refine (poolOf_apply oc (by omega) h2 _ _ S u r l).trans ?_
  rw [count_word r.val b win (by omega) (by omega), hS _ l (by show win ≤ 16 + r.val + 1; omega), hu]
  unfold GD
  show _ = pool (2 ^ ((oc + 1 * l.val) / 256 + 1)) (fun R => prod X w R (oc + 1 * l.val)) (o + 1 * r.val)
  have e1 : (oc + 1 * l.val) / 256 = g := by omega
  rw [e1, ← hwin, one_mul, one_mul, ho]
  unfold pool trail cnt
  congr 1
  congr 1
  · refine Finset.sum_congr rfl fun d hd => ?_
    have := Finset.mem_range.1 hd
    exact under_lag X w m prev u hp hu oc (by omega) h1 h2 r d (by omega) l
  · congr 3
    omega

theorem isProd (X : Vec Ideal S2048x1024 .bf16) (w : Vec Ideal S1024x1024 .bf16) (m : ℕ) (L : Vec Ideal S512x1024 .bf16) (W : Vec Ideal S1024x1024 .bf16)
    (hL : IsRows X m L) (hW : IsCols w W) : IsProd X w m (prodV L W) := fun r n => prodV_eq X w m L W hL hW r n

theorem isPrev_zero (X : Vec Ideal S2048x1024 .bf16) (w : Vec Ideal S1024x1024 .bf16) : IsPrev X w 0 (k0_pay106 (F := Ideal)) := by
  intro j n
  have := j.isLt
  rw [if_neg (by omega)]
  unfold k0_pay106
  pointwise [z32]

theorem isPrev_succ (X : Vec Ideal S2048x1024 .bf16) (w : Vec Ideal S1024x1024 .bf16) (m : ℕ) (u : FVec Ideal S512x1024 .f32) (hu : IsProd X w m u) :
    IsPrev X w (m + 1) (k0_pay119 u) := by
  intro j n
  have hj := j.isLt
  rw [if_pos (by omega)]
  have e : k0_pay119 u (ix2 j n) = u (ix2 ⟨496 + j.val, by omega⟩ n) := by
    unfold k0_pay119
    generalize u = P
    pointwise []
  rw [e, hu]
  show prod X w (512 * m + (496 + j.val)) _ = _
  congr 1; omega

end Cert.Proof.Proj

end
-- ==== Proof.Proj.Value.Out.lean ====
/- What the points of the projection leave in their two output blocks, at an entry: past the first point of a batch, by the kept rows. -/
module

public import proofs.«01_k».proof.Proof.Proj.Ideal.Frame
public import proofs.«01_k».proof.Proof.Proj.Value.Point
public import Idealize.ShloMosaic.Lib.WholeRead

@[expose] public section

set_option maxRecDepth 16384

noncomputable section

namespace Cert.Proof.Proj

open Cert.Kernel3Ideal Cert.Kernel3Ideal.Gen Cert.Proof.Proj.Kernel3Ideal
open Idealize.ShloMosaic Idealize.ShloMosaic.TcCoe Idealize.ShloMosaic.Tactic

variable (m : (ℓ : Loc nD τ sig) → Buf (Elt Ideal) ℓ)

/-- A load of the staged columns. -/
abbrev ldW (t : Fin grid0.N) (x : Vec Ideal S1024x1024 .bf16) : Vec Ideal S1024x1024 .bf16 :=
  View.readAt (Elt Ideal) (ms4 t).view (Rect.unit ![0, 0] ![1024, 1024] inb_S1024x1024_S1024x1024_0_0 : Rect S1024x1024).toLoadRect ((hs4 t).unread x)

theorem cols_of (t : Fin grid0.N) (x : Vec Ideal S1024x1024 .bf16) : IsCols x (ldW t x) := by
  intro k n
  refine ((hs4 t).readAt_unread x _ _).trans ?_
  congr 1
  funext a
  apply Fin.ext
  match a with
  | 0 => show 0 + 1 * k.val = k.val; omega
  | 1 => show 0 + 1 * n.val = n.val; omega

/-- A load of one tile of the kept rows. -/
abbrev ldR (o : ℕ) (inb : ∀ a, (![o, 0] : Fin 2 → ℕ) a + (![512, 1024] : Fin 2 → ℕ) a ≤ S2048x1024.size a) (x : Vec Ideal S2048x1024 .bf16) : Vec Ideal S512x1024 .bf16 :=
  View.readAt (Elt Ideal) (View.whole cc0_scratch0) (Rect.unit ![o, 0] ![512, 1024] inb : Rect S2048x1024).toLoadRect (hscr.unread x)

theorem rows_of (m o : ℕ) (ho : o = 512 * m) (hm : m < 4) (inb) (x : Vec Ideal S2048x1024 .bf16) : IsRows x m (ldR o inb x) := by
  intro r k
  have hr := r.isLt
  refine (hscr.readAt_unread x _ _).trans ?_
  congr 1
  funext a
  apply Fin.ext
  match a with
  | 0 => show o + 1 * r.val = (512 * m + r.val) % 2048; omega
  | 1 => show 0 + 1 * k.val = k.val; omega

/-- The zero rows at the head of the query-key-value block. -/
theorem pad_ok (X : Vec Ideal S2048x1024 .bf16) (w : Vec Ideal S1024x1024 .bf16) (inb)
    (x : (Rect.unit ![0, 0, 0, 0] ![1, 8, 512, 128] inb : Rect S1x8x2560x128).shape.Idx) :
    (k0_pay8 (k0_pay1 (F := Ideal))) x = GQ X w ((Rect.unit ![0, 0, 0, 0] ![1, 8, 512, 128] inb : Rect S1x8x2560x128).emb x) := by
  obtain ⟨a, p, r, l, rfl⟩ : ∃ (a : Fin 1) (p : Fin 8) (r : Fin 512) (l : Fin 128), x = ix4 a p r l := ⟨x 0, x 1, x 2, x 3, eq_ix4 x⟩
  have hr := r.isLt
  unfold GQ
  refine Eq.trans ?_ (if_pos (show 0 + 1 * r.val < 512 by omega)).symm
  unfold k0_pay8 k0_pay1
  pointwise [z16]

theorem piecesC (c : Dev nD) (t : Fin grid0.N) (X : Vec Ideal S2048x1024 .bf16) (h : t.val % 8 = 3 ∨ 5 ≤ t.val % 8) :
    ∀ p ∈ (rC m c t X h).1, ∀ x : p.1.shape.Idx, p.2 x = GC X (iblk m c 4 t) (p.1.emb x) := by
  unfold rC runC
  dsimp only
  generalize iblk m c 4 t = w
  refine List.forall_mem_cons.2 ⟨?_, ?_⟩
  · exact tileC_ok X w 3 _ _ (rows_of 3 1536 rfl (by decide) inb_S2048x1024_S512x1024_1536_0 X) (cols_of t w) 1536 rfl inb_S1x2048x1024_S1x512x1024_0_1536_0
  refine List.forall_mem_cons.2 ⟨?_, ?_⟩
  · exact tileC_ok X w 2 _ _ (rows_of 2 1024 rfl (by decide) inb_S2048x1024_S512x1024_1024_0 X) (cols_of t w) 1024 rfl inb_S1x2048x1024_S1x512x1024_0_1024_0
  refine List.forall_mem_cons.2 ⟨?_, ?_⟩
  · exact tileC_ok X w 1 _ _ (rows_of 1 512 rfl (by decide) inb_S2048x1024_S512x1024_512_0 X) (cols_of t w) 512 rfl inb_S1x2048x1024_S1x512x1024_0_512_0
  refine List.forall_mem_cons.2 ⟨?_, ?_⟩
  · exact tileC_ok X w 0 _ _ (rows_of 0 0 rfl (by decide) inb_S2048x1024_S512x1024_0_0 X) (cols_of t w) 0 rfl inb_S1x2048x1024_S1x512x1024_0_0_0
  exact fun _ h => absurd h List.not_mem_nil

theorem piecesD (c : Dev nD) (t : Fin grid0.N) (X : Vec Ideal S2048x1024 .bf16) (h : t.val % 8 = 4) :
    ∀ p ∈ (rD m c t X h).1, ∀ x : p.1.shape.Idx, p.2 x = GD X (iblk m c 4 t) (p.1.emb x) := by
  unfold rD runD
  dsimp only
  generalize iblk m c 4 t = w
  have hu0 := isProd X w 0 _ _ (rows_of 0 0 rfl (by decide) inb_S2048x1024_S512x1024_0_0 X) (cols_of t w)
  have hp0 := isPrev_zero X w
  have hu1 := isProd X w 1 _ _ (rows_of 1 512 rfl (by decide) inb_S2048x1024_S512x1024_512_0 X) (cols_of t w)
  have hp1 := isPrev_succ X w 0 _ hu0
  have hu2 := isProd X w 2 _ _ (rows_of 2 1024 rfl (by decide) inb_S2048x1024_S512x1024_1024_0 X) (cols_of t w)
  have hp2 := isPrev_succ X w 1 _ hu1
  have hu3 := isProd X w 3 _ _ (rows_of 3 1536 rfl (by decide) inb_S2048x1024_S512x1024_1536_0 X) (cols_of t w)
  have hp3 := isPrev_succ X w 2 _ hu2
  refine List.forall_mem_cons.2 ⟨?_, ?_⟩
  · exact poolOf_ok X w 3 (by decide) _ _ hp3 hu3 3 1536 768 1537 16 (by decide) rfl rfl rfl rfl slices_S16x1024_o0_768_S16x256 slices_S512x1024_o0_768_S512x256 _ (Sums.dbl (Sums.dbl (Sums.dbl (Sums.dbl (Sums.one _) 1#32 rfl) 2#32 rfl) 4#32 rfl) 8#32 rfl) inb_S1x2048x1024_S1x512x256_0_1536_768
  refine List.forall_mem_cons.2 ⟨?_, ?_⟩
  · exact poolOf_ok X w 3 (by decide) _ _ hp3 hu3 2 1536 512 1537 8 (by decide) rfl rfl rfl rfl slices_S16x1024_o0_512_S16x256 slices_S512x1024_o0_512_S512x256 _ (Sums.dbl (Sums.dbl (Sums.dbl (Sums.one _) 1#32 rfl) 2#32 rfl) 4#32 rfl) inb_S1x2048x1024_S1x512x256_0_1536_512
  refine List.forall_mem_cons.2 ⟨?_, ?_⟩
  · exact poolOf_ok X w 3 (by decide) _ _ hp3 hu3 1 1536 256 1537 4 (by decide) rfl rfl rfl rfl slices_S16x1024_o0_256_S16x256 slices_S512x1024_o0_256_S512x256 _ (Sums.dbl (Sums.dbl (Sums.one _) 1#32 rfl) 2#32 rfl) inb_S1x2048x1024_S1x512x256_0_1536_256
  refine List.forall_mem_cons.2 ⟨?_, ?_⟩
  · exact poolOf_ok X w 3 (by decide) _ _ hp3 hu3 0 1536 0 1537 2 (by decide) rfl rfl rfl rfl slices_S16x1024_o0_0_S16x256 slices_S512x1024_o0_0_S512x256 _ (Sums.dbl (Sums.one _) 1#32 rfl) inb_S1x2048x1024_S1x512x256_0_1536_0
  refine List.forall_mem_cons.2 ⟨?_, ?_⟩
  · exact poolOf_ok X w 2 (by decide) _ _ hp2 hu2 3 1024 768 1025 16 (by decide) rfl rfl rfl rfl slices_S16x1024_o0_768_S16x256 slices_S512x1024_o0_768_S512x256 _ (Sums.dbl (Sums.dbl (Sums.dbl (Sums.dbl (Sums.one _) 1#32 rfl) 2#32 rfl) 4#32 rfl) 8#32 rfl) inb_S1x2048x1024_S1x512x256_0_1024_768
  refine List.forall_mem_cons.2 ⟨?_, ?_⟩
  · exact poolOf_ok X w 2 (by decide) _ _ hp2 hu2 2 1024 512 1025 8 (by decide) rfl rfl rfl rfl slices_S16x1024_o0_512_S16x256 slices_S512x1024_o0_512_S512x256 _ (Sums.dbl (Sums.dbl (Sums.dbl (Sums.one _) 1#32 rfl) 2#32 rfl) 4#32 rfl) inb_S1x2048x1024_S1x512x256_0_1024_512
  refine List.forall_mem_cons.2 ⟨?_, ?_⟩
  · exact poolOf_ok X w 2 (by decide) _ _ hp2 hu2 1 1024 256 1025 4 (by decide) rfl rfl rfl rfl slices_S16x1024_o0_256_S16x256 slices_S512x1024_o0_256_S512x256 _ (Sums.dbl (Sums.dbl (Sums.one _) 1#32 rfl) 2#32 rfl) inb_S1x2048x1024_S1x512x256_0_1024_256
  refine List.forall_mem_cons.2 ⟨?_, ?_⟩
  · exact poolOf_ok X w 2 (by decide) _ _ hp2 hu2 0 1024 0 1025 2 (by decide) rfl rfl rfl rfl slices_S16x1024_o0_0_S16x256 slices_S512x1024_o0_0_S512x256 _ (Sums.dbl (Sums.one _) 1#32 rfl) inb_S1x2048x1024_S1x512x256_0_1024_0
  refine List.forall_mem_cons.2 ⟨?_, ?_⟩
  · exact poolOf_ok X w 1 (by decide) _ _ hp1 hu1 3 512 768 513 16 (by decide) rfl rfl rfl rfl slices_S16x1024_o0_768_S16x256 slices_S512x1024_o0_768_S512x256 _ (Sums.dbl (Sums.dbl (Sums.dbl (Sums.dbl (Sums.one _) 1#32 rfl) 2#32 rfl) 4#32 rfl) 8#32 rfl) inb_S1x2048x1024_S1x512x256_0_512_768
  refine List.forall_mem_cons.2 ⟨?_, ?_⟩
  · exact poolOf_ok X w 1 (by decide) _ _ hp1 hu1 2 512 512 513 8 (by decide) rfl rfl rfl rfl slices_S16x1024_o0_512_S16x256 slices_S512x1024_o0_512_S512x256 _ (Sums.dbl (Sums.dbl (Sums.dbl (Sums.one _) 1#32 rfl) 2#32 rfl) 4#32 rfl) inb_S1x2048x1024_S1x512x256_0_512_512
  refine List.forall_mem_cons.2 ⟨?_, ?_⟩
  · exact poolOf_ok X w 1 (by decide) _ _ hp1 hu1 1 512 256 513 4 (by decide) rfl rfl rfl rfl slices_S16x1024_o0_256_S16x256 slices_S512x1024_o0_256_S512x256 _ (Sums.dbl (Sums.dbl (Sums.one _) 1#32 rfl) 2#32 rfl) inb_S1x2048x1024_S1x512x256_0_512_256
  refine List.forall_mem_cons.2 ⟨?_, ?_⟩
  · exact poolOf_ok X w 1 (by decide) _ _ hp1 hu1 0 512 0 513 2 (by decide) rfl rfl rfl rfl slices_S16x1024_o0_0_S16x256 slices_S512x1024_o0_0_S512x256 _ (Sums.dbl (Sums.one _) 1#32 rfl) inb_S1x2048x1024_S1x512x256_0_512_0
  refine List.forall_mem_cons.2 ⟨?_, ?_⟩
  · exact poolOf_ok X w 0 (by decide) _ _ hp0 hu0 3 0 768 1 16 (by decide) rfl rfl rfl rfl slices_S16x1024_o0_768_S16x256 slices_S512x1024_o0_768_S512x256 _ (Sums.dbl (Sums.dbl (Sums.dbl (Sums.dbl (Sums.one _) 1#32 rfl) 2#32 rfl) 4#32 rfl) 8#32 rfl) inb_S1x2048x1024_S1x512x256_0_0_768
  refine List.forall_mem_cons.2 ⟨?_, ?_⟩
  · exact poolOf_ok X w 0 (by decide) _ _ hp0 hu0 2 0 512 1 8 (by decide) rfl rfl rfl rfl slices_S16x1024_o0_512_S16x256 slices_S512x1024_o0_512_S512x256 _ (Sums.dbl (Sums.dbl (Sums.dbl (Sums.one _) 1#32 rfl) 2#32 rfl) 4#32 rfl) inb_S1x2048x1024_S1x512x256_0_0_512
  refine List.forall_mem_cons.2 ⟨?_, ?_⟩
  · exact poolOf_ok X w 0 (by decide) _ _ hp0 hu0 1 0 256 1 4 (by decide) rfl rfl rfl rfl slices_S16x1024_o0_256_S16x256 slices_S512x1024_o0_256_S512x256 _ (Sums.dbl (Sums.dbl (Sums.one _) 1#32 rfl) 2#32 rfl) inb_S1x2048x1024_S1x512x256_0_0_256
  refine List.forall_mem_cons.2 ⟨?_, ?_⟩
  · exact poolOf_ok X w 0 (by decide) _ _ hp0 hu0 0 0 0 1 2 (by decide) rfl rfl rfl rfl slices_S16x1024_o0_0_S16x256 slices_S512x1024_o0_0_S512x256 _ (Sums.dbl (Sums.one _) 1#32 rfl) inb_S1x2048x1024_S1x512x256_0_0_0
  exact fun _ h => absurd h List.not_mem_nil

theorem piecesB (c : Dev nD) (t : Fin grid0.N) (X : Vec Ideal S2048x1024 .bf16) (h : t.val % 8 = 1 ∨ t.val % 8 = 2) :
    ∀ p ∈ (rB m c t X h).1, ∀ x : p.1.shape.Idx, p.2 x = GQ X (iblk m c 4 t) (p.1.emb x) := by
  unfold rB runB
  dsimp only
  generalize iblk m c 4 t = w
  refine List.forall_mem_cons.2 ⟨?_, ?_⟩
  · exact tileQ_ok X w 3 _ _ (rows_of 3 1536 rfl (by decide) inb_S2048x1024_S512x1024_1536_0 X) (cols_of t w) 7 2048 896 rfl rfl (by decide) slices_S512x1024_o0_896_S512x128 inb_S1x8x2560x128_S1x1x512x128_0_7_2048_0
  refine List.forall_mem_cons.2 ⟨?_, ?_⟩
  · exact tileQ_ok X w 3 _ _ (rows_of 3 1536 rfl (by decide) inb_S2048x1024_S512x1024_1536_0 X) (cols_of t w) 6 2048 768 rfl rfl (by decide) slices_S512x1024_o0_768_S512x128 inb_S1x8x2560x128_S1x1x512x128_0_6_2048_0
  refine List.forall_mem_cons.2 ⟨?_, ?_⟩
  · exact tileQ_ok X w 3 _ _ (rows_of 3 1536 rfl (by decide) inb_S2048x1024_S512x1024_1536_0 X) (cols_of t w) 5 2048 640 rfl rfl (by decide) slices_S512x1024_o0_640_S512x128 inb_S1x8x2560x128_S1x1x512x128_0_5_2048_0
  refine List.forall_mem_cons.2 ⟨?_, ?_⟩
  · exact tileQ_ok X w 3 _ _ (rows_of 3 1536 rfl (by decide) inb_S2048x1024_S512x1024_1536_0 X) (cols_of t w) 4 2048 512 rfl rfl (by decide) slices_S512x1024_o0_512_S512x128 inb_S1x8x2560x128_S1x1x512x128_0_4_2048_0
  refine List.forall_mem_cons.2 ⟨?_, ?_⟩
  · exact tileQ_ok X w 3 _ _ (rows_of 3 1536 rfl (by decide) inb_S2048x1024_S512x1024_1536_0 X) (cols_of t w) 3 2048 384 rfl rfl (by decide) slices_S512x1024_o0_384_S512x128 inb_S1x8x2560x128_S1x1x512x128_0_3_2048_0
  refine List.forall_mem_cons.2 ⟨?_, ?_⟩
  · exact tileQ_ok X w 3 _ _ (rows_of 3 1536 rfl (by decide) inb_S2048x1024_S512x1024_1536_0 X) (cols_of t w) 2 2048 256 rfl rfl (by decide) slices_S512x1024_o0_256_S512x128 inb_S1x8x2560x128_S1x1x512x128_0_2_2048_0
  refine List.forall_mem_cons.2 ⟨?_, ?_⟩
  · exact tileQ_ok X w 3 _ _ (rows_of 3 1536 rfl (by decide) inb_S2048x1024_S512x1024_1536_0 X) (cols_of t w) 1 2048 128 rfl rfl (by decide) slices_S512x1024_o0_128_S512x128 inb_S1x8x2560x128_S1x1x512x128_0_1_2048_0
  refine List.forall_mem_cons.2 ⟨?_, ?_⟩
  · exact tileQ_ok X w 3 _ _ (rows_of 3 1536 rfl (by decide) inb_S2048x1024_S512x1024_1536_0 X) (cols_of t w) 0 2048 0 rfl rfl (by decide) slices_S512x1024_o0_0_S512x128 inb_S1x8x2560x128_S1x1x512x128_0_0_2048_0
  refine List.forall_mem_cons.2 ⟨?_, ?_⟩
  · exact tileQ_ok X w 2 _ _ (rows_of 2 1024 rfl (by decide) inb_S2048x1024_S512x1024_1024_0 X) (cols_of t w) 7 1536 896 rfl rfl (by decide) slices_S512x1024_o0_896_S512x128 inb_S1x8x2560x128_S1x1x512x128_0_7_1536_0
  refine List.forall_mem_cons.2 ⟨?_, ?_⟩
  · exact tileQ_ok X w 2 _ _ (rows_of 2 1024 rfl (by decide) inb_S2048x1024_S512x1024_1024_0 X) (cols_of t w) 6 1536 768 rfl rfl (by decide) slices_S512x1024_o0_768_S512x128 inb_S1x8x2560x128_S1x1x512x128_0_6_1536_0
  refine List.forall_mem_cons.2 ⟨?_, ?_⟩
  · exact tileQ_ok X w 2 _ _ (rows_of 2 1024 rfl (by decide) inb_S2048x1024_S512x1024_1024_0 X) (cols_of t w) 5 1536 640 rfl rfl (by decide) slices_S512x1024_o0_640_S512x128 inb_S1x8x2560x128_S1x1x512x128_0_5_1536_0
  refine List.forall_mem_cons.2 ⟨?_, ?_⟩
  · exact tileQ_ok X w 2 _ _ (rows_of 2 1024 rfl (by decide) inb_S2048x1024_S512x1024_1024_0 X) (cols_of t w) 4 1536 512 rfl rfl (by decide) slices_S512x1024_o0_512_S512x128 inb_S1x8x2560x128_S1x1x512x128_0_4_1536_0
  refine List.forall_mem_cons.2 ⟨?_, ?_⟩
  · exact tileQ_ok X w 2 _ _ (rows_of 2 1024 rfl (by decide) inb_S2048x1024_S512x1024_1024_0 X) (cols_of t w) 3 1536 384 rfl rfl (by decide) slices_S512x1024_o0_384_S512x128 inb_S1x8x2560x128_S1x1x512x128_0_3_1536_0
  refine List.forall_mem_cons.2 ⟨?_, ?_⟩
  · exact tileQ_ok X w 2 _ _ (rows_of 2 1024 rfl (by decide) inb_S2048x1024_S512x1024_1024_0 X) (cols_of t w) 2 1536 256 rfl rfl (by decide) slices_S512x1024_o0_256_S512x128 inb_S1x8x2560x128_S1x1x512x128_0_2_1536_0
  refine List.forall_mem_cons.2 ⟨?_, ?_⟩
  · exact tileQ_ok X w 2 _ _ (rows_of 2 1024 rfl (by decide) inb_S2048x1024_S512x1024_1024_0 X) (cols_of t w) 1 1536 128 rfl rfl (by decide) slices_S512x1024_o0_128_S512x128 inb_S1x8x2560x128_S1x1x512x128_0_1_1536_0
  refine List.forall_mem_cons.2 ⟨?_, ?_⟩
  · exact tileQ_ok X w 2 _ _ (rows_of 2 1024 rfl (by decide) inb_S2048x1024_S512x1024_1024_0 X) (cols_of t w) 0 1536 0 rfl rfl (by decide) slices_S512x1024_o0_0_S512x128 inb_S1x8x2560x128_S1x1x512x128_0_0_1536_0
  refine List.forall_mem_cons.2 ⟨?_, ?_⟩
  · exact tileQ_ok X w 1 _ _ (rows_of 1 512 rfl (by decide) inb_S2048x1024_S512x1024_512_0 X) (cols_of t w) 7 1024 896 rfl rfl (by decide) slices_S512x1024_o0_896_S512x128 inb_S1x8x2560x128_S1x1x512x128_0_7_1024_0
  refine List.forall_mem_cons.2 ⟨?_, ?_⟩
  · exact tileQ_ok X w 1 _ _ (rows_of 1 512 rfl (by decide) inb_S2048x1024_S512x1024_512_0 X) (cols_of t w) 6 1024 768 rfl rfl (by decide) slices_S512x1024_o0_768_S512x128 inb_S1x8x2560x128_S1x1x512x128_0_6_1024_0
  refine List.forall_mem_cons.2 ⟨?_, ?_⟩
  · exact tileQ_ok X w 1 _ _ (rows_of 1 512 rfl (by decide) inb_S2048x1024_S512x1024_512_0 X) (cols_of t w) 5 1024 640 rfl rfl (by decide) slices_S512x1024_o0_640_S512x128 inb_S1x8x2560x128_S1x1x512x128_0_5_1024_0
  refine List.forall_mem_cons.2 ⟨?_, ?_⟩
  · exact tileQ_ok X w 1 _ _ (rows_of 1 512 rfl (by decide) inb_S2048x1024_S512x1024_512_0 X) (cols_of t w) 4 1024 512 rfl rfl (by decide) slices_S512x1024_o0_512_S512x128 inb_S1x8x2560x128_S1x1x512x128_0_4_1024_0
  refine List.forall_mem_cons.2 ⟨?_, ?_⟩
  · exact tileQ_ok X w 1 _ _ (rows_of 1 512 rfl (by decide) inb_S2048x1024_S512x1024_512_0 X) (cols_of t w) 3 1024 384 rfl rfl (by decide) slices_S512x1024_o0_384_S512x128 inb_S1x8x2560x128_S1x1x512x128_0_3_1024_0
  refine List.forall_mem_cons.2 ⟨?_, ?_⟩
  · exact tileQ_ok X w 1 _ _ (rows_of 1 512 rfl (by decide) inb_S2048x1024_S512x1024_512_0 X) (cols_of t w) 2 1024 256 rfl rfl (by decide) slices_S512x1024_o0_256_S512x128 inb_S1x8x2560x128_S1x1x512x128_0_2_1024_0
  refine List.forall_mem_cons.2 ⟨?_, ?_⟩
  · exact tileQ_ok X w 1 _ _ (rows_of 1 512 rfl (by decide) inb_S2048x1024_S512x1024_512_0 X) (cols_of t w) 1 1024 128 rfl rfl (by decide) slices_S512x1024_o0_128_S512x128 inb_S1x8x2560x128_S1x1x512x128_0_1_1024_0
  refine List.forall_mem_cons.2 ⟨?_, ?_⟩
  · exact tileQ_ok X w 1 _ _ (rows_of 1 512 rfl (by decide) inb_S2048x1024_S512x1024_512_0 X) (cols_of t w) 0 1024 0 rfl rfl (by decide) slices_S512x1024_o0_0_S512x128 inb_S1x8x2560x128_S1x1x512x128_0_0_1024_0
  refine List.forall_mem_cons.2 ⟨?_, ?_⟩
  · exact tileQ_ok X w 0 _ _ (rows_of 0 0 rfl (by decide) inb_S2048x1024_S512x1024_0_0 X) (cols_of t w) 7 512 896 rfl rfl (by decide) slices_S512x1024_o0_896_S512x128 inb_S1x8x2560x128_S1x1x512x128_0_7_512_0
  refine List.forall_mem_cons.2 ⟨?_, ?_⟩
  · exact tileQ_ok X w 0 _ _ (rows_of 0 0 rfl (by decide) inb_S2048x1024_S512x1024_0_0 X) (cols_of t w) 6 512 768 rfl rfl (by decide) slices_S512x1024_o0_768_S512x128 inb_S1x8x2560x128_S1x1x512x128_0_6_512_0
  refine List.forall_mem_cons.2 ⟨?_, ?_⟩
  · exact tileQ_ok X w 0 _ _ (rows_of 0 0 rfl (by decide) inb_S2048x1024_S512x1024_0_0 X) (cols_of t w) 5 512 640 rfl rfl (by decide) slices_S512x1024_o0_640_S512x128 inb_S1x8x2560x128_S1x1x512x128_0_5_512_0
  refine List.forall_mem_cons.2 ⟨?_, ?_⟩
  · exact tileQ_ok X w 0 _ _ (rows_of 0 0 rfl (by decide) inb_S2048x1024_S512x1024_0_0 X) (cols_of t w) 4 512 512 rfl rfl (by decide) slices_S512x1024_o0_512_S512x128 inb_S1x8x2560x128_S1x1x512x128_0_4_512_0
  refine List.forall_mem_cons.2 ⟨?_, ?_⟩
  · exact tileQ_ok X w 0 _ _ (rows_of 0 0 rfl (by decide) inb_S2048x1024_S512x1024_0_0 X) (cols_of t w) 3 512 384 rfl rfl (by decide) slices_S512x1024_o0_384_S512x128 inb_S1x8x2560x128_S1x1x512x128_0_3_512_0
  refine List.forall_mem_cons.2 ⟨?_, ?_⟩
  · exact tileQ_ok X w 0 _ _ (rows_of 0 0 rfl (by decide) inb_S2048x1024_S512x1024_0_0 X) (cols_of t w) 2 512 256 rfl rfl (by decide) slices_S512x1024_o0_256_S512x128 inb_S1x8x2560x128_S1x1x512x128_0_2_512_0
  refine List.forall_mem_cons.2 ⟨?_, ?_⟩
  · exact tileQ_ok X w 0 _ _ (rows_of 0 0 rfl (by decide) inb_S2048x1024_S512x1024_0_0 X) (cols_of t w) 1 512 128 rfl rfl (by decide) slices_S512x1024_o0_128_S512x128 inb_S1x8x2560x128_S1x1x512x128_0_1_512_0
  refine List.forall_mem_cons.2 ⟨?_, ?_⟩
  · exact tileQ_ok X w 0 _ _ (rows_of 0 0 rfl (by decide) inb_S2048x1024_S512x1024_0_0 X) (cols_of t w) 0 512 0 rfl rfl (by decide) slices_S512x1024_o0_0_S512x128 inb_S1x8x2560x128_S1x1x512x128_0_0_512_0
  refine List.forall_mem_cons.2 ⟨?_, ?_⟩
  · exact pad_ok X w inb_S1x8x2560x128_S1x8x512x128_0_0_0_0
  exact fun _ h => absurd h List.not_mem_nil

/-- The query-key-value block after the second or third point of a batch. -/
theorem outB7_apply (c : Dev nD) (t : Fin grid0.N) (h : t.val % 8 = 1 ∨ t.val % 8 = 2) (y : S1x8x2560x128.Idx) :
    outB7 m c t h y = GQ (hOf m c t.val) (iblk m c 4 t) y := by
  unfold outB7
  exact View.read_writes_apply_of_pieces VQ VQ.junk (GQ (hOf m c t.val) (iblk m c 4 t)) (rB m c t (hOf m c t.val) h).1 (piecesB m c t (hOf m c t.val) h) y (coverB7 m c t _ h y)

/-- The other block after a plain point. -/
theorem outC8_apply (c : Dev nD) (t : Fin grid0.N) (h : t.val % 8 = 3 ∨ 5 ≤ t.val % 8) (y : S1x2048x1024.Idx) :
    outC8 m c t h y = GC (hOf m c t.val) (iblk m c 4 t) y := by
  unfold outC8
  exact View.read_writes_apply_of_pieces VR VR.junk (GC (hOf m c t.val) (iblk m c 4 t)) (rC m c t (hOf m c t.val) h).1 (piecesC m c t (hOf m c t.val) h) y (coverC8 m c t _ h y)

/-- The other block after the pooled point. -/
theorem outD8_apply (c : Dev nD) (t : Fin grid0.N) (h : t.val % 8 = 4) (y : S1x2048x1024.Idx) :
    outD8 m c t h y = GD (hOf m c t.val) (iblk m c 4 t) y := by
  unfold outD8
  exact View.read_writes_apply_of_pieces VR VR.junk (GD (hOf m c t.val) (iblk m c 4 t)) (rD m c t (hOf m c t.val) h).1 (piecesD m c t (hOf m c t.val) h) y (coverD8 m c t _ h y)

end Cert.Proof.Proj

end
-- ==== Proof.Proj.Value.First.lean ====
/- What the first point of a batch leaves: the kept rows are the normed and modulated rows, and the query-key-value block is their product. -/
module

public import proofs.«01_k».proof.Proof.Proj.Ideal.Frame
public import proofs.«01_k».proof.Proof.Proj.Value.Out
public import Idealize.ShloMosaic.Lib.WholeRead

@[expose] public section

set_option maxRecDepth 16384

noncomputable section

namespace Cert.Proof.Proj

open Cert.Kernel3Ideal Cert.Kernel3Ideal.Gen Cert.Proof.Proj.Kernel3Ideal
open Idealize.ShloMosaic Idealize.ShloMosaic.TcCoe Idealize.ShloMosaic.Tactic

variable (m : (ℓ : Loc nD τ sig) → Buf (Elt Ideal) ℓ)

/-- The normed and modulated rows, as one function of the index. -/
def GH (x0 : Vec Ideal S1x2048x1024 .f32) (x1 : Vec Ideal S1x1024 .f32) (x2 x3 : Vec Ideal S1x1x1024 .f32) : Vec Ideal S2048x1024 .bf16 := fun y =>
  modulated (fun k => x0 (ix3 0 (y 0) k)) (fun k => x1 (ix2 0 k)) (fun k => x2 (ix3 0 0 k)) (fun k => x3 (ix3 0 0 k)) (y 1)

theorem pay51_apply (v : Vec Ideal S1x256x1024 .f32) (g : Vec Ideal S1x1024 .f32) (a b : Vec Ideal S1x1x1024 .f32) (r : Fin 256) (n : Fin 1024) :
    k0_pay51 v g a b (ix2 r n) = modulated (fun k => v (ix3 0 r k)) (fun k => g (ix2 0 k)) (fun k => a (ix3 0 0 k)) (fun k => b (ix3 0 0 k)) n := by
  unfold k0_pay51 modulated one32
  pointwise []

/-- The loads of one stretch of rows and of the three modulating rows. -/
abbrev ld0 (t : Fin grid0.N) (o : ℕ) (inb : ∀ a, (![0, o, 0] : Fin 3 → ℕ) a + S1x256x1024.size a ≤ S1x2048x1024.size a) (x : Vec Ideal S1x2048x1024 .f32) : Vec Ideal S1x256x1024 .f32 :=
  View.readAt (Elt Ideal) (ms0 t).view (Rect.unit ![0, o, 0] S1x256x1024.size inb : Rect S1x2048x1024).toLoadRect ((hs0 t).unread x)
abbrev ld1 (t : Fin grid0.N) (x : Vec Ideal S1x1024 .f32) : Vec Ideal S1x1024 .f32 :=
  View.readAt (Elt Ideal) (ms1 t).view (Rect.unit ![0, 0] S1x1024.size inb_S1x1024_S1x1024_0_0 : Rect S1x1024).toLoadRect ((hs1 t).unread x)
abbrev ld2 (t : Fin grid0.N) (x : Vec Ideal S1x1x1024 .f32) : Vec Ideal S1x1x1024 .f32 :=
  View.readAt (Elt Ideal) (ms2 t).view (Rect.unit ![0, 0, 0] S1x1x1024.size inb_S1x1x1024_S1x1x1024_0_0_0 : Rect S1x1x1024).toLoadRect ((hs2 t).unread x)
abbrev ld3 (t : Fin grid0.N) (x : Vec Ideal S1x1x1024 .f32) : Vec Ideal S1x1x1024 .f32 :=
  View.readAt (Elt Ideal) (ms3 t).view (Rect.unit ![0, 0, 0] S1x1x1024.size inb_S1x1x1024_S1x1x1024_0_0_0 : Rect S1x1x1024).toLoadRect ((hs3 t).unread x)

theorem ld0_apply (t : Fin grid0.N) (o : ℕ) (inb) (x : Vec Ideal S1x2048x1024 .f32) (r : Fin 256) (k : Fin 1024) (h : o + r.val < 2048) :
    ld0 t o inb x (ix3 0 r k) = x (ix3 0 ⟨o + r.val, h⟩ k) := by
  refine (Memref.IsWhole.readAt_unread (hs0 t) x _ _).trans ?_
  congr 1
  funext a
  apply Fin.ext
  match a with
  | 0 => rfl
  | 1 => show o + 1 * r.val = o + r.val; omega
  | 2 => show 0 + 1 * k.val = k.val; omega
theorem ld1_apply (t : Fin grid0.N) (x : Vec Ideal S1x1024 .f32) (k : Fin 1024) : ld1 t x (ix2 0 k) = x (ix2 0 k) := by
  refine (Memref.IsWhole.readAt_unread (hs1 t) x _ _).trans ?_
  congr 1
  funext a
  apply Fin.ext
  match a with
  | 0 => rfl
  | 1 => show 0 + 1 * k.val = k.val; omega
theorem ld2_apply (t : Fin grid0.N) (x : Vec Ideal S1x1x1024 .f32) (k : Fin 1024) : ld2 t x (ix3 0 0 k) = x (ix3 0 0 k) := by
  refine (Memref.IsWhole.readAt_unread (hs2 t) x _ _).trans ?_
  congr 1
  funext a
  apply Fin.ext
  match a with
  | 0 => rfl
  | 1 => rfl
  | 2 => show 0 + 1 * k.val = k.val; omega
theorem ld3_apply (t : Fin grid0.N) (x : Vec Ideal S1x1x1024 .f32) (k : Fin 1024) : ld3 t x (ix3 0 0 k) = x (ix3 0 0 k) := by
  refine (Memref.IsWhole.readAt_unread (hs3 t) x _ _).trans ?_
  congr 1
  funext a
  apply Fin.ext
  match a with
  | 0 => rfl
  | 1 => rfl
  | 2 => show 0 + 1 * k.val = k.val; omega

theorem rows_ok (t : Fin grid0.N) (x0 : Vec Ideal S1x2048x1024 .f32) (x1 : Vec Ideal S1x1024 .f32) (x2 x3 : Vec Ideal S1x1x1024 .f32)
    (o : ℕ) (ho : o + 256 ≤ 2048) (inb0) (inb)
    (x : (Rect.unit ![o, 0] S256x1024.size inb : Rect S2048x1024).shape.Idx) :
    k0_pay51 (ld0 t o inb0 x0) (ld1 t x1) (ld2 t x2) (ld3 t x3) x = GH x0 x1 x2 x3 ((Rect.unit ![o, 0] S256x1024.size inb : Rect S2048x1024).emb x) := by
  obtain ⟨r, n, rfl⟩ : ∃ (r : Fin 256) (n : Fin 1024), x = ix2 r n := ⟨x 0, x 1, eq_ix2 x⟩
  have hr := r.isLt
  refine (pay51_apply _ _ _ _ r n).trans ?_
  have e0 : ((Rect.unit ![o, 0] S256x1024.size inb : Rect S2048x1024).emb (ix2 r n) 0 : Fin 2048) = ⟨o + r.val, show o + r.val < 2048 by omega⟩ := by
    apply Fin.ext; show o + 1 * r.val = o + r.val; omega
  have e1 : ((Rect.unit ![o, 0] S256x1024.size inb : Rect S2048x1024).emb (ix2 r n) 1 : Fin 1024) = n := by
    apply Fin.ext; show 0 + 1 * n.val = n.val; omega
  unfold GH
  rw [e0, e1]
  congr 1
  · funext k; exact ld0_apply t o inb0 x0 r k (by omega)
  · funext k; exact ld1_apply t x1 k
  · funext k; exact ld2_apply t x2 k
  · funext k; exact ld3_apply t x3 k

/-- The first two, four, six and eight stores of the kept rows. -/
abbrev st2 (c : Dev nD) (t : Fin grid0.N) (x0 : Vec Ideal S1x2048x1024 .f32) (x1 : Vec Ideal S1x1024 .f32) (x2 x3 : Vec Ideal S1x1x1024 .f32) : List (View.Piece (Elt Ideal) S2048x1024 .bf16) := runA.sl.H9_2 c (ms0 t) (hs0 t) (ms1 t) (hs1 t) (ms2 t) (hs2 t) (ms3 t) (hs3 t) x0 x1 x2 x3
abbrev st4 (c : Dev nD) (t : Fin grid0.N) (x0 : Vec Ideal S1x2048x1024 .f32) (x1 : Vec Ideal S1x1024 .f32) (x2 x3 : Vec Ideal S1x1x1024 .f32) : List (View.Piece (Elt Ideal) S2048x1024 .bf16) := runA.sl.H9_4 c (ms0 t) (hs0 t) (ms1 t) (hs1 t) (ms2 t) (hs2 t) (ms3 t) (hs3 t) x0 x1 x2 x3
abbrev st6 (c : Dev nD) (t : Fin grid0.N) (x0 : Vec Ideal S1x2048x1024 .f32) (x1 : Vec Ideal S1x1024 .f32) (x2 x3 : Vec Ideal S1x1x1024 .f32) : List (View.Piece (Elt Ideal) S2048x1024 .bf16) := runA.sl.H9_6 c (ms0 t) (hs0 t) (ms1 t) (hs1 t) (ms2 t) (hs2 t) (ms3 t) (hs3 t) x0 x1 x2 x3
abbrev st8 (c : Dev nD) (t : Fin grid0.N) (x0 : Vec Ideal S1x2048x1024 .f32) (x1 : Vec Ideal S1x1024 .f32) (x2 x3 : Vec Ideal S1x1x1024 .f32) : List (View.Piece (Elt Ideal) S2048x1024 .bf16) := runA.sl.H9_8 c (ms0 t) (hs0 t) (ms1 t) (hs1 t) (ms2 t) (hs2 t) (ms3 t) (hs3 t) x0 x1 x2 x3

theorem stored2 (c : Dev nD) (t : Fin grid0.N) (x0 : Vec Ideal S1x2048x1024 .f32) (x1 : Vec Ideal S1x1024 .f32) (x2 x3 : Vec Ideal S1x1x1024 .f32) :
    ∀ p ∈ st2 c t x0 x1 x2 x3, ∀ x : p.1.shape.Idx, p.2 x = GH x0 x1 x2 x3 (p.1.emb x) := by
  unfold st2 runA.sl.H9_2
  refine List.forall_mem_cons.2 ⟨?_, ?_⟩
  · exact rows_ok t x0 x1 x2 x3 256 (by decide) inb_S1x2048x1024_S1x256x1024_0_256_0 inb_S2048x1024_S256x1024_256_0
  refine List.forall_mem_cons.2 ⟨?_, ?_⟩
  · exact rows_ok t x0 x1 x2 x3 0 (by decide) inb_S1x2048x1024_S1x256x1024_0_0_0 inb_S2048x1024_S256x1024_0_0
  exact fun _ h => absurd h List.not_mem_nil

theorem stored4 (c : Dev nD) (t : Fin grid0.N) (x0 : Vec Ideal S1x2048x1024 .f32) (x1 : Vec Ideal S1x1024 .f32) (x2 x3 : Vec Ideal S1x1x1024 .f32) :
    ∀ p ∈ st4 c t x0 x1 x2 x3, ∀ x : p.1.shape.Idx, p.2 x = GH x0 x1 x2 x3 (p.1.emb x) := by
  unfold st4 runA.sl.H9_4
  refine List.forall_mem_cons.2 ⟨?_, ?_⟩
  · exact rows_ok t x0 x1 x2 x3 768 (by decide) inb_S1x2048x1024_S1x256x1024_0_768_0 inb_S2048x1024_S256x1024_768_0
  refine List.forall_mem_cons.2 ⟨?_, ?_⟩
  · exact rows_ok t x0 x1 x2 x3 512 (by decide) inb_S1x2048x1024_S1x256x1024_0_512_0 inb_S2048x1024_S256x1024_512_0
  exact stored2 c t x0 x1 x2 x3

theorem stored6 (c : Dev nD) (t : Fin grid0.N) (x0 : Vec Ideal S1x2048x1024 .f32) (x1 : Vec Ideal S1x1024 .f32) (x2 x3 : Vec Ideal S1x1x1024 .f32) :
    ∀ p ∈ st6 c t x0 x1 x2 x3, ∀ x : p.1.shape.Idx, p.2 x = GH x0 x1 x2 x3 (p.1.emb x) := by
  unfold st6 runA.sl.H9_6
  refine List.forall_mem_cons.2 ⟨?_, ?_⟩
  · exact rows_ok t x0 x1 x2 x3 1280 (by decide) inb_S1x2048x1024_S1x256x1024_0_1280_0 inb_S2048x1024_S256x1024_1280_0
  refine List.forall_mem_cons.2 ⟨?_, ?_⟩
  · exact rows_ok t x0 x1 x2 x3 1024 (by decide) inb_S1x2048x1024_S1x256x1024_0_1024_0 inb_S2048x1024_S256x1024_1024_0
  exact stored4 c t x0 x1 x2 x3

theorem stored8 (c : Dev nD) (t : Fin grid0.N) (x0 : Vec Ideal S1x2048x1024 .f32) (x1 : Vec Ideal S1x1024 .f32) (x2 x3 : Vec Ideal S1x1x1024 .f32) :
    ∀ p ∈ st8 c t x0 x1 x2 x3, ∀ x : p.1.shape.Idx, p.2 x = GH x0 x1 x2 x3 (p.1.emb x) := by
  unfold st8 runA.sl.H9_8
  refine List.forall_mem_cons.2 ⟨?_, ?_⟩
  · exact rows_ok t x0 x1 x2 x3 1792 (by decide) inb_S1x2048x1024_S1x256x1024_0_1792_0 inb_S2048x1024_S256x1024_1792_0
  refine List.forall_mem_cons.2 ⟨?_, ?_⟩
  · exact rows_ok t x0 x1 x2 x3 1536 (by decide) inb_S1x2048x1024_S1x256x1024_0_1536_0 inb_S2048x1024_S256x1024_1536_0
  exact stored6 c t x0 x1 x2 x3

theorem kept2 (c : Dev nD) (t : Fin grid0.N) (x0 : Vec Ideal S1x2048x1024 .f32) (x1 : Vec Ideal S1x1024 .f32) (x2 x3 : Vec Ideal S1x1x1024 .f32) :
    IsRows (GH x0 x1 x2 x3) 0 (View.readCov (Val := Elt Ideal) (View.whole cc0_scratch0) (st2 c t x0 x1 x2 x3) (Rect.unit ![0, 0] ![512, 1024] inb_S2048x1024_S512x1024_0_0 : Rect S2048x1024).toLoadRect) := by
  intro r k
  have hr := r.isLt
  rw [View.readCov_eq_canon']
  have e : (Rect.unit ![0, 0] ![512, 1024] inb_S2048x1024_S512x1024_0_0 : Rect S2048x1024).toLoadRect.idx (ix2 r k) = (ix2 ⟨(512 * 0 + r.val) % 2048, Nat.mod_lt _ (by decide)⟩ k : S2048x1024.Idx) := by
    funext a
    apply Fin.ext
    match a with
    | 0 => show 0 + 1 * r.val = (512 * 0 + r.val) % 2048; omega
    | 1 => show 0 + 1 * k.val = k.val; omega
  refine (congrArg (View.canon (st2 c t x0 x1 x2 x3)) e).trans ?_
  refine View.canon_apply_of_pieces (Val := Elt Ideal) (e := .bf16) (GH x0 x1 x2 x3) (st2 c t x0 x1 x2 x3) (stored2 c t x0 x1 x2 x3) _ ?_
  unfold st2 runA.sl.H9_2
  by_cases h : 256 ≤ r.val
  · refine ⟨_, List.Mem.head _, ?_⟩
    show _ ∈ (Rect.unit ![256, 0] S256x1024.size inb_S2048x1024_S256x1024_256_0 : Rect S2048x1024).set
    rw [Rect.mem_set_unit]
    intro i
    match i with
    | 0 => show 256 ≤ (512 * 0 + r.val) % 2048 ∧ (512 * 0 + r.val) % 2048 < 256 + 256; omega
    | 1 => show 0 ≤ k.val ∧ k.val < 0 + 1024; omega
  · refine ⟨_, List.Mem.tail _ (List.Mem.head _), ?_⟩
    show _ ∈ (Rect.unit ![0, 0] S256x1024.size inb_S2048x1024_S256x1024_0_0 : Rect S2048x1024).set
    rw [Rect.mem_set_unit]
    intro i
    match i with
    | 0 => show 0 ≤ (512 * 0 + r.val) % 2048 ∧ (512 * 0 + r.val) % 2048 < 0 + 256; omega
    | 1 => show 0 ≤ k.val ∧ k.val < 0 + 1024; omega

theorem kept4 (c : Dev nD) (t : Fin grid0.N) (x0 : Vec Ideal S1x2048x1024 .f32) (x1 : Vec Ideal S1x1024 .f32) (x2 x3 : Vec Ideal S1x1x1024 .f32) :
    IsRows (GH x0 x1 x2 x3) 1 (View.readCov (Val := Elt Ideal) (View.whole cc0_scratch0) (st4 c t x0 x1 x2 x3) (Rect.unit ![512, 0] ![512, 1024] inb_S2048x1024_S512x1024_512_0 : Rect S2048x1024).toLoadRect) := by
  intro r k
  have hr := r.isLt
  rw [View.readCov_eq_canon']
  have e : (Rect.unit ![512, 0] ![512, 1024] inb_S2048x1024_S512x1024_512_0 : Rect S2048x1024).toLoadRect.idx (ix2 r k) = (ix2 ⟨(512 * 1 + r.val) % 2048, Nat.mod_lt _ (by decide)⟩ k : S2048x1024.Idx) := by
    funext a
    apply Fin.ext
    match a with
    | 0 => show 512 + 1 * r.val = (512 * 1 + r.val) % 2048; omega
    | 1 => show 0 + 1 * k.val = k.val; omega
  refine (congrArg (View.canon (st4 c t x0 x1 x2 x3)) e).trans ?_
  refine View.canon_apply_of_pieces (Val := Elt Ideal) (e := .bf16) (GH x0 x1 x2 x3) (st4 c t x0 x1 x2 x3) (stored4 c t x0 x1 x2 x3) _ ?_
  unfold st4 runA.sl.H9_4
  by_cases h : 256 ≤ r.val
  · refine ⟨_, List.Mem.head _, ?_⟩
    show _ ∈ (Rect.unit ![768, 0] S256x1024.size inb_S2048x1024_S256x1024_768_0 : Rect S2048x1024).set
    rw [Rect.mem_set_unit]
    intro i
    match i with
    | 0 => show 768 ≤ (512 * 1 + r.val) % 2048 ∧ (512 * 1 + r.val) % 2048 < 768 + 256; omega
    | 1 => show 0 ≤ k.val ∧ k.val < 0 + 1024; omega
  · refine ⟨_, List.Mem.tail _ (List.Mem.head _), ?_⟩
    show _ ∈ (Rect.unit ![512, 0] S256x1024.size inb_S2048x1024_S256x1024_512_0 : Rect S2048x1024).set
    rw [Rect.mem_set_unit]
    intro i
    match i with
    | 0 => show 512 ≤ (512 * 1 + r.val) % 2048 ∧ (512 * 1 + r.val) % 2048 < 512 + 256; omega
    | 1 => show 0 ≤ k.val ∧ k.val < 0 + 1024; omega

theorem kept6 (c : Dev nD) (t : Fin grid0.N) (x0 : Vec Ideal S1x2048x1024 .f32) (x1 : Vec Ideal S1x1024 .f32) (x2 x3 : Vec Ideal S1x1x1024 .f32) :
    IsRows (GH x0 x1 x2 x3) 2 (View.readCov (Val := Elt Ideal) (View.whole cc0_scratch0) (st6 c t x0 x1 x2 x3) (Rect.unit ![1024, 0] ![512, 1024] inb_S2048x1024_S512x1024_1024_0 : Rect S2048x1024).toLoadRect) := by
  intro r k
  have hr := r.isLt
  rw [View.readCov_eq_canon']
  have e : (Rect.unit ![1024, 0] ![512, 1024] inb_S2048x1024_S512x1024_1024_0 : Rect S2048x1024).toLoadRect.idx (ix2 r k) = (ix2 ⟨(512 * 2 + r.val) % 2048, Nat.mod_lt _ (by decide)⟩ k : S2048x1024.Idx) := by
    funext a
    apply Fin.ext
    match a with
    | 0 => show 1024 + 1 * r.val = (512 * 2 + r.val) % 2048; omega
    | 1 => show 0 + 1 * k.val = k.val; omega
  refine (congrArg (View.canon (st6 c t x0 x1 x2 x3)) e).trans ?_
  refine View.canon_apply_of_pieces (Val := Elt Ideal) (e := .bf16) (GH x0 x1 x2 x3) (st6 c t x0 x1 x2 x3) (stored6 c t x0 x1 x2 x3) _ ?_
  unfold st6 runA.sl.H9_6
  by_cases h : 256 ≤ r.val
  · refine ⟨_, List.Mem.head _, ?_⟩
    show _ ∈ (Rect.unit ![1280, 0] S256x1024.size inb_S2048x1024_S256x1024_1280_0 : Rect S2048x1024).set
    rw [Rect.mem_set_unit]
    intro i
    match i with
    | 0 => show 1280 ≤ (512 * 2 + r.val) % 2048 ∧ (512 * 2 + r.val) % 2048 < 1280 + 256; omega
    | 1 => show 0 ≤ k.val ∧ k.val < 0 + 1024; omega
  · refine ⟨_, List.Mem.tail _ (List.Mem.head _), ?_⟩
    show _ ∈ (Rect.unit ![1024, 0] S256x1024.size inb_S2048x1024_S256x1024_1024_0 : Rect S2048x1024).set
    rw [Rect.mem_set_unit]
    intro i
    match i with
    | 0 => show 1024 ≤ (512 * 2 + r.val) % 2048 ∧ (512 * 2 + r.val) % 2048 < 1024 + 256; omega
    | 1 => show 0 ≤ k.val ∧ k.val < 0 + 1024; omega

theorem kept8 (c : Dev nD) (t : Fin grid0.N) (x0 : Vec Ideal S1x2048x1024 .f32) (x1 : Vec Ideal S1x1024 .f32) (x2 x3 : Vec Ideal S1x1x1024 .f32) :
    IsRows (GH x0 x1 x2 x3) 3 (View.readCov (Val := Elt Ideal) (View.whole cc0_scratch0) (st8 c t x0 x1 x2 x3) (Rect.unit ![1536, 0] ![512, 1024] inb_S2048x1024_S512x1024_1536_0 : Rect S2048x1024).toLoadRect) := by
  intro r k
  have hr := r.isLt
  rw [View.readCov_eq_canon']
  have e : (Rect.unit ![1536, 0] ![512, 1024] inb_S2048x1024_S512x1024_1536_0 : Rect S2048x1024).toLoadRect.idx (ix2 r k) = (ix2 ⟨(512 * 3 + r.val) % 2048, Nat.mod_lt _ (by decide)⟩ k : S2048x1024.Idx) := by
    funext a
    apply Fin.ext
    match a with
    | 0 => show 1536 + 1 * r.val = (512 * 3 + r.val) % 2048; omega
    | 1 => show 0 + 1 * k.val = k.val; omega
  refine (congrArg (View.canon (st8 c t x0 x1 x2 x3)) e).trans ?_
  refine View.canon_apply_of_pieces (Val := Elt Ideal) (e := .bf16) (GH x0 x1 x2 x3) (st8 c t x0 x1 x2 x3) (stored8 c t x0 x1 x2 x3) _ ?_
  unfold st8 runA.sl.H9_8
  by_cases h : 256 ≤ r.val
  · refine ⟨_, List.Mem.head _, ?_⟩
    show _ ∈ (Rect.unit ![1792, 0] S256x1024.size inb_S2048x1024_S256x1024_1792_0 : Rect S2048x1024).set
    rw [Rect.mem_set_unit]
    intro i
    match i with
    | 0 => show 1792 ≤ (512 * 3 + r.val) % 2048 ∧ (512 * 3 + r.val) % 2048 < 1792 + 256; omega
    | 1 => show 0 ≤ k.val ∧ k.val < 0 + 1024; omega
  · refine ⟨_, List.Mem.tail _ (List.Mem.head _), ?_⟩
    show _ ∈ (Rect.unit ![1536, 0] S256x1024.size inb_S2048x1024_S256x1024_1536_0 : Rect S2048x1024).set
    rw [Rect.mem_set_unit]
    intro i
    match i with
    | 0 => show 1536 ≤ (512 * 3 + r.val) % 2048 ∧ (512 * 3 + r.val) % 2048 < 1536 + 256; omega
    | 1 => show 0 ≤ k.val ∧ k.val < 0 + 1024; omega

/-- The kept rows are the normed and modulated rows. -/
theorem hAt_eq (c : Dev nD) (t : Fin grid0.N) (h : t.val % 8 = 0) : hAt m c t h = GH (iblk m c 0 t) (iblk m c 1 t) (iblk m c 2 t) (iblk m c 3 t) := by
  funext y
  unfold hAt
  exact View.read_writes_apply_of_pieces VH VH.junk (GH (iblk m c 0 t) (iblk m c 1 t) (iblk m c 2 t) (iblk m c 3 t)) (rA m c t h).2.1 (stored8 c t _ _ _ _) y (coverA9 m c t h y)

theorem piecesA (c : Dev nD) (t : Fin grid0.N) (h : t.val % 8 = 0) :
    ∀ p ∈ (rA m c t h).1, ∀ x : p.1.shape.Idx, p.2 x = GQ (GH (iblk m c 0 t) (iblk m c 1 t) (iblk m c 2 t) (iblk m c 3 t)) (iblk m c 4 t) (p.1.emb x) := by
  unfold rA runA
  dsimp only
  generalize iblk m c 4 t = w
  generalize iblk m c 0 t = x0
  generalize iblk m c 1 t = x1
  generalize iblk m c 2 t = x2
  generalize iblk m c 3 t = x3
  refine List.forall_mem_cons.2 ⟨?_, ?_⟩
  · exact tileQ_ok (GH x0 x1 x2 x3) w 3 _ _ (kept8 c t x0 x1 x2 x3) (cols_of t w) 7 2048 896 rfl rfl (by decide) slices_S512x1024_o0_896_S512x128 inb_S1x8x2560x128_S1x1x512x128_0_7_2048_0
  refine List.forall_mem_cons.2 ⟨?_, ?_⟩
  · exact tileQ_ok (GH x0 x1 x2 x3) w 3 _ _ (kept8 c t x0 x1 x2 x3) (cols_of t w) 6 2048 768 rfl rfl (by decide) slices_S512x1024_o0_768_S512x128 inb_S1x8x2560x128_S1x1x512x128_0_6_2048_0
  refine List.forall_mem_cons.2 ⟨?_, ?_⟩
  · exact tileQ_ok (GH x0 x1 x2 x3) w 3 _ _ (kept8 c t x0 x1 x2 x3) (cols_of t w) 5 2048 640 rfl rfl (by decide) slices_S512x1024_o0_640_S512x128 inb_S1x8x2560x128_S1x1x512x128_0_5_2048_0
  refine List.forall_mem_cons.2 ⟨?_, ?_⟩
  · exact tileQ_ok (GH x0 x1 x2 x3) w 3 _ _ (kept8 c t x0 x1 x2 x3) (cols_of t w) 4 2048 512 rfl rfl (by decide) slices_S512x1024_o0_512_S512x128 inb_S1x8x2560x128_S1x1x512x128_0_4_2048_0
  refine List.forall_mem_cons.2 ⟨?_, ?_⟩
  · exact tileQ_ok (GH x0 x1 x2 x3) w 3 _ _ (kept8 c t x0 x1 x2 x3) (cols_of t w) 3 2048 384 rfl rfl (by decide) slices_S512x1024_o0_384_S512x128 inb_S1x8x2560x128_S1x1x512x128_0_3_2048_0
  refine List.forall_mem_cons.2 ⟨?_, ?_⟩
  · exact tileQ_ok (GH x0 x1 x2 x3) w 3 _ _ (kept8 c t x0 x1 x2 x3) (cols_of t w) 2 2048 256 rfl rfl (by decide) slices_S512x1024_o0_256_S512x128 inb_S1x8x2560x128_S1x1x512x128_0_2_2048_0
  refine List.forall_mem_cons.2 ⟨?_, ?_⟩
  · exact tileQ_ok (GH x0 x1 x2 x3) w 3 _ _ (kept8 c t x0 x1 x2 x3) (cols_of t w) 1 2048 128 rfl rfl (by decide) slices_S512x1024_o0_128_S512x128 inb_S1x8x2560x128_S1x1x512x128_0_1_2048_0
  refine List.forall_mem_cons.2 ⟨?_, ?_⟩
  · exact tileQ_ok (GH x0 x1 x2 x3) w 3 _ _ (kept8 c t x0 x1 x2 x3) (cols_of t w) 0 2048 0 rfl rfl (by decide) slices_S512x1024_o0_0_S512x128 inb_S1x8x2560x128_S1x1x512x128_0_0_2048_0
  refine List.forall_mem_cons.2 ⟨?_, ?_⟩
  · exact tileQ_ok (GH x0 x1 x2 x3) w 2 _ _ (kept6 c t x0 x1 x2 x3) (cols_of t w) 7 1536 896 rfl rfl (by decide) slices_S512x1024_o0_896_S512x128 inb_S1x8x2560x128_S1x1x512x128_0_7_1536_0
  refine List.forall_mem_cons.2 ⟨?_, ?_⟩
  · exact tileQ_ok (GH x0 x1 x2 x3) w 2 _ _ (kept6 c t x0 x1 x2 x3) (cols_of t w) 6 1536 768 rfl rfl (by decide) slices_S512x1024_o0_768_S512x128 inb_S1x8x2560x128_S1x1x512x128_0_6_1536_0
  refine List.forall_mem_cons.2 ⟨?_, ?_⟩
  · exact tileQ_ok (GH x0 x1 x2 x3) w 2 _ _ (kept6 c t x0 x1 x2 x3) (cols_of t w) 5 1536 640 rfl rfl (by decide) slices_S512x1024_o0_640_S512x128 inb_S1x8x2560x128_S1x1x512x128_0_5_1536_0
  refine List.forall_mem_cons.2 ⟨?_, ?_⟩
  · exact tileQ_ok (GH x0 x1 x2 x3) w 2 _ _ (kept6 c t x0 x1 x2 x3) (cols_of t w) 4 1536 512 rfl rfl (by decide) slices_S512x1024_o0_512_S512x128 inb_S1x8x2560x128_S1x1x512x128_0_4_1536_0
  refine List.forall_mem_cons.2 ⟨?_, ?_⟩
  · exact tileQ_ok (GH x0 x1 x2 x3) w 2 _ _ (kept6 c t x0 x1 x2 x3) (cols_of t w) 3 1536 384 rfl rfl (by decide) slices_S512x1024_o0_384_S512x128 inb_S1x8x2560x128_S1x1x512x128_0_3_1536_0
  refine List.forall_mem_cons.2 ⟨?_, ?_⟩
  · exact tileQ_ok (GH x0 x1 x2 x3) w 2 _ _ (kept6 c t x0 x1 x2 x3) (cols_of t w) 2 1536 256 rfl rfl (by decide) slices_S512x1024_o0_256_S512x128 inb_S1x8x2560x128_S1x1x512x128_0_2_1536_0
  refine List.forall_mem_cons.2 ⟨?_, ?_⟩
  · exact tileQ_ok (GH x0 x1 x2 x3) w 2 _ _ (kept6 c t x0 x1 x2 x3) (cols_of t w) 1 1536 128 rfl rfl (by decide) slices_S512x1024_o0_128_S512x128 inb_S1x8x2560x128_S1x1x512x128_0_1_1536_0
  refine List.forall_mem_cons.2 ⟨?_, ?_⟩
  · exact tileQ_ok (GH x0 x1 x2 x3) w 2 _ _ (kept6 c t x0 x1 x2 x3) (cols_of t w) 0 1536 0 rfl rfl (by decide) slices_S512x1024_o0_0_S512x128 inb_S1x8x2560x128_S1x1x512x128_0_0_1536_0
  refine List.forall_mem_cons.2 ⟨?_, ?_⟩
  · exact tileQ_ok (GH x0 x1 x2 x3) w 1 _ _ (kept4 c t x0 x1 x2 x3) (cols_of t w) 7 1024 896 rfl rfl (by decide) slices_S512x1024_o0_896_S512x128 inb_S1x8x2560x128_S1x1x512x128_0_7_1024_0
  refine List.forall_mem_cons.2 ⟨?_, ?_⟩
  · exact tileQ_ok (GH x0 x1 x2 x3) w 1 _ _ (kept4 c t x0 x1 x2 x3) (cols_of t w) 6 1024 768 rfl rfl (by decide) slices_S512x1024_o0_768_S512x128 inb_S1x8x2560x128_S1x1x512x128_0_6_1024_0
  refine List.forall_mem_cons.2 ⟨?_, ?_⟩
  · exact tileQ_ok (GH x0 x1 x2 x3) w 1 _ _ (kept4 c t x0 x1 x2 x3) (cols_of t w) 5 1024 640 rfl rfl (by decide) slices_S512x1024_o0_640_S512x128 inb_S1x8x2560x128_S1x1x512x128_0_5_1024_0
  refine List.forall_mem_cons.2 ⟨?_, ?_⟩
  · exact tileQ_ok (GH x0 x1 x2 x3) w 1 _ _ (kept4 c t x0 x1 x2 x3) (cols_of t w) 4 1024 512 rfl rfl (by decide) slices_S512x1024_o0_512_S512x128 inb_S1x8x2560x128_S1x1x512x128_0_4_1024_0
  refine List.forall_mem_cons.2 ⟨?_, ?_⟩
  · exact tileQ_ok (GH x0 x1 x2 x3) w 1 _ _ (kept4 c t x0 x1 x2 x3) (cols_of t w) 3 1024 384 rfl rfl (by decide) slices_S512x1024_o0_384_S512x128 inb_S1x8x2560x128_S1x1x512x128_0_3_1024_0
  refine List.forall_mem_cons.2 ⟨?_, ?_⟩
  · exact tileQ_ok (GH x0 x1 x2 x3) w 1 _ _ (kept4 c t x0 x1 x2 x3) (cols_of t w) 2 1024 256 rfl rfl (by decide) slices_S512x1024_o0_256_S512x128 inb_S1x8x2560x128_S1x1x512x128_0_2_1024_0
  refine List.forall_mem_cons.2 ⟨?_, ?_⟩
  · exact tileQ_ok (GH x0 x1 x2 x3) w 1 _ _ (kept4 c t x0 x1 x2 x3) (cols_of t w) 1 1024 128 rfl rfl (by decide) slices_S512x1024_o0_128_S512x128 inb_S1x8x2560x128_S1x1x512x128_0_1_1024_0
  refine List.forall_mem_cons.2 ⟨?_, ?_⟩
  · exact tileQ_ok (GH x0 x1 x2 x3) w 1 _ _ (kept4 c t x0 x1 x2 x3) (cols_of t w) 0 1024 0 rfl rfl (by decide) slices_S512x1024_o0_0_S512x128 inb_S1x8x2560x128_S1x1x512x128_0_0_1024_0
  refine List.forall_mem_cons.2 ⟨?_, ?_⟩
  · exact tileQ_ok (GH x0 x1 x2 x3) w 0 _ _ (kept2 c t x0 x1 x2 x3) (cols_of t w) 7 512 896 rfl rfl (by decide) slices_S512x1024_o0_896_S512x128 inb_S1x8x2560x128_S1x1x512x128_0_7_512_0
  refine List.forall_mem_cons.2 ⟨?_, ?_⟩
  · exact tileQ_ok (GH x0 x1 x2 x3) w 0 _ _ (kept2 c t x0 x1 x2 x3) (cols_of t w) 6 512 768 rfl rfl (by decide) slices_S512x1024_o0_768_S512x128 inb_S1x8x2560x128_S1x1x512x128_0_6_512_0
  refine List.forall_mem_cons.2 ⟨?_, ?_⟩
  · exact tileQ_ok (GH x0 x1 x2 x3) w 0 _ _ (kept2 c t x0 x1 x2 x3) (cols_of t w) 5 512 640 rfl rfl (by decide) slices_S512x1024_o0_640_S512x128 inb_S1x8x2560x128_S1x1x512x128_0_5_512_0
  refine List.forall_mem_cons.2 ⟨?_, ?_⟩
  · exact tileQ_ok (GH x0 x1 x2 x3) w 0 _ _ (kept2 c t x0 x1 x2 x3) (cols_of t w) 4 512 512 rfl rfl (by decide) slices_S512x1024_o0_512_S512x128 inb_S1x8x2560x128_S1x1x512x128_0_4_512_0
  refine List.forall_mem_cons.2 ⟨?_, ?_⟩
  · exact tileQ_ok (GH x0 x1 x2 x3) w 0 _ _ (kept2 c t x0 x1 x2 x3) (cols_of t w) 3 512 384 rfl rfl (by decide) slices_S512x1024_o0_384_S512x128 inb_S1x8x2560x128_S1x1x512x128_0_3_512_0
  refine List.forall_mem_cons.2 ⟨?_, ?_⟩
  · exact tileQ_ok (GH x0 x1 x2 x3) w 0 _ _ (kept2 c t x0 x1 x2 x3) (cols_of t w) 2 512 256 rfl rfl (by decide) slices_S512x1024_o0_256_S512x128 inb_S1x8x2560x128_S1x1x512x128_0_2_512_0
  refine List.forall_mem_cons.2 ⟨?_, ?_⟩
  · exact tileQ_ok (GH x0 x1 x2 x3) w 0 _ _ (kept2 c t x0 x1 x2 x3) (cols_of t w) 1 512 128 rfl rfl (by decide) slices_S512x1024_o0_128_S512x128 inb_S1x8x2560x128_S1x1x512x128_0_1_512_0
  refine List.forall_mem_cons.2 ⟨?_, ?_⟩
  · exact tileQ_ok (GH x0 x1 x2 x3) w 0 _ _ (kept2 c t x0 x1 x2 x3) (cols_of t w) 0 512 0 rfl rfl (by decide) slices_S512x1024_o0_0_S512x128 inb_S1x8x2560x128_S1x1x512x128_0_0_512_0
  refine List.forall_mem_cons.2 ⟨?_, ?_⟩
  · exact pad_ok (GH x0 x1 x2 x3) w inb_S1x8x2560x128_S1x8x512x128_0_0_0_0
  exact fun _ h => absurd h List.not_mem_nil

/-- The query-key-value block after the first point of a batch. -/
theorem outA7_apply (c : Dev nD) (t : Fin grid0.N) (h : t.val % 8 = 0) (y : S1x8x2560x128.Idx) :
    outA7 m c t h y = GQ (GH (iblk m c 0 t) (iblk m c 1 t) (iblk m c 2 t) (iblk m c 3 t)) (iblk m c 4 t) y := by
  unfold outA7
  exact View.read_writes_apply_of_pieces VQ VQ.junk (GQ (GH (iblk m c 0 t) (iblk m c 1 t) (iblk m c 2 t) (iblk m c 3 t)) (iblk m c 4 t)) (rA m c t h).1 (piecesA m c t h) y (coverA7 m c t h y)

end Cert.Proof.Proj

end
-- ==== Proof.Proj.Value.Target.lean ====
/- The projection's two results as functions of its arguments, entry by entry; and the host's sum over a sliding window of rows
   as the trailing sum of a column. -/
module

public import proofs.«01_k».proof.Proof.Proj.Value.Row

@[expose] public section

set_option maxRecDepth 16384

noncomputable section

namespace Cert.Proof.Proj

open Idealize.ShloMosaic

/-- An entry of the projection: a normed and modulated row of a batch against a column of the weights. -/
def cell (x : (⟨3, ![32, 2048, 1024]⟩ : Shape).Idx → EReal) (g : (⟨1, ![1024]⟩ : Shape).Idx → EReal) (s b : (⟨2, ![32, 1024]⟩ : Shape).Idx → EReal)
    (w : (⟨2, ![1024, 8192]⟩ : Shape).Idx → EReal) (e : Fin 32) (R n : ℕ) : EReal :=
  ∑ k : Fin 1024, modulated (fun k => x (ix3 e ⟨R % 2048, Nat.mod_lt _ (by decide)⟩ k)) (fun k => g (ix1 k)) (fun k => s (ix2 e k)) (fun k => b (ix2 e k)) k
    * w (ix2 k ⟨n % 8192, Nat.mod_lt _ (by decide)⟩)

/-- The packed queries, keys and values, with their zero rows in front. -/
def packed (C : Fin 32 → ℕ → ℕ → EReal) (y : (⟨4, ![32, 24, 2560, 128]⟩ : Shape).Idx) : EReal :=
  if (y 2).val < 512 then 0 else C (y 0) ((y 2).val - 512) (128 * (y 1).val + (y 3).val)

/-- The other columns, the second thousand of them pooled. -/
def rest (C : Fin 32 → ℕ → ℕ → EReal) (y : (⟨3, ![32, 2048, 5120]⟩ : Shape).Idx) : EReal :=
  if 1024 ≤ (y 2).val ∧ (y 2).val < 2048 then pool (2 ^ (((y 2).val - 1024) / 256 + 1)) (fun R => C (y 0) R (3072 + (y 2).val)) (y 1).val
  else C (y 0) (y 1).val (3072 + (y 2).val)

/-! ### The sliding sum -/

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window of rows alone has as many places as rows. -/
theorem numel_rows (win : ℕ) : (⟨3, ![1, win, 1]⟩ : Shape).numel = win := by
  simp [Shape.numel, Fin.prod_univ_succ]

/-- Its places, in order, are its rows. -/
theorem place_row (win : ℕ) (n : Fin (⟨3, ![1, win, 1]⟩ : Shape).numel) : ((⟨3, ![1, win, 1]⟩ : Shape).rowMajor.symm n 1).val = n.val := by
  have h := Shape.rowMajor_val_three ((⟨3, ![1, win, 1]⟩ : Shape).rowMajor.symm n)
  rw [Equiv.apply_symm_apply] at h
  have h0 : ((⟨3, ![1, win, 1]⟩ : Shape).rowMajor.symm n 0).val < 1 := ((⟨3, ![1, win, 1]⟩ : Shape).rowMajor.symm n 0).isLt
  have h2 : ((⟨3, ![1, win, 1]⟩ : Shape).rowMajor.symm n 2).val < 1 := ((⟨3, ![1, win, 1]⟩ : Shape).rowMajor.symm n 2).isLt
  have e1 : (![1, win, 1] : Fin 3 → ℕ) 1 = win := rfl
  have e2 : (![1, win, 1] : Fin 3 → ℕ) 2 = 1 := rfl
  rw [e1, e2, show ((⟨3, ![1, win, 1]⟩ : Shape).rowMajor.symm n 0).val = 0 by omega] at h
  omega
theorem place_zero (win : ℕ) (n : Fin (⟨3, ![1, win, 1]⟩ : Shape).numel) : ((⟨3, ![1, win, 1]⟩ : Shape).rowMajor.symm n 0).val = 0 := by
  have h0 : ((⟨3, ![1, win, 1]⟩ : Shape).rowMajor.symm n 0).val < 1 := ((⟨3, ![1, win, 1]⟩ : Shape).rowMajor.symm n 0).isLt
  omega
theorem place_two (win : ℕ) (n : Fin (⟨3, ![1, win, 1]⟩ : Shape).numel) : ((⟨3, ![1, win, 1]⟩ : Shape).rowMajor.symm n 2).val = 0 := by
  have h2 : ((⟨3, ![1, win, 1]⟩ : Shape).rowMajor.symm n 2).val < 1 := ((⟨3, ![1, win, 1]⟩ : Shape).rowMajor.symm n 2).isLt
  omega

/-- The host's sum over a window that ends at the row. -/
theorem window_apply (w : ℕ) (x : FVec Ideal (⟨3, ![32, 2048, 256]⟩ : Shape) .f32) (init : (⟨0, ![]⟩ : Shape).Idx → EReal) (hinit : ∀ i, init i = 0)
    (h : (⟨3, ![32, 2048, 256]⟩ : Shape).ReduceWindows (![1, w + 1, 1] : Fin 3 → ℕ) ![1, 1, 1] ![0, w, 0] ![0, 0, 0] ⟨3, ![32, 2048, 256]⟩)
    (hu : 0 < (⟨0, ![]⟩ : Shape).numel) (b : Fin 32) (s : Fin 2048) (n : Fin 256) :
    Host.reduceWindowAdd (F := Ideal) (φ := .f32) ![1, w + 1, 1] ![1, 1, 1] ![0, w, 0] ![0, 0, 0] x init h hu (ix3 b s n)
      = trail (w + 1) (fun R => x (ix3 b ⟨R % 2048, Nat.mod_lt _ (by decide)⟩ n)) s.val := by
  have hs := s.isLt
  show Host.reduceWindow (· + ·) (![1, w + 1, 1] : Fin 3 → ℕ) ![1, 1, 1] ![0, w, 0] ![0, 0, 0] x (fun _ : (⟨0, ![]⟩ : Shape).Idx => init (Shape.Idx.first hu)) h hu (ix3 b s n) = _
  unfold Host.reduceWindow
  dsimp only
  rw [foldl_sum, hinit, zero_add, ← Fin.sum_univ_def]
  refine (Finset.sum_congr rfl fun i _ => ?_).trans ((Fin.sum_univ_eq_sum_range (fun i => lag (fun R => x (ix3 b ⟨R % 2048, Nat.mod_lt _ (by decide)⟩ n)) s.val (w + 1 - 1 - i)) _).trans ?_)
  · have hw0 := place_zero (w + 1) i
    have hw1 := place_row (w + 1) i
    have hw2 := place_two (w + 1) i
    have hi : i.val < w + 1 := (i.isLt).trans_eq (numel_rows (w + 1))
    unfold lag
    by_cases hd : w + 1 - 1 - i.val ≤ s.val
    · rw [if_pos hd, dif_pos]
      · congr 1
        funext a
        apply Fin.ext
        match a with
        | ⟨0, _⟩ => show b.val * 1 + ((⟨3, ![1, w + 1, 1]⟩ : Shape).rowMajor.symm i 0).val - 0 = b.val; omega
        | ⟨1, _⟩ => show s.val * 1 + ((⟨3, ![1, w + 1, 1]⟩ : Shape).rowMajor.symm i 1).val - w = (s.val - (w + 1 - 1 - i.val)) % 2048; rw [Nat.mod_eq_of_lt (by omega)]; omega
        | ⟨2, _⟩ => show n.val * 1 + ((⟨3, ![1, w + 1, 1]⟩ : Shape).rowMajor.symm i 2).val - 0 = n.val; omega
      · intro a
        have hb := b.isLt
        have hn := n.isLt
        match a with
        | ⟨0, _⟩ => show 0 ≤ b.val * 1 + ((⟨3, ![1, w + 1, 1]⟩ : Shape).rowMajor.symm i 0).val ∧ b.val * 1 + ((⟨3, ![1, w + 1, 1]⟩ : Shape).rowMajor.symm i 0).val - 0 < 32; omega
        | ⟨1, _⟩ => show w ≤ s.val * 1 + ((⟨3, ![1, w + 1, 1]⟩ : Shape).rowMajor.symm i 1).val ∧ s.val * 1 + ((⟨3, ![1, w + 1, 1]⟩ : Shape).rowMajor.symm i 1).val - w < 2048; omega
        | ⟨2, _⟩ => show 0 ≤ n.val * 1 + ((⟨3, ![1, w + 1, 1]⟩ : Shape).rowMajor.symm i 2).val ∧ n.val * 1 + ((⟨3, ![1, w + 1, 1]⟩ : Shape).rowMajor.symm i 2).val - 0 < 256; omega
    · rw [if_neg hd, dif_neg]
      intro hall
      have h1 : w ≤ s.val * 1 + ((⟨3, ![1, w + 1, 1]⟩ : Shape).rowMajor.symm i 1).val := (hall 1).1
      omega
  · rw [show (⟨3, ![1, w + 1, 1]⟩ : Shape).numel = w + 1 from numel_rows (w + 1)]
    exact Finset.sum_range_reflect (fun d => lag (fun R => x (ix3 b ⟨R % 2048, Nat.mod_lt _ (by decide)⟩ n)) s.val d) (w + 1)

end Cert.Proof.Proj

end
-- ==== Proof.Proj.Value.Blocks.lean ====
/- The blocks the projection's windows stage, read at an entry of the arguments; so the product a point stores is the projection's. -/
module

public import proofs.«01_k».proof.Proof.Proj.Value.First
public import proofs.«01_k».proof.Proof.Proj.Value.Target
public import Idealize.ShloMosaic.Lib.StableHlo.Run
public import Idealize.ShloMosaic.Lib.Pipeline.Value

@[expose] public section

set_option maxRecDepth 16384

noncomputable section

namespace Cert.Proof.Proj

open Cert.Kernel3Ideal Cert.Kernel3Ideal.Gen Cert.Proof.Proj.Kernel3Ideal
open Idealize.ShloMosaic Idealize.ShloMosaic.TcCoe Idealize.ShloMosaic.Tactic
open Idealize.SL.Sem
open Idealize.ShloMosaic.StableHlo

theorem index0 : ∀ t : Fin grid0.N, win0_0.index t 0 = t.val / 8 ∧ win0_0.index t 1 = 0 ∧ win0_0.index t 2 = 0 := by decide +kernel
theorem index1 : ∀ t : Fin grid0.N, win0_1.index t 0 = 0 ∧ win0_1.index t 1 = 0 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = t.val / 8 ∧ win0_3.index t 1 = 0 ∧ win0_3.index t 2 = 0 := by decide +kernel
theorem index4 : ∀ t : Fin grid0.N, win0_4.index t 0 = 0 ∧ win0_4.index t 1 = t.val % 8 := by decide +kernel
theorem index5 : ∀ t : Fin grid0.N, win0_5.index t 0 = t.val / 8 ∧ win0_5.index t 1 = min (t.val % 8) 2 ∧ win0_5.index t 2 = 0 ∧ win0_5.index t 3 = 0 := by decide +kernel
theorem index6 : ∀ t : Fin grid0.N, win0_6.index t 0 = t.val / 8 ∧ win0_6.index t 1 = 0 ∧ win0_6.index t 2 = t.val % 8 - 3 := by decide +kernel

/-- The batch of a point. -/
def batch (t : Fin grid0.N) : Fin 32 := ⟨t.val / 8, by have := t.isLt.trans_eq N_0; omega⟩

variable (m : (ℓ : Loc nD τ sig) → Buf (Elt Ideal) ℓ)

/-- A core's arguments. -/
abbrev arg0 (c : Dev nD) : FVec Ideal S32x2048x1024 .f32 := m ((c : Thread nD τ).loc main_arg0)
abbrev arg1 (c : Dev nD) : FVec Ideal S1024 .f32 := m ((c : Thread nD τ).loc main_arg1)
abbrev arg2 (c : Dev nD) : FVec Ideal S32x1024 .f32 := m ((c : Thread nD τ).loc main_arg2)
abbrev arg3 (c : Dev nD) : FVec Ideal S32x1024 .f32 := m ((c : Thread nD τ).loc main_arg3)
abbrev arg4 (c : Dev nD) : FVec Ideal S1024x8192 .f32 := m ((c : Thread nD τ).loc main_arg4)

/-- The projection of a core's arguments. -/
def proj (c : Dev nD) : Fin 32 → ℕ → ℕ → EReal := cell (arg0 m c) (arg1 m c) (arg2 m c) (arg3 m c) (arg4 m c)

/-! ### What the host operations hand the launch -/

theorem V_host0 (c : Dev nD) : (V m c main_v0 : FVec Ideal S1024x8192 .bf16) = truncf .bf16 (arg4 m c) bitsLt_bf16_f32 := by
  simp only [V, hostOps0, List.flatten_cons, List.flatten_nil, List.append_nil, List.cons_append, List.nil_append, TRef.binary, TRef.nullary, TRef.ternary, TRef.unary, TRef.toBuf, TRef.ofBuf, cast_eq]
  after_results_simp <;> rfl
theorem V_host1 (c : Dev nD) : (V m c main_v1 : FVec Ideal S1x1024 .f32) = shapeCast S1x1024 (arg1 m c) shapeCasts_S1024_S1x1024 := by
  simp only [V, hostOps0, List.flatten_cons, List.flatten_nil, List.append_nil, List.cons_append, List.nil_append, TRef.binary, TRef.nullary, TRef.ternary, TRef.unary, TRef.toBuf, TRef.ofBuf, cast_eq]
  after_results_simp <;> rfl
theorem V_host2 (c : Dev nD) : (V m c main_v2 : FVec Ideal S32x1x1024 .f32) = shapeCast S32x1x1024 (arg2 m c) shapeCasts_S32x1024_S32x1x1024 := by
  simp only [V, hostOps0, List.flatten_cons, List.flatten_nil, List.append_nil, List.cons_append, List.nil_append, TRef.binary, TRef.nullary, TRef.ternary, TRef.unary, TRef.toBuf, TRef.ofBuf, cast_eq]
  after_results_simp <;> rfl
theorem V_host3 (c : Dev nD) : (V m c main_v3 : FVec Ideal S32x1x1024 .f32) = shapeCast S32x1x1024 (arg3 m c) shapeCasts_S32x1024_S32x1x1024 := by
  simp only [V, hostOps0, List.flatten_cons, List.flatten_nil, List.append_nil, List.cons_append, List.nil_append, TRef.binary, TRef.nullary, TRef.ternary, TRef.unary, TRef.toBuf, TRef.ofBuf, cast_eq]
  after_results_simp <;> rfl
theorem V_in0 (c : Dev nD) : (V m c main_arg0 : FVec Ideal S32x2048x1024 .f32) = arg0 m c := V_arg m c main_arg0 (Or.inl rfl)

/-! ### Blocks -/

theorem blk0 (c : Dev nD) (t : Fin cfg0.N) (r : Fin 2048) (k : Fin 1024) : (iblk m c 0 t : Vec Ideal S1x2048x1024 .f32) (ix3 0 r k) = arg0 m c (ix3 (batch t) r k) := by
  obtain ⟨e0, e1, e2⟩ := index0 t
  rw [← V_in0]
  unfold iblk
  rw [View.read_apply]
  show V m c main_arg0 _ = V m c main_arg0 _
  congr 1
  funext a
  apply Fin.ext
  match a with
  | ⟨0, _⟩ => show win0_0.index t 0 * 1 + 1 * 0 = t.val / 8; rw [e0]; omega
  | ⟨1, _⟩ => show win0_0.index t 1 * 2048 + 1 * r.val = r.val; rw [e1]; omega
  | ⟨2, _⟩ => show win0_0.index t 2 * 1024 + 1 * k.val = k.val; rw [e2]; omega

theorem blk1 (c : Dev nD) (t : Fin cfg0.N) (k : Fin 1024) : (iblk m c 1 t : Vec Ideal S1x1024 .f32) (ix2 0 k) = arg1 m c (ix1 k) := by
  obtain ⟨e0, e1⟩ := index1 t
  have e : (V m c main_v1 : FVec Ideal S1x1024 .f32) (ix2 0 k) = arg1 m c (ix1 k) := by
    rw [V_host1]
    generalize arg1 m c = X
    pointwise []
  rw [← e]
  unfold iblk
  rw [View.read_apply]
  show V m c main_v1 _ = V m c main_v1 _
  congr 1
  funext a
  apply Fin.ext
  match a with
  | ⟨0, _⟩ => show win0_1.index t 0 * 1 + 1 * 0 = 0; rw [e0]
  | ⟨1, _⟩ => show win0_1.index t 1 * 1024 + 1 * k.val = k.val; rw [e1]; omega

theorem blk2 (c : Dev nD) (t : Fin cfg0.N) (k : Fin 1024) : (iblk m c 2 t : Vec Ideal S1x1x1024 .f32) (ix3 0 0 k) = arg2 m c (ix2 (batch t) k) := by
  obtain ⟨e0, e1, e2⟩ := index2 t
  have e : (V m c main_v2 : FVec Ideal S32x1x1024 .f32) (ix3 (batch t) 0 k) = arg2 m c (ix2 (batch t) k) := by
    rw [V_host2]
    generalize arg2 m c = X
    generalize batch t = B
    pointwise []
  rw [← e]
  unfold iblk
  rw [View.read_apply]
  show V m c main_v2 _ = V m c main_v2 _
  congr 1
  funext a
  apply Fin.ext
  match a with
  | ⟨0, _⟩ => show win0_2.index t 0 * 1 + 1 * 0 = t.val / 8; rw [e0]; omega
  | ⟨1, _⟩ => show win0_2.index t 1 * 1 + 1 * 0 = 0; rw [e1]
  | ⟨2, _⟩ => show win0_2.index t 2 * 1024 + 1 * k.val = k.val; rw [e2]; omega

theorem blk3 (c : Dev nD) (t : Fin cfg0.N) (k : Fin 1024) : (iblk m c 3 t : Vec Ideal S1x1x1024 .f32) (ix3 0 0 k) = arg3 m c (ix2 (batch t) k) := by
  obtain ⟨e0, e1, e2⟩ := index3 t
  have e : (V m c main_v3 : FVec Ideal S32x1x1024 .f32) (ix3 (batch t) 0 k) = arg3 m c (ix2 (batch t) k) := by
    rw [V_host3]
    generalize arg3 m c = X
    generalize batch t = B
    pointwise []
  rw [← e]
  unfold iblk
  rw [View.read_apply]
  show V m c main_v3 _ = V m c main_v3 _
  congr 1
  funext a
  apply Fin.ext
  match a with
  | ⟨0, _⟩ => show win0_3.index t 0 * 1 + 1 * 0 = t.val / 8; rw [e0]; omega
  | ⟨1, _⟩ => show win0_3.index t 1 * 1 + 1 * 0 = 0; rw [e1]
  | ⟨2, _⟩ => show win0_3.index t 2 * 1024 + 1 * k.val = k.val; rw [e2]; omega

theorem blk4 (c : Dev nD) (t : Fin cfg0.N) (k n : Fin 1024) : (iblk m c 4 t : Vec Ideal S1024x1024 .bf16) (ix2 k n)
    = arg4 m c (ix2 k ⟨1024 * (t.val % 8) + n.val, by omega⟩) := by
  obtain ⟨e0, e1⟩ := index4 t
  have e : ∀ j : S1024x8192.Idx, (V m c main_v0 : FVec Ideal S1024x8192 .bf16) j = arg4 m c j := fun j => by rw [V_host0]; rfl
  rw [← e]
  unfold iblk
  rw [View.read_apply]
  show V m c main_v0 _ = V m c main_v0 _
  congr 1
  funext a
  apply Fin.ext
  match a with
  | ⟨0, _⟩ => show win0_4.index t 0 * 1024 + 1 * k.val = k.val; rw [e0]; omega
  | ⟨1, _⟩ => show win0_4.index t 1 * 1024 + 1 * n.val = 1024 * (t.val % 8) + n.val; rw [e1]; omega

/-! ### The product at a point -/

theorem batch_base (t : Fin grid0.N) : batch (base t.val) = batch t := by
  have := t.isLt.trans_eq N_0
  exact Fin.ext (show 8 * (t.val / 8) % 256 / 8 = t.val / 8 by omega)

theorem hOf_apply (c : Dev nD) (t : Fin grid0.N) (R : Fin 2048) (k : Fin 1024) : hOf m c t.val (ix2 R k)
    = modulated (fun k => arg0 m c (ix3 (batch t) R k)) (fun k => arg1 m c (ix1 k)) (fun k => arg2 m c (ix2 (batch t) k)) (fun k => arg3 m c (ix2 (batch t) k)) k := by
  have e : hOf m c t.val (ix2 R k) = GH (iblk m c 0 (base t.val)) (iblk m c 1 (base t.val)) (iblk m c 2 (base t.val)) (iblk m c 3 (base t.val)) (ix2 R k) :=
    congrFun (hAt_eq m c (base t.val) (base_mod t.val)) _
  rw [e]
  show modulated (fun k => (iblk m c 0 (base t.val) : Vec Ideal S1x2048x1024 .f32) (ix3 0 R k)) (fun k => (iblk m c 1 (base t.val) : Vec Ideal S1x1024 .f32) (ix2 0 k))
    (fun k => (iblk m c 2 (base t.val) : Vec Ideal S1x1x1024 .f32) (ix3 0 0 k)) (fun k => (iblk m c 3 (base t.val) : Vec Ideal S1x1x1024 .f32) (ix3 0 0 k)) k = _
  rw [show (fun k => (iblk m c 0 (base t.val) : Vec Ideal S1x2048x1024 .f32) (ix3 0 R k)) = fun k => arg0 m c (ix3 (batch t) R k) from
      funext fun k => (blk0 m c (base t.val) R k).trans (by rw [batch_base]),
    show (fun k => (iblk m c 1 (base t.val) : Vec Ideal S1x1024 .f32) (ix2 0 k)) = fun k => arg1 m c (ix1 k) from
      funext fun k => blk1 m c (base t.val) k,
    show (fun k => (iblk m c 2 (base t.val) : Vec Ideal S1x1x1024 .f32) (ix3 0 0 k)) = fun k => arg2 m c (ix2 (batch t) k) from
      funext fun k => (blk2 m c (base t.val) k).trans (by rw [batch_base]),
    show (fun k => (iblk m c 3 (base t.val) : Vec Ideal S1x1x1024 .f32) (ix3 0 0 k)) = fun k => arg3 m c (ix2 (batch t) k) from
      funext fun k => (blk3 m c (base t.val) k).trans (by rw [batch_base])]

theorem prod_at (c : Dev nD) (t : Fin grid0.N) (R n : ℕ) (hn : n < 1024) : prod (hOf m c t.val) (iblk m c 4 t) R n = proj m c (batch t) R (1024 * (t.val % 8) + n) := by
  unfold prod proj cell
  refine Finset.sum_congr rfl fun k _ => ?_
  rw [hOf_apply m c t]
  refine congrArg₂ (· * ·) rfl ((blk4 m c t k _).trans ?_)
  congr 2
  apply Fin.ext
  show 1024 * (t.val % 8) + n % 1024 = (1024 * (t.val % 8) + n) % 8192
  have := Nat.mod_lt t.val (show 0 < 8 by decide)
  omega

/-- At the first point of a batch the kept rows are those it has just stored. -/
theorem hOf_first (c : Dev nD) (t : Fin grid0.N) (h : t.val % 8 = 0) : hOf m c t.val = GH (iblk m c 0 t) (iblk m c 1 t) (iblk m c 2 t) (iblk m c 3 t) :=
  (hAt_congr m c (base_self t h) _ h).trans (hAt_eq m c t h)

end Cert.Proof.Proj

end
-- ==== Proof.Proj.Value.Result.lean ====
/- The projection's two result arrays, filled by the points' blocks. -/
module

public import proofs.«01_k».proof.Proof.Proj.Value.Blocks

@[expose] public section

set_option maxRecDepth 16384

noncomputable section

namespace Cert.Proof.Proj

open Cert.Kernel3Ideal Cert.Kernel3Ideal.Gen Cert.Proof.Proj.Kernel3Ideal
open Idealize.ShloMosaic Idealize.ShloMosaic.TcCoe Idealize.ShloMosaic.Tactic
open Idealize.SL.Sem

variable (m : (ℓ : Loc nD τ sig) → Buf (Elt Ideal) ℓ)

/-- Where an entry of a point's packed block lies in the array, and one of its other block. -/
abbrev at5 (t : Fin grid0.N) (y : S1x8x2560x128.Idx) : S32x24x2560x128.Idx :=
  ix4 (batch t) ⟨8 * min (t.val % 8) 2 + (y 1).val, by have h : (y 1).val < 8 := (y 1).isLt; omega⟩ (y 2) (y 3)
abbrev at6 (t : Fin grid0.N) (y : S1x2048x1024.Idx) : S32x2048x5120.Idx :=
  ix3 (batch t) (y 1) ⟨1024 * (t.val % 8 - 3) + (y 2).val, by have h : (y 2).val < 1024 := (y 2).isLt; omega⟩

/-! ### The packed block -/

theorem GQ_at (c : Dev nD) (t : Fin grid0.N) (h : t.val % 8 ≤ 2) (y : S1x8x2560x128.Idx) :
    GQ (hOf m c t.val) (iblk m c 4 t) y = packed (proj m c) (at5 t y) := by
  have h1 : (y 1).val < 8 := (y 1).isLt
  have h3 : (y 3).val < 128 := (y 3).isLt
  unfold GQ packed
  by_cases hz : (y 2).val < 512
  · rw [if_pos hz]
    exact (if_pos (show (y 2).val < 512 from hz)).symm
  · rw [if_neg hz, prod_at m c t _ _ (by omega)]
    refine Eq.trans ?_ (if_neg (show ¬ (y 2).val < 512 from hz)).symm
    show proj m c (batch t) ((y 2).val - 512) _ = proj m c (batch t) ((y 2).val - 512) (128 * (8 * min (t.val % 8) 2 + (y 1).val) + (y 3).val)
    congr 1; omega

theorem out7_early (c : Dev nD) (t : Fin grid0.N) (h : t.val % 8 ≤ 2) (y : S1x8x2560x128.Idx) : out7 m c t y = packed (proj m c) (at5 t y) := by
  by_cases h0 : t.val % 8 = 0
  · rw [out7_A m c t h0, outA7_apply, ← hOf_first m c t h0]
    exact GQ_at m c t h y
  · rw [out7_B m c t (by omega), outB7_apply]
    exact GQ_at m c t h y

theorem out7_apply (c : Dev nD) (t : Fin grid0.N) (y : S1x8x2560x128.Idx) : out7 m c t y = packed (proj m c) (at5 t y) := by
  by_cases h : t.val % 8 ≤ 2
  · exact out7_early m c t h y
  · have hN := t.isLt.trans_eq N_0
    let s : Fin grid0.N := ⟨8 * (t.val / 8) + 2, (show 8 * (t.val / 8) + 2 < 256 by omega).trans_eq N_0.symm⟩
    have hs : s.val = 8 * (t.val / 8) + 2 := rfl
    rw [out7_late m c t s (by omega) hs, out7_early m c s (by omega)]
    congr 1
    have hb : batch s = batch t := Fin.ext (show s.val / 8 = t.val / 8 by omega)
    show ix4 (batch s) _ (y 2) (y 3) = ix4 (batch t) _ (y 2) (y 3)
    rw [hb]
    congr 1
    apply Fin.ext
    show 8 * min (s.val % 8) 2 + (y 1).val = 8 * min (t.val % 8) 2 + (y 1).val
    omega

/-! ### The other block -/

theorem out8_apply (c : Dev nD) (t : Fin grid0.N) (h : 3 ≤ t.val % 8) (y : S1x2048x1024.Idx) : out8 m c t y = rest (proj m c) (at6 t y) := by
  have h2 : (y 2).val < 1024 := (y 2).isLt
  unfold rest
  by_cases h4 : t.val % 8 = 4
  · rw [out8_D m c t h4, outD8_apply]
    unfold GD
    refine Eq.trans ?_ (if_pos (show 1024 ≤ 1024 * (t.val % 8 - 3) + (y 2).val ∧ 1024 * (t.val % 8 - 3) + (y 2).val < 2048 by omega)).symm
    show _ = pool (2 ^ ((1024 * (t.val % 8 - 3) + (y 2).val - 1024) / 256 + 1)) (fun R => proj m c (batch t) R (3072 + (1024 * (t.val % 8 - 3) + (y 2).val))) (y 1).val
    have e : (fun R => prod (hOf m c t.val) (iblk m c 4 t) R (y 2).val) = fun R => proj m c (batch t) R (3072 + (1024 * (t.val % 8 - 3) + (y 2).val)) := by
      funext R
      rw [prod_at m c t _ _ h2]
      congr 1; omega
    rw [e, show 1024 * (t.val % 8 - 3) + (y 2).val - 1024 = (y 2).val by omega]
  · rw [out8_C m c t (by omega), outC8_apply]
    unfold GC
    rw [prod_at m c t _ _ h2]
    refine Eq.trans ?_ (if_neg (show ¬ (1024 ≤ 1024 * (t.val % 8 - 3) + (y 2).val ∧ 1024 * (t.val % 8 - 3) + (y 2).val < 2048) by omega)).symm
    show proj m c (batch t) (y 1).val _ = proj m c (batch t) (y 1).val (3072 + (1024 * (t.val % 8 - 3) + (y 2).val))
    congr 1; omega

/-! ### The arrays -/

theorem flushed5 (c : Dev nD) (t : Fin cfg0.N) :
    (dats m 0 c).flushed 5 t = (cfg0.win 5).cut (grid0.coords t) (out7 m c t) := by
  show (cfg0.win 5).cut (grid0.coords t) ((dats m 0 c).after 5 t) = _
  rw [after0_5]
theorem flushed6 (c : Dev nD) (t : Fin cfg0.N) :
    (dats m 0 c).flushed 6 t = (cfg0.win 6).cut (grid0.coords t) (out8 m c t) := by
  show (cfg0.win 6).cut (grid0.coords t) ((dats m 0 c).after 6 t) = _
  rw [after0_6]

/-- A block of the packed array read back, from its entries. -/
theorem cut5 (t : Fin cfg0.N) (O : Vec Ideal S1x8x2560x128 .bf16) (G : S32x24x2560x128.Idx → EReal)
    (h : ∀ y : S1x8x2560x128.Idx, O y = G (at5 t y)) :
    (cfg0.win 5).cut (grid0.coords t) O = ((cfg0.win 5).blk t).view.read (Elt Ideal) G := by
  obtain ⟨e0, e1, e2, e3⟩ := index5 t
  funext y
  rw [View.read_apply]
  refine (h y).trans ?_
  show G _ = G _
  congr 1
  funext a
  apply Fin.ext
  have hy0 : (y 0).val = 0 := by have : (y 0).val < 1 := (y 0).isLt; omega
  match a with
  | ⟨0, _⟩ => show t.val / 8 = win0_5.index t 0 * 1 + 1 * (y 0).val; rw [e0]; omega
  | ⟨1, _⟩ => show 8 * min (t.val % 8) 2 + (y 1).val = win0_5.index t 1 * 8 + 1 * (y 1).val; rw [e1]; omega
  | ⟨2, _⟩ => show (y 2).val = win0_5.index t 2 * 2560 + 1 * (y 2).val; rw [e2]; omega
  | ⟨3, _⟩ => show (y 3).val = win0_5.index t 3 * 128 + 1 * (y 3).val; rw [e3]; omega

theorem cut6 (t : Fin cfg0.N) (O : Vec Ideal S1x2048x1024 .bf16) (G : S32x2048x5120.Idx → EReal)
    (h : ∀ y : S1x2048x1024.Idx, O y = G (at6 t y)) :
    (cfg0.win 6).cut (grid0.coords t) O = ((cfg0.win 6).blk t).view.read (Elt Ideal) G := by
  obtain ⟨e0, e1, e2⟩ := index6 t
  funext y
  rw [View.read_apply]
  refine (h y).trans ?_
  show G _ = G _
  congr 1
  funext a
  apply Fin.ext
  have hy0 : (y 0).val = 0 := by have : (y 0).val < 1 := (y 0).isLt; omega
  match a with
  | ⟨0, _⟩ => show t.val / 8 = win0_6.index t 0 * 1 + 1 * (y 0).val; rw [e0]; omega
  | ⟨1, _⟩ => show (y 1).val = win0_6.index t 1 * 2048 + 1 * (y 1).val; rw [e1]; omega
  | ⟨2, _⟩ => show 1024 * (t.val % 8 - 3) + (y 2).val = win0_6.index t 2 * 1024 + 1 * (y 2).val; rw [e2]; omega

/-- The point of a batch and a column block that writes it back: for the third packed block, the last. -/
theorem point5 (b : Fin 32) (q : ℕ) (hq : q < 3) : ∃ t : Fin grid0.N, t.val / 8 = b.val ∧ min (t.val % 8) 2 = q ∧ win0_5.flush t = true := by
  have hb := b.isLt
  by_cases h2 : q = 2
  · refine ⟨⟨8 * b.val + 7, by rw [N_0]; omega⟩, ?_, ?_, ?_⟩
    · show (8 * b.val + 7) / 8 = b.val; omega
    · show min ((8 * b.val + 7) % 8) 2 = q; omega
    · rw [flush5]; exact decide_eq_true (by show (8 * b.val + 7) % 8 < 2 ∨ (8 * b.val + 7) % 8 = 7; omega)
  · refine ⟨⟨8 * b.val + q, by rw [N_0]; omega⟩, ?_, ?_, ?_⟩
    · show (8 * b.val + q) / 8 = b.val; omega
    · show min ((8 * b.val + q) % 8) 2 = q; omega
    · rw [flush5]; exact decide_eq_true (by show (8 * b.val + q) % 8 < 2 ∨ (8 * b.val + q) % 8 = 7; omega)
theorem point6 (b : Fin 32) (q : ℕ) (hq : q < 5) : ∃ t : Fin grid0.N, t.val / 8 = b.val ∧ t.val % 8 - 3 = q ∧ win0_6.flush t = true := by
  have hb := b.isLt
  refine ⟨⟨8 * b.val + (q + 3), by rw [N_0]; omega⟩, ?_, ?_, ?_⟩
  · show (8 * b.val + (q + 3)) / 8 = b.val; omega
  · show (8 * b.val + (q + 3)) % 8 - 3 = q; omega
  · rw [flush6]; exact decide_eq_true (by show 3 ≤ (8 * b.val + (q + 3)) % 8; omega)

/-- Every index of the packed array lies in some point's block. -/
theorem cover5 (j : S32x24x2560x128.Idx) : ∃ t : Fin cfg0.N, (cfg0.win 5).flush t = true ∧ j ∈ ((cfg0.win 5).blk t).view.set := by
  have hj : (j 1).val < 24 := (j 1).isLt
  obtain ⟨t, ht0, ht1, hf⟩ := point5 (j 0) ((j 1).val / 8) (by omega)
  obtain ⟨e0, e1, e2, e3⟩ := index5 t
  refine ⟨t, hf, ?_⟩
  have hm : ((cfg0.win 5).blk t).view.emb (ix4 0 ⟨(j 1).val % 8, Nat.mod_lt _ (by decide)⟩ (j 2) (j 3) : S1x8x2560x128.Idx) = j := by
    funext a
    apply Fin.ext
    match a with
    | ⟨0, _⟩ => show win0_5.index t 0 * 1 + 1 * 0 = (j 0).val; rw [e0, ht0]; omega
    | ⟨1, _⟩ => show win0_5.index t 1 * 8 + 1 * ((j 1).val % 8) = (j 1).val; rw [e1, ht1]; omega
    | ⟨2, _⟩ => show win0_5.index t 2 * 2560 + 1 * (j 2).val = (j 2).val; rw [e2]; omega
    | ⟨3, _⟩ => show win0_5.index t 3 * 128 + 1 * (j 3).val = (j 3).val; rw [e3]; omega
  rw [← hm]
  exact View.emb_mem_set _ _

theorem cover6 (j : S32x2048x5120.Idx) : ∃ t : Fin cfg0.N, (cfg0.win 6).flush t = true ∧ j ∈ ((cfg0.win 6).blk t).view.set := by
  have hj : (j 2).val < 5120 := (j 2).isLt
  obtain ⟨t, ht0, ht1, hf⟩ := point6 (j 0) ((j 2).val / 1024) (by omega)
  obtain ⟨e0, e1, e2⟩ := index6 t
  refine ⟨t, hf, ?_⟩
  have hm : ((cfg0.win 6).blk t).view.emb (ix3 0 (j 1) ⟨(j 2).val % 1024, Nat.mod_lt _ (by decide)⟩ : S1x2048x1024.Idx) = j := by
    funext a
    apply Fin.ext
    match a with
    | ⟨0, _⟩ => show win0_6.index t 0 * 1 + 1 * 0 = (j 0).val; rw [e0, ht0]; omega
    | ⟨1, _⟩ => show win0_6.index t 1 * 2048 + 1 * (j 1).val = (j 1).val; rw [e1]; omega
    | ⟨2, _⟩ => show win0_6.index t 2 * 1024 + 1 * ((j 2).val % 1024) = (j 2).val; rw [e2, ht1]; omega
  rw [← hm]
  exact View.emb_mem_set _ _

theorem array5 (c : Dev nD) : (dats m 0 c).arrAt 5 cfg0.N = packed (proj m c) :=
  (dats m 0 c).arrAt_eq_of_cover 5 _ (fun t _ => (flushed5 m c t).trans (cut5 t _ _ (out7_apply m c t))) cover5

theorem array6 (c : Dev nD) : (dats m 0 c).arrAt 6 cfg0.N = rest (proj m c) :=
  (dats m 0 c).arrAt_eq_of_cover 6 _ (fun t ht => (flushed6 m c t).trans (cut6 t _ _ (out8_apply m c t (of_decide_eq_true ((flush6 t).symm.trans ht))))) cover6

/-- The projection's run: its two results as the arguments' projection, and the arguments left alone. -/
theorem run_value (ρ : Dev nD → PrngReg) : θ_run defs (onTc (τ := τ) (main (F := Ideal))) ⟨m, fun _ => 0, ρ⟩ (fun r => ∀ c : Dev nD,
      r.2.mem ((c.tc : Thread nD τ).loc main_v4_0) = packed (proj m c)
      ∧ r.2.mem ((c.tc : Thread nD τ).loc main_v4_1) = rest (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (array5 m c), ((h c).1 6).trans (array6 m c), args_of m (dats m) (A_eq m) r h c⟩) (run_main m ρ)

end Cert.Proof.Proj

end
-- ==== Proof.Proj.Value.Ref.lean ====
/- The plain reference of the projection: its terms by name, and its two results read at an entry. -/
module

public import proofs.«01_k».proof.Proof.Gen.Reference3Ideal.Run
public import proofs.«01_k».proof.Proof.Proj.Value.Target
public import Idealize.ShloMosaic.Lib.Pipeline.Value
public import Idealize.ShloMosaic.Lib.KernelVsHost

@[expose] public section

set_option maxRecDepth 16384

noncomputable section

namespace Cert.Proof.Proj.Ref

open Cert.Reference3Ideal Cert.Reference3Ideal.Gen
open Idealize.ShloMosaic Idealize.ShloMosaic.TcCoe Idealize.ShloMosaic.Tactic

section Terms
variable {F : FTy → Type} [FloatOps F]

/-- The normed and modulated rows. -/
def rows (x : FVec F S32x2048x1024 .f32) (g : FVec F S1024 .f32) (s b : FVec F S32x1024 .f32) : FVec F S32x2048x1024 .f32 :=
  addf (mulf (mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf x x) (constant S_ .f32 0x00000000#32) reducesTo_S32x2048x1024_S32x2048_d2 h_S_))
        (broadcastInDim S32x2048x1 ![] bcast_S_S32x2048x1 (constant S_ .f32 0x44800000#32))) (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g)))
    (broadcastInDim S32x2048x1024 ![0, 1, 2] bcast_S32x1x1024_S32x2048x1024_0_1_2
      (addf (broadcastInDim S32x1x1024 ![] bcast_S_S32x1x1024 (constant S_ .f32 0x3F800000#32)) (broadcastInDim S32x1x1024 ![0, 2] bcast_S32x1024_S32x1x1024_0_2 s))))
    (broadcastInDim S32x2048x1024 ![0, 1, 2] bcast_S32x1x1024_S32x2048x1024_0_1_2 (broadcastInDim S32x1x1024 ![0, 2] bcast_S32x1024_S32x1x1024_0_2 b))

/-- The product of the rows and all the columns. -/
def times (h : FVec F S32x2048x1024 .f32) (w : FVec F S1024x8192 .f32) : FVec F S32x2048x8192 .f32 :=
  Host.dotGeneral dot_S32x2048x1024_S1024x8192_S32x2048x8192_2_0_01_1_n_n none h w

/-- A thousand of its columns. -/
def part (o : ℕ) (hs : Shape.Slices S32x2048x8192 ![0, 0, o] S32x2048x1024) (p : FVec F S32x2048x8192 .f32) : FVec F S32x2048x1024 .f32 :=
  extractStridedSlice S32x2048x1024 ![0, 0, o] p hs

/-- A quarter of the pooled columns. -/
def quarter (o : ℕ) (hs : Shape.Slices S32x2048x1024 ![0, 0, o] S32x2048x256) (u : FVec F S32x2048x1024 .f32) : FVec F S32x2048x256 .f32 :=
  extractStridedSlice S32x2048x256 ![0, 0, o] u hs

/-- How many rows a window holds. -/
def counts (w : BitVec 32) : FVec F S32x2048x256 .f32 :=
  broadcastInDim S32x2048x256 ![0, 1, 2] bcast_S1x2048x1_S32x2048x256_0_1_2 (broadcastInDim S1x2048x1 ![1] bcast_S2048_S1x2048x1_1
    (sitofp .f32 (minsi (addi (iotaInDim S2048 32 0) (broadcastInDim S2048 ![] bcast_S_S2048 (constantI S_ 32 1#32)))
      (broadcastInDim S2048 ![] bcast_S_S2048 (constantI S_ 32 w)))))

/-- The start of a sliding sum. -/
def start : FVec F S_ .f32 := broadcastInDim S_ ![] bcast_S_S_ (constant S_ .f32 0x00000000#32)

/-- The mean over a window, less the row itself. -/
def less (sums : FVec F S32x2048x256 .f32) (w : BitVec 32) (ug : FVec F S32x2048x256 .f32) : FVec F S32x2048x256 .f32 :=
  subf (Host.divf sums (counts w)) ug

def sum2 (ug : FVec F S32x2048x256 .f32) : FVec F S32x2048x256 .f32 :=
  Host.reduceWindowAdd ![1, 2, 1] ![1, 1, 1] ![0, 1, 0] ![0, 0, 0] ug start reduceWindows_S32x2048x256_S32x2048x256_w1s1p0_0_w2s1p1_0_w1s1p0_0 h_S_
def sum4 (ug : FVec F S32x2048x256 .f32) : FVec F S32x2048x256 .f32 :=
  Host.reduceWindowAdd ![1, 4, 1] ![1, 1, 1] ![0, 3, 0] ![0, 0, 0] ug start reduceWindows_S32x2048x256_S32x2048x256_w1s1p0_0_w4s1p3_0_w1s1p0_0 h_S_
def sum8 (ug : FVec F S32x2048x256 .f32) : FVec F S32x2048x256 .f32 :=
  Host.reduceWindowAdd ![1, 8, 1] ![1, 1, 1] ![0, 7, 0] ![0, 0, 0] ug start reduceWindows_S32x2048x256_S32x2048x256_w1s1p0_0_w8s1p7_0_w1s1p0_0 h_S_
def sum16 (ug : FVec F S32x2048x256 .f32) : FVec F S32x2048x256 .f32 :=
  Host.reduceWindowAdd ![1, 16, 1] ![1, 1, 1] ![0, 15, 0] ![0, 0, 0] ug start reduceWindows_S32x2048x256_S32x2048x256_w1s1p0_0_w16s1p15_0_w1s1p0_0 h_S_

/-- The four quarters. -/
def quarter0 (u : FVec F S32x2048x1024 .f32) : FVec F S32x2048x256 .f32 := quarter 0 slices_S32x2048x1024_S32x2048x256_0_0_0 u
def quarter1 (u : FVec F S32x2048x1024 .f32) : FVec F S32x2048x256 .f32 := quarter 256 slices_S32x2048x1024_S32x2048x256_0_0_256 u
def quarter2 (u : FVec F S32x2048x1024 .f32) : FVec F S32x2048x256 .f32 := quarter 512 slices_S32x2048x1024_S32x2048x256_0_0_512 u
def quarter3 (u : FVec F S32x2048x1024 .f32) : FVec F S32x2048x256 .f32 := quarter 768 slices_S32x2048x1024_S32x2048x256_0_0_768 u

/-- The pooled quarters. -/
def pooled0 (u : FVec F S32x2048x1024 .f32) : FVec F S32x2048x256 .f32 := less (sum2 (quarter0 u)) 2#32 (quarter0 u)
def pooled1 (u : FVec F S32x2048x1024 .f32) : FVec F S32x2048x256 .f32 := less (sum4 (quarter1 u)) 4#32 (quarter1 u)
def pooled2 (u : FVec F S32x2048x1024 .f32) : FVec F S32x2048x256 .f32 := less (sum8 (quarter2 u)) 8#32 (quarter2 u)
def pooled3 (u : FVec F S32x2048x1024 .f32) : FVec F S32x2048x256 .f32 := less (sum16 (quarter3 u)) 16#32 (quarter3 u)

def part0 (p : FVec F S32x2048x8192 .f32) : FVec F S32x2048x1024 .f32 := part 0 slices_S32x2048x8192_S32x2048x1024_0_0_0 p
def part1 (p : FVec F S32x2048x8192 .f32) : FVec F S32x2048x1024 .f32 := part 1024 slices_S32x2048x8192_S32x2048x1024_0_0_1024 p
def part2 (p : FVec F S32x2048x8192 .f32) : FVec F S32x2048x1024 .f32 := part 2048 slices_S32x2048x8192_S32x2048x1024_0_0_2048 p
def part3 (p : FVec F S32x2048x8192 .f32) : FVec F S32x2048x1024 .f32 := part 3072 slices_S32x2048x8192_S32x2048x1024_0_0_3072 p
def part4 (p : FVec F S32x2048x8192 .f32) : FVec F S32x2048x1024 .f32 := part 4096 slices_S32x2048x8192_S32x2048x1024_0_0_4096 p
def part5 (p : FVec F S32x2048x8192 .f32) : FVec F S32x2048x1024 .f32 := part 5120 slices_S32x2048x8192_S32x2048x1024_0_0_5120 p
def part6 (p : FVec F S32x2048x8192 .f32) : FVec F S32x2048x1024 .f32 := part 6144 slices_S32x2048x8192_S32x2048x1024_0_0_6144 p
def part7 (p : FVec F S32x2048x8192 .f32) : FVec F S32x2048x1024 .f32 := part 7168 slices_S32x2048x8192_S32x2048x1024_0_0_7168 p

/-- Three column blocks side by side. -/
def three (a b c : FVec F S32x2048x1024 .f32) : FVec F S32x2048x3072 .f32 :=
  concatenate S32x2048x3072 2 [⟨S32x2048x1024, a⟩, ⟨S32x2048x1024, b⟩, ⟨S32x2048x1024, c⟩] concatenates_S32x2048x1024_S32x2048x1024_S32x2048x1024_S32x2048x3072_d2

/-- The packing into pairs of heads, zero rows in front. -/
def pack (q : FVec F S32x2048x3072 .f32) : FVec F S32x24x2560x128 .bf16 :=
  truncf .bf16 (pad S32x24x2560x128 ![0, 0, 512, 0] ![0, 0, 0, 0] ![0, 0, 0, 0] (transpose S32x24x2048x128 [0, 2, 1, 3] (shapeCast _ q shapeCasts_S32x2048x3072_S32x2048x24x128) transposes_S32x2048x24x128_S32x24x2048x128_0_2_1_3)
    (sitofp .f32 (constantI S_ 32 0#32)) pads_S32x24x2048x128_S32x24x2560x128_000_000_51200_000 h_S_) bitsLt_bf16_f32

/-- The eight parts of the second result side by side. -/
def eight (a : FVec F S32x2048x1024 .f32) (d0 d1 d2 d3 : FVec F S32x2048x256 .f32) (b c d : FVec F S32x2048x1024 .f32) : FVec F S32x2048x5120 .f32 :=
  concatenate S32x2048x5120 2 [⟨S32x2048x1024, a⟩, ⟨S32x2048x256, d0⟩, ⟨S32x2048x256, d1⟩, ⟨S32x2048x256, d2⟩, ⟨S32x2048x256, d3⟩, ⟨S32x2048x1024, b⟩, ⟨S32x2048x1024, c⟩, ⟨S32x2048x1024, d⟩]
    concatenates_S32x2048x1024_S32x2048x256_S32x2048x256_S32x2048x256_S32x2048x256_S32x2048x1024_S32x2048x1024_S32x2048x1024_S32x2048x5120_d2

/-- The two results of the product. -/
def out0 (p : FVec F S32x2048x8192 .f32) : FVec F S32x24x2560x128 .bf16 := pack (three (part0 p) (part1 p) (part2 p))
def out1 (p : FVec F S32x2048x8192 .f32) : FVec F S32x2048x5120 .bf16 :=
  truncf .bf16 (eight (part3 p) (pooled0 (part4 p)) (pooled1 (part4 p)) (pooled2 (part4 p)) (pooled3 (part4 p)) (part5 p) (part6 p) (part7 p)) bitsLt_bf16_f32

theorem res0_eq (m : (ℓ : Loc nD τ sig) → Buf (Elt F) ℓ) (c : Dev nD) :
    Cert.Reference3Ideal.Value.res_main_v78 m c
      = out0 (times (rows (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4))) := by
  unfold Cert.Reference3Ideal.Value.res_main_v78; rfl

theorem res1_eq (m : (ℓ : Loc nD τ sig) → Buf (Elt F) ℓ) (c : Dev nD) :
    Cert.Reference3Ideal.Value.res_main_v79 m c
      = out1 (times (rows (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4))) := by
  unfold Cert.Reference3Ideal.Value.res_main_v79; rfl
end Terms

section At

theorem rows_apply (x : FVec Ideal S32x2048x1024 .f32) (g : FVec Ideal S1024 .f32) (s b : FVec Ideal S32x1024 .f32) (e : Fin 32) (R : Fin 2048) (k : Fin 1024) :
    rows x g s b (ix3 e R k) = modulated (fun k => x (ix3 e R k)) (fun k => g (ix1 k)) (fun k => s (ix2 e k)) (fun k => b (ix2 e k)) k := by
  unfold modulated one32
  pointwise [rows]

theorem times_apply (h : FVec Ideal S32x2048x1024 .f32) (w : FVec Ideal S1024x8192 .f32) (e : Fin 32) (R : Fin 2048) (n : Fin 8192) :
    times h w (ix3 e R n) = ∑ k : Fin 1024, h (ix3 e R k) * w (ix2 k n) := by
  pointwise [times]

/-- Where the product holds the entries of `C`. -/
def Holds (C : Fin 32 → ℕ → ℕ → EReal) (p : FVec Ideal S32x2048x8192 .f32) : Prop := ∀ (e : Fin 32) (R : Fin 2048) (n : Fin 8192), p (ix3 e R n) = C e R.val n.val

theorem times_holds (x : FVec Ideal S32x2048x1024 .f32) (g : FVec Ideal S1024 .f32) (s b : FVec Ideal S32x1024 .f32) (w : FVec Ideal S1024x8192 .f32) :
    Holds (cell x g s b w) (times (rows x g s b) w) := by
  intro e R n
  rw [times_apply]
  unfold cell
  refine Finset.sum_congr rfl fun k _ => ?_
  rw [rows_apply]
  have hR : (⟨R.val % 2048, Nat.mod_lt _ (by decide)⟩ : Fin 2048) = R := Fin.ext (Nat.mod_eq_of_lt R.isLt)
  have hn : (⟨n.val % 8192, Nat.mod_lt _ (by decide)⟩ : Fin 8192) = n := Fin.ext (Nat.mod_eq_of_lt n.isLt)
  rw [hR, hn]

/-- The blocks of the two concatenations. -/
abbrev list3 (p : FVec Ideal S32x2048x8192 .f32) : List ((s : Shape) × (s.Idx → EReal)) :=
  [(⟨S32x2048x1024, part0 p⟩ : (s : Shape) × (s.Idx → EReal)), ⟨S32x2048x1024, part1 p⟩, ⟨S32x2048x1024, part2 p⟩]
abbrev list8 (p : FVec Ideal S32x2048x8192 .f32) : List ((s : Shape) × (s.Idx → EReal)) :=
  [(⟨S32x2048x1024, part3 p⟩ : (s : Shape) × (s.Idx → EReal)), ⟨S32x2048x256, pooled0 (part4 p)⟩, ⟨S32x2048x256, pooled1 (part4 p)⟩, ⟨S32x2048x256, pooled2 (part4 p)⟩, ⟨S32x2048x256, pooled3 (part4 p)⟩, ⟨S32x2048x1024, part5 p⟩, ⟨S32x2048x1024, part6 p⟩, ⟨S32x2048x1024, part7 p⟩]

variable (C : Fin 32 → ℕ → ℕ → EReal) (p : FVec Ideal S32x2048x8192 .f32) (hp : Holds C p)
include hp

theorem part_apply (o : ℕ) (ho : o + 1024 ≤ 8192) (hs) (e : Fin 32) (R : Fin 2048) (n : Fin 1024) : part o hs p (ix3 e R n) = C e R.val (o + n.val) := by
  have h : part o hs p (ix3 e R n) = p (ix3 e R ⟨o + n.val, by omega⟩) := by
    unfold part
    pointwise []
  rw [h, hp]

omit hp in
theorem quarter_apply (o : ℕ) (ho : o + 256 ≤ 1024) (hs) (u : FVec Ideal S32x2048x1024 .f32) (e : Fin 32) (R : Fin 2048) (n : Fin 256) :
    quarter o hs u (ix3 e R n) = u (ix3 e R ⟨o + n.val, by omega⟩) := by
  unfold quarter
  pointwise []

omit hp in
theorem start_apply (i : S_.Idx) : (start : FVec Ideal S_ .f32) i = 0 := by
  have h : (start : FVec Ideal S_ .f32) i = Ideal.ofBits .f32 0x00000000#32 := rfl
  rw [h, Ideal.ofBits_zero_f32]

omit hp in
theorem counts_apply (w : ℕ) (hw : w < 2 ^ 31) (e : Fin 32) (R : Fin 2048) (n : Fin 256) : (counts (BitVec.ofNat 32 w) : FVec Ideal S32x2048x256 .f32) (ix3 e R n) = cnt w R.val := by
  have h : (counts (BitVec.ofNat 32 w) : FVec Ideal S32x2048x256 .f32) (ix3 e R n)
      = Scalar.sitofp (F := Ideal) .f32 (IntOp.minsi (BitVec.ofNat 32 R.val + BitVec.ofNat 32 1) (BitVec.ofNat 32 w)) := by
    unfold counts
    pointwise []
    rfl
  rw [h, count_word R.val 1 w (by have := R.isLt; omega) hw]
  rfl

/-- A pooled quarter, from its sliding sums. -/
theorem less_apply (o win : ℕ) (hwin : 0 < win) (hw : win < 2 ^ 31) (ho : o + 256 ≤ 1024) (hs) (S : FVec Ideal S32x2048x256 .f32)
    (hS : ∀ (e : Fin 32) (R : Fin 2048) (n : Fin 256), S (ix3 e R n)
      = trail win (fun R => quarter o hs (part4 p) (ix3 e ⟨R % 2048, Nat.mod_lt _ (by decide)⟩ n)) R.val)
    (e : Fin 32) (R : Fin 2048) (n : Fin 256) :
    less S (BitVec.ofNat 32 win) (quarter o hs (part4 p)) (ix3 e R n) = pool win (fun R => C e R (4096 + (o + n.val))) R.val := by
  have h : less S (BitVec.ofNat 32 win) (quarter o hs (part4 p)) (ix3 e R n)
      = Ideal.div (S (ix3 e R n)) ((counts (BitVec.ofNat 32 win) : FVec Ideal S32x2048x256 .f32) (ix3 e R n)) - quarter o hs (part4 p) (ix3 e R n) := rfl
  have hu : ∀ R : Fin 2048, quarter o hs (part4 p) (ix3 e R n) = C e R.val (4096 + (o + n.val)) := fun R => by
    rw [quarter_apply o ho]
    exact part_apply C p hp 4096 (by decide) _ e R ⟨o + n.val, by omega⟩
  rw [h, pool_eq win _ _ hwin, counts_apply win hw, hS, hu]
  congr 2
  unfold trail
  refine Finset.sum_congr rfl fun d _ => ?_
  unfold lag
  by_cases hd : d ≤ R.val
  · have hR := R.isLt
    rw [if_pos hd, if_pos hd]
    refine (hu ⟨(R.val - d) % 2048, Nat.mod_lt _ (by decide)⟩).trans ?_
    show C e ((R.val - d) % 2048) _ = C e (R.val - d) _
    rw [Nat.mod_eq_of_lt (by omega)]
  · rw [if_neg hd, if_neg hd]

omit hp in
theorem sum2_apply (ug : FVec Ideal S32x2048x256 .f32) (e : Fin 32) (R : Fin 2048) (n : Fin 256) :
    sum2 ug (ix3 e R n) = trail 2 (fun R => ug (ix3 e ⟨R % 2048, Nat.mod_lt _ (by decide)⟩ n)) R.val := by
  unfold sum2
  exact window_apply 1 ug (start (F := Ideal)) (fun i => start_apply i) reduceWindows_S32x2048x256_S32x2048x256_w1s1p0_0_w2s1p1_0_w1s1p0_0 h_S_ e R n
omit hp in
theorem sum4_apply (ug : FVec Ideal S32x2048x256 .f32) (e : Fin 32) (R : Fin 2048) (n : Fin 256) :
    sum4 ug (ix3 e R n) = trail 4 (fun R => ug (ix3 e ⟨R % 2048, Nat.mod_lt _ (by decide)⟩ n)) R.val := by
  unfold sum4
  exact window_apply 3 ug (start (F := Ideal)) (fun i => start_apply i) reduceWindows_S32x2048x256_S32x2048x256_w1s1p0_0_w4s1p3_0_w1s1p0_0 h_S_ e R n
omit hp in
theorem sum8_apply (ug : FVec Ideal S32x2048x256 .f32) (e : Fin 32) (R : Fin 2048) (n : Fin 256) :
    sum8 ug (ix3 e R n) = trail 8 (fun R => ug (ix3 e ⟨R % 2048, Nat.mod_lt _ (by decide)⟩ n)) R.val := by
  unfold sum8
  exact window_apply 7 ug (start (F := Ideal)) (fun i => start_apply i) reduceWindows_S32x2048x256_S32x2048x256_w1s1p0_0_w8s1p7_0_w1s1p0_0 h_S_ e R n
omit hp in
theorem sum16_apply (ug : FVec Ideal S32x2048x256 .f32) (e : Fin 32) (R : Fin 2048) (n : Fin 256) :
    sum16 ug (ix3 e R n) = trail 16 (fun R => ug (ix3 e ⟨R % 2048, Nat.mod_lt _ (by decide)⟩ n)) R.val := by
  unfold sum16
  exact window_apply 15 ug (start (F := Ideal)) (fun i => start_apply i) reduceWindows_S32x2048x256_S32x2048x256_w1s1p0_0_w16s1p15_0_w1s1p0_0 h_S_ e R n
theorem pooled0_apply (e : Fin 32) (R : Fin 2048) (n : Fin 256) : pooled0 (part4 p) (ix3 e R n) = pool 2 (fun R => C e R (4096 + (0 + n.val))) R.val := by
  unfold pooled0 quarter0
  exact less_apply C p hp 0 2 (by decide) (by decide) (by decide) slices_S32x2048x1024_S32x2048x256_0_0_0 _ (fun e R n => sum2_apply _ e R n) e R n
theorem pooled1_apply (e : Fin 32) (R : Fin 2048) (n : Fin 256) : pooled1 (part4 p) (ix3 e R n) = pool 4 (fun R => C e R (4096 + (256 + n.val))) R.val := by
  unfold pooled1 quarter1
  exact less_apply C p hp 256 4 (by decide) (by decide) (by decide) slices_S32x2048x1024_S32x2048x256_0_0_256 _ (fun e R n => sum4_apply _ e R n) e R n
theorem pooled2_apply (e : Fin 32) (R : Fin 2048) (n : Fin 256) : pooled2 (part4 p) (ix3 e R n) = pool 8 (fun R => C e R (4096 + (512 + n.val))) R.val := by
  unfold pooled2 quarter2
  exact less_apply C p hp 512 8 (by decide) (by decide) (by decide) slices_S32x2048x1024_S32x2048x256_0_0_512 _ (fun e R n => sum8_apply _ e R n) e R n
theorem pooled3_apply (e : Fin 32) (R : Fin 2048) (n : Fin 256) : pooled3 (part4 p) (ix3 e R n) = pool 16 (fun R => C e R (4096 + (768 + n.val))) R.val := by
  unfold pooled3 quarter3
  exact less_apply C p hp 768 16 (by decide) (by decide) (by decide) slices_S32x2048x1024_S32x2048x256_0_0_768 _ (fun e R n => sum16_apply _ e R n) e R n

theorem three_apply (e : Fin 32) (R : Fin 2048) (n : Fin 3072) : three (part0 p) (part1 p) (part2 p) (ix3 e R n) = C e R.val n.val := by
  have key : ∀ (k : ℕ) (hk : k < (list3 p).length) (h1 : 1024 * k ≤ n.val) (h2 : n.val < 1024 * k + 1024) (P : FVec Ideal S32x2048x1024 .f32)
      (hP : (list3 p)[k]'hk = ⟨S32x2048x1024, P⟩)
      (hpre : ((((list3 p).take k).map (·.1)).map fun s => if h : s.rank = S32x2048x3072.rank then s.size ((2 : Fin S32x2048x3072.rank).cast h.symm) else 0).sum = 1024 * k),
      three (part0 p) (part1 p) (part2 p) (ix3 e R n) = P (ix3 e R ⟨n.val - 1024 * k, by omega⟩) := by
    intro k hk h1 h2 P hP hpre
    unfold three
    refine concatenate_apply_piece (t := S32x2048x3072) 2 (list3 p) concatenates_S32x2048x1024_S32x2048x1024_S32x2048x1024_S32x2048x3072_d2 (ix3 e R n) k hk S32x2048x1024 P hP rfl (1024 * k) hpre (ix3 e R ⟨n.val - 1024 * k, by omega⟩) ?_ ?_
    · intro b hb
      match b with
      | ⟨0, _⟩ => rfl
      | ⟨1, _⟩ => rfl
      | ⟨2, _⟩ => exact absurd rfl hb
    · show 1024 * k + (n.val - 1024 * k) = n.val
      omega
  have hn := n.isLt
  by_cases h0 : n.val < 1024
  · rw [key 0 (show 0 < 3 by decide) (by omega) (by omega) (part0 p) rfl rfl]
    refine (part_apply C p hp 0 (by decide) _ e R ⟨n.val - 1024 * 0, by omega⟩).trans ?_
    show C e R.val (0 + (n.val - 1024 * 0)) = _
    congr 1; omega
  · by_cases h1 : n.val < 2048
    · rw [key 1 (show 1 < 3 by decide) (by omega) (by omega) (part1 p) rfl rfl]
      refine (part_apply C p hp 1024 (by decide) _ e R ⟨n.val - 1024 * 1, by omega⟩).trans ?_
      show C e R.val (1024 + (n.val - 1024 * 1)) = _
      congr 1; omega
    · rw [key 2 (show 2 < 3 by decide) (by omega) (by omega) (part2 p) rfl rfl]
      refine (part_apply C p hp 2048 (by decide) _ e R ⟨n.val - 1024 * 2, by omega⟩).trans ?_
      show C e R.val (2048 + (n.val - 1024 * 2)) = _
      congr 1; omega

omit hp in
/-- A packed entry past the zero rows, and one of the zero rows. -/
theorem pack_in (q : FVec Ideal S32x2048x3072 .f32) (e : Fin 32) (h : Fin 24) (r : Fin 2560) (l : Fin 128) (hr : 512 ≤ r.val) :
    pack q (ix4 e h r l) = q (ix3 e ⟨r.val - 512, by omega⟩ ⟨128 * h.val + l.val, by omega⟩) := by
  have e1 : pack q (ix4 e h r l) = transpose S32x24x2048x128 [0, 2, 1, 3] (shapeCast _ q shapeCasts_S32x2048x3072_S32x2048x24x128) transposes_S32x2048x24x128_S32x24x2048x128_0_2_1_3 (ix4 e h ⟨r.val - 512, by omega⟩ l) := by
    refine pad_apply_of_inside _ _ _ _ _ pads_S32x24x2048x128_S32x24x2560x128_000_000_51200_000 h_S_ (ix4 e h r l) (ix4 e h ⟨r.val - 512, by omega⟩ l) fun a => ?_
    match a with
    | ⟨0, _⟩ => show e.val = 0 + e.val * (0 + 1); omega
    | ⟨1, _⟩ => show h.val = 0 + h.val * (0 + 1); omega
    | ⟨2, _⟩ => show r.val = 512 + (r.val - 512) * (0 + 1); omega
    | ⟨3, _⟩ => show l.val = 0 + l.val * (0 + 1); omega
  rw [e1]
  pointwise []
  exact congrArg (fun j => q (ix3 e ⟨r.val - 512, by omega⟩ j)) (Fin.ext (by show h.val * 128 + l.val = 128 * h.val + l.val; omega))
omit hp in
theorem pack_out (q : FVec Ideal S32x2048x3072 .f32) (e : Fin 32) (h : Fin 24) (r : Fin 2560) (l : Fin 128) (hr : r.val < 512) :
    pack q (ix4 e h r l) = 0 := by
  have e1 : pack q (ix4 e h r l) = (sitofp .f32 (constantI S_ 32 0#32) : FVec Ideal S_ .f32) (Shape.Idx.first h_S_) := by
    refine pad_apply_of_not_inside _ _ _ _ _ pads_S32x24x2048x128_S32x24x2560x128_000_000_51200_000 h_S_ (ix4 e h r l) 2 ?_
    intro hin
    have : 512 ≤ r.val := hin.1
    omega
  rw [e1]
  show (((0#32 : BitVec 32).toInt : ℝ) : EReal) = 0
  simp

theorem out0_apply (y : S32x24x2560x128.Idx) : out0 p y = packed C y := by
  obtain ⟨e, h, r, l, rfl⟩ : ∃ (e : Fin 32) (h : Fin 24) (r : Fin 2560) (l : Fin 128), y = ix4 e h r l := ⟨y 0, y 1, y 2, y 3, eq_ix4 y⟩
  unfold out0 packed
  by_cases hr : r.val < 512
  · exact (pack_out _ e h r l hr).trans (if_pos (show r.val < 512 from hr)).symm
  · refine (pack_in _ e h r l (by omega)).trans ((three_apply C p hp e _ _).trans ?_)
    exact (if_neg (show ¬ r.val < 512 from hr)).symm

theorem out1_apply (y : S32x2048x5120.Idx) : out1 p y = rest C y := by
  obtain ⟨e, R, n, rfl⟩ : ∃ (e : Fin 32) (R : Fin 2048) (n : Fin 5120), y = ix3 e R n := ⟨y 0, y 1, y 2, eq_ix3 y⟩
  have hn := n.isLt
  have key : ∀ (k : ℕ) (hk : k < (list8 p).length) (pre z : ℕ) (h1 : pre ≤ n.val) (h2 : n.val < pre + z) (P : (⟨3, ![32, 2048, z]⟩ : Shape).Idx → EReal)
      (hP : (list8 p)[k]'hk = ⟨⟨3, ![32, 2048, z]⟩, P⟩)
      (hpre : ((((list8 p).take k).map (·.1)).map fun s => if h : s.rank = S32x2048x5120.rank then s.size ((2 : Fin S32x2048x5120.rank).cast h.symm) else 0).sum = pre),
      out1 p (ix3 e R n) = P (ix3 e R ⟨n.val - pre, by omega⟩) := by
    intro k hk pre z h1 h2 P hP hpre
    unfold out1 eight
    refine concatenate_apply_piece (t := S32x2048x5120) 2 (list8 p) concatenates_S32x2048x1024_S32x2048x256_S32x2048x256_S32x2048x256_S32x2048x256_S32x2048x1024_S32x2048x1024_S32x2048x1024_S32x2048x5120_d2 (ix3 e R n) k hk ⟨3, ![32, 2048, z]⟩ P hP rfl pre hpre (ix3 e R ⟨n.val - pre, by omega⟩) ?_ ?_
    · intro b hb
      match b with
      | ⟨0, _⟩ => rfl
      | ⟨1, _⟩ => rfl
      | ⟨2, _⟩ => exact absurd rfl hb
    · show pre + (n.val - pre) = n.val
      omega
  have plain : ∀ (o d : ℕ), ¬ (1024 ≤ n.val ∧ n.val < 2048) → d ≤ n.val → o = 3072 + d → C e R.val (o + (n.val - d)) = rest C (ix3 e R n) := by
    intro o d hno hd ho
    refine Eq.trans ?_ (if_neg (show ¬ (1024 ≤ n.val ∧ n.val < 2048) from hno)).symm
    show _ = C e R.val (3072 + n.val)
    congr 1; omega
  have pooled : ∀ (o d win : ℕ), (1024 ≤ n.val ∧ n.val < 2048) → d ≤ n.val → d = 1024 + o → 2 ^ ((n.val - 1024) / 256 + 1) = win →
      pool win (fun R => C e R (4096 + (o + (n.val - d)))) R.val = rest C (ix3 e R n) := by
    intro o d win hin hd ho hw
    subst hw
    refine Eq.trans ?_ (if_pos (show (1024 ≤ n.val ∧ n.val < 2048) from hin)).symm
    show _ = pool (2 ^ ((n.val - 1024) / 256 + 1)) (fun R => C e R (3072 + n.val)) R.val
    rw [show 4096 + (o + (n.val - d)) = 3072 + n.val by omega]
  by_cases h0 : n.val < 1024
  · rw [key 0 (show 0 < 8 by decide) 0 1024 (by omega) (by omega) (part3 p) rfl rfl]
    exact (part_apply C p hp 3072 (by decide) _ e R _).trans (plain 3072 0 (by omega) (by omega) (by omega))
  by_cases h1 : n.val < 1280
  · rw [key 1 (show 1 < 8 by decide) 1024 256 (by omega) (by omega) (pooled0 (part4 p)) rfl rfl]
    exact (pooled0_apply C p hp e R _).trans (pooled 0 1024 2 (by omega) (by omega) (by omega) (by rw [show (n.val - 1024) / 256 = 0 by omega]; rfl))
  by_cases h2 : n.val < 1536
  · rw [key 2 (show 2 < 8 by decide) 1280 256 (by omega) (by omega) (pooled1 (part4 p)) rfl rfl]
    exact (pooled1_apply C p hp e R _).trans (pooled 256 1280 4 (by omega) (by omega) (by omega) (by rw [show (n.val - 1024) / 256 = 1 by omega]; rfl))
  by_cases h3 : n.val < 1792
  · rw [key 3 (show 3 < 8 by decide) 1536 256 (by omega) (by omega) (pooled2 (part4 p)) rfl rfl]
    exact (pooled2_apply C p hp e R _).trans (pooled 512 1536 8 (by omega) (by omega) (by omega) (by rw [show (n.val - 1024) / 256 = 2 by omega]; rfl))
  by_cases h4 : n.val < 2048
  · rw [key 4 (show 4 < 8 by decide) 1792 256 (by omega) (by omega) (pooled3 (part4 p)) rfl rfl]
    exact (pooled3_apply C p hp e R _).trans (pooled 768 1792 16 (by omega) (by omega) (by omega) (by rw [show (n.val - 1024) / 256 = 3 by omega]; rfl))
  by_cases h5 : n.val < 3072
  · rw [key 5 (show 5 < 8 by decide) 2048 1024 (by omega) (by omega) (part5 p) rfl rfl]
    exact (part_apply C p hp 5120 (by decide) _ e R _).trans (plain 5120 2048 (by omega) (by omega) (by omega))
  by_cases h6 : n.val < 4096
  · rw [key 6 (show 6 < 8 by decide) 3072 1024 (by omega) (by omega) (part6 p) rfl rfl]
    exact (part_apply C p hp 6144 (by decide) _ e R _).trans (plain 6144 3072 (by omega) (by omega) (by omega))
  · rw [key 7 (show 7 < 8 by decide) 4096 1024 (by omega) (by omega) (part7 p) rfl rfl]
    exact (part_apply C p hp 7168 (by decide) _ e R _).trans (plain 7168 4096 (by omega) (by omega) (by omega))

end At

end Cert.Proof.Proj.Ref

end
-- ==== Proof.lean ====
/- The certificate of the stick-breaking attention, of the block's projection and of its tail: of each the three frames, the named constants,
   and the equality with the plain reference over the extended reals. -/
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_gates_above
public import proofs.«01_k».proof.Proof.Gen.Kernel3
public import proofs.«01_k».proof.Proof.Gen.Kernel3.Launch
public import proofs.«01_k».proof.Proof.Gen.Kernel3.Skeleton
public import proofs.«01_k».proof.Proof.Gen.Kernel3.Points
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Reference3Ideal
public import proofs.«01_k».proof.Proof.Gen.Reference3Ideal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Frame
public import proofs.«01_k».proof.Proof.Ideal.Frame
public import proofs.«01_k».proof.Proof.Value.Result
public import proofs.«01_k».proof.Proof.Tail.Result
public import proofs.«01_k».proof.Proof.Proj.Bits.Frame
public import proofs.«01_k».proof.Proof.Proj.Ideal.Frame
public import proofs.«01_k».proof.Proof.Proj.Value.Result
public import proofs.«01_k».proof.Proof.Proj.Value.Ref
public import Idealize.ShloMosaic.Adequacy
public import Idealize.ShloMosaic.Init

@[expose] public section

noncomputable section

open Idealize Idealize.ShloMosaic Idealize.SL

namespace Cert.Proof

/-- The kernel as it runs keeps its arguments and leaves every counter at zero. -/
theorem frame_kernel : Cert.quiescent_Kernel := fun m ρ _ => Cert.Proof.Kernel.frame (F := Bits) m ρ

/-- So does the kernel over the extended reals. -/
theorem frame_ideal : Cert.quiescent_KernelIdeal := fun m ρ _ => Cert.Proof.KernelIdeal.frame (F := Ideal) m ρ

/-- The reference, a program of host operations, has no counters, and keeps its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants have the value the table gives them. -/
theorem preserves : Cert.preserves_Kernel_KernelIdeal :=
  ⟨IdealRules.named_const.statement Cert.KernelIdeal.κ "exp_clamp" .f32 _ _ rfl,
    IdealRules.named_const.statement Cert.KernelIdeal.κ "dead_mass" .f32 _ _ rfl,
    IdealRules.named_const.statement Cert.KernelIdeal.κ "big" .f32 _ _ rfl⟩

/-- Over the extended reals the kernel's result is the reference's, from the same arguments. -/
theorem algebraic : Cert.algebraic_KernelIdeal_ReferenceIdeal := fun m g m' g' _ hargs =>
  ⟨fun c => Ref.attention (KernelIdeal.argQ m c) (KernelIdeal.argK m c) (KernelIdeal.argV m c), KernelIdeal.run_value m g,
    (θ_run Cert.ReferenceIdeal.defs _ _).mono (fun r h c => ⟨(h c).1.trans ((Ref.res_eq m' c).trans (by
        rw [(hargs c).1, (hargs c).2.1, (hargs c).2.2])), (h c).2⟩)
      (Cert.ReferenceIdeal.Value.run (F := Ideal) m' g')⟩

/-- The tail keeps its arguments and leaves every counter at zero. -/
theorem frame_kernel2 : Cert.quiescent_Kernel2 := fun m ρ _ => Cert.Kernel2.Gen.frame (F := Bits) m ρ

/-- So does the tail over the extended reals. -/
theorem frame_ideal2 : Cert.quiescent_Kernel2Ideal := fun m ρ _ => Cert.Kernel2Ideal.Gen.frame (F := Ideal) m ρ

/-- In particular where no gate is minus infinity. -/
theorem frame_ideal2_above : Cert.quiescent_Kernel2Ideal_pre_gates_above := fun m ρ _ => Cert.Kernel2Ideal.Gen.frame (F := Ideal) m ρ

/-- The tail's reference keeps its arguments. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- In particular where no gate is minus infinity. -/
theorem frame_reference2_above : Cert.quiescent_Reference2Ideal_pre_gates_above := fun m ρ _ => frame_reference2 m ρ trivial

/-- The tail has no named constant: the two programs are the same. -/
theorem preserves2 : Cert.preserves_Kernel2_Kernel2Ideal := trivial

/-- Over the extended reals the tail's result is its reference's, where no gate is minus infinity. -/
theorem algebraic2 : Cert.algebraic_Kernel2Ideal_Reference2Ideal_pre_gates_above := fun m g m' g' hpre hargs =>
  ⟨fun c => Tail.answer m c,
    (θ_run Cert.Kernel2Ideal.defs _ _).mono (fun r h c => ⟨(h c).1.trans (Tail.array14 m c fun b s k => Tail.gates_of _ _ _ _ _ _ _ _ _ _ (hpre c) b s k), (h c).2⟩)
      (Cert.Kernel2Ideal.Value.run_blocks (F := Ideal) m g),
    (θ_run Cert.Reference2Ideal.defs _ _).mono (fun r h c => ⟨(h c).1.trans ((Tail.Ref.res_eq m' c).trans (by
        obtain ⟨h0, h1, h2, h3, h4, h5, h6, h7, h8, h9⟩ := hargs c
        rw [h0, h1, h2, h3, h4, h5, h6, h7, h8, h9])), (h c).2⟩)
      (Cert.Reference2Ideal.Value.run (F := Ideal) m' g')⟩

/-- The projection keeps its arguments and leaves every counter at zero. -/
theorem frame_kernel3 : Cert.quiescent_Kernel3 := fun m ρ _ => Cert.Proof.Proj.Kernel3.frame (F := Bits) m ρ

/-- So does the projection over the extended reals. -/
theorem frame_ideal3 : Cert.quiescent_Kernel3Ideal := fun m ρ _ => Cert.Proof.Proj.Kernel3Ideal.frame (F := Ideal) m ρ

/-- The projection's reference keeps its arguments. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The projection has no named constant: the two programs are the same. -/
theorem preserves3 : Cert.preserves_Kernel3_Kernel3Ideal := trivial

/-- Over the extended reals the projection's two results are its reference's. -/
theorem algebraic3 : Cert.algebraic_Kernel3Ideal_Reference3Ideal := fun m g m' g' _ hargs =>
  ⟨fun c => Proj.packed (Proj.proj m c), fun c => Proj.rest (Proj.proj m c), Proj.run_value m g,
    (θ_run Cert.Reference3Ideal.defs _ _).mono (fun r h c => ⟨(h c).1.trans ((Proj.Ref.res0_eq m' c).trans (by
        obtain ⟨h0, h1, h2, h3, h4⟩ := hargs c
        rw [h0, h1, h2, h3, h4]
        exact funext fun y => Proj.Ref.out0_apply _ _ (Proj.Ref.times_holds _ _ _ _ _) y)),
      (h c).2.1.trans ((Proj.Ref.res1_eq m' c).trans (by
        obtain ⟨h0, h1, h2, h3, h4⟩ := hargs c
        rw [h0, h1, h2, h3, h4]
        exact funext fun y => Proj.Ref.out1_apply _ _ (Proj.Ref.times_holds _ _ _ _ _) y)), (h c).2.2⟩)
      (Cert.Reference3Ideal.Value.run (F := Ideal) m' g')⟩

/-- All of it. -/
theorem claim : Cert.Claim :=
  ⟨Cert.Kernel.Gen.facts, Cert.KernelIdeal.Gen.facts, Cert.ReferenceIdeal.Gen.facts, Cert.Kernel3.Gen.facts, Cert.Kernel3Ideal.Gen.facts,
    Cert.Reference3Ideal.Gen.facts, Cert.Kernel2.Gen.facts, Cert.Kernel2Ideal.Gen.facts, Cert.Reference2Ideal.Gen.facts, Cert.Pre_gates_above.Gen.facts,
    frame_kernel, frame_ideal, frame_reference, frame_kernel3, frame_ideal3, frame_reference3, frame_kernel2, frame_ideal2,
    frame_ideal2_above, frame_reference2, frame_reference2_above, preserves, algebraic, preserves3, algebraic3, preserves2, algebraic2⟩

end Cert.Proof

end
